-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v108)) (v1 : (c : Dev Cert.KernelIdeal.nD) → Buf (Elt Ideal) ((c.tc : Thread Cert.KernelIdeal.nD Cert.KernelIdeal.τ).loc Cert.KernelIdeal.main_v109)) (v2 : (c : Dev Cert.KernelIdeal.nD) → Buf (Elt Ideal) ((c.tc : Thread Cert.KernelIdeal.nD Cert.KernelIdeal.τ).loc Cert.KernelIdeal.main_v111)) (v3 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_v111) = v2 c
          ∧ r.2.mem ((c.tc : Thread Cert.KernelIdeal.nD Cert.KernelIdeal.τ).loc Cert.KernelIdeal.main_v116) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v2) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)) (v1 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_v11) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v2) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)) (v1 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_v5) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v10)) (v1 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_v15) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v2) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)) (v1 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_v5) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v2) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v13)) (v1 : (c : Dev Cert.Kernel7Ideal.nD) → Buf (Elt Ideal) ((c.tc : Thread Cert.Kernel7Ideal.nD Cert.Kernel7Ideal.τ).loc Cert.Kernel7Ideal.main_v19)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13) = v0 c
          ∧ r.2.mem ((c.tc : Thread Cert.Kernel7Ideal.nD Cert.Kernel7Ideal.τ).loc Cert.Kernel7Ideal.main_v19) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v2) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)) (v1 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_v7) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v2) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5)) (v1 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_v7) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v2) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x16x64 : Shape := ⟨3, ![4096, 16, 64]⟩
abbrev S4096x16 : Shape := ⟨2, ![4096, 16]⟩
abbrev S_ : Shape := ⟨0, ![]⟩

class Facts : Prop where
  bcast_S_S4096x16x64 : S_.BroadcastsInDim S4096x16x64 (![] : Fin 0 → Fin S4096x16x64.rank)
  reducesTo_S4096x16x64_S_d0_1_2 : S4096x16x64.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16x64 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096x16x64 .f32 := Host.absf main_arg4
  let main_cst_6 : FVec F S_ .f32 := constant S_ .f32 0x7F800000#32
  let main_v20 : FVec F S4096x16x64 .f32 := broadcastInDim S4096x16x64 ![] bcast_S_S4096x16x64 main_cst_6
  let main_v21 : IVec S4096x16x64 1 := cmpf .olt main_v19 main_v20
  let main_c_7 : IVec S_ 1 := constantI S_ 1 1#1
  let main_v22 : IVec S_ 1 := (fun x v => Host.reduce IntOp.andi x v reducesTo_S4096x16x64_S_d0_1_2 h_S_) main_v21 main_c_7
  let main_v23 : IVec S_ 1 := andi main_v18 main_v22
  main_v23

def fn {F : FTy → Type} [FloatOps F] (main_arg0 : FVec F S4096x16x64 .f32) (main_arg1 : FVec F S4096x16x64 .f32) (main_arg2 : FVec F S4096x16x64 .f32) (main_arg3 : FVec F S4096x16 .f32) (main_arg4 : FVec F S4096x16x64 .f32) : IVec S_ 1 :=
  let main_v0 : FVec F S4096x16x64 .f32 := Host.absf main_arg0
  let main_cst : FVec F S_ .f32 := constant S_ .f32 0x7F800000#32
  let main_v1 : FVec F S4096x16x64 .f32 := broadcastInDim S4096x16x64 ![] bcast_S_S4096x16x64 main_cst
  let main_v2 : IVec S4096x16x64 1 := cmpf .olt main_v0 main_v1
  let main_c : IVec S_ 1 := constantI S_ 1 1#1
  let main_v3 : IVec S_ 1 := (fun x v => Host.reduce IntOp.andi x v reducesTo_S4096x16x64_S_d0_1_2 h_S_) main_v2 main_c
  let main_v4 : FVec F S4096x16x64 .f32 := Host.absf main_arg1
  let main_cst_0 : FVec F S_ .f32 := constant S_ .f32 0x7F800000#32
  let main_v5 : FVec F S4096x16x64 .f32 := broadcastInDim S4096x16x64 ![] bcast_S_S4096x16x64 main_cst_0
  let main_v6 : IVec S4096x16x64 1 := cmpf .olt main_v4 main_v5
  let main_c_1 : IVec S_ 1 := constantI S_ 1 1#1
  let main_v7 : IVec S_ 1 := (fun x v => Host.reduce IntOp.andi x v reducesTo_S4096x16x64_S_d0_1_2 h_S_) main_v6 main_c_1
  let main_v8 : IVec S_ 1 := andi main_v3 main_v7
  let main_v9 : FVec F S4096x16x64 .f32 := Host.absf main_arg2
  let main_cst_2 : FVec F S_ .f32 := constant S_ .f32 0x7F800000#32
  let main_v10 : FVec F S4096x16x64 .f32 := broadcastInDim S4096x16x64 ![] bcast_S_S4096x16x64 main_cst_2
  let main_v11 : IVec S4096x16x64 1 := cmpf .olt main_v9 main_v10
  let main_c_3 : IVec S_ 1 := constantI S_ 1 1#1
  let main_v12 : IVec S_ 1 := (fun x v => Host.reduce IntOp.andi x v reducesTo_S4096x16x64_S_d0_1_2 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4096x16x64 : Shape := ⟨3, ![4096, 16, 64]⟩
abbrev S4096x16 : Shape := ⟨2, ![4096, 16]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096x4096 : Shape := ⟨2, ![4096, 4096]⟩
abbrev S16x64x4096 : Shape := ⟨3, ![16, 64, 4096]⟩
abbrev S4096x16x1 : Shape := ⟨3, ![4096, 16, 1]⟩
abbrev S4096x16x58 : Shape := ⟨3, ![4096, 16, 58]⟩
abbrev S4096x16x128 : Shape := ⟨3, ![4096, 16, 128]⟩
abbrev S4096x2048 : Shape := ⟨2, ![4096, 2048]⟩
abbrev S4096x16x61 : Shape := ⟨3, ![4096, 16, 61]⟩
abbrev S4096x1024 : Shape := ⟨2, ![4096, 1024]⟩
abbrev S4096x256 : Shape := ⟨2, ![4096, 256]⟩
abbrev S512x256 : Shape := ⟨2, ![512, 256]⟩
abbrev S512x128 : Shape := ⟨2, ![512, 128]⟩
abbrev S1024x512 : Shape := ⟨2, ![1024, 512]⟩
abbrev S1024x128 : Shape := ⟨2, ![1024, 128]⟩

abbrev nBuf : Space → Nat
  | .hbm => 139
  | .vmem => 14
  | .smem => 0
  | _ => 0

abbrev hbmTy0_0 (i : Nat) : BufTy := match i % 128 with
  | 0 => ⟨S4096x16x64, .f32⟩
  | 1 => ⟨S4096x16x64, .f32⟩
  | 2 => ⟨S4096x16x64, .f32⟩
  | 3 => ⟨S4096x16, .f32⟩
  | 4 => ⟨S4096x16x64, .f32⟩
  | 5 => ⟨S16x4096x4096, .f32⟩
  | 6 => ⟨S_, .f32⟩
  | 7 => ⟨S16x4096x4096, .f32⟩
  | 8 => ⟨S16x4096x4096, .f32⟩
  | 9 => ⟨S16x4096, .f32⟩
  | 10 => ⟨S16x4096x1, .f32⟩
  | 11 => ⟨S16x4096x4096, .f32⟩
  | 12 => ⟨S16x4096x4096, .f32⟩
  | 13 => ⟨S16x4096, .f32⟩
  | 14 => ⟨S16x1x4096, .f32⟩
  | 15 => ⟨S16x4096x4096, .f32⟩
  | 16 => ⟨S16x4096x4096, .f32⟩
  | 17 => ⟨S4096x4096, .i32⟩
  | 18 => ⟨S4096x4096, .i32⟩
  | 19 => ⟨S4096x4096, .i1⟩
  | 20 => ⟨S_, .f32⟩
  | 21 => ⟨S_, .f32⟩
  | 22 => ⟨S16x4096x4096, .i1⟩
  | 23 => ⟨S16x4096x4096, .f32⟩
  | 24 => ⟨S16x4096x4096, .f32⟩
  | 25 => ⟨S_, .f32⟩
  | 26 => ⟨S16x4096, .f32⟩
  | 27 => ⟨S16x4096x1, .f32⟩
  | 28 => ⟨S16x4096x4096, .f32⟩
  | 29 => ⟨S16x4096x4096, .f32⟩
  | 30 => ⟨S16x4096x4096, .f32⟩
  | 31 => ⟨S_, .f32⟩
  | 32 => ⟨S16x4096, .f32⟩
  | 33 => ⟨S16x4096x1, .f32⟩
  | 34 => ⟨S16x4096x4096, .f32⟩
  | 35 => ⟨S16x4096x4096, .f32⟩
  | 36 => ⟨S16x64x4096, .f32⟩
  | 37 => ⟨S4096x16x64, .f32⟩
  | 38 => ⟨S16x4096x1, .f32⟩
  | 39 => ⟨S16x4096x1, .f32⟩
  | 40 => ⟨S16x4096, .f32⟩
  | 41 => ⟨S4096x16, .f32⟩
  | 42 => ⟨S4096x16x64, .f32⟩
  | 43 => ⟨S_, .f32⟩
  | 44 => ⟨S4096x16, .f32⟩
  | 45 => ⟨S_, .f32⟩
  | 46 => ⟨S4096x16, .f32⟩
  | 47 => ⟨S_, .f32⟩
  | 48 => ⟨S4096x16x64, .f32⟩
  | 49 => ⟨S4096x16x64, .f32⟩
  | 50 => ⟨S4096x16, .f32⟩
  | 51 => ⟨S4096x16, .bf16⟩
  | 52 => ⟨S4096x16, .f32⟩
  | 53 => ⟨S4096x16, .f32⟩
  | 54 => ⟨S4096x16, .bf16⟩
  | 55 => ⟨S4096x16, .f32⟩
  | 56 => ⟨S4096x16, .f32⟩
  | 57 => ⟨S4096x16, .f32⟩
  | 58 => ⟨S4096x16, .bf16⟩
  | 59 => ⟨S4096x16, .f32⟩
  | 60 => ⟨S4096x16x1, .f32⟩
  | 61 => ⟨S4096x16x1, .f32⟩
  | 62 => ⟨S4096x16x1, .f32⟩
  | 63 => ⟨S4096x16x1, .f32⟩
  | 64 => ⟨S4096x16x1, .f32⟩
  | 65 => ⟨S4096x16x1, .f32⟩
  | 66 => ⟨S_, .f32⟩
  | 67 => ⟨S4096x16x58, .f32⟩
  | 68 => ⟨S4096x16x128, .f32⟩
  | 69 => ⟨S4096x2048, .f32⟩
  | 70 => ⟨S4096x2048, .bf16⟩
  | 71 => ⟨S4096x16, .bf16⟩
  | 72 => ⟨S4096x16, .f32⟩
  | 73 => ⟨S4096x16, .f32⟩
  | 74 => ⟨S4096x16, .bf16⟩
  | 75 => ⟨S4096x16, .f32⟩
  | 76 => ⟨S4096x16, .f32⟩
  | 77 => ⟨S4096x16, .f32⟩
  | 78 => ⟨S4096x16, .bf16⟩
  | 79 => ⟨S4096x16, .f32⟩
  | 80 => ⟨S4096x16, .f32⟩
  | 81 => ⟨S4096x16, .f32⟩
  | 82 => ⟨S4096x16, .f32⟩
  | 83 => ⟨S4096x16x1, .f32⟩
  | 84 => ⟨S4096x16x1, .f32⟩
  | 85 => ⟨S4096x16x1, .f32⟩
  | 86 => ⟨S4096x16x1, .f32⟩
  | 87 => ⟨S4096x16x1, .f32⟩
  | 88 => ⟨S4096x16x1, .f32⟩
  | 89 => ⟨S_, .f32⟩
  | 90 => ⟨S4096x16x58, .f32⟩
  | 91 => ⟨S4096x16x128, .f32⟩
  | 92 => ⟨S4096x2048, .f32⟩
  | 93 => ⟨S4096x2048, .bf16⟩
  | 94 => ⟨S4096x16x1, .f32⟩
  | 95 => ⟨S4096x16x1, .f32⟩
  | 96 => ⟨S4096x16x1, .f32⟩
  | 97 => ⟨S_, .f32⟩
  | 98 => ⟨S4096x16x61, .f32⟩
  | 99 => ⟨S4096x16x128, .f32⟩
  | 100 => ⟨S4096x2048, .f32⟩
  | 101 => ⟨S4096x2048, .bf16⟩
  | 102 => ⟨S4096x16, .bf16⟩
  | 103 => ⟨S4096x16, .f32⟩
  | 104 => ⟨S4096x16, .f32⟩
  | 105 => ⟨S4096x16, .bf16⟩
  | 106 => ⟨S4096x16, .f32⟩
  | 107 => ⟨S4096x16, .f32⟩
  | 108 => ⟨S4096x16, .f32⟩
  | 109 => ⟨S4096x16, .bf16⟩
  | 110 => ⟨S4096x16, .f32⟩
  | 111 => ⟨S4096x16, .f32⟩
  | 112 => ⟨S4096x16, .f32⟩
  | 113 => ⟨S4096x16, .f32⟩
  | 114 => ⟨S4096x16x1, .f32⟩
  | 115 => ⟨S4096x16x1, .f32⟩
  | 116 => ⟨S4096x16x1, .f32⟩
  | 117 => ⟨S_, .f32⟩
  | 118 => ⟨S4096x16x61, .f32⟩
  | 119 => ⟨S4096x16x128, .f32⟩
  | 120 => ⟨S4096x2048, .f32⟩
  | 121 => ⟨S4096x2048, .bf16⟩
  | 122 => ⟨S4096x2048, .f32⟩
  | 123 => ⟨S4096x2048, .f32⟩
  | 124 => ⟨S4096x1024, .bf16⟩
  | 125 => ⟨S4096x16x128, .f32⟩
  | 126 => ⟨S4096x16x128, .f32⟩
  | 127 => ⟨S4096x16x64, .f32⟩
  | _ => ⟨S4096x16x64, .f32⟩

abbrev hbmTy0_1 (i : Nat) : BufTy := match i % 128 with
  | 0 => ⟨S_, .f32⟩
  | 1 => ⟨S4096x16x64, .f32⟩
  | 2 => ⟨S4096x16x64, .f32⟩
  | 3 => ⟨S4096x16x64, .f32⟩
  | 4 => ⟨S4096x16x64, .bf16⟩
  | 5 => ⟨S4096x16x64, .f32⟩
  | 6 => ⟨S4096x16x1, .f32⟩
  | 7 => ⟨S4096x16, .f32⟩
  | 8 => ⟨S4096x16x1, .f32⟩
  | 9 => ⟨S4096x16, .f32⟩
  | 10 => ⟨S4096x16, .f32⟩
  | _ => ⟨S4096x16x64, .f32⟩

abbrev hbmTy (i : Nat) : BufTy := match i / 128 with
  | 0 => hbmTy0_0 i
  | 1 => hbmTy0_1 i
  | _ => ⟨S4096x16x64, .f32⟩

abbrev bufTy : (tb : Table) → Fin (tcTables nBuf tb) → BufTy
  | .hbm, ⟨i, _⟩ => hbmTy i
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S4096x256, .f32⟩
  | .local _ .vmem, ⟨9, _⟩ => ⟨S4096x256, .f32⟩
  | .local _ .vmem, ⟨10, _⟩ => ⟨S512x256, .f32⟩
  | .local _ .vmem, ⟨11, _⟩ => ⟨S512x256, .f32⟩
  | .local _ .vmem, ⟨12, _⟩ => ⟨S512x128, .bf16⟩
  | .local _ .vmem, ⟨13, _⟩ => ⟨S512x128, .bf16⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_7 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_8 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_9 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103_0 : Ref sig .tc := ⟨.hbm, 122, rfl⟩
abbrev main_v103_1 : Ref sig .tc := ⟨.hbm, 123, rfl⟩
abbrev main_v103_2 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_10 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let arg1 : BitVec 32 := BitVec.ofNat 32 (i 1).val
  let c512_i32 : BitVec 32 := 512#32
  let v14 : BitVec 32 := Scalar.muli arg1 c512_i32
  let c1024_i32 : BitVec 32 := 1024#32
  let v15 : BitVec 32 := Scalar.divsi v14 c1024_i32
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let v22 : BitVec 32 := Scalar.subi v20 v15
  let c1_i32_11 : BitVec 32 := 1#32
  let v24 : BitVec 32 := Scalar.divsi v22 c1_i32_11
  let v25 : BitVec 32 := Scalar.muli v24 c1_i32_11
  let v26 : BitVec 32 := Scalar.addi v15 v25
  let c1_i32_12 : BitVec 32 := 1#32
  ⟨v15, v26, c1_i32_12⟩
def k0_mult1 (i : grid0.Coords) (k0_t1 : Fin (k0_t1_loop i).trips) : BitVec 32 :=
  let arg1 : BitVec 32 := BitVec.ofNat 32 (i 1).val
  let c512_i32 : BitVec 32 := 512#32
  let v14 : BitVec 32 := Scalar.muli arg1 c512_i32
  let c1024_i32 : BitVec 32 := 1024#32
  let v15 : BitVec 32 := Scalar.divsi v14 c1024_i32
  let c1_i32_12 : BitVec 32 := 1#32
  let arg9 : BitVec 32 := Scf.iv v15 c1_i32_12 k0_t1
  let c1024_i32_24 : BitVec 32 := 1024#32
  let v45 : BitVec 32 := Scalar.muli arg9 c1024_i32_24
  v45
def k0_off1 (i : grid0.Coords) (k0_t1 : Fin (k0_t1_loop i).trips) : Fin 2 → Nat :=
  let arg1 : BitVec 32 := BitVec.ofNat 32 (i 1).val
  let c512_i32 : BitVec 32 := 512#32
  let v14 : BitVec 32 := Scalar.muli arg1 c512_i32
  let c1024_i32 : BitVec 32 := 1024#32
  let v15 : BitVec 32 := Scalar.divsi v14 c1024_i32
  let c1_i32_12 : BitVec 32 := 1#32
  let arg9 : BitVec 32 := Scf.iv v15 c1_i32_12 k0_t1
  let c1024_i32_24 : BitVec 32 := 1024#32
  let v45 : BitVec 32 := Scalar.muli arg9 c1024_i32_24
  let v46 : BitVec 32 := v45
  let v47 : Index := Scalar.indexCast v46
  let c0_25 : Index := 0#32
  ![v47.toNat, 0]
def k0_off2 (i : grid0.Coords) (k0_t1 : Fin (k0_t1_loop i).trips) : Fin 2 → Nat :=
  let arg1 : BitVec 32 := BitVec.ofNat 32 (i 1).val
  let c512_i32 : BitVec 32 := 512#32
  let v14 : BitVec 32 := Scalar.muli arg1 c512_i32
  let c1024_i32 : BitVec 32 := 1024#32
  let v15 : BitVec 32 := Scalar.divsi v14 c1024_i32
  let c1_i32_12 : BitVec 32 := 1#32
  let arg9 : BitVec 32 := Scf.iv v15 c1_i32_12 k0_t1
  let c1024_i32_24 : BitVec 32 := 1024#32
  let v45 : BitVec 32 := Scalar.muli arg9 c1024_i32_24
  let v46 : BitVec 32 := v45
  let v77 : Index := Scalar.indexCast v46
  let c128_37 : Index := 128#32
  ![v77.toNat, 128]
@[reducible] def k0_t2_loop (i : grid0.Coords) : Scf.Loop 32 :=
  let arg1 : BitVec 32 := BitVec.ofNat 32 (i 1).val
  let c512_i32 : BitVec 32 := 512#32
  let v14 : BitVec 32 := Scalar.muli arg1 c512_i32
  let c1024_i32 : BitVec 32 := 1024#32
  let v15 : BitVec 32 := Scalar.divsi v14 c1024_i32
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let v22 : BitVec 32 := Scalar.subi v20 v15
  let c1_i32_11 : BitVec 32 := 1#32
  let v24 : BitVec 32 := Scalar.divsi v22 c1_i32_11
  let v25 : BitVec 32 := Scalar.muli v24 c1_i32_11
  let v26 : BitVec 32 := Scalar.addi v15 v25
  let v23 : BitVec 32 := Scalar.addi v15 v22
  let c1_i32_13 : BitVec 32 := 1#32
  ⟨v26, v23, c1_i32_13⟩
def k0_mult2 (i : grid0.Coords) (k0_t2 : Fin (k0_t2_loop i).trips) : BitVec 32 :=
  let arg1 : BitVec 32 := BitVec.ofNat 32 (i 1).val
  let c512_i32 : BitVec 32 := 512#32
  let v14 : BitVec 32 := Scalar.muli arg1 c512_i32
  let c1024_i32 : BitVec 32 := 1024#32
  let v15 : BitVec 32 := Scalar.divsi v14 c1024_i32
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let v22 : BitVec 32 := Scalar.subi v20 v15
  let c1_i32_11 : BitVec 32 := 1#32
  let v24 : BitVec 32 := Scalar.divsi v22 c1_i32_11
  let v25 : BitVec 32 := Scalar.muli v24 c1_i32_11
  let v26 : BitVec 32 := Scalar.addi v15 v25
  let c1_i32_13 : BitVec 32 := 1#32
  let arg9 : BitVec 32 := Scf.iv v26 c1_i32_13 k0_t2
  let c1024_i32_24 : BitVec 32 := 1024#32
  let v45 : BitVec 32 := Scalar.muli arg9 c1024_i32_24
  v45
def k0_off3 (i : grid0.Coords) (k0_t2 : Fin (k0_t2_loop i).trips) : Fin 2 → Nat :=
  let arg1 : BitVec 32 := BitVec.ofNat 32 (i 1).val
  let c512_i32 : BitVec 32 := 512#32
  let v14 : BitVec 32 := Scalar.muli arg1 c512_i32
  let c1024_i32 : BitVec 32 := 1024#32
  let v15 : BitVec 32 := Scalar.divsi v14 c1024_i32
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let v22 : BitVec 32 := Scalar.subi v20 v15
  let c1_i32_11 : BitVec 32 := 1#32
  let v24 : BitVec 32 := Scalar.divsi v22 c1_i32_11
  let v25 : BitVec 32 := Scalar.muli v24 c1_i32_11
  let v26 : BitVec 32 := Scalar.addi v15 v25
  let c1_i32_13 : BitVec 32 := 1#32
  let arg9 : BitVec 32 := Scf.iv v26 c1_i32_13 k0_t2
  let c1024_i32_24 : BitVec 32 := 1024#32
  let v45 : BitVec 32 := Scalar.muli arg9 c1024_i32_24
  let v46 : BitVec 32 := v45
  let v47 : Index := Scalar.indexCast v46
  let c0_25 : Index := 0#32
  ![v47.toNat, 0]
def k0_off4 (i : grid0.Coords) (k0_t2 : Fin (k0_t2_loop i).trips) : Fin 2 → Nat :=
  let arg1 : BitVec 32 := BitVec.ofNat 32 (i 1).val
  let c512_i32 : BitVec 32 := 512#32
  let v14 : BitVec 32 := Scalar.muli arg1 c512_i32
  let c1024_i32 : BitVec 32 := 1024#32
  let v15 : BitVec 32 := Scalar.divsi v14 c1024_i32
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let v22 : BitVec 32 := Scalar.subi v20 v15
  let c1_i32_11 : BitVec 32 := 1#32
  let v24 : BitVec 32 := Scalar.divsi v22 c1_i32_11
  let v25 : BitVec 32 := Scalar.muli v24 c1_i32_11
  let v26 : BitVec 32 := Scalar.addi v15 v25
  let c1_i32_13 : BitVec 32 := 1#32
  let arg9 : BitVec 32 := Scf.iv v26 c1_i32_13 k0_t2
  let c1024_i32_24 : BitVec 32 := 1024#32
  let v45 : BitVec 32 := Scalar.muli arg9 c1024_i32_24
  let v46 : BitVec 32 := v45
  let v77 : Index := Scalar.indexCast v46
  let c128_37 : Index := 128#32
  ![v77.toNat, 128]
@[reducible] def k0_t3_loop (i : grid0.Coords) : Scf.Loop 32 :=
  let arg1 : BitVec 32 := BitVec.ofNat 32 (i 1).val
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let c4_i32 : BitVec 32 := 4#32
  let v29 : BitVec 32 := Scalar.subi c4_i32 v20
  let c1_i32_14 : BitVec 32 := 1#32
  let v31 : BitVec 32 := Scalar.divsi v29 c1_i32_14
  let v32 : BitVec 32 := Scalar.muli v31 c1_i32_14
  let v33 : BitVec 32 := Scalar.addi v20 v32
  let c1_i32_15 : BitVec 32 := 1#32
  ⟨v20, v33, c1_i32_15⟩
def k0_mult3 (i : grid0.Coords) (k0_t3 : Fin (k0_t3_loop i).trips) : BitVec 32 :=
  let arg1 : BitVec 32 := BitVec.ofNat 32 (i 1).val
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let c1_i32_15 : BitVec 32 := 1#32
  let arg9 : BitVec 32 := Scf.iv v20 c1_i32_15 k0_t3
  let c1024_i32_24 : BitVec 32 := 1024#32
  let v45 : BitVec 32 := Scalar.muli arg9 c1024_i32_24
  v45
def k0_off5 (i : grid0.Coords) (k0_t3 : Fin (k0_t3_loop i).trips) : Fin 2 → Nat :=
  let arg1 : BitVec 32 := BitVec.ofNat 32 (i 1).val
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let c1_i32_15 : BitVec 32 := 1#32
  let arg9 : BitVec 32 := Scf.iv v20 c1_i32_15 k0_t3
  let c1024_i32_24 : BitVec 32 := 1024#32
  let v45 : BitVec 32 := Scalar.muli arg9 c1024_i32_24
  let v46 : BitVec 32 := v45
  let v47 : Index := Scalar.indexCast v46
  let c0_25 : Index := 0#32
  ![v47.toNat, 0]
def k0_off6 (i : grid0.Coords) (k0_t3 : Fin (k0_t3_loop i).trips) : Fin 2 → Nat :=
  let arg1 : BitVec 32 := BitVec.ofNat 32 (i 1).val
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let c1_i32_15 : BitVec 32 := 1#32
  let arg9 : BitVec 32 := Scf.iv v20 c1_i32_15 k0_t3
  let c1024_i32_24 : BitVec 32 := 1024#32
  let v45 : BitVec 32 := Scalar.muli arg9 c1024_i32_24
  let v46 : BitVec 32 := v45
  let v70 : Index := Scalar.indexCast v46
  let c128_34 : Index := 128#32
  ![v70.toNat, 128]
@[reducible] def k0_t4_loop (i : grid0.Coords) : Scf.Loop 32 :=
  let arg1 : BitVec 32 := BitVec.ofNat 32 (i 1).val
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let c4_i32 : BitVec 32 := 4#32
  let v29 : BitVec 32 := Scalar.subi c4_i32 v20
  let c1_i32_14 : BitVec 32 := 1#32
  let v31 : BitVec 32 := Scalar.divsi v29 c1_i32_14
  let v32 : BitVec 32 := Scalar.muli v31 c1_i32_14
  let v33 : BitVec 32 := Scalar.addi v20 v32
  let v30 : BitVec 32 := Scalar.addi v20 v29
  let c1_i32_16 : BitVec 32 := 1#32
  ⟨v33, v30, c1_i32_16⟩
def k0_mult4 (i : grid0.Coords) (k0_t4 : Fin (k0_t4_loop i).trips) : BitVec 32 :=
  let arg1 : BitVec 32 := BitVec.ofNat 32 (i 1).val
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let c4_i32 : BitVec 32 := 4#32
  let v29 : BitVec 32 := Scalar.subi c4_i32 v20
  let c1_i32_14 : BitVec 32 := 1#32
  let v31 : BitVec 32 := Scalar.divsi v29 c1_i32_14
  let v32 : BitVec 32 := Scalar.muli v31 c1_i32_14
  let v33 : BitVec 32 := Scalar.addi v20 v32
  let c1_i32_16 : BitVec 32 := 1#32
  let arg9 : BitVec 32 := Scf.iv v33 c1_i32_16 k0_t4
  let c1024_i32_24 : BitVec 32 := 1024#32
  let v45 : BitVec 32 := Scalar.muli arg9 c1024_i32_24
  v45
def k0_off7 (i : grid0.Coords) (k0_t4 : Fin (k0_t4_loop i).trips) : Fin 2 → Nat :=
  let arg1 : BitVec 32 := BitVec.ofNat 32 (i 1).val
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let c4_i32 : BitVec 32 := 4#32
  let v29 : BitVec 32 := Scalar.subi c4_i32 v20
  let c1_i32_14 : BitVec 32 := 1#32
  let v31 : BitVec 32 := Scalar.divsi v29 c1_i32_14
  let v32 : BitVec 32 := Scalar.muli v31 c1_i32_14
  let v33 : BitVec 32 := Scalar.addi v20 v32
  let c1_i32_16 : BitVec 32 := 1#32
  let arg9 : BitVec 32 := Scf.iv v33 c1_i32_16 k0_t4
  let c1024_i32_24 : BitVec 32 := 1024#32
  let v45 : BitVec 32 := Scalar.muli arg9 c1024_i32_24
  let v46 : BitVec 32 := v45
  let v47 : Index := Scalar.indexCast v46
  let c0_25 : Index := 0#32
  ![v47.toNat, 0]
def k0_off8 (i : grid0.Coords) (k0_t4 : Fin (k0_t4_loop i).trips) : Fin 2 → Nat :=
  let arg1 : BitVec 32 := BitVec.ofNat 32 (i 1).val
  let c1_i32 : BitVec 32 := 1#32
  let v16 : BitVec 32 := Scalar.addi arg1 c1_i32
  let c512_i32_7 : BitVec 32 := 512#32
  let v17 : BitVec 32 := Scalar.muli v16 c512_i32_7
  let c1024_i32_8 : BitVec 32 := 1024#32
  let v18 : BitVec 32 := Scalar.addi v17 c1024_i32_8
  let c1_i32_9 : BitVec 32 := 1#32
  let v19 : BitVec 32 := Scalar.subi v18 c1_i32_9
  let c1024_i32_10 : BitVec 32 := 1024#32
  let v20 : BitVec 32 := Scalar.divsi v19 c1024_i32_10
  let c4_i32 : BitVec 32 := 4#32
  let v29 : BitVec 32 := Scalar.subi c4_i32 v20
  let c1_i32_14 : BitVec 32 := 1#32
  let v31 : BitVec 32 := Scalar.divsi v29 c1_i32_14
  let v32 : BitVec 32 := Scalar.muli v31 c1_i32_14
  let v33 : BitVec 32 := Scalar.addi v20 v32
  let c1_i32_16 : BitVec 32 := 1#32
  let arg9 : BitVec 32 := Scf.iv v33 c1_i32_16 k0_t4
  let c1024_i32_24 : BitVec 32 := 1024#32
  let v45 : BitVec 32 := Scalar.muli arg9 c1024_i32_24
  let v46 : BitVec 32 := v45
  let v70 : Index := Scalar.indexCast v46
  let c128_34 : Index := 128#32
  ![v70.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4096x16x64 : Shape := ⟨3, ![4096, 16, 64]⟩
abbrev S4096x16 : Shape := ⟨2, ![4096, 16]⟩
abbrev S16x4096 : Shape := ⟨2, ![16, 4096]⟩
abbrev S16x4096x64 : Shape := ⟨3, ![16, 4096, 64]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x64x4096 : Shape := ⟨3, ![16, 64, 4096]⟩

abbrev nBuf : Space → Nat
  | .hbm => 115
  | .vmem => 0
  | .smem => 0
  | _ => 0

abbrev bufTy : (tb : Table) → Fin (tcTables nBuf tb) → BufTy
  | .hbm, ⟨0, _⟩ => ⟨S4096x16x64, .f32⟩
  | .hbm, ⟨1, _⟩ => ⟨S4096x16x64, .f32⟩
  | .hbm, ⟨2, _⟩ => ⟨S4096x16x64, .f32⟩
  | .hbm, ⟨3, _⟩ => ⟨S4096x16, .f32⟩
  | .hbm, ⟨4, _⟩ => ⟨S4096x16x64, .f32⟩
  | .hbm, ⟨5, _⟩ => ⟨S16x4096, .f32⟩
  | .hbm, ⟨6, _⟩ => ⟨S16x4096x64, .f32⟩
  | .hbm, ⟨7, _⟩ => ⟨S16x4096x64, .f32⟩
  | .hbm, ⟨8, _⟩ => ⟨S16x4096x64, .f32⟩
  | .hbm, ⟨9, _⟩ => ⟨S16x4096x4096, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S16x4096x1, .f32⟩
  | .hbm, ⟨14, _⟩ => ⟨S16x4096x4096, .f32⟩
  | .hbm, ⟨15, _⟩ => ⟨S16x4096x4096, .f32⟩
  | .hbm, ⟨16, _⟩ => ⟨S16x1x4096, .f32⟩
  | .hbm, ⟨17, _⟩ => ⟨S16x4096x4096, .f32⟩
  | .hbm, ⟨18, _⟩ => ⟨S16x4096x4096, .f32⟩
  | .hbm, ⟨19, _⟩ => ⟨S4096, .i32⟩
  | .hbm, ⟨20, _⟩ => ⟨S4096x1, .i32⟩
  | .hbm, ⟨21, _⟩ => ⟨S4096, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .i1⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S_, .f32⟩
  | .hbm, ⟨42, _⟩ => ⟨S16x4096, .f32⟩
  | .hbm, ⟨43, _⟩ => ⟨S16x4096, .f32⟩
  | .hbm, ⟨44, _⟩ => ⟨S_, .f32⟩
  | .hbm, ⟨45, _⟩ => ⟨S16x4096, .f32⟩
  | .hbm, ⟨46, _⟩ => ⟨S16x4096, .i1⟩
  | .hbm, ⟨47, _⟩ => ⟨S_, .f32⟩
  | .hbm, ⟨48, _⟩ => ⟨S16x4096, .f32⟩
  | .hbm, ⟨49, _⟩ => ⟨S16x4096, .i1⟩
  | .hbm, ⟨50, _⟩ => ⟨S_, .f32⟩
  | .hbm, ⟨51, _⟩ => ⟨S16x4096, .f32⟩
  | .hbm, ⟨52, _⟩ => ⟨S_, .f32⟩
  | .hbm, ⟨53, _⟩ => ⟨S16x4096, .f32⟩
  | .hbm, ⟨54, _⟩ => ⟨S_, .f32⟩
  | .hbm, ⟨55, _⟩ => ⟨S16x4096, .f32⟩
  | .hbm, ⟨56, _⟩ => ⟨S16x4096, .f32⟩
  | .hbm, ⟨57, _⟩ => ⟨S16x4096, .f32⟩
  | .hbm, ⟨58, _⟩ => ⟨S16x4096x1, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S_, .f32⟩
  | .hbm, ⟨63, _⟩ => ⟨S16x4096, .f32⟩
  | .hbm, ⟨64, _⟩ => ⟨S16x4096x1, .f32⟩
  | .hbm, ⟨65, _⟩ => ⟨S16x4096x4096, .f32⟩
  | .hbm, ⟨66, _⟩ => ⟨S16x4096x4096, .f32⟩
  | .hbm, ⟨67, _⟩ => ⟨S16x4096x1, .f32⟩
  | .hbm, ⟨68, _⟩ => ⟨S_, .f32⟩
  | .hbm, ⟨69, _⟩ => ⟨S16x4096x1, .f32⟩
  | .hbm, ⟨70, _⟩ => ⟨S16x4096x1, .f32⟩
  | .hbm, ⟨71, _⟩ => ⟨S16x4096x64, .f32⟩
  | .hbm, ⟨72, _⟩ => ⟨S4096x16x64, .f32⟩
  | .hbm, ⟨73, _⟩ => ⟨S16x4096x64, .f32⟩
  | .hbm, ⟨74, _⟩ => ⟨S16x64x4096, .f32⟩
  | .hbm, ⟨75, _⟩ => ⟨S16x4096x64, .f32⟩
  | .hbm, ⟨76, _⟩ => ⟨S16x4096x4096, .f32⟩
  | .hbm, ⟨77, _⟩ => ⟨S16x4096x4096, .f32⟩
  | .hbm, ⟨78, _⟩ => ⟨S16x4096x4096, .f32⟩
  | .hbm, ⟨79, _⟩ => ⟨S16x4096x4096, .f32⟩
  | .hbm, ⟨80, _⟩ => ⟨S_, .f32⟩
  | .hbm, ⟨81, _⟩ => ⟨S16x4096, .f32⟩
  | .hbm, ⟨82, _⟩ => ⟨S16x4096x1, .f32⟩
  | .hbm, ⟨83, _⟩ => ⟨S16x4096x1, .f32⟩
  | .hbm, ⟨84, _⟩ => ⟨S16x4096x4096, .f32⟩
  | .hbm, ⟨85, _⟩ => ⟨S16x4096x4096, .f32⟩
  | .hbm, ⟨86, _⟩ => ⟨S_, .f32⟩
  | .hbm, ⟨87, _⟩ => ⟨S16x4096, .f32⟩
  | .hbm, ⟨88, _⟩ => ⟨S16x4096x4096, .f32⟩
  | .hbm, ⟨89, _⟩ => ⟨S16x4096x4096, .f32⟩
  | .hbm, ⟨90, _⟩ => ⟨S16x4096x4096, .f32⟩
  | .hbm, ⟨91, _⟩ => ⟨S_, .f32⟩
  | .hbm, ⟨92, _⟩ => ⟨S16x4096x4096, .f32⟩
  | .hbm, ⟨93, _⟩ => ⟨S16x4096x4096, .f32⟩
  | .hbm, ⟨94, _⟩ => ⟨S16x4096x4096, .f32⟩
  | .hbm, ⟨95, _⟩ => ⟨S_, .f32⟩
  | .hbm, ⟨96, _⟩ => ⟨S16x4096, .f32⟩
  | .hbm, ⟨97, _⟩ => ⟨S16x1x4096, .f32⟩
  | .hbm, ⟨98, _⟩ => ⟨S_, .f32⟩
  | .hbm, ⟨99, _⟩ => ⟨S16x4096, .f32⟩
  | .hbm, ⟨100, _⟩ => ⟨S_, .f32⟩
  | .hbm, ⟨101, _⟩ => ⟨S16x4096, .f32⟩
  | .hbm, ⟨102, _⟩ => ⟨S16x4096x1, .f32⟩
  | .hbm, ⟨103, _⟩ => ⟨S_, .f32⟩
  | .hbm, ⟨104, _⟩ => ⟨S16x4096, .f32⟩
  | .hbm, ⟨105, _⟩ => ⟨S16x4096, .f32⟩
  | .hbm, ⟨106, _⟩ => ⟨S_, .f32⟩
  | .hbm, ⟨107, _⟩ => ⟨S16x4096x4096, .f32⟩
  | .hbm, ⟨108, _⟩ => ⟨S16x4096x4096, .f32⟩
  | .hbm, ⟨109, _⟩ => ⟨S16x4096x64, .f32⟩
  | .hbm, ⟨110, _⟩ => ⟨S16x4096x64, .f32⟩
  | .hbm, ⟨111, _⟩ => ⟨S4096x16x64, .f32⟩
  | .hbm, ⟨112, _⟩ => ⟨S4096x16x64, .f32⟩
  | .hbm, ⟨113, _⟩ => ⟨S4096x16x64, .f32⟩
  | .hbm, ⟨114, _⟩ => ⟨S4096x16, .f32⟩
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_cst : Ref sig .tc := ⟨.hbm, 91, rfl⟩
abbrev main_call1_v0 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S1408x1024 : Shape := ⟨2, ![1408, 1024]⟩
abbrev S1024x1408 : Shape := ⟨2, ![1024, 1408]⟩
abbrev S4096x256 : Shape := ⟨2, ![4096, 256]⟩
abbrev S256x1024 : Shape := ⟨2, ![256, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .bf16⟩
  | .hbm, ⟨6, _⟩ => ⟨S4096x2816, .f32⟩
  | .hbm, ⟨7, _⟩ => ⟨S2816x1024, .bf16⟩
  | .hbm, ⟨8, _⟩ => ⟨S2816x1024, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S4096x256, .bf16⟩
  | .local _ .vmem, ⟨7, _⟩ => ⟨S4096x256, .bf16⟩
  | .local _ .vmem, ⟨8, _⟩ => ⟨S4096x1024, .bf16⟩
  | .local _ .vmem, ⟨9, _⟩ => ⟨S256x1024, .bf16⟩
  | .local _ .vmem, ⟨10, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![11, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S512x2816 : Shape := ⟨2, ![512, 2816]⟩
abbrev S1024x2816 : Shape := ⟨2, ![1024, 2816]⟩
abbrev S512x1024 : Shape := ⟨2, ![512, 1024]⟩
abbrev S4096x512 : Shape := ⟨2, ![4096, 512]⟩
abbrev S4096x1408 : Shape := ⟨2, ![4096, 1408]⟩
abbrev S512x1408 : Shape := ⟨2, ![512, 1408]⟩

abbrev nBuf : Space → Nat
  | .hbm => 15
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S1024x5632, .bf16⟩
  | .hbm, ⟨5, _⟩ => ⟨S4096x2816, .f32⟩
  | .hbm, ⟨6, _⟩ => ⟨S4096x2816, .bf16⟩
  | .hbm, ⟨7, _⟩ => ⟨S4096x2816, .f32⟩
  | .hbm, ⟨8, _⟩ => ⟨S4096x2816, .bf16⟩
  | .hbm, ⟨9, _⟩ => ⟨S4096x1024, .f32⟩
  | .hbm, ⟨10, _⟩ => ⟨S4096x1024, .f32⟩
  | .hbm, ⟨11, _⟩ => ⟨S1024x2816, .bf16⟩
  | .hbm, ⟨12, _⟩ => ⟨S1024x2816, .bf16⟩
  | .hbm, ⟨13, _⟩ => ⟨S1024x5632, .bf16⟩
  | .hbm, ⟨14, _⟩ => ⟨S1024x5632, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x2816, .bf16⟩
  | .local _ .vmem, ⟨6, _⟩ => ⟨S512x2816, .bf16⟩
  | .local _ .vmem, ⟨7, _⟩ => ⟨S1024x2816, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S4096x512, .bf16⟩
  | .local _ .vmem, ⟨13, _⟩ => ⟨S4096x512, .bf16⟩
  | .local _ .vmem, ⟨14, _⟩ => ⟨S4096x1408, .bf16⟩
  | .local _ .vmem, ⟨15, _⟩ => ⟨S4096x1408, .bf16⟩
  | .local _ .vmem, ⟨16, _⟩ => ⟨S512x1408, .bf16⟩
  | .local _ .vmem, ⟨17, _⟩ => ⟨S512x1408, .bf16⟩
  | .local _ .vmem, ⟨18, _⟩ => ⟨S4096x512, .bf16⟩
  | .local _ .vmem, ⟨19, _⟩ => ⟨S4096x512, .bf16⟩
  | .local _ .vmem, ⟨20, _⟩ => ⟨S4096x1408, .bf16⟩
  | .local _ .vmem, ⟨21, _⟩ => ⟨S4096x1408, .bf16⟩
  | .local _ .vmem, ⟨22, _⟩ => ⟨S512x1408, .bf16⟩
  | .local _ .vmem, ⟨23, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference3Ideal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S512x1024 : Shape := ⟨2, ![512, 1024]⟩
abbrev S4096x512 : Shape := ⟨2, ![4096, 512]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x1024, .f32⟩
  | .hbm, ⟨7, _⟩ => ⟨S1024x1024, .bf16⟩
  | .hbm, ⟨8, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S4096x512, .bf16⟩
  | .local _ .vmem, ⟨6, _⟩ => ⟨S4096x512, .bf16⟩
  | .local _ .vmem, ⟨7, _⟩ => ⟨S4096x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference4Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x1024 : Shape := ⟨2, ![4096, 1024]⟩
abbrev S1024x4112 : Shape := ⟨2, ![1024, 4112]⟩
abbrev S4096x4112 : Shape := ⟨2, ![4096, 4112]⟩
abbrev S1024x4096 : Shape := ⟨2, ![1024, 4096]⟩
abbrev S1024x16 : Shape := ⟨2, ![1024, 16]⟩
abbrev S_ : Shape := ⟨0, ![]⟩
abbrev S1024x128 : Shape := ⟨2, ![1024, 128]⟩
abbrev S4096x4096 : Shape := ⟨2, ![4096, 4096]⟩
abbrev S4096x16 : Shape := ⟨2, ![4096, 16]⟩
abbrev S4096x128 : Shape := ⟨2, ![4096, 128]⟩
abbrev S512x4096 : Shape := ⟨2, ![512, 4096]⟩
abbrev S512x1024 : Shape := ⟨2, ![512, 1024]⟩
abbrev S512x128 : Shape := ⟨2, ![512, 128]⟩
abbrev S4096x512 : Shape := ⟨2, ![4096, 512]⟩

abbrev nBuf : Space → Nat
  | .hbm => 23
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S4096x4112, .f32⟩
  | .hbm, ⟨3, _⟩ => ⟨S4096x1024, .bf16⟩
  | .hbm, ⟨4, _⟩ => ⟨S1024x4112, .bf16⟩
  | .hbm, ⟨5, _⟩ => ⟨S4096x4112, .bf16⟩
  | .hbm, ⟨6, _⟩ => ⟨S1024x4096, .bf16⟩
  | .hbm, ⟨7, _⟩ => ⟨S1024x16, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S4096x4096, .bf16⟩
  | .hbm, ⟨12, _⟩ => ⟨S4096x16, .bf16⟩
  | .hbm, ⟨13, _⟩ => ⟨S_, .i32⟩
  | .hbm, ⟨14, _⟩ => ⟨S_, .bf16⟩
  | .hbm, ⟨15, _⟩ => ⟨S4096x128, .bf16⟩
  | .hbm, ⟨16, _⟩ => ⟨S4096x1024, .f32⟩
  | .hbm, ⟨17, _⟩ => ⟨S4096x1024, .f32⟩
  | .hbm, ⟨18, _⟩ => ⟨S1024x4096, .bf16⟩
  | .hbm, ⟨19, _⟩ => ⟨S1024x128, .bf16⟩
  | .hbm, ⟨20, _⟩ => ⟨S1024x16, .bf16⟩
  | .hbm, ⟨21, _⟩ => ⟨S1024x4112, .bf16⟩
  | .hbm, ⟨22, _⟩ => ⟨S1024x4112, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x128, .bf16⟩
  | .local _ .vmem, ⟨6, _⟩ => ⟨S512x128, .bf16⟩
  | .local _ .vmem, ⟨7, _⟩ => ⟨S1024x128, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S4096x512, .bf16⟩
  | .local _ .vmem, ⟨13, _⟩ => ⟨S4096x512, .bf16⟩
  | .local _ .vmem, ⟨14, _⟩ => ⟨S4096x1024, .bf16⟩
  | .local _ .vmem, ⟨15, _⟩ => ⟨S4096x1024, .bf16⟩
  | .local _ .vmem, ⟨16, _⟩ => ⟨S512x1024, .bf16⟩
  | .local _ .vmem, ⟨17, _⟩ => ⟨S512x1024, .bf16⟩
  | .local _ .vmem, ⟨18, _⟩ => ⟨S4096x512, .bf16⟩
  | .local _ .vmem, ⟨19, _⟩ => ⟨S4096x512, .bf16⟩
  | .local _ .vmem, ⟨20, _⟩ => ⟨S4096x128, .bf16⟩
  | .local _ .vmem, ⟨21, _⟩ => ⟨S512x128, .bf16⟩
  | .local _ .vmem, ⟨22, _⟩ => ⟨S512x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference5Ideal.lean ====
abbrev S4096x1024 : Shape := ⟨2, ![4096, 1024]⟩
abbrev S1024x4112 : Shape := ⟨2, ![1024, 4112]⟩
abbrev S4096x4112 : Shape := ⟨2, ![4096, 4112]⟩
abbrev S4112x1024 : Shape := ⟨2, ![4112, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S4096x4112, .f32⟩
  | .hbm, ⟨3, _⟩ => ⟨S4096x4112, .f32⟩
  | .hbm, ⟨4, _⟩ => ⟨S4112x1024, .f32⟩
  | .hbm, ⟨5, _⟩ => ⟨S1024x4112, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x2048 : Shape := ⟨2, ![4096, 2048]⟩
abbrev S2048x1024 : Shape := ⟨2, ![2048, 1024]⟩
abbrev S4096x1024 : Shape := ⟨2, ![4096, 1024]⟩
abbrev S512x1024 : Shape := ⟨2, ![512, 1024]⟩
abbrev S1024x1024 : Shape := ⟨2, ![1024, 1024]⟩
abbrev S4096x512 : Shape := ⟨2, ![4096, 512]⟩

abbrev nBuf : Space → Nat
  | .hbm => 9
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S2048x1024, .bf16⟩
  | .hbm, ⟨5, _⟩ => ⟨S4096x1024, .bf16⟩
  | .hbm, ⟨6, _⟩ => ⟨S4096x2048, .f32⟩
  | .hbm, ⟨7, _⟩ => ⟨S2048x1024, .bf16⟩
  | .hbm, ⟨8, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S4096x512, .bf16⟩
  | .local _ .vmem, ⟨7, _⟩ => ⟨S4096x512, .bf16⟩
  | .local _ .vmem, ⟨8, _⟩ => ⟨S4096x1024, .bf16⟩
  | .local _ .vmem, ⟨9, _⟩ => ⟨S512x1024, .bf16⟩
  | .local _ .vmem, ⟨10, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference6Ideal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S2048x1024, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1024x5152 : Shape := ⟨2, ![1024, 5152]⟩
abbrev S4096x5152 : Shape := ⟨2, ![4096, 5152]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x128 : Shape := ⟨2, ![1024, 128]⟩
abbrev S4096x2048 : Shape := ⟨2, ![4096, 2048]⟩
abbrev S4096x3072 : Shape := ⟨2, ![4096, 3072]⟩
abbrev S4096x32 : Shape := ⟨2, ![4096, 32]⟩
abbrev S4096x128 : Shape := ⟨2, ![4096, 128]⟩
abbrev S512x2048 : Shape := ⟨2, ![512, 2048]⟩
abbrev S512x1024 : Shape := ⟨2, ![512, 1024]⟩
abbrev S512x3072 : Shape := ⟨2, ![512, 3072]⟩
abbrev S512x128 : Shape := ⟨2, ![512, 128]⟩
abbrev S4096x512 : Shape := ⟨2, ![4096, 512]⟩
abbrev S4096x1536 : Shape := ⟨2, ![4096, 1536]⟩
abbrev S512x1536 : Shape := ⟨2, ![512, 1536]⟩

abbrev nBuf : Space → Nat
  | .hbm => 27
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S1024x5152, .f32⟩
  | .hbm, ⟨2, _⟩ => ⟨S4096x5152, .f32⟩
  | .hbm, ⟨3, _⟩ => ⟨S4096x1024, .bf16⟩
  | .hbm, ⟨4, _⟩ => ⟨S1024x5152, .bf16⟩
  | .hbm, ⟨5, _⟩ => ⟨S4096x5152, .bf16⟩
  | .hbm, ⟨6, _⟩ => ⟨S1024x2048, .bf16⟩
  | .hbm, ⟨7, _⟩ => ⟨S1024x3072, .bf16⟩
  | .hbm, ⟨8, _⟩ => ⟨S1024x32, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S4096x2048, .bf16⟩
  | .hbm, ⟨13, _⟩ => ⟨S4096x3072, .bf16⟩
  | .hbm, ⟨14, _⟩ => ⟨S4096x32, .bf16⟩
  | .hbm, ⟨15, _⟩ => ⟨S_, .i32⟩
  | .hbm, ⟨16, _⟩ => ⟨S_, .bf16⟩
  | .hbm, ⟨17, _⟩ => ⟨S4096x128, .bf16⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x2048, .bf16⟩
  | .hbm, ⟨22, _⟩ => ⟨S1024x3072, .bf16⟩
  | .hbm, ⟨23, _⟩ => ⟨S1024x128, .bf16⟩
  | .hbm, ⟨24, _⟩ => ⟨S1024x32, .bf16⟩
  | .hbm, ⟨25, _⟩ => ⟨S1024x5152, .bf16⟩
  | .hbm, ⟨26, _⟩ => ⟨S1024x5152, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x3072, .bf16⟩
  | .local _ .vmem, ⟨6, _⟩ => ⟨S512x3072, .bf16⟩
  | .local _ .vmem, ⟨7, _⟩ => ⟨S1024x3072, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x128, .bf16⟩
  | .local _ .vmem, ⟨13, _⟩ => ⟨S512x128, .bf16⟩
  | .local _ .vmem, ⟨14, _⟩ => ⟨S1024x128, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S4096x512, .bf16⟩
  | .local _ .vmem, ⟨20, _⟩ => ⟨S4096x512, .bf16⟩
  | .local _ .vmem, ⟨21, _⟩ => ⟨S4096x1024, .bf16⟩
  | .local _ .vmem, ⟨22, _⟩ => ⟨S4096x1024, .bf16⟩
  | .local _ .vmem, ⟨23, _⟩ => ⟨S512x1024, .bf16⟩
  | .local _ .vmem, ⟨24, _⟩ => ⟨S512x1024, .bf16⟩
  | .local _ .vmem, ⟨25, _⟩ => ⟨S4096x512, .bf16⟩
  | .local _ .vmem, ⟨26, _⟩ => ⟨S4096x512, .bf16⟩
  | .local _ .vmem, ⟨27, _⟩ => ⟨S4096x1536, .bf16⟩
  | .local _ .vmem, ⟨28, _⟩ => ⟨S4096x1536, .bf16⟩
  | .local _ .vmem, ⟨29, _⟩ => ⟨S512x1536, .bf16⟩
  | .local _ .vmem, ⟨30, _⟩ => ⟨S512x1536, .bf16⟩
  | .local _ .vmem, ⟨31, _⟩ => ⟨S4096x512, .bf16⟩
  | .local _ .vmem, ⟨32, _⟩ => ⟨S4096x512, .bf16⟩
  | .local _ .vmem, ⟨33, _⟩ => ⟨S4096x128, .bf16⟩
  | .local _ .vmem, ⟨34, _⟩ => ⟨S512x128, .bf16⟩
  | .local _ .vmem, ⟨35, _⟩ => ⟨S512x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1536 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x1536 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S4096x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S512x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference7Ideal.lean ====
abbrev S4096x1024 : Shape := ⟨2, ![4096, 1024]⟩
abbrev S1024x5152 : Shape := ⟨2, ![1024, 5152]⟩
abbrev S4096x5152 : Shape := ⟨2, ![4096, 5152]⟩
abbrev S5152x1024 : Shape := ⟨2, ![5152, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5152, .f32⟩
  | .hbm, ⟨2, _⟩ => ⟨S4096x5152, .f32⟩
  | .hbm, ⟨3, _⟩ => ⟨S4096x5152, .f32⟩
  | .hbm, ⟨4, _⟩ => ⟨S5152x1024, .f32⟩
  | .hbm, ⟨5, _⟩ => ⟨S1024x5152, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S4096x1024 : Shape := ⟨2, ![4096, 1024]⟩
abbrev S1024x4112 : Shape := ⟨2, ![1024, 4112]⟩
abbrev S1024x4096 : Shape := ⟨2, ![1024, 4096]⟩
abbrev S1024x16 : Shape := ⟨2, ![1024, 16]⟩
abbrev S_ : Shape := ⟨0, ![]⟩
abbrev S1024x128 : Shape := ⟨2, ![1024, 128]⟩
abbrev S4096x4096 : Shape := ⟨2, ![4096, 4096]⟩
abbrev S1024x1024 : Shape := ⟨2, ![1024, 1024]⟩
abbrev S4096x128 : Shape := ⟨2, ![4096, 128]⟩
abbrev S512x1024 : Shape := ⟨2, ![512, 1024]⟩
abbrev S512x128 : Shape := ⟨2, ![512, 128]⟩
abbrev S4096x16 : Shape := ⟨2, ![4096, 16]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S4096x1024, .bf16⟩
  | .hbm, ⟨3, _⟩ => ⟨S1024x4112, .bf16⟩
  | .hbm, ⟨4, _⟩ => ⟨S1024x4096, .bf16⟩
  | .hbm, ⟨5, _⟩ => ⟨S1024x16, .bf16⟩
  | .hbm, ⟨6, _⟩ => ⟨S_, .i32⟩
  | .hbm, ⟨7, _⟩ => ⟨S_, .bf16⟩
  | .hbm, ⟨8, _⟩ => ⟨S1024x128, .bf16⟩
  | .hbm, ⟨9, _⟩ => ⟨S4096x4096, .f32⟩
  | .hbm, ⟨10, _⟩ => ⟨S4096x128, .f32⟩
  | .hbm, ⟨11, _⟩ => ⟨S4096x16, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S512x1024, .bf16⟩
  | .local _ .vmem, ⟨7, _⟩ => ⟨S512x1024, .bf16⟩
  | .local _ .vmem, ⟨8, _⟩ => ⟨S1024x128, .bf16⟩
  | .local _ .vmem, ⟨9, _⟩ => ⟨S512x128, .f32⟩
  | .local _ .vmem, ⟨10, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference10Ideal.lean ====
abbrev S4096x1024 : Shape := ⟨2, ![4096, 1024]⟩
abbrev S1024x4112 : Shape := ⟨2, ![1024, 4112]⟩
abbrev S4096x4112 : Shape := ⟨2, ![4096, 4112]⟩
abbrev S4096x4096 : Shape := ⟨2, ![4096, 4096]⟩
abbrev S4096x16 : Shape := ⟨2, ![4096, 16]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4112, .f32⟩
  | .hbm, ⟨2, _⟩ => ⟨S4096x4112, .f32⟩
  | .hbm, ⟨3, _⟩ => ⟨S4096x4096, .f32⟩
  | .hbm, ⟨4, _⟩ => ⟨S4096x16, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S4096x1024 : Shape := ⟨2, ![4096, 1024]⟩
abbrev S1024x5152 : Shape := ⟨2, ![1024, 5152]⟩
abbrev S1024x5120 : Shape := ⟨2, ![1024, 5120]⟩
abbrev S1024x32 : Shape := ⟨2, ![1024, 32]⟩
abbrev S_ : Shape := ⟨0, ![]⟩
abbrev S1024x128 : Shape := ⟨2, ![1024, 128]⟩
abbrev S4096x5120 : Shape := ⟨2, ![4096, 5120]⟩
abbrev S1024x1024 : Shape := ⟨2, ![1024, 1024]⟩
abbrev S1024x1280 : Shape := ⟨2, ![1024, 1280]⟩
abbrev S4096x128 : Shape := ⟨2, ![4096, 128]⟩
abbrev S512x1024 : Shape := ⟨2, ![512, 1024]⟩
abbrev S512x128 : Shape := ⟨2, ![512, 128]⟩
abbrev S4096x32 : Shape := ⟨2, ![4096, 32]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x5152, .f32⟩
  | .hbm, ⟨2, _⟩ => ⟨S4096x1024, .bf16⟩
  | .hbm, ⟨3, _⟩ => ⟨S1024x5152, .bf16⟩
  | .hbm, ⟨4, _⟩ => ⟨S1024x5120, .bf16⟩
  | .hbm, ⟨5, _⟩ => ⟨S1024x32, .bf16⟩
  | .hbm, ⟨6, _⟩ => ⟨S_, .i32⟩
  | .hbm, ⟨7, _⟩ => ⟨S_, .bf16⟩
  | .hbm, ⟨8, _⟩ => ⟨S1024x128, .bf16⟩
  | .hbm, ⟨9, _⟩ => ⟨S4096x5120, .f32⟩
  | .hbm, ⟨10, _⟩ => ⟨S4096x128, .f32⟩
  | .hbm, ⟨11, _⟩ => ⟨S4096x32, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | .local _ .vmem, ⟨6, _⟩ => ⟨S512x1024, .bf16⟩
  | .local _ .vmem, ⟨7, _⟩ => ⟨S512x1024, .bf16⟩
  | .local _ .vmem, ⟨8, _⟩ => ⟨S1024x128, .bf16⟩
  | .local _ .vmem, ⟨9, _⟩ => ⟨S512x128, .f32⟩
  | .local _ .vmem, ⟨10, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference12Ideal.lean ====
abbrev S4096x1024 : Shape := ⟨2, ![4096, 1024]⟩
abbrev S1024x5152 : Shape := ⟨2, ![1024, 5152]⟩
abbrev S4096x5152 : Shape := ⟨2, ![4096, 5152]⟩
abbrev S4096x5120 : Shape := ⟨2, ![4096, 5120]⟩
abbrev S4096x32 : Shape := ⟨2, ![4096, 32]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5152, .f32⟩
  | .hbm, ⟨2, _⟩ => ⟨S4096x5152, .f32⟩
  | .hbm, ⟨3, _⟩ => ⟨S4096x5120, .f32⟩
  | .hbm, ⟨4, _⟩ => ⟨S4096x32, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S2048x1024, .bf16⟩
  | .hbm, ⟨5, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S2x128x1024 : Shape := ⟨3, ![2, 128, 1024]⟩
abbrev S8x2x128x1024 : Shape := ⟨4, ![8, 2, 128, 1024]⟩
abbrev S1x128x1024 : Shape := ⟨3, ![1, 128, 1024]⟩
abbrev S8x1x128x1024 : Shape := ⟨4, ![8, 1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x2x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x1x128x1024, .bf16⟩
  | .local _ .vmem, ⟨7, _⟩ => ⟨S8x1x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S2x128x1024 : Shape := ⟨3, ![2, 128, 1024]⟩
abbrev S8x2x128x1024 : Shape := ⟨4, ![8, 2, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x2x128x1024, .bf16⟩
  | .hbm, ⟨4, _⟩ => ⟨S8x2x128x1024, .f32⟩
  | .hbm, ⟨5, _⟩ => ⟨S_, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S_, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S2x128x1024, .f32⟩
  | .hbm, ⟨18, _⟩ => ⟨S_, .f32⟩
  | .hbm, ⟨19, _⟩ => ⟨S2x128x1024, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S_, .f32⟩
  | .hbm, ⟨34, _⟩ => ⟨S2x128x1024, .f32⟩
  | .hbm, ⟨35, _⟩ => ⟨S2x128x1024, .f32⟩
  | .hbm, ⟨36, _⟩ => ⟨S2x128x1024, .f32⟩
  | .hbm, ⟨37, _⟩ => ⟨S_, .f32⟩
  | .hbm, ⟨38, _⟩ => ⟨S2x128x1024, .f32⟩
  | .hbm, ⟨39, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S2x1024x514 : Shape := ⟨3, ![2, 1024, 514]⟩
abbrev S8x2x1024x514 : Shape := ⟨4, ![8, 2, 1024, 514]⟩
abbrev S1x256x514 : Shape := ⟨3, ![1, 256, 514]⟩
abbrev S8x1x256x514 : Shape := ⟨4, ![8, 1, 256, 514]⟩
abbrev S1x1x256x514 : Shape := ⟨4, ![1, 1, 256, 514]⟩
abbrev S256x514 : Shape := ⟨2, ![256, 514]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x514, .f32⟩
  | .hbm, ⟨1, _⟩ => ⟨S2x1024x514, .f32⟩
  | .hbm, ⟨2, _⟩ => ⟨S2x1024x514, .f32⟩
  | .hbm, ⟨3, _⟩ => ⟨S8x2x1024x514, .bf16⟩
  | .hbm, ⟨4, _⟩ => ⟨S2x1024x514, .f32⟩
  | .hbm, ⟨5, _⟩ => ⟨S2x1024x514, .f32⟩
  | .hbm, ⟨6, _⟩ => ⟨S2x1024x514, .f32⟩
  | .hbm, ⟨7, _⟩ => ⟨S2x1024x514, .f32⟩
  | .local _ .vmem, ⟨0, _⟩ => ⟨S1x256x514, .f32⟩
  | .local _ .vmem, ⟨1, _⟩ => ⟨S1x256x514, .f32⟩
  | .local _ .vmem, ⟨2, _⟩ => ⟨S1x256x514, .f32⟩
  | .local _ .vmem, ⟨3, _⟩ => ⟨S1x256x514, .f32⟩
  | .local _ .vmem, ⟨4, _⟩ => ⟨S1x256x514, .f32⟩
  | .local _ .vmem, ⟨5, _⟩ => ⟨S1x256x514, .f32⟩
  | .local _ .vmem, ⟨6, _⟩ => ⟨S8x1x256x514, .bf16⟩
  | .local _ .vmem, ⟨7, _⟩ => ⟨S8x1x256x514, .bf16⟩
  | .local _ .vmem, ⟨8, _⟩ => ⟨S1x256x514, .f32⟩
  | .local _ .vmem, ⟨9, _⟩ => ⟨S1x256x514, .f32⟩
  | .local _ .vmem, ⟨10, _⟩ => ⟨S1x256x514, .f32⟩
  | .local _ .vmem, ⟨11, _⟩ => ⟨S1x256x514, .f32⟩
  | .local _ .vmem, ⟨12, _⟩ => ⟨S1x256x514, .f32⟩
  | .local _ .vmem, ⟨13, _⟩ => ⟨S1x256x514, .f32⟩
  | .local _ .vmem, ⟨14, _⟩ => ⟨S1x256x514, .f32⟩
  | .local _ .vmem, ⟨15, _⟩ => ⟨S1x256x514, .f32⟩
  | _, _ => ⟨S2x1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256x514 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x514 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S2x1024x514 : Shape := ⟨3, ![2, 1024, 514]⟩
abbrev S8x2x1024x514 : Shape := ⟨4, ![8, 2, 1024, 514]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x514, .f32⟩
  | .hbm, ⟨1, _⟩ => ⟨S2x1024x514, .f32⟩
  | .hbm, ⟨2, _⟩ => ⟨S2x1024x514, .f32⟩
  | .hbm, ⟨3, _⟩ => ⟨S8x2x1024x514, .bf16⟩
  | .hbm, ⟨4, _⟩ => ⟨S8x2x1024x514, .f32⟩
  | .hbm, ⟨5, _⟩ => ⟨S_, .f32⟩
  | .hbm, ⟨6, _⟩ => ⟨S2x1024x514, .f32⟩
  | .hbm, ⟨7, _⟩ => ⟨S_, .f32⟩
  | .hbm, ⟨8, _⟩ => ⟨S2x1024x514, .f32⟩
  | .hbm, ⟨9, _⟩ => ⟨S2x1024x514, .f32⟩
  | .hbm, ⟨10, _⟩ => ⟨S_, .f32⟩
  | .hbm, ⟨11, _⟩ => ⟨S2x1024x514, .f32⟩
  | .hbm, ⟨12, _⟩ => ⟨S2x1024x514, .f32⟩
  | .hbm, ⟨13, _⟩ => ⟨S2x1024x514, .f32⟩
  | .hbm, ⟨14, _⟩ => ⟨S_, .f32⟩
  | .hbm, ⟨15, _⟩ => ⟨S2x1024x514, .f32⟩
  | .hbm, ⟨16, _⟩ => ⟨S2x1024x514, .f32⟩
  | .hbm, ⟨17, _⟩ => ⟨S2x1024x514, .f32⟩
  | .hbm, ⟨18, _⟩ => ⟨S_, .f32⟩
  | .hbm, ⟨19, _⟩ => ⟨S2x1024x514, .f32⟩
  | .hbm, ⟨20, _⟩ => ⟨S2x1024x514, .f32⟩
  | .hbm, ⟨21, _⟩ => ⟨S2x1024x514, .f32⟩
  | .hbm, ⟨22, _⟩ => ⟨S_, .f32⟩
  | .hbm, ⟨23, _⟩ => ⟨S2x1024x514, .f32⟩
  | .hbm, ⟨24, _⟩ => ⟨S2x1024x514, .f32⟩
  | .hbm, ⟨25, _⟩ => ⟨S_, .f32⟩
  | .hbm, ⟨26, _⟩ => ⟨S2x1024x514, .f32⟩
  | .hbm, ⟨27, _⟩ => ⟨S2x1024x514, .f32⟩
  | .hbm, ⟨28, _⟩ => ⟨S2x1024x514, .f32⟩
  | .hbm, ⟨29, _⟩ => ⟨S_, .f32⟩
  | .hbm, ⟨30, _⟩ => ⟨S2x1024x514, .f32⟩
  | .hbm, ⟨31, _⟩ => ⟨S2x1024x514, .f32⟩
  | .hbm, ⟨32, _⟩ => ⟨S2x1024x514, .f32⟩
  | .hbm, ⟨33, _⟩ => ⟨S_, .f32⟩
  | .hbm, ⟨34, _⟩ => ⟨S2x1024x514, .f32⟩
  | .hbm, ⟨35, _⟩ => ⟨S2x1024x514, .f32⟩
  | .hbm, ⟨36, _⟩ => ⟨S2x1024x514, .f32⟩
  | .hbm, ⟨37, _⟩ => ⟨S_, .f32⟩
  | .hbm, ⟨38, _⟩ => ⟨S2x1024x514, .f32⟩
  | .hbm, ⟨39, _⟩ => ⟨S2x1024x514, .f32⟩
  | _, _ => ⟨S2x1024x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S4x352x1024 : Shape := ⟨3, ![4, 352, 1024]⟩
abbrev S8x4x352x1024 : Shape := ⟨4, ![8, 4, 352, 1024]⟩
abbrev S1x176x1024 : Shape := ⟨3, ![1, 176, 1024]⟩
abbrev S8x1x176x1024 : Shape := ⟨4, ![8, 1, 176, 1024]⟩
abbrev S1x1x176x1024 : Shape := ⟨4, ![1, 1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S8x4x352x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S8x1x176x1024, .bf16⟩
  | .local _ .vmem, ⟨7, _⟩ => ⟨S8x1x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S4x352x1024 : Shape := ⟨3, ![4, 352, 1024]⟩
abbrev S8x4x352x1024 : Shape := ⟨4, ![8, 4, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S8x4x352x1024, .bf16⟩
  | .hbm, ⟨4, _⟩ => ⟨S8x4x352x1024, .f32⟩
  | .hbm, ⟨5, _⟩ => ⟨S_, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S_, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .hbm, ⟨14, _⟩ => ⟨S_, .f32⟩
  | .hbm, ⟨15, _⟩ => ⟨S4x352x1024, .f32⟩
  | .hbm, ⟨16, _⟩ => ⟨S4x352x1024, .f32⟩
  | .hbm, ⟨17, _⟩ => ⟨S4x352x1024, .f32⟩
  | .hbm, ⟨18, _⟩ => ⟨S_, .f32⟩
  | .hbm, ⟨19, _⟩ => ⟨S4x352x1024, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S_, .f32⟩
  | .hbm, ⟨26, _⟩ => ⟨S4x352x1024, .f32⟩
  | .hbm, ⟨27, _⟩ => ⟨S4x352x1024, .f32⟩
  | .hbm, ⟨28, _⟩ => ⟨S4x352x1024, .f32⟩
  | .hbm, ⟨29, _⟩ => ⟨S_, .f32⟩
  | .hbm, ⟨30, _⟩ => ⟨S4x352x1024, .f32⟩
  | .hbm, ⟨31, _⟩ => ⟨S4x352x1024, .f32⟩
  | .hbm, ⟨32, _⟩ => ⟨S4x352x1024, .f32⟩
  | .hbm, ⟨33, _⟩ => ⟨S_, .f32⟩
  | .hbm, ⟨34, _⟩ => ⟨S4x352x1024, .f32⟩
  | .hbm, ⟨35, _⟩ => ⟨S4x352x1024, .f32⟩
  | .hbm, ⟨36, _⟩ => ⟨S4x352x1024, .f32⟩
  | .hbm, ⟨37, _⟩ => ⟨S_, .f32⟩
  | .hbm, ⟨38, _⟩ => ⟨S4x352x1024, .f32⟩
  | .hbm, ⟨39, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S4x704x1024 : Shape := ⟨3, ![4, 704, 1024]⟩
abbrev S8x4x704x1024 : Shape := ⟨4, ![8, 4, 704, 1024]⟩
abbrev S1x176x1024 : Shape := ⟨3, ![1, 176, 1024]⟩
abbrev S8x1x176x1024 : Shape := ⟨4, ![8, 1, 176, 1024]⟩
abbrev S1x1x176x1024 : Shape := ⟨4, ![1, 1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S8x4x704x1024, .bf16⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S8x1x176x1024, .bf16⟩
  | .local _ .vmem, ⟨7, _⟩ => ⟨S8x1x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S4x704x1024 : Shape := ⟨3, ![4, 704, 1024]⟩
abbrev S8x4x704x1024 : Shape := ⟨4, ![8, 4, 704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S8x4x704x1024, .bf16⟩
  | .hbm, ⟨4, _⟩ => ⟨S8x4x704x1024, .f32⟩
  | .hbm, ⟨5, _⟩ => ⟨S_, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S_, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .hbm, ⟨14, _⟩ => ⟨S_, .f32⟩
  | .hbm, ⟨15, _⟩ => ⟨S4x704x1024, .f32⟩
  | .hbm, ⟨16, _⟩ => ⟨S4x704x1024, .f32⟩
  | .hbm, ⟨17, _⟩ => ⟨S4x704x1024, .f32⟩
  | .hbm, ⟨18, _⟩ => ⟨S_, .f32⟩
  | .hbm, ⟨19, _⟩ => ⟨S4x704x1024, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S_, .f32⟩
  | .hbm, ⟨26, _⟩ => ⟨S4x704x1024, .f32⟩
  | .hbm, ⟨27, _⟩ => ⟨S4x704x1024, .f32⟩
  | .hbm, ⟨28, _⟩ => ⟨S4x704x1024, .f32⟩
  | .hbm, ⟨29, _⟩ => ⟨S_, .f32⟩
  | .hbm, ⟨30, _⟩ => ⟨S4x704x1024, .f32⟩
  | .hbm, ⟨31, _⟩ => ⟨S4x704x1024, .f32⟩
  | .hbm, ⟨32, _⟩ => ⟨S4x704x1024, .f32⟩
  | .hbm, ⟨33, _⟩ => ⟨S_, .f32⟩
  | .hbm, ⟨34, _⟩ => ⟨S4x704x1024, .f32⟩
  | .hbm, ⟨35, _⟩ => ⟨S4x704x1024, .f32⟩
  | .hbm, ⟨36, _⟩ => ⟨S4x704x1024, .f32⟩
  | .hbm, ⟨37, _⟩ => ⟨S_, .f32⟩
  | .hbm, ⟨38, _⟩ => ⟨S4x704x1024, .f32⟩
  | .hbm, ⟨39, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S2x256x1024 : Shape := ⟨3, ![2, 256, 1024]⟩
abbrev S8x2x256x1024 : Shape := ⟨4, ![8, 2, 256, 1024]⟩
abbrev S1x256x1024 : Shape := ⟨3, ![1, 256, 1024]⟩
abbrev S8x1x256x1024 : Shape := ⟨4, ![8, 1, 256, 1024]⟩
abbrev S1x1x256x1024 : Shape := ⟨4, ![1, 1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S8x2x256x1024, .bf16⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S8x1x256x1024, .bf16⟩
  | .local _ .vmem, ⟨7, _⟩ => ⟨S8x1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S2x256x1024 : Shape := ⟨3, ![2, 256, 1024]⟩
abbrev S8x2x256x1024 : Shape := ⟨4, ![8, 2, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S8x2x256x1024, .bf16⟩
  | .hbm, ⟨4, _⟩ => ⟨S8x2x256x1024, .f32⟩
  | .hbm, ⟨5, _⟩ => ⟨S_, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S_, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S2x256x1024, .f32⟩
  | .hbm, ⟨18, _⟩ => ⟨S_, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S2x256x1024, .f32⟩
  | .hbm, ⟨33, _⟩ => ⟨S_, .f32⟩
  | .hbm, ⟨34, _⟩ => ⟨S2x256x1024, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S2x256x1024, .f32⟩
  | .hbm, ⟨39, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S2x1024x644 : Shape := ⟨3, ![2, 1024, 644]⟩
abbrev S8x2x1024x644 : Shape := ⟨4, ![8, 2, 1024, 644]⟩
abbrev S1x256x644 : Shape := ⟨3, ![1, 256, 644]⟩
abbrev S8x1x256x644 : Shape := ⟨4, ![8, 1, 256, 644]⟩
abbrev S1x1x256x644 : Shape := ⟨4, ![1, 1, 256, 644]⟩
abbrev S256x644 : Shape := ⟨2, ![256, 644]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x644, .f32⟩
  | .hbm, ⟨1, _⟩ => ⟨S2x1024x644, .f32⟩
  | .hbm, ⟨2, _⟩ => ⟨S2x1024x644, .f32⟩
  | .hbm, ⟨3, _⟩ => ⟨S8x2x1024x644, .bf16⟩
  | .hbm, ⟨4, _⟩ => ⟨S2x1024x644, .f32⟩
  | .hbm, ⟨5, _⟩ => ⟨S2x1024x644, .f32⟩
  | .hbm, ⟨6, _⟩ => ⟨S2x1024x644, .f32⟩
  | .hbm, ⟨7, _⟩ => ⟨S2x1024x644, .f32⟩
  | .local _ .vmem, ⟨0, _⟩ => ⟨S1x256x644, .f32⟩
  | .local _ .vmem, ⟨1, _⟩ => ⟨S1x256x644, .f32⟩
  | .local _ .vmem, ⟨2, _⟩ => ⟨S1x256x644, .f32⟩
  | .local _ .vmem, ⟨3, _⟩ => ⟨S1x256x644, .f32⟩
  | .local _ .vmem, ⟨4, _⟩ => ⟨S1x256x644, .f32⟩
  | .local _ .vmem, ⟨5, _⟩ => ⟨S1x256x644, .f32⟩
  | .local _ .vmem, ⟨6, _⟩ => ⟨S8x1x256x644, .bf16⟩
  | .local _ .vmem, ⟨7, _⟩ => ⟨S8x1x256x644, .bf16⟩
  | .local _ .vmem, ⟨8, _⟩ => ⟨S1x256x644, .f32⟩
  | .local _ .vmem, ⟨9, _⟩ => ⟨S1x256x644, .f32⟩
  | .local _ .vmem, ⟨10, _⟩ => ⟨S1x256x644, .f32⟩
  | .local _ .vmem, ⟨11, _⟩ => ⟨S1x256x644, .f32⟩
  | .local _ .vmem, ⟨12, _⟩ => ⟨S1x256x644, .f32⟩
  | .local _ .vmem, ⟨13, _⟩ => ⟨S1x256x644, .f32⟩
  | .local _ .vmem, ⟨14, _⟩ => ⟨S1x256x644, .f32⟩
  | .local _ .vmem, ⟨15, _⟩ => ⟨S1x256x644, .f32⟩
  | _, _ => ⟨S2x1024x644, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x644 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x644 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x644 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256x644 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x644 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x644 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x644 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x644 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference19Ideal.lean ====
abbrev S2x1024x644 : Shape := ⟨3, ![2, 1024, 644]⟩
abbrev S8x2x1024x644 : Shape := ⟨4, ![8, 2, 1024, 644]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x644, .f32⟩
  | .hbm, ⟨1, _⟩ => ⟨S2x1024x644, .f32⟩
  | .hbm, ⟨2, _⟩ => ⟨S2x1024x644, .f32⟩
  | .hbm, ⟨3, _⟩ => ⟨S8x2x1024x644, .bf16⟩
  | .hbm, ⟨4, _⟩ => ⟨S8x2x1024x644, .f32⟩
  | .hbm, ⟨5, _⟩ => ⟨S_, .f32⟩
  | .hbm, ⟨6, _⟩ => ⟨S2x1024x644, .f32⟩
  | .hbm, ⟨7, _⟩ => ⟨S_, .f32⟩
  | .hbm, ⟨8, _⟩ => ⟨S2x1024x644, .f32⟩
  | .hbm, ⟨9, _⟩ => ⟨S2x1024x644, .f32⟩
  | .hbm, ⟨10, _⟩ => ⟨S_, .f32⟩
  | .hbm, ⟨11, _⟩ => ⟨S2x1024x644, .f32⟩
  | .hbm, ⟨12, _⟩ => ⟨S2x1024x644, .f32⟩
  | .hbm, ⟨13, _⟩ => ⟨S2x1024x644, .f32⟩
  | .hbm, ⟨14, _⟩ => ⟨S_, .f32⟩
  | .hbm, ⟨15, _⟩ => ⟨S2x1024x644, .f32⟩
  | .hbm, ⟨16, _⟩ => ⟨S2x1024x644, .f32⟩
  | .hbm, ⟨17, _⟩ => ⟨S2x1024x644, .f32⟩
  | .hbm, ⟨18, _⟩ => ⟨S_, .f32⟩
  | .hbm, ⟨19, _⟩ => ⟨S2x1024x644, .f32⟩
  | .hbm, ⟨20, _⟩ => ⟨S2x1024x644, .f32⟩
  | .hbm, ⟨21, _⟩ => ⟨S2x1024x644, .f32⟩
  | .hbm, ⟨22, _⟩ => ⟨S_, .f32⟩
  | .hbm, ⟨23, _⟩ => ⟨S2x1024x644, .f32⟩
  | .hbm, ⟨24, _⟩ => ⟨S2x1024x644, .f32⟩
  | .hbm, ⟨25, _⟩ => ⟨S_, .f32⟩
  | .hbm, ⟨26, _⟩ => ⟨S2x1024x644, .f32⟩
  | .hbm, ⟨27, _⟩ => ⟨S2x1024x644, .f32⟩
  | .hbm, ⟨28, _⟩ => ⟨S2x1024x644, .f32⟩
  | .hbm, ⟨29, _⟩ => ⟨S_, .f32⟩
  | .hbm, ⟨30, _⟩ => ⟨S2x1024x644, .f32⟩
  | .hbm, ⟨31, _⟩ => ⟨S2x1024x644, .f32⟩
  | .hbm, ⟨32, _⟩ => ⟨S2x1024x644, .f32⟩
  | .hbm, ⟨33, _⟩ => ⟨S_, .f32⟩
  | .hbm, ⟨34, _⟩ => ⟨S2x1024x644, .f32⟩
  | .hbm, ⟨35, _⟩ => ⟨S2x1024x644, .f32⟩
  | .hbm, ⟨36, _⟩ => ⟨S2x1024x644, .f32⟩
  | .hbm, ⟨37, _⟩ => ⟨S_, .f32⟩
  | .hbm, ⟨38, _⟩ => ⟨S2x1024x644, .f32⟩
  | .hbm, ⟨39, _⟩ => ⟨S2x1024x644, .f32⟩
  | _, _ => ⟨S2x1024x644, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Attention.lean ====
/- Causal attention with a forget gate, and its gradients, over the real numbers. Queries `q`, keys `k`, values `v` and the
   gradient `g` of the output are indexed by row, head and lane; `b` is the running sum of the gates' logarithms, by row and head.
   The identities here are the ones by which the kernel's spelling of the backward pass and the differentiated softmax agree. -/
module

public import Mathlib.Analysis.SpecialFunctions.Log.Basic
public import Mathlib.Algebra.BigOperators.Field

@[expose] public section

noncomputable section

namespace Cert.Attention

/-- Reals by row, head and lane. -/
abbrev Lanes := Fin 4096 → Fin 16 → Fin 64 → ℝ
/-- Reals by row and head. -/
abbrev Rows := Fin 4096 → Fin 16 → ℝ

variable (q k v g : Lanes) (b : Rows)

/-- The score of key row `t` for query row `s`: the scaled inner product, decayed by the gates between the two rows. -/
def score (H : Fin 16) (s t : Fin 4096) : ℝ := (∑ d, q s H d * k t H d) * (1 / 8) + b s H - b t H

/-- The exponential of the score against a shift `m`, nothing for a key after the query. -/
def weight (m : ℝ) (H : Fin 16) (s t : Fin 4096) : ℝ := if t.val ≤ s.val then Real.exp (score q k b H s t - m) else 0

/-- The sum of a query's weights. -/
def total (m : ℝ) (H : Fin 16) (s : Fin 4096) : ℝ := ∑ t, weight q k b m H s t

/-- The attention probability: the softmax over the keys up to the query. -/
def prob (H : Fin 16) (s t : Fin 4096) : ℝ := weight q k b 0 H s t / total q k b 0 H s

/-- The gradient that reaches a probability. -/
def probGrad (H : Fin 16) (s t : Fin 4096) : ℝ := ∑ d, g s H d * v t H d

/-- The mean of those gradients under a query's probabilities. -/
def meanGrad (H : Fin 16) (s : Fin 4096) : ℝ := ∑ t, prob q k b H s t * probGrad v g H s t

/-- The gradient that reaches a score. -/
def scoreGrad (H : Fin 16) (s t : Fin 4096) : ℝ := prob q k b H s t * (probGrad v g H s t - meanGrad q k v g b H s)

theorem total_pos (m : ℝ) (H : Fin 16) (s : Fin 4096) : 0 < total q k b m H s := by
  refine Finset.sum_pos' (fun t _ => ?_) ⟨s, Finset.mem_univ _, ?_⟩
  · unfold weight; split
    · exact (Real.exp_pos _).le
    · exact le_refl 0
  · unfold weight; rw [if_pos le_rfl]; exact Real.exp_pos _

theorem weight_shift (m : ℝ) (H : Fin 16) (s t : Fin 4096) :
    weight q k b m H s t = weight q k b 0 H s t * Real.exp (-m) := by
  unfold weight; split
  · rw [← Real.exp_add]; congr 1; ring
  · rw [zero_mul]

theorem total_shift (m : ℝ) (H : Fin 16) (s : Fin 4096) :
    total q k b m H s = total q k b 0 H s * Real.exp (-m) := by
  unfold total; rw [Finset.sum_mul]; exact Finset.sum_congr rfl fun t _ => weight_shift q k b m H s t

/-- The softmax does not depend on the shift. -/
theorem weight_div_total (m : ℝ) (H : Fin 16) (s t : Fin 4096) :
    weight q k b m H s t / total q k b m H s = prob q k b H s t := by
  rw [weight_shift, total_shift, mul_div_mul_right _ _ (Real.exp_ne_zero _)]; rfl

/-- The probability from the saved logarithm of the sum of exponentials. -/
theorem exp_sub_lse (m : ℝ) (H : Fin 16) (s t : Fin 4096) (h : t.val ≤ s.val) :
    Real.exp (score q k b H s t - (m + Real.log (total q k b m H s))) = prob q k b H s t := by
  rw [← weight_div_total q k b m, ← sub_sub, Real.exp_sub, Real.exp_log (total_pos q k b m H s)]
  congr 1; unfold weight; rw [if_pos h]

theorem prob_after (H : Fin 16) (s t : Fin 4096) (h : ¬ t.val ≤ s.val) : prob q k b H s t = 0 := by
  unfold prob weight; rw [if_neg h, zero_div]

theorem scoreGrad_after (H : Fin 16) (s t : Fin 4096) (h : ¬ t.val ≤ s.val) : scoreGrad q k v g b H s t = 0 := by
  unfold scoreGrad; rw [prob_after q k b H s t h, zero_mul]

/-- The output's gradient against the output is the mean of the probabilities' gradients. -/
theorem sum_grad_mul_out (H : Fin 16) (s : Fin 4096) :
    ∑ d, g s H d * ∑ t, v t H d * prob q k b H s t = meanGrad q k v g b H s := by
  unfold meanGrad probGrad
  simp only [Finset.mul_sum]
  rw [Finset.sum_comm]
  exact Finset.sum_congr rfl fun t _ => Finset.sum_congr rfl fun d _ => by ring

/-- The score's gradient as differentiating the quotient `weight / total` spells it. -/
theorem quotient_grad (m : ℝ) (H : Fin 16) (s t : Fin 4096) :
    (probGrad v g H s t / total q k b m H s
      + -(∑ u, probGrad v g H s u * (1 / (total q k b m H s * total q k b m H s)) * weight q k b m H s u)) * weight q k b m H s t
      = scoreGrad q k v g b H s t := by
  have hl : total q k b m H s ≠ 0 := (total_pos q k b m H s).ne'
  have e : ∑ u, probGrad v g H s u * (1 / (total q k b m H s * total q k b m H s)) * weight q k b m H s u
      = meanGrad q k v g b H s / total q k b m H s := by
    unfold meanGrad
    rw [Finset.sum_div]
    refine Finset.sum_congr rfl fun u _ => ?_
    rw [← weight_div_total q k b m]; field_simp
  rw [e, scoreGrad, ← weight_div_total q k b m]; field_simp; ring

/-- The score, from a query row scaled first and the gates and the saved logarithm added afterwards. -/
theorem score_scaled (l : ℝ) (H : Fin 16) (s t : Fin 4096) :
    (∑ d, q s H d * (1 / 8) * k t H d) + (b s H - l) + -(b t H) = score q k b H s t - l := by
  unfold score; rw [Finset.sum_mul]
  have e : ∑ d, q s H d * (1 / 8) * k t H d = ∑ d, q s H d * k t H d * (1 / 8) := Finset.sum_congr rfl fun d _ => by ring
  rw [e]; ring

end Cert.Attention

end
-- ==== Proof.Finite.lean ====
/- Values at the extended reals that are real numbers: the constants of the programs, the operations on reals, and the arguments of
   a memory that satisfies the precondition. -/
module

public import proofs.«01_k».proof.Proof.Attention
public import proofs.«01_k».proof.Defs
public import Idealize.ShloMosaic.Lib.ReduceAll
public import Idealize.ShloMosaic.Lib.WordCmp
public import Idealize.ShloMosaic.Lib.ValueIdx
public import Idealize.ShloMosaic.PureOps.Ideal.Laws

@[expose] public section

noncomputable section

namespace Cert.Real

open Idealize.ShloMosaic Cert.Attention

theorem coe_sum {n : Nat} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

theorem ofBits_eighth : Ideal.ofBits .f32 0x3E000000#32 = ((1 / 8 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem log_real (x : ℝ) (h : 0 < x) : Ideal.log (x : EReal) = ((Real.log x : ℝ) : EReal) := by
  show (if x ≤ 0 then (⊥ : EReal) else ((Real.log x : ℝ) : EReal)) = _
  rw [if_neg (not_le.2 h)]

/-- A number whose absolute value is below infinity is a real. -/
theorem real_of_abs_lt (x : EReal) (h : Ideal.cmp .olt (max x (-x)) (Ideal.ofBits .f32 0x7F800000#32) = 1#1) :
    ((x.toReal : ℝ) : EReal) = x := by
  rw [ofBits_top] at h
  have h' : max x (-x) < ⊤ := by
    by_contra hn
    rw [show Ideal.cmp .olt (max x (-x)) ⊤ = BitVec.ofBool (decide (max x (-x) < ⊤)) from rfl, decide_eq_false hn] at h
    exact absurd h (by decide)
  refine EReal.coe_toReal (lt_top_iff_ne_top.1 (max_lt_iff.1 h').1) fun e => ?_
  rw [e] at h'; exact absurd h' (by simp)

/-- A maximum, from a start that is not `⊤`, over entries that are not `⊤`, one of which is not `⊥`, is a real. -/
theorem real_fold_max {n : Nat} (f : Fin n → EReal) (z : EReal) (hz : z ≠ ⊤) (hf : ∀ i, f i ≠ ⊤) (i : Fin n) (hi : f i ≠ ⊥) :
    ((((Finset.univ : Finset (Fin n)).fold max z f).toReal : ℝ) : EReal) = (Finset.univ : Finset (Fin n)).fold max z f := by
  refine EReal.coe_toReal (lt_top_iff_ne_top.1 ?_) (bot_lt_iff_ne_bot.1 ?_)
  · exact Finset.fold_max_lt _ |>.2 ⟨lt_top_iff_ne_top.2 hz, fun j _ => lt_top_iff_ne_top.2 (hf j)⟩
  · exact Finset.lt_fold_max _ |>.2 (Or.inr ⟨i, Finset.mem_univ _, bot_lt_iff_ne_bot.2 hi⟩)

/-- A choice by the word of a proposition. -/
theorem select_word (p : Prop) [Decidable p] (x y : EReal) : Scalar.select (if p then 1#1 else 0#1) x y = if p then x else y := by
  unfold Scalar.select
  by_cases h : p
  · rw [if_pos h, if_pos h]; exact if_pos rfl
  · rw [if_neg h, if_neg h]; exact if_neg (by decide)

/-- A signed comparison of two small row numbers, as the word of the proposition. -/
theorem cmpi_sge_small (a c : Nat) (ha : a < 4096) (hc : c < 4096) :
    IntOp.cmpi .sge (BitVec.ofNat 32 a) (BitVec.ofNat 32 c) = if c ≤ a then 1#1 else 0#1 := by
  by_cases h : c ≤ a
  · rw [if_pos h]
    refine IntOp.cmpi_sge.2 ?_
    rw [WordCmp.toInt_ofNat_of_lt (by omega), WordCmp.toInt_ofNat_of_lt (by omega)]; exact_mod_cast h
  · rw [if_neg h]
    have hn : ¬ IntOp.cmpi .sge (BitVec.ofNat 32 a) (BitVec.ofNat 32 c) = 1#1 := fun e => by
      have e' := IntOp.cmpi_sge.1 e
      rw [WordCmp.toInt_ofNat_of_lt (by omega), WordCmp.toInt_ofNat_of_lt (by omega)] at e'
      exact h (by exact_mod_cast e')
    revert hn; generalize IntOp.cmpi .sge (BitVec.ofNat 32 a) (BitVec.ofNat 32 c) = w
    revert w; decide

/-- The real parts of an array of rows, heads and lanes. -/
def lanes (x : Cert.Pre_finite.S4096x16x64.Idx → EReal) : Lanes := fun s H d => (x (ValueIdx.ix3 s H d)).toReal
/-- The real parts of an array of rows and heads. -/
def rows (x : Cert.Pre_finite.S4096x16.Idx → EReal) : Rows := fun s H => (x (ValueIdx.ix2 s H)).toReal

/-- An array of reals by row, head and lane, read as extended reals. -/
abbrev ofLanes (r : Lanes) : Cert.Pre_finite.S4096x16x64.Idx → EReal := fun i => ((r (i 0) (i 1) (i 2) : ℝ) : EReal)
/-- An array of reals by row and head, read as extended reals. -/
abbrev ofRows (r : Rows) : Cert.Pre_finite.S4096x16.Idx → EReal := fun i => ((r (i 0) (i 1) : ℝ) : EReal)

theorem pre_facts : Cert.Pre_finite.Facts where
  bcast_S_S4096x16x64 := by decide
  reducesTo_S4096x16x64_S_d0_1_2 := by decide
  h_S_ := by decide
  bcast_S_S4096x16 := by decide
  reducesTo_S4096x16_S_d0_1 := by decide

instance : Cert.Pre_finite.Facts := pre_facts

theorem and_one {a c : BitVec 1} (h : IntOp.andi a c = 1#1) : a = 1#1 ∧ c = 1#1 := by
  revert a c; decide

theorem lanes_of_all (x : Cert.Pre_finite.S4096x16x64.Idx → EReal) (h : ∀ i, ((x i).toReal : EReal) = x i) : x = ofLanes (lanes x) := by
  funext i
  show x i = (((x (ValueIdx.ix3 (i 0) (i 1) (i 2))).toReal : ℝ) : EReal)
  exact (h i).symm.trans (congrArg (fun j => ((x j).toReal : EReal)) (ValueIdx.eq_ix3 i))

theorem rows_of_all (x : Cert.Pre_finite.S4096x16.Idx → EReal) (h : ∀ i, ((x i).toReal : EReal) = x i) : x = ofRows (rows x) := by
  funext i
  show x i = (((x (ValueIdx.ix2 (i 0) (i 1))).toReal : ℝ) : EReal)
  exact (h i).symm.trans (congrArg (fun j => ((x j).toReal : EReal)) (ValueIdx.eq_ix2 i))

/-- The precondition makes the five arguments arrays of reals. -/
theorem reals_of_finite (x0 x1 x2 : Cert.Pre_finite.S4096x16x64.Idx → EReal) (x3 : Cert.Pre_finite.S4096x16.Idx → EReal)
    (x4 : Cert.Pre_finite.S4096x16x64.Idx → EReal)
    (h : Cert.Pre_finite.fn (F := Ideal) x0 x1 x2 x3 x4 = fun _ => 1#1) :
    x0 = ofLanes (lanes x0) ∧ x1 = ofLanes (lanes x1) ∧ x2 = ofLanes (lanes x2) ∧ x3 = ofRows (rows x3) ∧ x4 = ofLanes (lanes x4) := by
  have h0 := congrFun h (Shape.Idx.first Cert.Pre_finite.Facts.h_S_)
  haveI : Subsingleton Cert.Pre_finite.S_.Idx := ⟨fun a c => funext fun i => i.elim0⟩
  obtain ⟨h1, a4⟩ := and_one h0
  obtain ⟨h2, a3⟩ := and_one h1
  obtain ⟨h3, a2⟩ := and_one h2
  obtain ⟨a0, a1⟩ := and_one h3
  exact ⟨lanes_of_all x0 fun i => real_of_abs_lt _ (Host.reduce_andi_all _ _ _ _ _ a0 i),
    lanes_of_all x1 fun i => real_of_abs_lt _ (Host.reduce_andi_all _ _ _ _ _ a1 i),
    lanes_of_all x2 fun i => real_of_abs_lt _ (Host.reduce_andi_all _ _ _ _ _ a2 i),
    rows_of_all x3 fun i => real_of_abs_lt _ (Host.reduce_andi_all _ _ _ _ _ a3 i),
    lanes_of_all x4 fun i => real_of_abs_lt _ (Host.reduce_andi_all _ _ _ _ _ a4 i)⟩

end Cert.Real

end
-- ==== Proof.PrefixRead.lean ====
/- The arrays the kernel's host code prepares, one operation at a time: `pre_<n>` is what operation `n` writes as a function of the
   arguments of @main, and `pre_<n>_apply` reads it at an index. -/
module

public import proofs.«01_k».proof.Proof.Gen.KernelIdeal
public import Idealize.ShloMosaic.Lib.Pipeline.Value
public import Idealize.ShloMosaic.Lib.ValueIdx
public import Idealize.ShloMosaic.PureOps.Ideal.Laws

@[expose] public section

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]

/-- An array of rows, heads and lanes. -/
abbrev Heads (F : FTy → Type) := (⟨S4096x16x64, .f32⟩ : BufTy).Contents (Elt F)
/-- An array of rows and heads. -/
abbrev Sums (F : FTy → Type) := (⟨S4096x16, .f32⟩ : BufTy).Contents (Elt F)

def pre_v0 (x0 x1 : Heads F) : (⟨S16x4096x4096, .f32⟩ : BufTy).Contents (Elt F) :=
  Host.dotGeneral dot_S4096x16x64_S4096x16x64_S16x4096x4096_2_2_0_0_1_1 none (x0) (x1)
theorem lhs_v0_0 (i : S16x4096x4096.Idx) (q : dot_S4096x16x64_S4096x16x64_S16x4096x4096_2_2_0_0_1_1.contr.Idx) :
    (dot_S4096x16x64_S4096x16x64_S16x4096x4096_2_2_0_0_1_1.lhsIdx i q 0).val = (i 1).val := by
  unfold DotDims.lhsIdx
  rw [dif_neg (show ¬(0 : Fin S4096x16x64.rank) ∈ dot_S4096x16x64_S4096x16x64_S16x4096x4096_2_2_0_0_1_1.lhsBatch by decide), dif_pos (show (0 : Fin S4096x16x64.rank) ∈ dot_S4096x16x64_S4096x16x64_S16x4096x4096_2_2_0_0_1_1.lhsNonContracting by decide)]
  rfl
theorem lhs_v0_1 (i : S16x4096x4096.Idx) (q : dot_S4096x16x64_S4096x16x64_S16x4096x4096_2_2_0_0_1_1.contr.Idx) :
    (dot_S4096x16x64_S4096x16x64_S16x4096x4096_2_2_0_0_1_1.lhsIdx i q 1).val = (i 0).val := by
  unfold DotDims.lhsIdx
  rw [dif_pos (show (1 : Fin S4096x16x64.rank) ∈ dot_S4096x16x64_S4096x16x64_S16x4096x4096_2_2_0_0_1_1.lhsBatch by decide)]
  rfl
theorem lhs_v0_2 (i : S16x4096x4096.Idx) (q : dot_S4096x16x64_S4096x16x64_S16x4096x4096_2_2_0_0_1_1.contr.Idx) :
    (dot_S4096x16x64_S4096x16x64_S16x4096x4096_2_2_0_0_1_1.lhsIdx i q 2).val = (q ⟨0, by decide⟩).val :=
  dot_S4096x16x64_S4096x16x64_S16x4096x4096_2_2_0_0_1_1.lhsIdx_val_of_single rfl i q
theorem rhs_v0_0 (i : S16x4096x4096.Idx) (q : dot_S4096x16x64_S4096x16x64_S16x4096x4096_2_2_0_0_1_1.contr.Idx) :
    (dot_S4096x16x64_S4096x16x64_S16x4096x4096_2_2_0_0_1_1.rhsIdx i q 0).val = (i 2).val := by
  unfold DotDims.rhsIdx
  rw [dif_neg (show ¬(0 : Fin S4096x16x64.rank) ∈ dot_S4096x16x64_S4096x16x64_S16x4096x4096_2_2_0_0_1_1.rhsBatch by decide), dif_pos (show (0 : Fin S4096x16x64.rank) ∈ dot_S4096x16x64_S4096x16x64_S16x4096x4096_2_2_0_0_1_1.rhsNonContracting by decide)]
  rfl
theorem rhs_v0_1 (i : S16x4096x4096.Idx) (q : dot_S4096x16x64_S4096x16x64_S16x4096x4096_2_2_0_0_1_1.contr.Idx) :
    (dot_S4096x16x64_S4096x16x64_S16x4096x4096_2_2_0_0_1_1.rhsIdx i q 1).val = (i 0).val := by
  unfold DotDims.rhsIdx
  rw [dif_pos (show (1 : Fin S4096x16x64.rank) ∈ dot_S4096x16x64_S4096x16x64_S16x4096x4096_2_2_0_0_1_1.rhsBatch by decide)]
  rfl
theorem rhs_v0_2 (i : S16x4096x4096.Idx) (q : dot_S4096x16x64_S4096x16x64_S16x4096x4096_2_2_0_0_1_1.contr.Idx) :
    (dot_S4096x16x64_S4096x16x64_S16x4096x4096_2_2_0_0_1_1.rhsIdx i q 2).val = (q ⟨0, by decide⟩).val :=
  dot_S4096x16x64_S4096x16x64_S16x4096x4096_2_2_0_0_1_1.rhsIdx_val_of_single rfl i q
abbrev lidx_v0 (i : S16x4096x4096.Idx) (k : Fin 64) : S4096x16x64.Idx := fun a => match a with
  | ⟨0, _⟩ => ⟨(i 1).val, (i 1).isLt⟩
  | ⟨1, _⟩ => ⟨(i 0).val, (i 0).isLt⟩
  | ⟨2, _⟩ => ⟨k.val, k.isLt⟩
abbrev ridx_v0 (i : S16x4096x4096.Idx) (k : Fin 64) : S4096x16x64.Idx := fun a => match a with
  | ⟨0, _⟩ => ⟨(i 2).val, (i 2).isLt⟩
  | ⟨1, _⟩ => ⟨(i 0).val, (i 0).isLt⟩
  | ⟨2, _⟩ => ⟨k.val, k.isLt⟩
/-- Stated at `F := Ideal`, where the host's `dot_general` is this sum -/
theorem pre_v0_apply (x0 x1 : Heads Ideal) (i : S16x4096x4096.Idx) :
    pre_v0 (F := Ideal) x0 x1 i = ∑ k : Fin 64, x0 (lidx_v0 i k) * x1 (ridx_v0 i k) := by
  unfold pre_v0
  simp only [Host.dotGeneral]
  rw [Ideal.dotGeneral_apply, ← Equiv.sum_comp (ValueIdx.contrEquiv1 dot_S4096x16x64_S4096x16x64_S16x4096x4096_2_2_0_0_1_1 64 rfl rfl).symm]
  refine Finset.sum_congr rfl fun k _ => ?_
  have hk := ValueIdx.contrEquiv1_symm_val dot_S4096x16x64_S4096x16x64_S16x4096x4096_2_2_0_0_1_1 64 rfl rfl k
  have el : dot_S4096x16x64_S4096x16x64_S16x4096x4096_2_2_0_0_1_1.lhsIdx i ((ValueIdx.contrEquiv1 dot_S4096x16x64_S4096x16x64_S16x4096x4096_2_2_0_0_1_1 64 rfl rfl).symm k) = lidx_v0 i k := funext fun a => Fin.ext (by
    match a with
    | ⟨0, _⟩ => exact lhs_v0_0 _ _
    | ⟨1, _⟩ => exact lhs_v0_1 _ _
    | ⟨2, _⟩ => exact (lhs_v0_2 _ _).trans hk)
  have er : dot_S4096x16x64_S4096x16x64_S16x4096x4096_2_2_0_0_1_1.rhsIdx i ((ValueIdx.contrEquiv1 dot_S4096x16x64_S4096x16x64_S16x4096x4096_2_2_0_0_1_1 64 rfl rfl).symm k) = ridx_v0 i k := funext fun a => Fin.ext (by
    match a with
    | ⟨0, _⟩ => exact rhs_v0_0 _ _
    | ⟨1, _⟩ => exact rhs_v0_1 _ _
    | ⟨2, _⟩ => exact (rhs_v0_2 _ _).trans hk)
  rw [el, er]

def pre_cst : (⟨S_, .f32⟩ : BufTy).Contents (Elt F) :=
  constant S_ .f32 0x3E000000#32
theorem pre_cst_apply (i : S_.Idx) :
    pre_cst (F := F) i = FloatOps.ofBits .f32 0x3E000000#32 := rfl

def pre_v1 : (⟨S16x4096x4096, .f32⟩ : BufTy).Contents (Elt F) :=
  broadcastInDim S16x4096x4096 ![] bcast_S_S16x4096x4096 (pre_cst (F := F))
abbrev idx_v1 (i : S16x4096x4096.Idx) : S_.Idx := fun a => a.elim0
theorem pre_v1_apply (i : S16x4096x4096.Idx) :
    pre_v1 (F := F) i = pre_cst (F := F) (idx_v1 i) := by
  unfold pre_v1
  generalize pre_cst (F := F) = y
  exact broadcastInDim_apply _ bcast_S_S16x4096x4096 y i (idx_v1 i) (fun a => a.elim0)

def pre_v2 (x0 x1 : Heads F) : (⟨S16x4096x4096, .f32⟩ : BufTy).Contents (Elt F) :=
  mulf (pre_v0 (F := F) x0 x1) (pre_v1 (F := F))
theorem pre_v2_apply (x0 x1 : Heads F) (i : S16x4096x4096.Idx) :
    pre_v2 (F := F) x0 x1 i = FloatOps.mulf (pre_v0 (F := F) x0 x1 i) (pre_v1 (F := F) i) := rfl

def pre_v3 (x3 : Sums F) : (⟨S16x4096, .f32⟩ : BufTy).Contents (Elt F) :=
  transpose S16x4096 [1, 0] (x3) transposes_S4096x16_S16x4096_1_0
abbrev idx_v3 (i : S16x4096.Idx) : S4096x16.Idx := fun a => match a with
  | ⟨0, _⟩ => ⟨(i 1).val, (i 1).isLt⟩
  | ⟨1, _⟩ => ⟨(i 0).val, (i 0).isLt⟩
theorem pre_v3_apply (x3 : Sums F) (i : S16x4096.Idx) :
    pre_v3 (F := F) x3 i = x3 (idx_v3 i) := by
  unfold pre_v3
  exact transpose_apply [1, 0] x3 transposes_S4096x16_S16x4096_1_0 i (idx_v3 i) (fun b => match b with
    | ⟨0, _⟩ => rfl
    | ⟨1, _⟩ => rfl)

def pre_v4 (x3 : Sums F) : (⟨S16x4096x1, .f32⟩ : BufTy).Contents (Elt F) :=
  broadcastInDim S16x4096x1 ![0, 1] bcast_S16x4096_S16x4096x1_0_1 (pre_v3 (F := F) x3)
abbrev idx_v4 (i : S16x4096x1.Idx) : S16x4096.Idx := fun a => match a with
  | ⟨0, _⟩ => ⟨(i 0).val, (i 0).isLt⟩
  | ⟨1, _⟩ => ⟨(i 1).val, (i 1).isLt⟩
theorem pre_v4_apply (x3 : Sums F) (i : S16x4096x1.Idx) :
    pre_v4 (F := F) x3 i = pre_v3 (F := F) x3 (idx_v4 i) := by
  unfold pre_v4
  generalize pre_v3 (F := F) x3 = y
  exact broadcastInDim_apply _ bcast_S16x4096_S16x4096x1_0_1 y i (idx_v4 i) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)])

def pre_v5 (x3 : Sums F) : (⟨S16x4096x4096, .f32⟩ : BufTy).Contents (Elt F) :=
  broadcastInDim S16x4096x4096 ![0, 1, 2] bcast_S16x4096x1_S16x4096x4096_0_1_2 (pre_v4 (F := F) x3)
abbrev idx_v5 (i : S16x4096x4096.Idx) : S16x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem pre_v5_apply (x3 : Sums F) (i : S16x4096x4096.Idx) :
    pre_v5 (F := F) x3 i = pre_v4 (F := F) x3 (idx_v5 i) := by
  unfold pre_v5
  generalize pre_v4 (F := F) x3 = y
  exact broadcastInDim_apply _ bcast_S16x4096x1_S16x4096x4096_0_1_2 y i (idx_v5 i) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

def pre_v6 (x0 x1 : Heads F) (x3 : Sums F) : (⟨S16x4096x4096, .f32⟩ : BufTy).Contents (Elt F) :=
  addf (pre_v2 (F := F) x0 x1) (pre_v5 (F := F) x3)
theorem pre_v6_apply (x0 x1 : Heads F) (x3 : Sums F) (i : S16x4096x4096.Idx) :
    pre_v6 (F := F) x0 x1 x3 i = FloatOps.addf (pre_v2 (F := F) x0 x1 i) (pre_v5 (F := F) x3 i) := rfl

def pre_v7 (x3 : Sums F) : (⟨S16x4096, .f32⟩ : BufTy).Contents (Elt F) :=
  transpose S16x4096 [1, 0] (x3) transposes_S4096x16_S16x4096_1_0
abbrev idx_v7 (i : S16x4096.Idx) : S4096x16.Idx := fun a => match a with
  | ⟨0, _⟩ => ⟨(i 1).val, (i 1).isLt⟩
  | ⟨1, _⟩ => ⟨(i 0).val, (i 0).isLt⟩
theorem pre_v7_apply (x3 : Sums F) (i : S16x4096.Idx) :
    pre_v7 (F := F) x3 i = x3 (idx_v7 i) := by
  unfold pre_v7
  exact transpose_apply [1, 0] x3 transposes_S4096x16_S16x4096_1_0 i (idx_v7 i) (fun b => match b with
    | ⟨0, _⟩ => rfl
    | ⟨1, _⟩ => rfl)

def pre_v8 (x3 : Sums F) : (⟨S16x1x4096, .f32⟩ : BufTy).Contents (Elt F) :=
  broadcastInDim S16x1x4096 ![0, 2] bcast_S16x4096_S16x1x4096_0_2 (pre_v7 (F := F) x3)
abbrev idx_v8 (i : S16x1x4096.Idx) : S16x4096.Idx := fun a => match a with
  | ⟨0, _⟩ => ⟨(i 0).val, (i 0).isLt⟩
  | ⟨1, _⟩ => ⟨(i 2).val, (i 2).isLt⟩
theorem pre_v8_apply (x3 : Sums F) (i : S16x1x4096.Idx) :
    pre_v8 (F := F) x3 i = pre_v7 (F := F) x3 (idx_v8 i) := by
  unfold pre_v8
  generalize pre_v7 (F := F) x3 = y
  exact broadcastInDim_apply _ bcast_S16x4096_S16x1x4096_0_2 y i (idx_v8 i) (fun a => match a with
    | ⟨0, _⟩ => by show (i 0).val = if (16 : Nat) = 1 then 0 else (i 0).val; rw [if_neg (by decide)]
    | ⟨1, _⟩ => by show (i 2).val = if (4096 : Nat) = 1 then 0 else (i 2).val; rw [if_neg (by decide)])

def pre_v9 (x3 : Sums F) : (⟨S16x4096x4096, .f32⟩ : BufTy).Contents (Elt F) :=
  broadcastInDim S16x4096x4096 ![0, 1, 2] bcast_S16x1x4096_S16x4096x4096_0_1_2 (pre_v8 (F := F) x3)
abbrev idx_v9 (i : S16x4096x4096.Idx) : S16x1x4096.Idx := fun a => match a with
  | ⟨0, _⟩ => ⟨(i 0).val, (i 0).isLt⟩
  | ⟨1, _⟩ => ⟨0, Nat.one_pos⟩
  | ⟨2, _⟩ => ⟨(i 2).val, (i 2).isLt⟩
theorem pre_v9_apply (x3 : Sums F) (i : S16x4096x4096.Idx) :
    pre_v9 (F := F) x3 i = pre_v8 (F := F) x3 (idx_v9 i) := by
  unfold pre_v9
  generalize pre_v8 (F := F) x3 = y
  exact broadcastInDim_apply _ bcast_S16x1x4096_S16x4096x4096_0_1_2 y i (idx_v9 i) (fun a => match a with
    | ⟨0, _⟩ => by show (i 0).val = if (16 : Nat) = 1 then 0 else (i 0).val; rw [if_neg (by decide)]
    | ⟨1, _⟩ => by show 0 = if (1 : Nat) = 1 then 0 else (i 1).val; rw [if_pos rfl]
    | ⟨2, _⟩ => by show (i 2).val = if (4096 : Nat) = 1 then 0 else (i 2).val; rw [if_neg (by decide)])

def pre_v10 (x0 x1 : Heads F) (x3 : Sums F) : (⟨S16x4096x4096, .f32⟩ : BufTy).Contents (Elt F) :=
  subf (pre_v6 (F := F) x0 x1 x3) (pre_v9 (F := F) x3)
theorem pre_v10_apply (x0 x1 : Heads F) (x3 : Sums F) (i : S16x4096x4096.Idx) :
    pre_v10 (F := F) x0 x1 x3 i = FloatOps.subf (pre_v6 (F := F) x0 x1 x3 i) (pre_v9 (F := F) x3 i) := rfl

def pre_v11 : (⟨S4096x4096, .i32⟩ : BufTy).Contents (Elt F) :=
  iotaInDim S4096x4096 32 0
theorem pre_v11_apply (i : S4096x4096.Idx) :
    pre_v11 (F := F) i = BitVec.ofNat 32 (i 0).val := rfl

def pre_v12 : (⟨S4096x4096, .i32⟩ : BufTy).Contents (Elt F) :=
  iotaInDim S4096x4096 32 1
theorem pre_v12_apply (i : S4096x4096.Idx) :
    pre_v12 (F := F) i = BitVec.ofNat 32 (i 1).val := rfl

def pre_v13 : (⟨S4096x4096, .i1⟩ : BufTy).Contents (Elt F) :=
  cmpi .sge (pre_v11 (F := F)) (pre_v12 (F := F))
theorem pre_v13_apply (i : S4096x4096.Idx) :
    pre_v13 (F := F) i = IntOp.cmpi .sge (pre_v11 (F := F) i) (pre_v12 (F := F) i) := rfl

def pre_cst_0 : (⟨S_, .f32⟩ : BufTy).Contents (Elt F) :=
  constant S_ .f32 0xFF800000#32
theorem pre_cst_0_apply (i : S_.Idx) :
    pre_cst_0 (F := F) i = FloatOps.ofBits .f32 0xFF800000#32 := rfl

-- @_where's %0 = stablehlo.convert %arg2 : tensor<f32>, in %14 = func.call @_where(…) (record main_call0)
def pre_call0_v0 : (⟨S_, .f32⟩ : BufTy).Contents (Elt F) :=
  id (pre_cst_0 (F := F))
theorem pre_call0_v0_apply (i : S_.Idx) :
    pre_call0_v0 (F := F) i = (pre_cst_0 (F := F) i) := rfl

-- @_where's %1 = stablehlo.broadcast_in_dim %arg0, dims = [1, 2] : (tensor<4096x4096xi1>) -> tensor<16x4096x4096xi1>, in %14 = func.call @_where(…) (record main_call0)
def pre_call0_v1 : (⟨S16x4096x4096, .i1⟩ : BufTy).Contents (Elt F) :=
  broadcastInDim S16x4096x4096 ![1, 2] bcast_S4096x4096_S16x4096x4096_1_2 (pre_v13 (F := F))
abbrev idx_call0_v1 (i : S16x4096x4096.Idx) : S4096x4096.Idx := fun a => match a with
  | ⟨0, _⟩ => ⟨(i 1).val, (i 1).isLt⟩
  | ⟨1, _⟩ => ⟨(i 2).val, (i 2).isLt⟩
theorem pre_call0_v1_apply (i : S16x4096x4096.Idx) :
    pre_call0_v1 (F := F) i = pre_v13 (F := F) (idx_call0_v1 i) := by
  unfold pre_call0_v1
  generalize pre_v13 (F := F) = y
  exact broadcastInDim_apply _ bcast_S4096x4096_S16x4096x4096_1_2 y i (idx_call0_v1 i) (fun a => match a with
    | ⟨0, _⟩ => by show (i 1).val = if (4096 : Nat) = 1 then 0 else (i 1).val; rw [if_neg (by decide)]
    | ⟨1, _⟩ => by show (i 2).val = if (4096 : Nat) = 1 then 0 else (i 2).val; rw [if_neg (by decide)])

-- @_where's %2 = stablehlo.broadcast_in_dim %0, dims = [] : (tensor<f32>) -> tensor<16x4096x4096xf32>, in %14 = func.call @_where(…) (record main_call0)
def pre_call0_v2 : (⟨S16x4096x4096, .f32⟩ : BufTy).Contents (Elt F) :=
  broadcastInDim S16x4096x4096 ![] bcast_S_S16x4096x4096 (pre_call0_v0 (F := F))
abbrev idx_call0_v2 (i : S16x4096x4096.Idx) : S_.Idx := fun a => a.elim0
theorem pre_call0_v2_apply (i : S16x4096x4096.Idx) :
    pre_call0_v2 (F := F) i = pre_call0_v0 (F := F) (idx_call0_v2 i) := by
  unfold pre_call0_v2
  generalize pre_call0_v0 (F := F) = y
  exact broadcastInDim_apply _ bcast_S_S16x4096x4096 y i (idx_call0_v2 i) (fun a => a.elim0)

def pre_v14 (x0 x1 : Heads F) (x3 : Sums F) : (⟨S16x4096x4096, .f32⟩ : BufTy).Contents (Elt F) :=
  select (pre_call0_v1 (F := F)) (pre_v10 (F := F) x0 x1 x3) (pre_call0_v2 (F := F))
theorem pre_v14_apply (x0 x1 : Heads F) (x3 : Sums F) (i : S16x4096x4096.Idx) :
    pre_v14 (F := F) x0 x1 x3 i = Scalar.select (pre_call0_v1 (F := F) i) (pre_v10 (F := F) x0 x1 x3 i) (pre_call0_v2 (F := F) i) := rfl

def pre_cst_1 : (⟨S_, .f32⟩ : BufTy).Contents (Elt F) :=
  constant S_ .f32 0xFF800000#32
theorem pre_cst_1_apply (i : S_.Idx) :
    pre_cst_1 (F := F) i = FloatOps.ofBits .f32 0xFF800000#32 := rfl

def pre_v15 (x0 x1 : Heads F) (x3 : Sums F) : (⟨S16x4096, .f32⟩ : BufTy).Contents (Elt F) :=
  Host.reduce FloatOps.maximumf (pre_v14 (F := F) x0 x1 x3) (pre_cst_1 (F := F)) reducesTo_S16x4096x4096_S16x4096_d2 h_S_

def pre_v16 (x0 x1 : Heads F) (x3 : Sums F) : (⟨S16x4096x1, .f32⟩ : BufTy).Contents (Elt F) :=
  broadcastInDim S16x4096x1 ![0, 1] bcast_S16x4096_S16x4096x1_0_1 (pre_v15 (F := F) x0 x1 x3)
abbrev idx_v16 (i : S16x4096x1.Idx) : S16x4096.Idx := fun a => match a with
  | ⟨0, _⟩ => ⟨(i 0).val, (i 0).isLt⟩
  | ⟨1, _⟩ => ⟨(i 1).val, (i 1).isLt⟩
theorem pre_v16_apply (x0 x1 : Heads F) (x3 : Sums F) (i : S16x4096x1.Idx) :
    pre_v16 (F := F) x0 x1 x3 i = pre_v15 (F := F) x0 x1 x3 (idx_v16 i) := by
  unfold pre_v16
  generalize pre_v15 (F := F) x0 x1 x3 = y
  exact broadcastInDim_apply _ bcast_S16x4096_S16x4096x1_0_1 y i (idx_v16 i) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)])

def pre_v17 (x0 x1 : Heads F) (x3 : Sums F) : (⟨S16x4096x4096, .f32⟩ : BufTy).Contents (Elt F) :=
  broadcastInDim S16x4096x4096 ![0, 1, 2] bcast_S16x4096x1_S16x4096x4096_0_1_2 (pre_v16 (F := F) x0 x1 x3)
abbrev idx_v17 (i : S16x4096x4096.Idx) : S16x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem pre_v17_apply (x0 x1 : Heads F) (x3 : Sums F) (i : S16x4096x4096.Idx) :
    pre_v17 (F := F) x0 x1 x3 i = pre_v16 (F := F) x0 x1 x3 (idx_v17 i) := by
  unfold pre_v17
  generalize pre_v16 (F := F) x0 x1 x3 = y
  exact broadcastInDim_apply _ bcast_S16x4096x1_S16x4096x4096_0_1_2 y i (idx_v17 i) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

def pre_v18 (x0 x1 : Heads F) (x3 : Sums F) : (⟨S16x4096x4096, .f32⟩ : BufTy).Contents (Elt F) :=
  subf (pre_v14 (F := F) x0 x1 x3) (pre_v17 (F := F) x0 x1 x3)
theorem pre_v18_apply (x0 x1 : Heads F) (x3 : Sums F) (i : S16x4096x4096.Idx) :
    pre_v18 (F := F) x0 x1 x3 i = FloatOps.subf (pre_v14 (F := F) x0 x1 x3 i) (pre_v17 (F := F) x0 x1 x3 i) := rfl

def pre_v19 (x0 x1 : Heads F) (x3 : Sums F) : (⟨S16x4096x4096, .f32⟩ : BufTy).Contents (Elt F) :=
  Host.exp (pre_v18 (F := F) x0 x1 x3)
theorem pre_v19_apply (x0 x1 : Heads F) (x3 : Sums F) (i : S16x4096x4096.Idx) :
    pre_v19 (F := F) x0 x1 x3 i = FloatOps.hostUnary .exp (pre_v18 (F := F) x0 x1 x3 i) := rfl

def pre_cst_2 : (⟨S_, .f32⟩ : BufTy).Contents (Elt F) :=
  constant S_ .f32 0x00000000#32
theorem pre_cst_2_apply (i : S_.Idx) :
    pre_cst_2 (F := F) i = FloatOps.ofBits .f32 0x00000000#32 := rfl

def pre_v20 (x0 x1 : Heads F) (x3 : Sums F) : (⟨S16x4096, .f32⟩ : BufTy).Contents (Elt F) :=
  Host.reduceAdd (pre_v19 (F := F) x0 x1 x3) (pre_cst_2 (F := F)) reducesTo_S16x4096x4096_S16x4096_d2 h_S_
abbrev idx_v20 (i : S16x4096.Idx) (k : Fin 4096) : S16x4096x4096.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum -/
theorem pre_v20_apply (x0 x1 : Heads Ideal) (x3 : Sums Ideal) (i : S16x4096.Idx) :
    pre_v20 (F := Ideal) x0 x1 x3 i = (pre_cst_2 (F := Ideal)) (Shape.Idx.first h_S_) + ∑ k : Fin 4096, (pre_v19 (F := Ideal) x0 x1 x3) (idx_v20 i k) := by
  unfold pre_v20
  generalize pre_v19 (F := Ideal) x0 x1 x3 = y0
  simp only [Host.reduceAdd, Ideal.hostReduceAdd_def]
  rw [Ideal.hostReduceAdd_single reducesTo_S16x4096x4096_S16x4096_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def pre_v21 (x0 x1 : Heads F) (x3 : Sums F) : (⟨S16x4096x1, .f32⟩ : BufTy).Contents (Elt F) :=
  broadcastInDim S16x4096x1 ![0, 1] bcast_S16x4096_S16x4096x1_0_1 (pre_v20 (F := F) x0 x1 x3)
abbrev idx_v21 (i : S16x4096x1.Idx) : S16x4096.Idx := fun a => match a with
  | ⟨0, _⟩ => ⟨(i 0).val, (i 0).isLt⟩
  | ⟨1, _⟩ => ⟨(i 1).val, (i 1).isLt⟩
theorem pre_v21_apply (x0 x1 : Heads F) (x3 : Sums F) (i : S16x4096x1.Idx) :
    pre_v21 (F := F) x0 x1 x3 i = pre_v20 (F := F) x0 x1 x3 (idx_v21 i) := by
  unfold pre_v21
  generalize pre_v20 (F := F) x0 x1 x3 = y
  exact broadcastInDim_apply _ bcast_S16x4096_S16x4096x1_0_1 y i (idx_v21 i) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)])

def pre_v22 (x0 x1 : Heads F) (x3 : Sums F) : (⟨S16x4096x4096, .f32⟩ : BufTy).Contents (Elt F) :=
  broadcastInDim S16x4096x4096 ![0, 1, 2] bcast_S16x4096x1_S16x4096x4096_0_1_2 (pre_v21 (F := F) x0 x1 x3)
abbrev idx_v22 (i : S16x4096x4096.Idx) : S16x4096x1.Idx := fun a => match a with
  | ⟨0, _⟩ => ⟨(i 0).val, (i 0).isLt⟩
  | ⟨1, _⟩ => ⟨(i 1).val, (i 1).isLt⟩
  | ⟨2, _⟩ => ⟨0, Nat.one_pos⟩
theorem pre_v22_apply (x0 x1 : Heads F) (x3 : Sums F) (i : S16x4096x4096.Idx) :
    pre_v22 (F := F) x0 x1 x3 i = pre_v21 (F := F) x0 x1 x3 (idx_v22 i) := by
  unfold pre_v22
  generalize pre_v21 (F := F) x0 x1 x3 = y
  exact broadcastInDim_apply _ bcast_S16x4096x1_S16x4096x4096_0_1_2 y i (idx_v22 i) (fun a => match a with
    | ⟨0, _⟩ => by show (i 0).val = if (16 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])

def pre_v23 (x0 x1 : Heads F) (x3 : Sums F) : (⟨S16x4096x4096, .f32⟩ : BufTy).Contents (Elt F) :=
  Host.divf (pre_v19 (F := F) x0 x1 x3) (pre_v22 (F := F) x0 x1 x3)
theorem pre_v23_apply (x0 x1 : Heads F) (x3 : Sums F) (i : S16x4096x4096.Idx) :
    pre_v23 (F := F) x0 x1 x3 i = FloatOps.hostDivf (pre_v19 (F := F) x0 x1 x3 i) (pre_v22 (F := F) x0 x1 x3 i) := rfl

def pre_v24 (x0 x1 x2 : Heads F) (x3 : Sums F) : (⟨S16x64x4096, .f32⟩ : BufTy).Contents (Elt F) :=
  Host.dotGeneral dot_S4096x16x64_S16x4096x4096_S16x64x4096_0_2_2_1_1_0 none (x2) (pre_v23 (F := F) x0 x1 x3)
theorem lhs_v24_0 (i : S16x64x4096.Idx) (q : dot_S4096x16x64_S16x4096x4096_S16x64x4096_0_2_2_1_1_0.contr.Idx) :
    (dot_S4096x16x64_S16x4096x4096_S16x64x4096_0_2_2_1_1_0.lhsIdx i q 0).val = (q ⟨0, by decide⟩).val :=
  dot_S4096x16x64_S16x4096x4096_S16x64x4096_0_2_2_1_1_0.lhsIdx_val_of_single rfl i q
theorem lhs_v24_1 (i : S16x64x4096.Idx) (q : dot_S4096x16x64_S16x4096x4096_S16x64x4096_0_2_2_1_1_0.contr.Idx) :
    (dot_S4096x16x64_S16x4096x4096_S16x64x4096_0_2_2_1_1_0.lhsIdx i q 1).val = (i 0).val := by
  unfold DotDims.lhsIdx
  rw [dif_pos (show (1 : Fin S4096x16x64.rank) ∈ dot_S4096x16x64_S16x4096x4096_S16x64x4096_0_2_2_1_1_0.lhsBatch by decide)]
  rfl
theorem lhs_v24_2 (i : S16x64x4096.Idx) (q : dot_S4096x16x64_S16x4096x4096_S16x64x4096_0_2_2_1_1_0.contr.Idx) :
    (dot_S4096x16x64_S16x4096x4096_S16x64x4096_0_2_2_1_1_0.lhsIdx i q 2).val = (i 1).val := by
  unfold DotDims.lhsIdx
  rw [dif_neg (show ¬(2 : Fin S4096x16x64.rank) ∈ dot_S4096x16x64_S16x4096x4096_S16x64x4096_0_2_2_1_1_0.lhsBatch by decide), dif_pos (show (2 : Fin S4096x16x64.rank) ∈ dot_S4096x16x64_S16x4096x4096_S16x64x4096_0_2_2_1_1_0.lhsNonContracting by decide)]
  rfl
theorem rhs_v24_0 (i : S16x64x4096.Idx) (q : dot_S4096x16x64_S16x4096x4096_S16x64x4096_0_2_2_1_1_0.contr.Idx) :
    (dot_S4096x16x64_S16x4096x4096_S16x64x4096_0_2_2_1_1_0.rhsIdx i q 0).val = (i 0).val := by
  unfold DotDims.rhsIdx
  rw [dif_pos (show (0 : Fin S16x4096x4096.rank) ∈ dot_S4096x16x64_S16x4096x4096_S16x64x4096_0_2_2_1_1_0.rhsBatch by decide)]
  rfl
theorem rhs_v24_1 (i : S16x64x4096.Idx) (q : dot_S4096x16x64_S16x4096x4096_S16x64x4096_0_2_2_1_1_0.contr.Idx) :
    (dot_S4096x16x64_S16x4096x4096_S16x64x4096_0_2_2_1_1_0.rhsIdx i q 1).val = (i 2).val := by
  unfold DotDims.rhsIdx
  rw [dif_neg (show ¬(1 : Fin S16x4096x4096.rank) ∈ dot_S4096x16x64_S16x4096x4096_S16x64x4096_0_2_2_1_1_0.rhsBatch by decide), dif_pos (show (1 : Fin S16x4096x4096.rank) ∈ dot_S4096x16x64_S16x4096x4096_S16x64x4096_0_2_2_1_1_0.rhsNonContracting by decide)]
  rfl
theorem rhs_v24_2 (i : S16x64x4096.Idx) (q : dot_S4096x16x64_S16x4096x4096_S16x64x4096_0_2_2_1_1_0.contr.Idx) :
    (dot_S4096x16x64_S16x4096x4096_S16x64x4096_0_2_2_1_1_0.rhsIdx i q 2).val = (q ⟨0, by decide⟩).val :=
  dot_S4096x16x64_S16x4096x4096_S16x64x4096_0_2_2_1_1_0.rhsIdx_val_of_single rfl i q
abbrev lidx_v24 (i : S16x64x4096.Idx) (k : Fin 4096) : S4096x16x64.Idx := fun a => match a with
  | ⟨0, _⟩ => ⟨k.val, k.isLt⟩
  | ⟨1, _⟩ => ⟨(i 0).val, (i 0).isLt⟩
  | ⟨2, _⟩ => ⟨(i 1).val, (i 1).isLt⟩
abbrev ridx_v24 (i : S16x64x4096.Idx) (k : Fin 4096) : S16x4096x4096.Idx := fun a => match a with
  | ⟨0, _⟩ => ⟨(i 0).val, (i 0).isLt⟩
  | ⟨1, _⟩ => ⟨(i 2).val, (i 2).isLt⟩
  | ⟨2, _⟩ => ⟨k.val, k.isLt⟩
/-- Stated at `F := Ideal`, where the host's `dot_general` is this sum -/
theorem pre_v24_apply (x0 x1 x2 : Heads Ideal) (x3 : Sums Ideal) (i : S16x64x4096.Idx) :
    pre_v24 (F := Ideal) x0 x1 x2 x3 i = ∑ k : Fin 4096, x2 (lidx_v24 i k) * (pre_v23 (F := Ideal) x0 x1 x3) (ridx_v24 i k) := by
  unfold pre_v24
  generalize pre_v23 (F := Ideal) x0 x1 x3 = y0
  simp only [Host.dotGeneral]
  rw [Ideal.dotGeneral_apply, ← Equiv.sum_comp (ValueIdx.contrEquiv1 dot_S4096x16x64_S16x4096x4096_S16x64x4096_0_2_2_1_1_0 4096 rfl rfl).symm]
  refine Finset.sum_congr rfl fun k _ => ?_
  have hk := ValueIdx.contrEquiv1_symm_val dot_S4096x16x64_S16x4096x4096_S16x64x4096_0_2_2_1_1_0 4096 rfl rfl k
  have el : dot_S4096x16x64_S16x4096x4096_S16x64x4096_0_2_2_1_1_0.lhsIdx i ((ValueIdx.contrEquiv1 dot_S4096x16x64_S16x4096x4096_S16x64x4096_0_2_2_1_1_0 4096 rfl rfl).symm k) = lidx_v24 i k := funext fun a => Fin.ext (by
    match a with
    | ⟨0, _⟩ => exact (lhs_v24_0 _ _).trans hk
    | ⟨1, _⟩ => exact lhs_v24_1 _ _
    | ⟨2, _⟩ => exact lhs_v24_2 _ _)
  have er : dot_S4096x16x64_S16x4096x4096_S16x64x4096_0_2_2_1_1_0.rhsIdx i ((ValueIdx.contrEquiv1 dot_S4096x16x64_S16x4096x4096_S16x64x4096_0_2_2_1_1_0 4096 rfl rfl).symm k) = ridx_v24 i k := funext fun a => Fin.ext (by
    match a with
    | ⟨0, _⟩ => exact rhs_v24_0 _ _
    | ⟨1, _⟩ => exact rhs_v24_1 _ _
    | ⟨2, _⟩ => exact (rhs_v24_2 _ _).trans hk)
  rw [el, er]

def pre_v25 (x0 x1 x2 : Heads F) (x3 : Sums F) : Heads F :=
  transpose S4096x16x64 [2, 0, 1] (pre_v24 (F := F) x0 x1 x2 x3) transposes_S16x64x4096_S4096x16x64_2_0_1
abbrev idx_v25 (i : S4096x16x64.Idx) : S16x64x4096.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem pre_v25_apply (x0 x1 x2 : Heads F) (x3 : Sums F) (i : S4096x16x64.Idx) :
    pre_v25 (F := F) x0 x1 x2 x3 i = pre_v24 (F := F) x0 x1 x2 x3 (idx_v25 i) := by
  unfold pre_v25
  generalize pre_v24 (F := F) x0 x1 x2 x3 = y
  exact transpose_apply [2, 0, 1] y transposes_S16x64x4096_S4096x16x64_2_0_1 i (idx_v25 i) (fun b => match b with
    | ⟨0, _⟩ => rfl
    | ⟨1, _⟩ => rfl
    | ⟨2, _⟩ => rfl)

def pre_v26 (x0 x1 : Heads F) (x3 : Sums F) : (⟨S16x4096x1, .f32⟩ : BufTy).Contents (Elt F) :=
  Host.log (pre_v21 (F := F) x0 x1 x3)
theorem pre_v26_apply (x0 x1 : Heads F) (x3 : Sums F) (i : S16x4096x1.Idx) :
    pre_v26 (F := F) x0 x1 x3 i = FloatOps.hostUnary .log (pre_v21 (F := F) x0 x1 x3 i) := rfl

def pre_v27 (x0 x1 : Heads F) (x3 : Sums F) : (⟨S16x4096x1, .f32⟩ : BufTy).Contents (Elt F) :=
  addf (pre_v16 (F := F) x0 x1 x3) (pre_v26 (F := F) x0 x1 x3)
theorem pre_v27_apply (x0 x1 : Heads F) (x3 : Sums F) (i : S16x4096x1.Idx) :
    pre_v27 (F := F) x0 x1 x3 i = FloatOps.addf (pre_v16 (F := F) x0 x1 x3 i) (pre_v26 (F := F) x0 x1 x3 i) := rfl

def pre_v28 (x0 x1 : Heads F) (x3 : Sums F) : (⟨S16x4096, .f32⟩ : BufTy).Contents (Elt F) :=
  shapeCast _ (pre_v27 (F := F) x0 x1 x3) shapeCasts_S16x4096x1_S16x4096
set_option backward.proofsInPublic true in
abbrev idx_v28 (i : S16x4096.Idx) : S16x4096x1.Idx := fun a => match a with
  | ⟨0, _⟩ => ⟨((i 0).val * 4096 + (i 1).val) / 4096, by have h0 : (i 0).val < 16 := (i 0).isLt; have h1 : (i 1).val < 4096 := (i 1).isLt; show ((i 0).val * 4096 + (i 1).val) / 4096 < 16; omega⟩
  | ⟨1, _⟩ => ⟨((i 0).val * 4096 + (i 1).val) / 1 % 4096, by have h0 : (i 0).val < 16 := (i 0).isLt; have h1 : (i 1).val < 4096 := (i 1).isLt; show ((i 0).val * 4096 + (i 1).val) / 1 % 4096 < 4096; omega⟩
  | ⟨2, _⟩ => ⟨0, Nat.one_pos⟩
theorem pre_v28_apply (x0 x1 : Heads F) (x3 : Sums F) (i : S16x4096.Idx) :
    pre_v28 (F := F) x0 x1 x3 i = pre_v27 (F := F) x0 x1 x3 (idx_v28 i) := by
  unfold pre_v28
  generalize pre_v27 (F := F) x0 x1 x3 = y
  exact shapeCast_apply y shapeCasts_S16x4096x1_S16x4096 i (idx_v28 i)
    (by rewrite [Shape.rowMajor_val_three, Shape.rowMajor_val_two]; have h0 : (i 0).val < 16 := (i 0).isLt; have h1 : (i 1).val < 4096 := (i 1).isLt; show (((i 0).val * 4096 + (i 1).val) / 4096 * 4096 + ((i 0).val * 4096 + (i 1).val) / 1 % 4096) * 1 + 0 = (i 0).val * 4096 + (i 1).val; omega)

def pre_v29 (x0 x1 : Heads F) (x3 : Sums F) : Sums F :=
  transpose S4096x16 [1, 0] (pre_v28 (F := F) x0 x1 x3) transposes_S16x4096_S4096x16_1_0
abbrev idx_v29 (i : S4096x16.Idx) : S16x4096.Idx := fun a => match a with
  | ⟨0, _⟩ => ⟨(i 1).val, (i 1).isLt⟩
  | ⟨1, _⟩ => ⟨(i 0).val, (i 0).isLt⟩
theorem pre_v29_apply (x0 x1 : Heads F) (x3 : Sums F) (i : S4096x16.Idx) :
    pre_v29 (F := F) x0 x1 x3 i = pre_v28 (F := F) x0 x1 x3 (idx_v29 i) := by
  unfold pre_v29
  generalize pre_v28 (F := F) x0 x1 x3 = y
  exact transpose_apply [1, 0] y transposes_S16x4096_S4096x16_1_0 i (idx_v29 i) (fun b => match b with
    | ⟨0, _⟩ => rfl
    | ⟨1, _⟩ => rfl)

def pre_v30 (x0 x1 x2 : Heads F) (x3 : Sums F) (x4 : Heads F) : Heads F :=
  mulf (x4) (pre_v25 (F := F) x0 x1 x2 x3)
theorem pre_v30_apply (x0 x1 x2 : Heads F) (x3 : Sums F) (x4 : Heads F) (i : S4096x16x64.Idx) :
    pre_v30 (F := F) x0 x1 x2 x3 x4 i = FloatOps.mulf (x4 i) (pre_v25 (F := F) x0 x1 x2 x3 i) := rfl

def pre_cst_3 : (⟨S_, .f32⟩ : BufTy).Contents (Elt F) :=
  constant S_ .f32 0x00000000#32
theorem pre_cst_3_apply (i : S_.Idx) :
    pre_cst_3 (F := F) i = FloatOps.ofBits .f32 0x00000000#32 := rfl

def pre_v31 (x0 x1 x2 : Heads F) (x3 : Sums F) (x4 : Heads F) : Sums F :=
  Host.reduceAdd (pre_v30 (F := F) x0 x1 x2 x3 x4) (pre_cst_3 (F := F)) reducesTo_S4096x16x64_S4096x16_d2 h_S_
abbrev idx_v31 (i : S4096x16.Idx) (k : Fin 64) : S4096x16x64.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum -/
theorem pre_v31_apply (x0 x1 x2 : Heads Ideal) (x3 : Sums Ideal) (x4 : Heads Ideal) (i : S4096x16.Idx) :
    pre_v31 (F := Ideal) x0 x1 x2 x3 x4 i = (pre_cst_3 (F := Ideal)) (Shape.Idx.first h_S_) + ∑ k : Fin 64, (pre_v30 (F := Ideal) x0 x1 x2 x3 x4) (idx_v31 i k) := by
  unfold pre_v31
  generalize pre_v30 (F := Ideal) x0 x1 x2 x3 x4 = y0
  simp only [Host.reduceAdd, Ideal.hostReduceAdd_def]
  rw [Ideal.hostReduceAdd_single reducesTo_S4096x16x64_S4096x16_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def pre_cst_4 : (⟨S_, .f32⟩ : BufTy).Contents (Elt F) :=
  constant S_ .f32 0x3F800000#32
theorem pre_cst_4_apply (i : S_.Idx) :
    pre_cst_4 (F := F) i = FloatOps.ofBits .f32 0x3F800000#32 := rfl

def pre_v32 : Sums F :=
  broadcastInDim S4096x16 ![] bcast_S_S4096x16 (pre_cst_4 (F := F))
abbrev idx_v32 (i : S4096x16.Idx) : S_.Idx := fun a => a.elim0
theorem pre_v32_apply (i : S4096x16.Idx) :
    pre_v32 (F := F) i = pre_cst_4 (F := F) (idx_v32 i) := by
  unfold pre_v32
  generalize pre_cst_4 (F := F) = y
  exact broadcastInDim_apply _ bcast_S_S4096x16 y i (idx_v32 i) (fun a => a.elim0)

def pre_cst_5 : (⟨S_, .f32⟩ : BufTy).Contents (Elt F) :=
  constant S_ .f32 0x3E000000#32
theorem pre_cst_5_apply (i : S_.Idx) :
    pre_cst_5 (F := F) i = FloatOps.ofBits .f32 0x3E000000#32 := rfl

def pre_v33 : Heads F :=
  broadcastInDim S4096x16x64 ![] bcast_S_S4096x16x64 (pre_cst_5 (F := F))
abbrev idx_v33 (i : S4096x16x64.Idx) : S_.Idx := fun a => a.elim0
theorem pre_v33_apply (i : S4096x16x64.Idx) :
    pre_v33 (F := F) i = pre_cst_5 (F := F) (idx_v33 i) := by
  unfold pre_v33
  generalize pre_cst_5 (F := F) = y
  exact broadcastInDim_apply _ bcast_S_S4096x16x64 y i (idx_v33 i) (fun a => a.elim0)

def pre_v34 (x0 : Heads F) : Heads F :=
  mulf (x0) (pre_v33 (F := F))
theorem pre_v34_apply (x0 : Heads F) (i : S4096x16x64.Idx) :
    pre_v34 (F := F) x0 i = FloatOps.mulf (x0 i) (pre_v33 (F := F) i) := rfl

def pre_v35 (x0 x1 : Heads F) (x3 : Sums F) : Sums F :=
  subf (x3) (pre_v29 (F := F) x0 x1 x3)
theorem pre_v35_apply (x0 x1 : Heads F) (x3 : Sums F) (i : S4096x16.Idx) :
    pre_v35 (F := F) x0 x1 x3 i = FloatOps.subf (x3 i) (pre_v29 (F := F) x0 x1 x3 i) := rfl

def pre_v36 (x0 x1 : Heads F) (x3 : Sums F) : (⟨S4096x16, .bf16⟩ : BufTy).Contents (Elt F) :=
  truncf .bf16 (pre_v35 (F := F) x0 x1 x3) bitsLt_bf16_f32
theorem pre_v36_apply (x0 x1 : Heads F) (x3 : Sums F) (i : S4096x16.Idx) :
    pre_v36 (F := F) x0 x1 x3 i = FloatOps.truncf .bf16 bitsLt_bf16_f32 (pre_v35 (F := F) x0 x1 x3 i) := rfl

def pre_v37 (x0 x1 : Heads F) (x3 : Sums F) : Sums F :=
  extf .f32 (pre_v36 (F := F) x0 x1 x3) bitsLt_bf16_f32
theorem pre_v37_apply (x0 x1 : Heads F) (x3 : Sums F) (i : S4096x16.Idx) :
    pre_v37 (F := F) x0 x1 x3 i = FloatOps.extf .f32 bitsLt_bf16_f32 (pre_v36 (F := F) x0 x1 x3 i) := rfl

def pre_v38 (x0 x1 : Heads F) (x3 : Sums F) : Sums F :=
  subf (pre_v35 (F := F) x0 x1 x3) (pre_v37 (F := F) x0 x1 x3)
theorem pre_v38_apply (x0 x1 : Heads F) (x3 : Sums F) (i : S4096x16.Idx) :
    pre_v38 (F := F) x0 x1 x3 i = FloatOps.subf (pre_v35 (F := F) x0 x1 x3 i) (pre_v37 (F := F) x0 x1 x3 i) := rfl

def pre_v39 (x0 x1 : Heads F) (x3 : Sums F) : (⟨S4096x16, .bf16⟩ : BufTy).Contents (Elt F) :=
  truncf .bf16 (pre_v38 (F := F) x0 x1 x3) bitsLt_bf16_f32
theorem pre_v39_apply (x0 x1 : Heads F) (x3 : Sums F) (i : S4096x16.Idx) :
    pre_v39 (F := F) x0 x1 x3 i = FloatOps.truncf .bf16 bitsLt_bf16_f32 (pre_v38 (F := F) x0 x1 x3 i) := rfl

def pre_v40 (x0 x1 : Heads F) (x3 : Sums F) : Sums F :=
  extf .f32 (pre_v39 (F := F) x0 x1 x3) bitsLt_bf16_f32
theorem pre_v40_apply (x0 x1 : Heads F) (x3 : Sums F) (i : S4096x16.Idx) :
    pre_v40 (F := F) x0 x1 x3 i = FloatOps.extf .f32 bitsLt_bf16_f32 (pre_v39 (F := F) x0 x1 x3 i) := rfl

def pre_v41 (x0 x1 : Heads F) (x3 : Sums F) : Sums F :=
  subf (pre_v35 (F := F) x0 x1 x3) (pre_v37 (F := F) x0 x1 x3)
theorem pre_v41_apply (x0 x1 : Heads F) (x3 : Sums F) (i : S4096x16.Idx) :
    pre_v41 (F := F) x0 x1 x3 i = FloatOps.subf (pre_v35 (F := F) x0 x1 x3 i) (pre_v37 (F := F) x0 x1 x3 i) := rfl

def pre_v42 (x0 x1 : Heads F) (x3 : Sums F) : Sums F :=
  subf (pre_v41 (F := F) x0 x1 x3) (pre_v40 (F := F) x0 x1 x3)
theorem pre_v42_apply (x0 x1 : Heads F) (x3 : Sums F) (i : S4096x16.Idx) :
    pre_v42 (F := F) x0 x1 x3 i = FloatOps.subf (pre_v41 (F := F) x0 x1 x3 i) (pre_v40 (F := F) x0 x1 x3 i) := rfl

def pre_v43 (x0 x1 : Heads F) (x3 : Sums F) : (⟨S4096x16, .bf16⟩ : BufTy).Contents (Elt F) :=
  truncf .bf16 (pre_v42 (F := F) x0 x1 x3) bitsLt_bf16_f32
theorem pre_v43_apply (x0 x1 : Heads F) (x3 : Sums F) (i : S4096x16.Idx) :
    pre_v43 (F := F) x0 x1 x3 i = FloatOps.truncf .bf16 bitsLt_bf16_f32 (pre_v42 (F := F) x0 x1 x3 i) := rfl

def pre_v44 (x0 x1 : Heads F) (x3 : Sums F) : Sums F :=
  extf .f32 (pre_v43 (F := F) x0 x1 x3) bitsLt_bf16_f32
theorem pre_v44_apply (x0 x1 : Heads F) (x3 : Sums F) (i : S4096x16.Idx) :
    pre_v44 (F := F) x0 x1 x3 i = FloatOps.extf .f32 bitsLt_bf16_f32 (pre_v43 (F := F) x0 x1 x3 i) := rfl

def pre_v45 (x0 x1 : Heads F) (x3 : Sums F) : (⟨S4096x16x1, .f32⟩ : BufTy).Contents (Elt F) :=
  broadcastInDim S4096x16x1 ![0, 1] bcast_S4096x16_S4096x16x1_0_1 (pre_v37 (F := F) x0 x1 x3)
abbrev idx_v45 (i : S4096x16x1.Idx) : S4096x16.Idx := fun a => match a with
  | ⟨0, _⟩ => ⟨(i 0).val, (i 0).isLt⟩
  | ⟨1, _⟩ => ⟨(i 1).val, (i 1).isLt⟩
theorem pre_v45_apply (x0 x1 : Heads F) (x3 : Sums F) (i : S4096x16x1.Idx) :
    pre_v45 (F := F) x0 x1 x3 i = pre_v37 (F := F) x0 x1 x3 (idx_v45 i) := by
  unfold pre_v45
  generalize pre_v37 (F := F) x0 x1 x3 = y
  exact broadcastInDim_apply _ bcast_S4096x16_S4096x16x1_0_1 y i (idx_v45 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v46 (x0 x1 : Heads F) (x3 : Sums F) : (⟨S4096x16x1, .f32⟩ : BufTy).Contents (Elt F) :=
  broadcastInDim S4096x16x1 ![0, 1] bcast_S4096x16_S4096x16x1_0_1 (pre_v40 (F := F) x0 x1 x3)
abbrev idx_v46 (i : S4096x16x1.Idx) : S4096x16.Idx := fun a => match a with
  | ⟨0, _⟩ => ⟨(i 0).val, (i 0).isLt⟩
  | ⟨1, _⟩ => ⟨(i 1).val, (i 1).isLt⟩
theorem pre_v46_apply (x0 x1 : Heads F) (x3 : Sums F) (i : S4096x16x1.Idx) :
    pre_v46 (F := F) x0 x1 x3 i = pre_v40 (F := F) x0 x1 x3 (idx_v46 i) := by
  unfold pre_v46
  generalize pre_v40 (F := F) x0 x1 x3 = y
  exact broadcastInDim_apply _ bcast_S4096x16_S4096x16x1_0_1 y i (idx_v46 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v47 (x0 x1 : Heads F) (x3 : Sums F) : (⟨S4096x16x1, .f32⟩ : BufTy).Contents (Elt F) :=
  broadcastInDim S4096x16x1 ![0, 1] bcast_S4096x16_S4096x16x1_0_1 (pre_v44 (F := F) x0 x1 x3)
abbrev idx_v47 (i : S4096x16x1.Idx) : S4096x16.Idx := fun a => match a with
  | ⟨0, _⟩ => ⟨(i 0).val, (i 0).isLt⟩
  | ⟨1, _⟩ => ⟨(i 1).val, (i 1).isLt⟩
theorem pre_v47_apply (x0 x1 : Heads F) (x3 : Sums F) (i : S4096x16x1.Idx) :
    pre_v47 (F := F) x0 x1 x3 i = pre_v44 (F := F) x0 x1 x3 (idx_v47 i) := by
  unfold pre_v47
  generalize pre_v44 (F := F) x0 x1 x3 = y
  exact broadcastInDim_apply _ bcast_S4096x16_S4096x16x1_0_1 y i (idx_v47 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v48 : (⟨S4096x16x1, .f32⟩ : BufTy).Contents (Elt F) :=
  broadcastInDim S4096x16x1 ![0, 1] bcast_S4096x16_S4096x16x1_0_1 (pre_v32 (F := F))
abbrev idx_v48 (i : S4096x16x1.Idx) : S4096x16.Idx := fun a => match a with
  | ⟨0, _⟩ => ⟨(i 0).val, (i 0).isLt⟩
  | ⟨1, _⟩ => ⟨(i 1).val, (i 1).isLt⟩
theorem pre_v48_apply (i : S4096x16x1.Idx) :
    pre_v48 (F := F) i = pre_v32 (F := F) (idx_v48 i) := by
  unfold pre_v48
  generalize pre_v32 (F := F) = y
  exact broadcastInDim_apply _ bcast_S4096x16_S4096x16x1_0_1 y i (idx_v48 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v49 : (⟨S4096x16x1, .f32⟩ : BufTy).Contents (Elt F) :=
  broadcastInDim S4096x16x1 ![0, 1] bcast_S4096x16_S4096x16x1_0_1 (pre_v32 (F := F))
abbrev idx_v49 (i : S4096x16x1.Idx) : S4096x16.Idx := fun a => match a with
  | ⟨0, _⟩ => ⟨(i 0).val, (i 0).isLt⟩
  | ⟨1, _⟩ => ⟨(i 1).val, (i 1).isLt⟩
theorem pre_v49_apply (i : S4096x16x1.Idx) :
    pre_v49 (F := F) i = pre_v32 (F := F) (idx_v49 i) := by
  unfold pre_v49
  generalize pre_v32 (F := F) = y
  exact broadcastInDim_apply _ bcast_S4096x16_S4096x16x1_0_1 y i (idx_v49 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v50 : (⟨S4096x16x1, .f32⟩ : BufTy).Contents (Elt F) :=
  broadcastInDim S4096x16x1 ![0, 1] bcast_S4096x16_S4096x16x1_0_1 (pre_v32 (F := F))
abbrev idx_v50 (i : S4096x16x1.Idx) : S4096x16.Idx := fun a => match a with
  | ⟨0, _⟩ => ⟨(i 0).val, (i 0).isLt⟩
  | ⟨1, _⟩ => ⟨(i 1).val, (i 1).isLt⟩
theorem pre_v50_apply (i : S4096x16x1.Idx) :
    pre_v50 (F := F) i = pre_v32 (F := F) (idx_v50 i) := by
  unfold pre_v50
  generalize pre_v32 (F := F) = y
  exact broadcastInDim_apply _ bcast_S4096x16_S4096x16x1_0_1 y i (idx_v50 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_cst_6 : (⟨S_, .f32⟩ : BufTy).Contents (Elt F) :=
  constant S_ .f32 0x00000000#32
theorem pre_cst_6_apply (i : S_.Idx) :
    pre_cst_6 (F := F) i = FloatOps.ofBits .f32 0x00000000#32 := rfl

def pre_v51 : (⟨S4096x16x58, .f32⟩ : BufTy).Contents (Elt F) :=
  broadcastInDim S4096x16x58 ![] bcast_S_S4096x16x58 (pre_cst_6 (F := F))
abbrev idx_v51 (i : S4096x16x58.Idx) : S_.Idx := fun a => a.elim0
theorem pre_v51_apply (i : S4096x16x58.Idx) :
    pre_v51 (F := F) i = pre_cst_6 (F := F) (idx_v51 i) := by
  unfold pre_v51
  generalize pre_cst_6 (F := F) = y
  exact broadcastInDim_apply _ bcast_S_S4096x16x58 y i (idx_v51 i) (fun a => a.elim0)

def pre_v52 (x0 x1 : Heads F) (x3 : Sums F) : (⟨S4096x16x128, .f32⟩ : BufTy).Contents (Elt F) :=
  (concatenate S4096x16x128 2 [⟨S4096x16x64, ((pre_v34 (F := F) x0) : Heads F)⟩, ⟨S4096x16x1, ((pre_v45 (F := F) x0 x1 x3) : (⟨S4096x16x1, .f32⟩ : BufTy).Contents (Elt F))⟩, ⟨S4096x16x1, ((pre_v46 (F := F) x0 x1 x3) : (⟨S4096x16x1, .f32⟩ : BufTy).Contents (Elt F))⟩, ⟨S4096x16x1, ((pre_v47 (F := F) x0 x1 x3) : (⟨S4096x16x1, .f32⟩ : BufTy).Contents (Elt F))⟩, ⟨S4096x16x1, ((pre_v48 (F := F)) : (⟨S4096x16x1, .f32⟩ : BufTy).Contents (Elt F))⟩, ⟨S4096x16x1, ((pre_v49 (F := F)) : (⟨S4096x16x1, .f32⟩ : BufTy).Contents (Elt F))⟩, ⟨S4096x16x1, ((pre_v50 (F := F)) : (⟨S4096x16x1, .f32⟩ : BufTy).Contents (Elt F))⟩, ⟨S4096x16x58, ((pre_v51 (F := F)) : (⟨S4096x16x58, .f32⟩ : BufTy).Contents (Elt F))⟩] concatenates_S4096x16x64_S4096x16x1_S4096x16x1_S4096x16x1_S4096x16x1_S4096x16x1_S4096x16x1_S4096x16x58_S4096x16x128_d2 : (⟨S4096x16x128, .f32⟩ : BufTy).Contents (Elt F))

def pre_v53 (x0 x1 : Heads F) (x3 : Sums F) : (⟨S4096x2048, .f32⟩ : BufTy).Contents (Elt F) :=
  shapeCast _ (pre_v52 (F := F) x0 x1 x3) shapeCasts_S4096x16x128_S4096x2048
set_option backward.proofsInPublic true in
abbrev idx_v53 (i : S4096x2048.Idx) : S4096x16x128.Idx := fun a => match a with
  | ⟨0, _⟩ => ⟨((i 0).val * 2048 + (i 1).val) / 2048, by have h0 : (i 0).val < 4096 := (i 0).isLt; have h1 : (i 1).val < 2048 := (i 1).isLt; show ((i 0).val * 2048 + (i 1).val) / 2048 < 4096; omega⟩
  | ⟨1, _⟩ => ⟨((i 0).val * 2048 + (i 1).val) / 128 % 16, by have h0 : (i 0).val < 4096 := (i 0).isLt; have h1 : (i 1).val < 2048 := (i 1).isLt; show ((i 0).val * 2048 + (i 1).val) / 128 % 16 < 16; omega⟩
  | ⟨2, _⟩ => ⟨((i 0).val * 2048 + (i 1).val) % 128, by have h0 : (i 0).val < 4096 := (i 0).isLt; have h1 : (i 1).val < 2048 := (i 1).isLt; show ((i 0).val * 2048 + (i 1).val) % 128 < 128; omega⟩
theorem pre_v53_apply (x0 x1 : Heads F) (x3 : Sums F) (i : S4096x2048.Idx) :
    pre_v53 (F := F) x0 x1 x3 i = pre_v52 (F := F) x0 x1 x3 (idx_v53 i) := by
  unfold pre_v53
  generalize pre_v52 (F := F) x0 x1 x3 = y
  exact shapeCast_apply y shapeCasts_S4096x16x128_S4096x2048 i (idx_v53 i)
    (by rewrite [Shape.rowMajor_val_three, Shape.rowMajor_val_two]; have h0 : (i 0).val < 4096 := (i 0).isLt; have h1 : (i 1).val < 2048 := (i 1).isLt; show (((i 0).val * 2048 + (i 1).val) / 2048 * 16 + ((i 0).val * 2048 + (i 1).val) / 128 % 16) * 128 + ((i 0).val * 2048 + (i 1).val) % 128 = (i 0).val * 2048 + (i 1).val; omega)

def pre_v54 (x0 x1 : Heads F) (x3 : Sums F) : (⟨S4096x2048, .bf16⟩ : BufTy).Contents (Elt F) :=
  truncf .bf16 (pre_v53 (F := F) x0 x1 x3) bitsLt_bf16_f32
theorem pre_v54_apply (x0 x1 : Heads F) (x3 : Sums F) (i : S4096x2048.Idx) :
    pre_v54 (F := F) x0 x1 x3 i = FloatOps.truncf .bf16 bitsLt_bf16_f32 (pre_v53 (F := F) x0 x1 x3 i) := rfl

def pre_v55 (x3 : Sums F) : (⟨S4096x16, .bf16⟩ : BufTy).Contents (Elt F) :=
  truncf .bf16 (x3) bitsLt_bf16_f32
theorem pre_v55_apply (x3 : Sums F) (i : S4096x16.Idx) :
    pre_v55 (F := F) x3 i = FloatOps.truncf .bf16 bitsLt_bf16_f32 (x3 i) := rfl

def pre_v56 (x3 : Sums F) : Sums F :=
  extf .f32 (pre_v55 (F := F) x3) bitsLt_bf16_f32
theorem pre_v56_apply (x3 : Sums F) (i : S4096x16.Idx) :
    pre_v56 (F := F) x3 i = FloatOps.extf .f32 bitsLt_bf16_f32 (pre_v55 (F := F) x3 i) := rfl

def pre_v57 (x3 : Sums F) : Sums F :=
  subf (x3) (pre_v56 (F := F) x3)
theorem pre_v57_apply (x3 : Sums F) (i : S4096x16.Idx) :
    pre_v57 (F := F) x3 i = FloatOps.subf (x3 i) (pre_v56 (F := F) x3 i) := rfl

def pre_v58 (x3 : Sums F) : (⟨S4096x16, .bf16⟩ : BufTy).Contents (Elt F) :=
  truncf .bf16 (pre_v57 (F := F) x3) bitsLt_bf16_f32
theorem pre_v58_apply (x3 : Sums F) (i : S4096x16.Idx) :
    pre_v58 (F := F) x3 i = FloatOps.truncf .bf16 bitsLt_bf16_f32 (pre_v57 (F := F) x3 i) := rfl

def pre_v59 (x3 : Sums F) : Sums F :=
  extf .f32 (pre_v58 (F := F) x3) bitsLt_bf16_f32
theorem pre_v59_apply (x3 : Sums F) (i : S4096x16.Idx) :
    pre_v59 (F := F) x3 i = FloatOps.extf .f32 bitsLt_bf16_f32 (pre_v58 (F := F) x3 i) := rfl

def pre_v60 (x3 : Sums F) : Sums F :=
  subf (x3) (pre_v56 (F := F) x3)
theorem pre_v60_apply (x3 : Sums F) (i : S4096x16.Idx) :
    pre_v60 (F := F) x3 i = FloatOps.subf (x3 i) (pre_v56 (F := F) x3 i) := rfl

def pre_v61 (x3 : Sums F) : Sums F :=
  subf (pre_v60 (F := F) x3) (pre_v59 (F := F) x3)
theorem pre_v61_apply (x3 : Sums F) (i : S4096x16.Idx) :
    pre_v61 (F := F) x3 i = FloatOps.subf (pre_v60 (F := F) x3 i) (pre_v59 (F := F) x3 i) := rfl

def pre_v62 (x3 : Sums F) : (⟨S4096x16, .bf16⟩ : BufTy).Contents (Elt F) :=
  truncf .bf16 (pre_v61 (F := F) x3) bitsLt_bf16_f32
theorem pre_v62_apply (x3 : Sums F) (i : S4096x16.Idx) :
    pre_v62 (F := F) x3 i = FloatOps.truncf .bf16 bitsLt_bf16_f32 (pre_v61 (F := F) x3 i) := rfl

def pre_v63 (x3 : Sums F) : Sums F :=
  extf .f32 (pre_v62 (F := F) x3) bitsLt_bf16_f32
theorem pre_v63_apply (x3 : Sums F) (i : S4096x16.Idx) :
    pre_v63 (F := F) x3 i = FloatOps.extf .f32 bitsLt_bf16_f32 (pre_v62 (F := F) x3 i) := rfl

def pre_v64 (x3 : Sums F) : Sums F :=
  Host.negf (pre_v56 (F := F) x3)
theorem pre_v64_apply (x3 : Sums F) (i : S4096x16.Idx) :
    pre_v64 (F := F) x3 i = FloatOps.hostNegf (pre_v56 (F := F) x3 i) := rfl

def pre_v65 (x3 : Sums F) : Sums F :=
  Host.negf (pre_v59 (F := F) x3)
theorem pre_v65_apply (x3 : Sums F) (i : S4096x16.Idx) :
    pre_v65 (F := F) x3 i = FloatOps.hostNegf (pre_v59 (F := F) x3 i) := rfl

def pre_v66 (x3 : Sums F) : Sums F :=
  Host.negf (pre_v63 (F := F) x3)
theorem pre_v66_apply (x3 : Sums F) (i : S4096x16.Idx) :
    pre_v66 (F := F) x3 i = FloatOps.hostNegf (pre_v63 (F := F) x3 i) := rfl

def pre_v67 : (⟨S4096x16x1, .f32⟩ : BufTy).Contents (Elt F) :=
  broadcastInDim S4096x16x1 ![0, 1] bcast_S4096x16_S4096x16x1_0_1 (pre_v32 (F := F))
abbrev idx_v67 (i : S4096x16x1.Idx) : S4096x16.Idx := fun a => match a with
  | ⟨0, _⟩ => ⟨(i 0).val, (i 0).isLt⟩
  | ⟨1, _⟩ => ⟨(i 1).val, (i 1).isLt⟩
theorem pre_v67_apply (i : S4096x16x1.Idx) :
    pre_v67 (F := F) i = pre_v32 (F := F) (idx_v67 i) := by
  unfold pre_v67
  generalize pre_v32 (F := F) = y
  exact broadcastInDim_apply _ bcast_S4096x16_S4096x16x1_0_1 y i (idx_v67 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v68 : (⟨S4096x16x1, .f32⟩ : BufTy).Contents (Elt F) :=
  broadcastInDim S4096x16x1 ![0, 1] bcast_S4096x16_S4096x16x1_0_1 (pre_v32 (F := F))
abbrev idx_v68 (i : S4096x16x1.Idx) : S4096x16.Idx := fun a => match a with
  | ⟨0, _⟩ => ⟨(i 0).val, (i 0).isLt⟩
  | ⟨1, _⟩ => ⟨(i 1).val, (i 1).isLt⟩
theorem pre_v68_apply (i : S4096x16x1.Idx) :
    pre_v68 (F := F) i = pre_v32 (F := F) (idx_v68 i) := by
  unfold pre_v68
  generalize pre_v32 (F := F) = y
  exact broadcastInDim_apply _ bcast_S4096x16_S4096x16x1_0_1 y i (idx_v68 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v69 : (⟨S4096x16x1, .f32⟩ : BufTy).Contents (Elt F) :=
  broadcastInDim S4096x16x1 ![0, 1] bcast_S4096x16_S4096x16x1_0_1 (pre_v32 (F := F))
abbrev idx_v69 (i : S4096x16x1.Idx) : S4096x16.Idx := fun a => match a with
  | ⟨0, _⟩ => ⟨(i 0).val, (i 0).isLt⟩
  | ⟨1, _⟩ => ⟨(i 1).val, (i 1).isLt⟩
theorem pre_v69_apply (i : S4096x16x1.Idx) :
    pre_v69 (F := F) i = pre_v32 (F := F) (idx_v69 i) := by
  unfold pre_v69
  generalize pre_v32 (F := F) = y
  exact broadcastInDim_apply _ bcast_S4096x16_S4096x16x1_0_1 y i (idx_v69 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v70 (x3 : Sums F) : (⟨S4096x16x1, .f32⟩ : BufTy).Contents (Elt F) :=
  broadcastInDim S4096x16x1 ![0, 1] bcast_S4096x16_S4096x16x1_0_1 (pre_v64 (F := F) x3)
abbrev idx_v70 (i : S4096x16x1.Idx) : S4096x16.Idx := fun a => match a with
  | ⟨0, _⟩ => ⟨(i 0).val, (i 0).isLt⟩
  | ⟨1, _⟩ => ⟨(i 1).val, (i 1).isLt⟩
theorem pre_v70_apply (x3 : Sums F) (i : S4096x16x1.Idx) :
    pre_v70 (F := F) x3 i = pre_v64 (F := F) x3 (idx_v70 i) := by
  unfold pre_v70
  generalize pre_v64 (F := F) x3 = y
  exact broadcastInDim_apply _ bcast_S4096x16_S4096x16x1_0_1 y i (idx_v70 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v71 (x3 : Sums F) : (⟨S4096x16x1, .f32⟩ : BufTy).Contents (Elt F) :=
  broadcastInDim S4096x16x1 ![0, 1] bcast_S4096x16_S4096x16x1_0_1 (pre_v65 (F := F) x3)
abbrev idx_v71 (i : S4096x16x1.Idx) : S4096x16.Idx := fun a => match a with
  | ⟨0, _⟩ => ⟨(i 0).val, (i 0).isLt⟩
  | ⟨1, _⟩ => ⟨(i 1).val, (i 1).isLt⟩
theorem pre_v71_apply (x3 : Sums F) (i : S4096x16x1.Idx) :
    pre_v71 (F := F) x3 i = pre_v65 (F := F) x3 (idx_v71 i) := by
  unfold pre_v71
  generalize pre_v65 (F := F) x3 = y
  exact broadcastInDim_apply _ bcast_S4096x16_S4096x16x1_0_1 y i (idx_v71 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v72 (x3 : Sums F) : (⟨S4096x16x1, .f32⟩ : BufTy).Contents (Elt F) :=
  broadcastInDim S4096x16x1 ![0, 1] bcast_S4096x16_S4096x16x1_0_1 (pre_v66 (F := F) x3)
abbrev idx_v72 (i : S4096x16x1.Idx) : S4096x16.Idx := fun a => match a with
  | ⟨0, _⟩ => ⟨(i 0).val, (i 0).isLt⟩
  | ⟨1, _⟩ => ⟨(i 1).val, (i 1).isLt⟩
theorem pre_v72_apply (x3 : Sums F) (i : S4096x16x1.Idx) :
    pre_v72 (F := F) x3 i = pre_v66 (F := F) x3 (idx_v72 i) := by
  unfold pre_v72
  generalize pre_v66 (F := F) x3 = y
  exact broadcastInDim_apply _ bcast_S4096x16_S4096x16x1_0_1 y i (idx_v72 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_cst_7 : (⟨S_, .f32⟩ : BufTy).Contents (Elt F) :=
  constant S_ .f32 0x00000000#32
theorem pre_cst_7_apply (i : S_.Idx) :
    pre_cst_7 (F := F) i = FloatOps.ofBits .f32 0x00000000#32 := rfl

def pre_v73 : (⟨S4096x16x58, .f32⟩ : BufTy).Contents (Elt F) :=
  broadcastInDim S4096x16x58 ![] bcast_S_S4096x16x58 (pre_cst_7 (F := F))
abbrev idx_v73 (i : S4096x16x58.Idx) : S_.Idx := fun a => a.elim0
theorem pre_v73_apply (i : S4096x16x58.Idx) :
    pre_v73 (F := F) i = pre_cst_7 (F := F) (idx_v73 i) := by
  unfold pre_v73
  generalize pre_cst_7 (F := F) = y
  exact broadcastInDim_apply _ bcast_S_S4096x16x58 y i (idx_v73 i) (fun a => a.elim0)

def pre_v74 (x1 : Heads F) (x3 : Sums F) : (⟨S4096x16x128, .f32⟩ : BufTy).Contents (Elt F) :=
  (concatenate S4096x16x128 2 [⟨S4096x16x64, ((x1) : Heads F)⟩, ⟨S4096x16x1, ((pre_v67 (F := F)) : (⟨S4096x16x1, .f32⟩ : BufTy).Contents (Elt F))⟩, ⟨S4096x16x1, ((pre_v68 (F := F)) : (⟨S4096x16x1, .f32⟩ : BufTy).Contents (Elt F))⟩, ⟨S4096x16x1, ((pre_v69 (F := F)) : (⟨S4096x16x1, .f32⟩ : BufTy).Contents (Elt F))⟩, ⟨S4096x16x1, ((pre_v70 (F := F) x3) : (⟨S4096x16x1, .f32⟩ : BufTy).Contents (Elt F))⟩, ⟨S4096x16x1, ((pre_v71 (F := F) x3) : (⟨S4096x16x1, .f32⟩ : BufTy).Contents (Elt F))⟩, ⟨S4096x16x1, ((pre_v72 (F := F) x3) : (⟨S4096x16x1, .f32⟩ : BufTy).Contents (Elt F))⟩, ⟨S4096x16x58, ((pre_v73 (F := F)) : (⟨S4096x16x58, .f32⟩ : BufTy).Contents (Elt F))⟩] concatenates_S4096x16x64_S4096x16x1_S4096x16x1_S4096x16x1_S4096x16x1_S4096x16x1_S4096x16x1_S4096x16x58_S4096x16x128_d2 : (⟨S4096x16x128, .f32⟩ : BufTy).Contents (Elt F))

def pre_v75 (x1 : Heads F) (x3 : Sums F) : (⟨S4096x2048, .f32⟩ : BufTy).Contents (Elt F) :=
  shapeCast _ (pre_v74 (F := F) x1 x3) shapeCasts_S4096x16x128_S4096x2048
set_option backward.proofsInPublic true in
abbrev idx_v75 (i : S4096x2048.Idx) : S4096x16x128.Idx := fun a => match a with
  | ⟨0, _⟩ => ⟨((i 0).val * 2048 + (i 1).val) / 2048, by have h0 : (i 0).val < 4096 := (i 0).isLt; have h1 : (i 1).val < 2048 := (i 1).isLt; show ((i 0).val * 2048 + (i 1).val) / 2048 < 4096; omega⟩
  | ⟨1, _⟩ => ⟨((i 0).val * 2048 + (i 1).val) / 128 % 16, by have h0 : (i 0).val < 4096 := (i 0).isLt; have h1 : (i 1).val < 2048 := (i 1).isLt; show ((i 0).val * 2048 + (i 1).val) / 128 % 16 < 16; omega⟩
  | ⟨2, _⟩ => ⟨((i 0).val * 2048 + (i 1).val) % 128, by have h0 : (i 0).val < 4096 := (i 0).isLt; have h1 : (i 1).val < 2048 := (i 1).isLt; show ((i 0).val * 2048 + (i 1).val) % 128 < 128; omega⟩
theorem pre_v75_apply (x1 : Heads F) (x3 : Sums F) (i : S4096x2048.Idx) :
    pre_v75 (F := F) x1 x3 i = pre_v74 (F := F) x1 x3 (idx_v75 i) := by
  unfold pre_v75
  generalize pre_v74 (F := F) x1 x3 = y
  exact shapeCast_apply y shapeCasts_S4096x16x128_S4096x2048 i (idx_v75 i)
    (by rewrite [Shape.rowMajor_val_three, Shape.rowMajor_val_two]; have h0 : (i 0).val < 4096 := (i 0).isLt; have h1 : (i 1).val < 2048 := (i 1).isLt; show (((i 0).val * 2048 + (i 1).val) / 2048 * 16 + ((i 0).val * 2048 + (i 1).val) / 128 % 16) * 128 + ((i 0).val * 2048 + (i 1).val) % 128 = (i 0).val * 2048 + (i 1).val; omega)

def pre_v76 (x1 : Heads F) (x3 : Sums F) : (⟨S4096x2048, .bf16⟩ : BufTy).Contents (Elt F) :=
  truncf .bf16 (pre_v75 (F := F) x1 x3) bitsLt_bf16_f32
theorem pre_v76_apply (x1 : Heads F) (x3 : Sums F) (i : S4096x2048.Idx) :
    pre_v76 (F := F) x1 x3 i = FloatOps.truncf .bf16 bitsLt_bf16_f32 (pre_v75 (F := F) x1 x3 i) := rfl

def pre_v77 : (⟨S4096x16x1, .f32⟩ : BufTy).Contents (Elt F) :=
  broadcastInDim S4096x16x1 ![0, 1] bcast_S4096x16_S4096x16x1_0_1 (pre_v32 (F := F))
abbrev idx_v77 (i : S4096x16x1.Idx) : S4096x16.Idx := fun a => match a with
  | ⟨0, _⟩ => ⟨(i 0).val, (i 0).isLt⟩
  | ⟨1, _⟩ => ⟨(i 1).val, (i 1).isLt⟩
theorem pre_v77_apply (i : S4096x16x1.Idx) :
    pre_v77 (F := F) i = pre_v32 (F := F) (idx_v77 i) := by
  unfold pre_v77
  generalize pre_v32 (F := F) = y
  exact broadcastInDim_apply _ bcast_S4096x16_S4096x16x1_0_1 y i (idx_v77 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v78 : (⟨S4096x16x1, .f32⟩ : BufTy).Contents (Elt F) :=
  broadcastInDim S4096x16x1 ![0, 1] bcast_S4096x16_S4096x16x1_0_1 (pre_v32 (F := F))
abbrev idx_v78 (i : S4096x16x1.Idx) : S4096x16.Idx := fun a => match a with
  | ⟨0, _⟩ => ⟨(i 0).val, (i 0).isLt⟩
  | ⟨1, _⟩ => ⟨(i 1).val, (i 1).isLt⟩
theorem pre_v78_apply (i : S4096x16x1.Idx) :
    pre_v78 (F := F) i = pre_v32 (F := F) (idx_v78 i) := by
  unfold pre_v78
  generalize pre_v32 (F := F) = y
  exact broadcastInDim_apply _ bcast_S4096x16_S4096x16x1_0_1 y i (idx_v78 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v79 : (⟨S4096x16x1, .f32⟩ : BufTy).Contents (Elt F) :=
  broadcastInDim S4096x16x1 ![0, 1] bcast_S4096x16_S4096x16x1_0_1 (pre_v32 (F := F))
abbrev idx_v79 (i : S4096x16x1.Idx) : S4096x16.Idx := fun a => match a with
  | ⟨0, _⟩ => ⟨(i 0).val, (i 0).isLt⟩
  | ⟨1, _⟩ => ⟨(i 1).val, (i 1).isLt⟩
theorem pre_v79_apply (i : S4096x16x1.Idx) :
    pre_v79 (F := F) i = pre_v32 (F := F) (idx_v79 i) := by
  unfold pre_v79
  generalize pre_v32 (F := F) = y
  exact broadcastInDim_apply _ bcast_S4096x16_S4096x16x1_0_1 y i (idx_v79 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_cst_8 : (⟨S_, .f32⟩ : BufTy).Contents (Elt F) :=
  constant S_ .f32 0x00000000#32
theorem pre_cst_8_apply (i : S_.Idx) :
    pre_cst_8 (F := F) i = FloatOps.ofBits .f32 0x00000000#32 := rfl

def pre_v80 : (⟨S4096x16x61, .f32⟩ : BufTy).Contents (Elt F) :=
  broadcastInDim S4096x16x61 ![] bcast_S_S4096x16x61 (pre_cst_8 (F := F))
abbrev idx_v80 (i : S4096x16x61.Idx) : S_.Idx := fun a => a.elim0
theorem pre_v80_apply (i : S4096x16x61.Idx) :
    pre_v80 (F := F) i = pre_cst_8 (F := F) (idx_v80 i) := by
  unfold pre_v80
  generalize pre_cst_8 (F := F) = y
  exact broadcastInDim_apply _ bcast_S_S4096x16x61 y i (idx_v80 i) (fun a => a.elim0)

def pre_v81 (x2 : Heads F) : (⟨S4096x16x128, .f32⟩ : BufTy).Contents (Elt F) :=
  (concatenate S4096x16x128 2 [⟨S4096x16x64, ((x2) : Heads F)⟩, ⟨S4096x16x1, ((pre_v77 (F := F)) : (⟨S4096x16x1, .f32⟩ : BufTy).Contents (Elt F))⟩, ⟨S4096x16x1, ((pre_v78 (F := F)) : (⟨S4096x16x1, .f32⟩ : BufTy).Contents (Elt F))⟩, ⟨S4096x16x1, ((pre_v79 (F := F)) : (⟨S4096x16x1, .f32⟩ : BufTy).Contents (Elt F))⟩, ⟨S4096x16x61, ((pre_v80 (F := F)) : (⟨S4096x16x61, .f32⟩ : BufTy).Contents (Elt F))⟩] concatenates_S4096x16x64_S4096x16x1_S4096x16x1_S4096x16x1_S4096x16x61_S4096x16x128_d2 : (⟨S4096x16x128, .f32⟩ : BufTy).Contents (Elt F))

def pre_v82 (x2 : Heads F) : (⟨S4096x2048, .f32⟩ : BufTy).Contents (Elt F) :=
  shapeCast _ (pre_v81 (F := F) x2) shapeCasts_S4096x16x128_S4096x2048
set_option backward.proofsInPublic true in
abbrev idx_v82 (i : S4096x2048.Idx) : S4096x16x128.Idx := fun a => match a with
  | ⟨0, _⟩ => ⟨((i 0).val * 2048 + (i 1).val) / 2048, by have h0 : (i 0).val < 4096 := (i 0).isLt; have h1 : (i 1).val < 2048 := (i 1).isLt; show ((i 0).val * 2048 + (i 1).val) / 2048 < 4096; omega⟩
  | ⟨1, _⟩ => ⟨((i 0).val * 2048 + (i 1).val) / 128 % 16, by have h0 : (i 0).val < 4096 := (i 0).isLt; have h1 : (i 1).val < 2048 := (i 1).isLt; show ((i 0).val * 2048 + (i 1).val) / 128 % 16 < 16; omega⟩
  | ⟨2, _⟩ => ⟨((i 0).val * 2048 + (i 1).val) % 128, by have h0 : (i 0).val < 4096 := (i 0).isLt; have h1 : (i 1).val < 2048 := (i 1).isLt; show ((i 0).val * 2048 + (i 1).val) % 128 < 128; omega⟩
theorem pre_v82_apply (x2 : Heads F) (i : S4096x2048.Idx) :
    pre_v82 (F := F) x2 i = pre_v81 (F := F) x2 (idx_v82 i) := by
  unfold pre_v82
  generalize pre_v81 (F := F) x2 = y
  exact shapeCast_apply y shapeCasts_S4096x16x128_S4096x2048 i (idx_v82 i)
    (by rewrite [Shape.rowMajor_val_three, Shape.rowMajor_val_two]; have h0 : (i 0).val < 4096 := (i 0).isLt; have h1 : (i 1).val < 2048 := (i 1).isLt; show (((i 0).val * 2048 + (i 1).val) / 2048 * 16 + ((i 0).val * 2048 + (i 1).val) / 128 % 16) * 128 + ((i 0).val * 2048 + (i 1).val) % 128 = (i 0).val * 2048 + (i 1).val; omega)

def pre_v83 (x2 : Heads F) : (⟨S4096x2048, .bf16⟩ : BufTy).Contents (Elt F) :=
  truncf .bf16 (pre_v82 (F := F) x2) bitsLt_bf16_f32
theorem pre_v83_apply (x2 : Heads F) (i : S4096x2048.Idx) :
    pre_v83 (F := F) x2 i = FloatOps.truncf .bf16 bitsLt_bf16_f32 (pre_v82 (F := F) x2 i) := rfl

def pre_v84 (x0 x1 x2 : Heads F) (x3 : Sums F) (x4 : Heads F) : (⟨S4096x16, .bf16⟩ : BufTy).Contents (Elt F) :=
  truncf .bf16 (pre_v31 (F := F) x0 x1 x2 x3 x4) bitsLt_bf16_f32
theorem pre_v84_apply (x0 x1 x2 : Heads F) (x3 : Sums F) (x4 : Heads F) (i : S4096x16.Idx) :
    pre_v84 (F := F) x0 x1 x2 x3 x4 i = FloatOps.truncf .bf16 bitsLt_bf16_f32 (pre_v31 (F := F) x0 x1 x2 x3 x4 i) := rfl

def pre_v85 (x0 x1 x2 : Heads F) (x3 : Sums F) (x4 : Heads F) : Sums F :=
  extf .f32 (pre_v84 (F := F) x0 x1 x2 x3 x4) bitsLt_bf16_f32
theorem pre_v85_apply (x0 x1 x2 : Heads F) (x3 : Sums F) (x4 : Heads F) (i : S4096x16.Idx) :
    pre_v85 (F := F) x0 x1 x2 x3 x4 i = FloatOps.extf .f32 bitsLt_bf16_f32 (pre_v84 (F := F) x0 x1 x2 x3 x4 i) := rfl

def pre_v86 (x0 x1 x2 : Heads F) (x3 : Sums F) (x4 : Heads F) : Sums F :=
  subf (pre_v31 (F := F) x0 x1 x2 x3 x4) (pre_v85 (F := F) x0 x1 x2 x3 x4)
theorem pre_v86_apply (x0 x1 x2 : Heads F) (x3 : Sums F) (x4 : Heads F) (i : S4096x16.Idx) :
    pre_v86 (F := F) x0 x1 x2 x3 x4 i = FloatOps.subf (pre_v31 (F := F) x0 x1 x2 x3 x4 i) (pre_v85 (F := F) x0 x1 x2 x3 x4 i) := rfl

def pre_v87 (x0 x1 x2 : Heads F) (x3 : Sums F) (x4 : Heads F) : (⟨S4096x16, .bf16⟩ : BufTy).Contents (Elt F) :=
  truncf .bf16 (pre_v86 (F := F) x0 x1 x2 x3 x4) bitsLt_bf16_f32
theorem pre_v87_apply (x0 x1 x2 : Heads F) (x3 : Sums F) (x4 : Heads F) (i : S4096x16.Idx) :
    pre_v87 (F := F) x0 x1 x2 x3 x4 i = FloatOps.truncf .bf16 bitsLt_bf16_f32 (pre_v86 (F := F) x0 x1 x2 x3 x4 i) := rfl

def pre_v88 (x0 x1 x2 : Heads F) (x3 : Sums F) (x4 : Heads F) : Sums F :=
  extf .f32 (pre_v87 (F := F) x0 x1 x2 x3 x4) bitsLt_bf16_f32
theorem pre_v88_apply (x0 x1 x2 : Heads F) (x3 : Sums F) (x4 : Heads F) (i : S4096x16.Idx) :
    pre_v88 (F := F) x0 x1 x2 x3 x4 i = FloatOps.extf .f32 bitsLt_bf16_f32 (pre_v87 (F := F) x0 x1 x2 x3 x4 i) := rfl

def pre_v89 (x0 x1 x2 : Heads F) (x3 : Sums F) (x4 : Heads F) : Sums F :=
  subf (pre_v31 (F := F) x0 x1 x2 x3 x4) (pre_v85 (F := F) x0 x1 x2 x3 x4)
theorem pre_v89_apply (x0 x1 x2 : Heads F) (x3 : Sums F) (x4 : Heads F) (i : S4096x16.Idx) :
    pre_v89 (F := F) x0 x1 x2 x3 x4 i = FloatOps.subf (pre_v31 (F := F) x0 x1 x2 x3 x4 i) (pre_v85 (F := F) x0 x1 x2 x3 x4 i) := rfl

def pre_v90 (x0 x1 x2 : Heads F) (x3 : Sums F) (x4 : Heads F) : Sums F :=
  subf (pre_v89 (F := F) x0 x1 x2 x3 x4) (pre_v88 (F := F) x0 x1 x2 x3 x4)
theorem pre_v90_apply (x0 x1 x2 : Heads F) (x3 : Sums F) (x4 : Heads F) (i : S4096x16.Idx) :
    pre_v90 (F := F) x0 x1 x2 x3 x4 i = FloatOps.subf (pre_v89 (F := F) x0 x1 x2 x3 x4 i) (pre_v88 (F := F) x0 x1 x2 x3 x4 i) := rfl

def pre_v91 (x0 x1 x2 : Heads F) (x3 : Sums F) (x4 : Heads F) : (⟨S4096x16, .bf16⟩ : BufTy).Contents (Elt F) :=
  truncf .bf16 (pre_v90 (F := F) x0 x1 x2 x3 x4) bitsLt_bf16_f32
theorem pre_v91_apply (x0 x1 x2 : Heads F) (x3 : Sums F) (x4 : Heads F) (i : S4096x16.Idx) :
    pre_v91 (F := F) x0 x1 x2 x3 x4 i = FloatOps.truncf .bf16 bitsLt_bf16_f32 (pre_v90 (F := F) x0 x1 x2 x3 x4 i) := rfl

def pre_v92 (x0 x1 x2 : Heads F) (x3 : Sums F) (x4 : Heads F) : Sums F :=
  extf .f32 (pre_v91 (F := F) x0 x1 x2 x3 x4) bitsLt_bf16_f32
theorem pre_v92_apply (x0 x1 x2 : Heads F) (x3 : Sums F) (x4 : Heads F) (i : S4096x16.Idx) :
    pre_v92 (F := F) x0 x1 x2 x3 x4 i = FloatOps.extf .f32 bitsLt_bf16_f32 (pre_v91 (F := F) x0 x1 x2 x3 x4 i) := rfl

def pre_v93 (x0 x1 x2 : Heads F) (x3 : Sums F) (x4 : Heads F) : Sums F :=
  Host.negf (pre_v85 (F := F) x0 x1 x2 x3 x4)
theorem pre_v93_apply (x0 x1 x2 : Heads F) (x3 : Sums F) (x4 : Heads F) (i : S4096x16.Idx) :
    pre_v93 (F := F) x0 x1 x2 x3 x4 i = FloatOps.hostNegf (pre_v85 (F := F) x0 x1 x2 x3 x4 i) := rfl

def pre_v94 (x0 x1 x2 : Heads F) (x3 : Sums F) (x4 : Heads F) : Sums F :=
  Host.negf (pre_v88 (F := F) x0 x1 x2 x3 x4)
theorem pre_v94_apply (x0 x1 x2 : Heads F) (x3 : Sums F) (x4 : Heads F) (i : S4096x16.Idx) :
    pre_v94 (F := F) x0 x1 x2 x3 x4 i = FloatOps.hostNegf (pre_v88 (F := F) x0 x1 x2 x3 x4 i) := rfl

def pre_v95 (x0 x1 x2 : Heads F) (x3 : Sums F) (x4 : Heads F) : Sums F :=
  Host.negf (pre_v92 (F := F) x0 x1 x2 x3 x4)
theorem pre_v95_apply (x0 x1 x2 : Heads F) (x3 : Sums F) (x4 : Heads F) (i : S4096x16.Idx) :
    pre_v95 (F := F) x0 x1 x2 x3 x4 i = FloatOps.hostNegf (pre_v92 (F := F) x0 x1 x2 x3 x4 i) := rfl

def pre_v96 (x0 x1 x2 : Heads F) (x3 : Sums F) (x4 : Heads F) : (⟨S4096x16x1, .f32⟩ : BufTy).Contents (Elt F) :=
  broadcastInDim S4096x16x1 ![0, 1] bcast_S4096x16_S4096x16x1_0_1 (pre_v93 (F := F) x0 x1 x2 x3 x4)
abbrev idx_v96 (i : S4096x16x1.Idx) : S4096x16.Idx := fun a => match a with
  | ⟨0, _⟩ => ⟨(i 0).val, (i 0).isLt⟩
  | ⟨1, _⟩ => ⟨(i 1).val, (i 1).isLt⟩
theorem pre_v96_apply (x0 x1 x2 : Heads F) (x3 : Sums F) (x4 : Heads F) (i : S4096x16x1.Idx) :
    pre_v96 (F := F) x0 x1 x2 x3 x4 i = pre_v93 (F := F) x0 x1 x2 x3 x4 (idx_v96 i) := by
  unfold pre_v96
  generalize pre_v93 (F := F) x0 x1 x2 x3 x4 = y
  exact broadcastInDim_apply _ bcast_S4096x16_S4096x16x1_0_1 y i (idx_v96 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v97 (x0 x1 x2 : Heads F) (x3 : Sums F) (x4 : Heads F) : (⟨S4096x16x1, .f32⟩ : BufTy).Contents (Elt F) :=
  broadcastInDim S4096x16x1 ![0, 1] bcast_S4096x16_S4096x16x1_0_1 (pre_v94 (F := F) x0 x1 x2 x3 x4)
abbrev idx_v97 (i : S4096x16x1.Idx) : S4096x16.Idx := fun a => match a with
  | ⟨0, _⟩ => ⟨(i 0).val, (i 0).isLt⟩
  | ⟨1, _⟩ => ⟨(i 1).val, (i 1).isLt⟩
theorem pre_v97_apply (x0 x1 x2 : Heads F) (x3 : Sums F) (x4 : Heads F) (i : S4096x16x1.Idx) :
    pre_v97 (F := F) x0 x1 x2 x3 x4 i = pre_v94 (F := F) x0 x1 x2 x3 x4 (idx_v97 i) := by
  unfold pre_v97
  generalize pre_v94 (F := F) x0 x1 x2 x3 x4 = y
  exact broadcastInDim_apply _ bcast_S4096x16_S4096x16x1_0_1 y i (idx_v97 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_v98 (x0 x1 x2 : Heads F) (x3 : Sums F) (x4 : Heads F) : (⟨S4096x16x1, .f32⟩ : BufTy).Contents (Elt F) :=
  broadcastInDim S4096x16x1 ![0, 1] bcast_S4096x16_S4096x16x1_0_1 (pre_v95 (F := F) x0 x1 x2 x3 x4)
abbrev idx_v98 (i : S4096x16x1.Idx) : S4096x16.Idx := fun a => match a with
  | ⟨0, _⟩ => ⟨(i 0).val, (i 0).isLt⟩
  | ⟨1, _⟩ => ⟨(i 1).val, (i 1).isLt⟩
theorem pre_v98_apply (x0 x1 x2 : Heads F) (x3 : Sums F) (x4 : Heads F) (i : S4096x16x1.Idx) :
    pre_v98 (F := F) x0 x1 x2 x3 x4 i = pre_v95 (F := F) x0 x1 x2 x3 x4 (idx_v98 i) := by
  unfold pre_v98
  generalize pre_v95 (F := F) x0 x1 x2 x3 x4 = y
  exact broadcastInDim_apply _ bcast_S4096x16_S4096x16x1_0_1 y i (idx_v98 i) (fun a => match a with
    | ⟨0, _⟩ => by show (i 0).val = if (4096 : Nat) = 1 then 0 else (i 0).val; rw [if_neg (by decide)]
    | ⟨1, _⟩ => by show (i 1).val = if (16 : Nat) = 1 then 0 else (i 1).val; rw [if_neg (by decide)])

def pre_cst_9 : (⟨S_, .f32⟩ : BufTy).Contents (Elt F) :=
  constant S_ .f32 0x00000000#32
theorem pre_cst_9_apply (i : S_.Idx) :
    pre_cst_9 (F := F) i = FloatOps.ofBits .f32 0x00000000#32 := rfl

def pre_v99 : (⟨S4096x16x61, .f32⟩ : BufTy).Contents (Elt F) :=
  broadcastInDim S4096x16x61 ![] bcast_S_S4096x16x61 (pre_cst_9 (F := F))
abbrev idx_v99 (i : S4096x16x61.Idx) : S_.Idx := fun a => a.elim0
theorem pre_v99_apply (i : S4096x16x61.Idx) :
    pre_v99 (F := F) i = pre_cst_9 (F := F) (idx_v99 i) := by
  unfold pre_v99
  generalize pre_cst_9 (F := F) = y
  exact broadcastInDim_apply _ bcast_S_S4096x16x61 y i (idx_v99 i) (fun a => a.elim0)

def pre_v100 (x0 x1 x2 : Heads F) (x3 : Sums F) (x4 : Heads F) : (⟨S4096x16x128, .f32⟩ : BufTy).Contents (Elt F) :=
  (concatenate S4096x16x128 2 [⟨S4096x16x64, ((x4) : Heads F)⟩, ⟨S4096x16x1, ((pre_v96 (F := F) x0 x1 x2 x3 x4) : (⟨S4096x16x1, .f32⟩ : BufTy).Contents (Elt F))⟩, ⟨S4096x16x1, ((pre_v97 (F := F) x0 x1 x2 x3 x4) : (⟨S4096x16x1, .f32⟩ : BufTy).Contents (Elt F))⟩, ⟨S4096x16x1, ((pre_v98 (F := F) x0 x1 x2 x3 x4) : (⟨S4096x16x1, .f32⟩ : BufTy).Contents (Elt F))⟩, ⟨S4096x16x61, ((pre_v99 (F := F)) : (⟨S4096x16x61, .f32⟩ : BufTy).Contents (Elt F))⟩] concatenates_S4096x16x64_S4096x16x1_S4096x16x1_S4096x16x1_S4096x16x61_S4096x16x128_d2 : (⟨S4096x16x128, .f32⟩ : BufTy).Contents (Elt F))

def pre_v101 (x0 x1 x2 : Heads F) (x3 : Sums F) (x4 : Heads F) : (⟨S4096x2048, .f32⟩ : BufTy).Contents (Elt F) :=
  shapeCast _ (pre_v100 (F := F) x0 x1 x2 x3 x4) shapeCasts_S4096x16x128_S4096x2048
set_option backward.proofsInPublic true in
abbrev idx_v101 (i : S4096x2048.Idx) : S4096x16x128.Idx := fun a => match a with
  | ⟨0, _⟩ => ⟨((i 0).val * 2048 + (i 1).val) / 2048, by have h0 : (i 0).val < 4096 := (i 0).isLt; have h1 : (i 1).val < 2048 := (i 1).isLt; show ((i 0).val * 2048 + (i 1).val) / 2048 < 4096; omega⟩
  | ⟨1, _⟩ => ⟨((i 0).val * 2048 + (i 1).val) / 128 % 16, by have h0 : (i 0).val < 4096 := (i 0).isLt; have h1 : (i 1).val < 2048 := (i 1).isLt; show ((i 0).val * 2048 + (i 1).val) / 128 % 16 < 16; omega⟩
  | ⟨2, _⟩ => ⟨((i 0).val * 2048 + (i 1).val) % 128, by have h0 : (i 0).val < 4096 := (i 0).isLt; have h1 : (i 1).val < 2048 := (i 1).isLt; show ((i 0).val * 2048 + (i 1).val) % 128 < 128; omega⟩
theorem pre_v101_apply (x0 x1 x2 : Heads F) (x3 : Sums F) (x4 : Heads F) (i : S4096x2048.Idx) :
    pre_v101 (F := F) x0 x1 x2 x3 x4 i = pre_v100 (F := F) x0 x1 x2 x3 x4 (idx_v101 i) := by
  unfold pre_v101
  generalize pre_v100 (F := F) x0 x1 x2 x3 x4 = y
  exact shapeCast_apply y shapeCasts_S4096x16x128_S4096x2048 i (idx_v101 i)
    (by rewrite [Shape.rowMajor_val_three, Shape.rowMajor_val_two]; have h0 : (i 0).val < 4096 := (i 0).isLt; have h1 : (i 1).val < 2048 := (i 1).isLt; show (((i 0).val * 2048 + (i 1).val) / 2048 * 16 + ((i 0).val * 2048 + (i 1).val) / 128 % 16) * 128 + ((i 0).val * 2048 + (i 1).val) % 128 = (i 0).val * 2048 + (i 1).val; omega)

def pre_v102 (x0 x1 x2 : Heads F) (x3 : Sums F) (x4 : Heads F) : (⟨S4096x2048, .bf16⟩ : BufTy).Contents (Elt F) :=
  truncf .bf16 (pre_v101 (F := F) x0 x1 x2 x3 x4) bitsLt_bf16_f32
theorem pre_v102_apply (x0 x1 x2 : Heads F) (x3 : Sums F) (x4 : Heads F) (i : S4096x2048.Idx) :
    pre_v102 (F := F) x0 x1 x2 x3 x4 i = FloatOps.truncf .bf16 bitsLt_bf16_f32 (pre_v101 (F := F) x0 x1 x2 x3 x4 i) := rfl

end Cert.KernelIdeal.Prefix

end
-- ==== Proof.PrefixSoftmax.lean ====
/- What the kernel's host code computes on arrays of reals before its region: the logarithm of each query's sum of exponentials, and
   the output's gradient against the output. -/
module

public import proofs.«01_k».proof.Proof.Finite
public import proofs.«01_k».proof.Proof.PrefixRead

@[expose] public section

noncomputable section

namespace Cert.KernelIdeal.Prefix

open Cert.KernelIdeal Cert.KernelIdeal.Gen Idealize.ShloMosaic Cert.Attention Cert.Real

variable (q k v g : Lanes) (b : Rows)

theorem zero_start (z : EReal) (y : EReal) (h : z = Ideal.ofBits .f32 0x00000000#32) : z + y = y := by
  rw [h, ofBits_zero, EReal.coe_zero, zero_add]

theorem dot_real (i : S16x4096x4096.Idx) :
    pre_v0 (F := Ideal) (ofLanes q) (ofLanes k) i = ((∑ d : Fin 64, q (i 1) (i 0) d * k (i 2) (i 0) d : ℝ) : EReal) := by
  rw [pre_v0_apply, ← coe_sum]
  refine Finset.sum_congr rfl fun d _ => ?_
  rw [EReal.coe_mul]; rfl

theorem scale_real (i : S16x4096x4096.Idx) : pre_v1 (F := Ideal) i = ((1 / 8 : ℝ) : EReal) := by
  rw [pre_v1_apply, pre_cst_apply]; exact ofBits_eighth

theorem gate_query (i : S16x4096x4096.Idx) : pre_v5 (F := Ideal) (ofRows b) i = ((b (i 1) (i 0) : ℝ) : EReal) := by
  rw [pre_v5_apply, pre_v4_apply, pre_v3_apply]; rfl

theorem gate_key (i : S16x4096x4096.Idx) : pre_v9 (F := Ideal) (ofRows b) i = ((b (i 2) (i 0) : ℝ) : EReal) := by
  rw [pre_v9_apply, pre_v8_apply, pre_v7_apply]; rfl

theorem score_real (i : S16x4096x4096.Idx) :
    pre_v10 (F := Ideal) (ofLanes q) (ofLanes k) (ofRows b) i = ((score q k b (i 0) (i 1) (i 2) : ℝ) : EReal) := by
  rw [pre_v10_apply, pre_v6_apply, pre_v2_apply, dot_real, scale_real, gate_query, gate_key]
  unfold score; rw [EReal.coe_sub, EReal.coe_add, EReal.coe_mul]; rfl

theorem mask_word (i : S16x4096x4096.Idx) : pre_call0_v1 (F := Ideal) i = if (i 2).val ≤ (i 1).val then 1#1 else 0#1 := by
  have h1 : (i 1).val < 4096 := (i 1).isLt
  have h2 : (i 2).val < 4096 := (i 2).isLt
  rw [pre_call0_v1_apply, pre_v13_apply, pre_v11_apply, pre_v12_apply]
  exact cmpi_sge_small _ _ h1 h2

theorem bottom (i : S16x4096x4096.Idx) : pre_call0_v2 (F := Ideal) i = (⊥ : EReal) := by
  rw [pre_call0_v2_apply, pre_call0_v0_apply, pre_cst_0_apply]; exact ofBits_bot

theorem masked_real (i : S16x4096x4096.Idx) :
    pre_v14 (F := Ideal) (ofLanes q) (ofLanes k) (ofRows b) i
      = if (i 2).val ≤ (i 1).val then ((score q k b (i 0) (i 1) (i 2) : ℝ) : EReal) else ⊥ := by
  rw [pre_v14_apply, mask_word, score_real, bottom]
  exact select_word _ _ _

/-- The row maximum is a real: the diagonal score is one of its entries. -/
theorem max_real (i : S16x4096.Idx) :
    (((pre_v15 (F := Ideal) (ofLanes q) (ofLanes k) (ofRows b) i : EReal).toReal : ℝ) : EReal)
      = pre_v15 (F := Ideal) (ofLanes q) (ofLanes k) (ofRows b) i := by
  unfold pre_v15
  have hv := masked_real q k b
  revert hv
  generalize pre_v14 (F := Ideal) (ofLanes q) (ofLanes k) (ofRows b) = y
  intro hv
  have E := Host.reduce_eq_fold_single (fun a c : EReal => max a c) y (pre_cst_1 (F := Ideal))
    reducesTo_S16x4096x4096_S16x4096_d2 (by decide) h_S_ i
  refine (congrArg (fun z : EReal => ((z.toReal : ℝ) : EReal)) E).trans (Eq.trans ?_ E.symm)
  refine real_fold_max _ _ ?_ (fun t => ?_) (i 1) ?_
  · rw [pre_cst_1_apply]
    exact fun h => absurd (ofBits_bot.symm.trans h) bot_ne_top
  · refine fun h => ?_
    have h' := (hv _).symm.trans h
    split at h'
    · exact EReal.coe_ne_top _ h'
    · exact bot_ne_top h'
  · refine fun h => ?_
    have h' := (hv _).symm.trans h
    split at h'
    · exact EReal.coe_ne_bot _ h'
    · exact absurd (le_of_eq rfl) ‹¬ _›

/-- The real number that the row maximum is. -/
def rowMax (H : Fin 16) (s : Fin 4096) : ℝ :=
  (pre_v15 (F := Ideal) (ofLanes q) (ofLanes k) (ofRows b) (ValueIdx.ix2 H s) : EReal).toReal

theorem rowMax_eq (i : S16x4096.Idx) :
    pre_v15 (F := Ideal) (ofLanes q) (ofLanes k) (ofRows b) i = ((rowMax q k b (i 0) (i 1) : ℝ) : EReal) :=
  (max_real q k b i).symm.trans
    (congrArg (fun j : S16x4096.Idx => (((pre_v15 (F := Ideal) (ofLanes q) (ofLanes k) (ofRows b) j : EReal).toReal : ℝ) : EReal)) (ValueIdx.eq_ix2 i))

/-- The exponential of a score against the row maximum. -/
abbrev wt (H : Fin 16) (s t : Fin 4096) : ℝ := weight q k b (rowMax q k b H s) H s t
/-- The sum of a query's exponentials. -/
abbrev tot (H : Fin 16) (s : Fin 4096) : ℝ := total q k b (rowMax q k b H s) H s
/-- The logarithm of a query's sum of exponentials. -/
def lse (H : Fin 16) (s : Fin 4096) : ℝ := rowMax q k b H s + _root_.Real.log (tot q k b H s)

theorem weight_real (i : S16x4096x4096.Idx) :
    pre_v19 (F := Ideal) (ofLanes q) (ofLanes k) (ofRows b) i = ((wt q k b (i 0) (i 1) (i 2) : ℝ) : EReal) := by
  rw [pre_v19_apply, pre_v18_apply, pre_v17_apply, pre_v16_apply, rowMax_eq, masked_real]
  show Ideal.exp ((if (i 2).val ≤ (i 1).val then ((score q k b (i 0) (i 1) (i 2) : ℝ) : EReal) else ⊥)
    - ((rowMax q k b (i 0) (i 1) : ℝ) : EReal)) = _
  unfold wt weight
  by_cases h : (i 2).val ≤ (i 1).val
  · rw [if_pos h, if_pos h, ← EReal.coe_sub]; rfl
  · rw [if_neg h, if_neg h, EReal.bot_sub]; rfl

theorem total_real (i : S16x4096.Idx) :
    pre_v20 (F := Ideal) (ofLanes q) (ofLanes k) (ofRows b) i = ((tot q k b (i 0) (i 1) : ℝ) : EReal) := by
  rw [pre_v20_apply]
  refine (zero_start _ _ (pre_cst_2_apply _)).trans ?_
  unfold tot total
  rw [← coe_sum]
  exact Finset.sum_congr rfl fun t _ => weight_real q k b _

theorem total_column (i : S16x4096x1.Idx) :
    pre_v21 (F := Ideal) (ofLanes q) (ofLanes k) (ofRows b) i = ((tot q k b (i 0) (i 1) : ℝ) : EReal) := by
  rw [pre_v21_apply, total_real]; rfl

theorem prob_real (i : S16x4096x4096.Idx) :
    pre_v23 (F := Ideal) (ofLanes q) (ofLanes k) (ofRows b) i = ((prob q k b (i 0) (i 1) (i 2) : ℝ) : EReal) := by
  rw [pre_v23_apply, pre_v22_apply, total_column, weight_real]
  refine (div_real _ _ (total_pos q k b _ _ _).ne').trans ?_
  exact congrArg _ (weight_div_total q k b _ _ _ _)

theorem lse_column (i : S16x4096x1.Idx) :
    pre_v27 (F := Ideal) (ofLanes q) (ofLanes k) (ofRows b) i = ((lse q k b (i 0) (i 1) : ℝ) : EReal) := by
  have e16 : pre_v16 (F := Ideal) (ofLanes q) (ofLanes k) (ofRows b) i = ((rowMax q k b (i 0) (i 1) : ℝ) : EReal) := by
    rw [pre_v16_apply, rowMax_eq]; rfl
  have e26 : pre_v26 (F := Ideal) (ofLanes q) (ofLanes k) (ofRows b) i = ((_root_.Real.log (tot q k b (i 0) (i 1)) : ℝ) : EReal) := by
    rw [pre_v26_apply, total_column]
    exact log_real _ (total_pos q k b _ _ _)
  rw [pre_v27_apply, e16, e26]
  unfold lse
  rw [EReal.coe_add]; rfl

theorem lse_index (i : S4096x16.Idx) : idx_v28 (idx_v29 i) = ValueIdx.ix3 (i 1) (i 0) 0 := funext fun a => Fin.ext (by
  have h0 : (i 0).val < 4096 := (i 0).isLt
  match a with
  | ⟨0, _⟩ => show ((i 1).val * 4096 + (i 0).val) / 4096 = (i 1).val; omega
  | ⟨1, _⟩ => show ((i 1).val * 4096 + (i 0).val) / 1 % 4096 = (i 0).val; omega
  | ⟨2, _⟩ => rfl)

theorem lse_real (i : S4096x16.Idx) :
    pre_v29 (F := Ideal) (ofLanes q) (ofLanes k) (ofRows b) i = ((lse q k b (i 1) (i 0) : ℝ) : EReal) := by
  rw [pre_v29_apply, pre_v28_apply, lse_index]
  exact lse_column q k b _

theorem delta_real (i : S4096x16.Idx) :
    pre_v31 (F := Ideal) (ofLanes q) (ofLanes k) (ofLanes v) (ofRows b) (ofLanes g) i
      = ((meanGrad q k v g b (i 1) (i 0) : ℝ) : EReal) := by
  rw [pre_v31_apply]
  refine (zero_start _ _ (pre_cst_3_apply _)).trans ?_
  refine Eq.trans ?_ (congrArg _ (sum_grad_mul_out q k v g b (i 1) (i 0)))
  rw [← coe_sum]
  refine Finset.sum_congr rfl fun d _ => ?_
  rw [pre_v30_apply, pre_v25_apply, pre_v24_apply, EReal.coe_mul]
  refine congrArg (_ * ·) ?_
  rw [← coe_sum]
  refine Finset.sum_congr rfl fun t _ => ?_
  rw [prob_real, EReal.coe_mul]; rfl

end Cert.KernelIdeal.Prefix

end
-- ==== Proof.Joins.lean ====
/- Joins along the lanes read lane by lane: 64 lanes, then single columns, then a filling of columns up to 128. -/
module

public import proofs.«01_k».proof.Proof.Gen.KernelIdeal
public import Idealize.ShloMosaic.Lib.Pipeline.Value
public import Idealize.ShloMosaic.Lib.ValueIdx

@[expose] public section

noncomputable section

namespace Cert.KernelIdeal.Joins

open Cert.KernelIdeal Cert.KernelIdeal.Gen Idealize.ShloMosaic Idealize.ShloMosaic.ValueIdx

/-- Lane `d` of the first 64. -/
abbrev low (d : Fin 64) : Fin 128 := ⟨d.val, by omega⟩
/-- Lane `e` of the last 58. -/
abbrev high (e : Fin 58) : Fin 128 := ⟨70 + e.val, by omega⟩
/-- Lane `e` of the last 61. -/
abbrev high' (e : Fin 61) : Fin 128 := ⟨67 + e.val, by omega⟩

/-- A sum over the lanes: the first 64, six single lanes, the filling. -/
theorem sum_lanes (f : Fin 128 → EReal) :
    ∑ c, f c = ∑ d : Fin 64, f (low d) + ((f 64 + f 65 + f 66 + f 67 + f 68 + f 69) + ∑ e : Fin 58, f (high e)) := by
  have h1 := Fin.sum_univ_add (a := 64) (b := 64) (fun c => f c)
  have h2 := Fin.sum_univ_add (a := 6) (b := 58) (fun c => f (Fin.natAdd 64 c))
  have h3 := Fin.sum_univ_six (fun c => f (Fin.natAdd 64 (Fin.castAdd 58 c)))
  refine h1.trans (congrArg₂ (· + ·) rfl (h2.trans (congrArg₂ (· + ·) (h3.trans rfl) ?_)))
  refine Finset.sum_congr rfl fun e _ => congrArg f (Fin.ext ?_)
  show 64 + (6 + e.val) = 70 + e.val; omega

/-- A join along the lanes, read at a lane of piece `k`. -/
theorem piece (xs : List ((s : Shape) × (s.Idx → EReal))) (h : Shape.Concatenates (xs.map (·.1)) S4096x16x128 2) (k : Nat) (hk : k < xs.length)
    (n : Nat) (x : (⟨3, ![4096, 16, n]⟩ : Shape).Idx → EReal) (hx : xs[k] = ⟨⟨3, ![4096, 16, n]⟩, x⟩) (pre : Nat)
    (hpre : (((xs.take k).map (·.1)).map fun s => if h : s.rank = S4096x16x128.rank then s.size ((2 : Fin S4096x16x128.rank).cast h.symm) else 0).sum = pre)
    (s : Fin 4096) (H : Fin 16) (e : Fin n) (c : Fin 128) (hc : pre + e.val = c.val) :
    concatenate S4096x16x128 2 xs h (ix3 s H c) = x (ix3 s H e) := by
  refine concatenate_apply_piece (t := S4096x16x128) 2 xs h (ix3 s H c) k hk ⟨3, ![4096, 16, n]⟩ x hx rfl pre hpre (ix3 s H e) (fun a ha => ?_) hc
  match a, ha with
  | ⟨0, _⟩, _ => rfl
  | ⟨1, _⟩, _ => rfl
  | ⟨2, _⟩, ha => exact absurd rfl ha

section Eight

variable (x0 : S4096x16x64.Idx → EReal) (x1 x2 x3 x4 x5 x6 : S4096x16x1.Idx → EReal) (x7 : S4096x16x58.Idx → EReal)

/-- 64 lanes, six columns and a filling of 58. -/
def join8 : S4096x16x128.Idx → EReal :=
  concatenate S4096x16x128 2 [⟨S4096x16x64, x0⟩, ⟨S4096x16x1, x1⟩, ⟨S4096x16x1, x2⟩, ⟨S4096x16x1, x3⟩, ⟨S4096x16x1, x4⟩, ⟨S4096x16x1, x5⟩,
    ⟨S4096x16x1, x6⟩, ⟨S4096x16x58, x7⟩]
    concatenates_S4096x16x64_S4096x16x1_S4096x16x1_S4096x16x1_S4096x16x1_S4096x16x1_S4096x16x1_S4096x16x58_S4096x16x128_d2

variable (s : Fin 4096) (H : Fin 16)

theorem join8_low (d : Fin 64) : join8 x0 x1 x2 x3 x4 x5 x6 x7 (ix3 s H (low d)) = x0 (ix3 s H d) := by
  unfold join8
  refine piece _ _ 0 ?_ 64 x0 ?_ 0 ?_ s H d (low d) ?_
  · exact (by decide : 0 < 8)
  · rfl
  · rfl
  · exact (Nat.zero_add _)

theorem join8_1 : join8 x0 x1 x2 x3 x4 x5 x6 x7 (ix3 s H 64) = x1 (ix3 s H 0) := by
  unfold join8
  refine piece _ _ 1 ?_ 1 x1 ?_ 64 ?_ s H 0 64 ?_
  · exact (by decide : 1 < 8)
  · rfl
  · rfl
  · exact rfl

theorem join8_2 : join8 x0 x1 x2 x3 x4 x5 x6 x7 (ix3 s H 65) = x2 (ix3 s H 0) := by
  unfold join8
  refine piece _ _ 2 ?_ 1 x2 ?_ 65 ?_ s H 0 65 ?_
  · exact (by decide : 2 < 8)
  · rfl
  · rfl
  · exact rfl

theorem join8_3 : join8 x0 x1 x2 x3 x4 x5 x6 x7 (ix3 s H 66) = x3 (ix3 s H 0) := by
  unfold join8
  refine piece _ _ 3 ?_ 1 x3 ?_ 66 ?_ s H 0 66 ?_
  · exact (by decide : 3 < 8)
  · rfl
  · rfl
  · exact rfl

theorem join8_4 : join8 x0 x1 x2 x3 x4 x5 x6 x7 (ix3 s H 67) = x4 (ix3 s H 0) := by
  unfold join8
  refine piece _ _ 4 ?_ 1 x4 ?_ 67 ?_ s H 0 67 ?_
  · exact (by decide : 4 < 8)
  · rfl
  · rfl
  · exact rfl

theorem join8_5 : join8 x0 x1 x2 x3 x4 x5 x6 x7 (ix3 s H 68) = x5 (ix3 s H 0) := by
  unfold join8
  refine piece _ _ 5 ?_ 1 x5 ?_ 68 ?_ s H 0 68 ?_
  · exact (by decide : 5 < 8)
  · rfl
  · rfl
  · exact rfl

theorem join8_6 : join8 x0 x1 x2 x3 x4 x5 x6 x7 (ix3 s H 69) = x6 (ix3 s H 0) := by
  unfold join8
  refine piece _ _ 6 ?_ 1 x6 ?_ 69 ?_ s H 0 69 ?_
  · exact (by decide : 6 < 8)
  · rfl
  · rfl
  · exact rfl

theorem join8_high (e : Fin 58) : join8 x0 x1 x2 x3 x4 x5 x6 x7 (ix3 s H (high e)) = x7 (ix3 s H e) := by
  unfold join8
  refine piece _ _ 7 ?_ 58 x7 ?_ 70 ?_ s H e (high e) ?_
  · exact (by decide : 7 < 8)
  · rfl
  · rfl
  · exact rfl

end Eight

section Five

variable (x0 : S4096x16x64.Idx → EReal) (x1 x2 x3 : S4096x16x1.Idx → EReal) (x4 : S4096x16x61.Idx → EReal)

/-- 64 lanes, three columns and a filling of 61. -/
def join5 : S4096x16x128.Idx → EReal :=
  concatenate S4096x16x128 2 [⟨S4096x16x64, x0⟩, ⟨S4096x16x1, x1⟩, ⟨S4096x16x1, x2⟩, ⟨S4096x16x1, x3⟩, ⟨S4096x16x61, x4⟩]
    concatenates_S4096x16x64_S4096x16x1_S4096x16x1_S4096x16x1_S4096x16x61_S4096x16x128_d2

variable (s : Fin 4096) (H : Fin 16)

theorem join5_low (d : Fin 64) : join5 x0 x1 x2 x3 x4 (ix3 s H (low d)) = x0 (ix3 s H d) := by
  unfold join5
  refine piece _ _ 0 ?_ 64 x0 ?_ 0 ?_ s H d (low d) ?_
  · exact (by decide : 0 < 5)
  · rfl
  · rfl
  · exact (Nat.zero_add _)

theorem join5_1 : join5 x0 x1 x2 x3 x4 (ix3 s H 64) = x1 (ix3 s H 0) := by
  unfold join5
  refine piece _ _ 1 ?_ 1 x1 ?_ 64 ?_ s H 0 64 ?_
  · exact (by decide : 1 < 5)
  · rfl
  · rfl
  · exact rfl

theorem join5_2 : join5 x0 x1 x2 x3 x4 (ix3 s H 65) = x2 (ix3 s H 0) := by
  unfold join5
  refine piece _ _ 2 ?_ 1 x2 ?_ 65 ?_ s H 0 65 ?_
  · exact (by decide : 2 < 5)
  · rfl
  · rfl
  · exact rfl

theorem join5_3 : join5 x0 x1 x2 x3 x4 (ix3 s H 66) = x3 (ix3 s H 0) := by
  unfold join5
  refine piece _ _ 3 ?_ 1 x3 ?_ 66 ?_ s H 0 66 ?_
  · exact (by decide : 3 < 5)
  · rfl
  · rfl
  · exact rfl

theorem join5_high (e : Fin 61) : join5 x0 x1 x2 x3 x4 (ix3 s H (high' e)) = x4 (ix3 s H e) := by
  unfold join5
  refine piece _ _ 4 ?_ 61 x4 ?_ 67 ?_ s H e (high' e) ?_
  · exact (by decide : 4 < 5)
  · rfl
  · rfl
  · exact rfl

end Five

end Cert.KernelIdeal.Joins

end
-- ==== Proof.Model.lean ====
/- What the kernel's body computes, as plain functions of its blocks, over any interpretation of the floats: one
   block of queries against one block of keys, the trips over the query blocks, and the three blocks a grid point leaves. -/
module

public import proofs.«01_k».proof.Proof.Gen.KernelIdeal
public import proofs.«01_k».proof.Proof.Gen.KernelIdeal.Skeleton
public import Idealize.ShloMosaic.Lib.VecWindow

@[expose] public section

set_option maxRecDepth 16384

noncomputable section

namespace Cert.KernelIdeal.Fox

open Cert.KernelIdeal Cert.KernelIdeal.Gen
open Idealize.ShloMosaic Idealize.ShloMosaic.TcCoe

variable {F : FTy → Type} [FloatOps F]

/-! ## Where a trip reads and writes -/

theorem trips1 : ∀ i : grid0.Coords, (k0_t1_loop i).trips = 1 := by decide +kernel
theorem trips2 : ∀ i : grid0.Coords, (k0_t2_loop i).trips = 0 := by decide +kernel
theorem trips3 : ∀ i : grid0.Coords, (k0_t3_loop i).trips = 3 - (i 1).val / 2 := by decide +kernel
theorem trips4 : ∀ i : grid0.Coords, (k0_t4_loop i).trips = 0 := by decide +kernel

/-- The query block of the masked trip: the one the key block's rows lie in. -/
def blk1 (i : grid0.Coords) (k : Fin (k0_t1_loop i).trips) : Fin 4 :=
  ⟨(i 1).val / 2, by have : (i 1).val < 8 := (i 1).isLt; omega⟩
/-- The query block of an unmasked trip: those after it. -/
def blk3 (i : grid0.Coords) (k : Fin (k0_t3_loop i).trips) : Fin 4 :=
  ⟨(i 1).val / 2 + 1 + k.val, by have := k.isLt; have := trips3 i; have : (i 1).val < 8 := (i 1).isLt; omega⟩

/-- The offsets of block `b` of head `h` in a pair's 4096 × 256 array. -/
abbrev offW (b : Fin 4) (h : Fin 2) : Fin 2 → ℕ := ![1024 * b.val, 128 * h.val]

theorem offW_le (b : Fin 4) (h : Fin 2) : ∀ a : Fin S4096x256.rank, offW b h a + S1024x128.size a ≤ S4096x256.size a := by
  revert b h; decide +kernel

theorem off1_eq : ∀ (i : grid0.Coords) (k : Fin (k0_t1_loop i).trips), k0_off1 i k = offW (blk1 i k) 0 := by decide +kernel
theorem off2_eq : ∀ (i : grid0.Coords) (k : Fin (k0_t1_loop i).trips), k0_off2 i k = offW (blk1 i k) 1 := by decide +kernel
theorem off5_eq : ∀ (i : grid0.Coords) (k : Fin (k0_t3_loop i).trips), k0_off5 i k = offW (blk3 i k) 0 := by decide +kernel
theorem off6_eq : ∀ (i : grid0.Coords) (k : Fin (k0_t3_loop i).trips), k0_off6 i k = offW (blk3 i k) 1 := by decide +kernel

/-- Block `b` of head `h` of a pair's array. -/
def win {α : Type} (x : S4096x256.Idx → α) (b : Fin 4) (h : Fin 2) : S1024x128.Idx → α :=
  VecWindow.window (s := S4096x256) x (offW b h) S1024x128.size (offW_le b h)
/-- The array with block `b` of head `h` replaced. -/
def putW {α : Type} (x : S4096x256.Idx → α) (b : Fin 4) (h : Fin 2) (w : S1024x128.Idx → α) : S4096x256.Idx → α :=
  VecWindow.put (s := S4096x256) x (offW b h) S1024x128.size w

/-! ## One block of queries against one block of keys -/

/-- The exponentials of the products of the queries and the keys. -/
def expQK (q : FVec F S1024x128 .bf16) (kb : FVec F S512x128 .bf16) : FVec F S1024x512 .f32 :=
  exp (matmul dot_S1024x128_S512x128_S1024x512_1_1_0_0_n_n none q kb (constant S1024x512 .f32 0x00000000#32))

/-- The keys at or before each query, from the word by which the key block starts after the query block. -/
def maskW (w : BitVec 32) : IVec S1024x512 1 := cmpi .sge k0_pay53 (broadcast S1024x512 w)

/-- The exponentials under the mask. -/
def expMasked (w : BitVec 32) (q : FVec F S1024x128 .bf16) (kb : FVec F S512x128 .bf16) : FVec F S1024x512 .f32 :=
  select (maskW w) (expQK q kb) (broadcast S1024x512 (Scalar.ofBits .f32 0x00000000#32))

/-- The gradient of the scores: the probabilities times the products of the cotangent and the values. -/
def dsOf (p : FVec F S1024x512 .f32) (ct : FVec F S1024x128 .bf16) (vb : FVec F S512x128 .bf16) : FVec F S1024x512 .bf16 :=
  truncf .bf16 (mulf p (matmul dot_S1024x128_S512x128_S1024x512_1_1_0_0_n_n none ct vb (constant S1024x512 .f32 0x00000000#32))) bitsLt_bf16_f32

/-- The sum over the queries of a block: a gradient of the keys (of the values) with this block's share added. -/
def addT (acc : FVec F S512x128 .f32) (a : FVec F S1024x512 .bf16) (b : FVec F S1024x128 .bf16) : FVec F S512x128 .f32 :=
  addf acc (matmul dot_S1024x512_S1024x128_S512x128_0_0_1_1_n_n none a b (constant S512x128 .f32 0x00000000#32))

/-- The sum over the keys of a block: the gradient of the queries with this block's share added. -/
def addN (acc : FVec F S1024x128 .f32) (a : FVec F S1024x512 .bf16) (b : FVec F S512x128 .bf16) : FVec F S1024x128 .f32 :=
  addf acc (matmul dot_S1024x512_S512x128_S1024x128_1_0_0_1_n_n none a b (constant S1024x128 .f32 0x00000000#32))

/-! ## One trip -/

/-- What the body carries through its loops: the two heads' key and value gradients. -/
abbrev Carry (F : FTy → Type) [FloatOps F] :=
  FVec F S512x128 .f32 × FVec F S512x128 .f32 × FVec F S512x128 .f32 × FVec F S512x128 .f32

/-- The carry after a trip over query block `b`, the two heads' probabilities being `p0` and `p1`. -/
def carryStep (p0 p1 : FVec F S1024x512 .f32) (v0 v1 : FVec F S512x128 .bf16) (x2 x3 : FVec F S4096x256 .bf16)
    (b : Fin 4) (a : Carry F) : Carry F :=
  (addT a.1 (dsOf p0 (win x3 b 0) v0) (win x2 b 0), addT a.2.1 (truncf .bf16 p0 bitsLt_bf16_f32) (win x3 b 0),
   addT a.2.2.1 (dsOf p1 (win x3 b 1) v1) (win x2 b 1), addT a.2.2.2 (truncf .bf16 p1 bitsLt_bf16_f32) (win x3 b 1))

/-- The gradient of the queries after that trip. -/
def gradStep (p0 p1 : FVec F S1024x512 .f32) (k0 k1 v0 v1 : FVec F S512x128 .bf16) (x3 : FVec F S4096x256 .bf16)
    (b : Fin 4) (d : FVec F S4096x256 .f32) : FVec F S4096x256 .f32 :=
  putW (putW d b 0 (addN (win d b 0) (dsOf p0 (win x3 b 0) v0) k0)) b 1 (addN (win d b 1) (dsOf p1 (win x3 b 1) v1) k1)

/-- The two heads' halves of a block of 512 rows. -/
def half {α : Type} (x : S512x256.Idx → α) (h : Fin 2) : S512x128.Idx → α :=
  VecWindow.window (s := S512x256) x ![0, 128 * h.val] S512x128.size (by revert h; decide +kernel)

/-- The word by which key block `j` starts after query block `b`. -/
def wordOf (arg1 : BitVec 32) (v15 : BitVec 32) (k : ℕ) : BitVec 32 :=
  Scalar.subi (Scalar.muli arg1 512#32) (Scalar.muli (Scf.iv v15 1#32 k) 1024#32)

/-- The masked trip. -/
def step1 (arg1 v15 : BitVec 32) (x2 x3 : FVec F S4096x256 .bf16) (x4 x5 : FVec F S512x256 .bf16) (k : ℕ) (b : Fin 4)
    (s : Carry F × FVec F S4096x256 .f32) : Carry F × FVec F S4096x256 .f32 :=
  (carryStep (expMasked (wordOf arg1 v15 k) (win x2 b 0) (half x4 0)) (expMasked (wordOf arg1 v15 k) (win x2 b 1) (half x4 1))
     (half x5 0) (half x5 1) x2 x3 b s.1,
   gradStep (expMasked (wordOf arg1 v15 k) (win x2 b 0) (half x4 0)) (expMasked (wordOf arg1 v15 k) (win x2 b 1) (half x4 1))
     (half x4 0) (half x4 1) (half x5 0) (half x5 1) x3 b s.2)

/-- An unmasked trip. -/
def step3 (x2 x3 : FVec F S4096x256 .bf16) (x4 x5 : FVec F S512x256 .bf16) (b : Fin 4)
    (s : Carry F × FVec F S4096x256 .f32) : Carry F × FVec F S4096x256 .f32 :=
  (carryStep (expQK (win x2 b 0) (half x4 0)) (expQK (win x2 b 1) (half x4 1)) (half x5 0) (half x5 1) x2 x3 b s.1,
   gradStep (expQK (win x2 b 0) (half x4 0)) (expQK (win x2 b 1) (half x4 1)) (half x4 0) (half x4 1) (half x5 0) (half x5 1) x3 b s.2)

/-- The state after `k` masked trips. -/
def state1 (i : grid0.Coords) (arg1 v15 : BitVec 32) (x2 x3 : FVec F S4096x256 .bf16) (x4 x5 : FVec F S512x256 .bf16)
    (s : Carry F × FVec F S4096x256 .f32) : ℕ → Carry F × FVec F S4096x256 .f32
  | 0 => s
  | k + 1 => if h : k < (k0_t1_loop i).trips then step1 arg1 v15 x2 x3 x4 x5 k (blk1 i ⟨k, h⟩) (state1 i arg1 v15 x2 x3 x4 x5 s k)
      else state1 i arg1 v15 x2 x3 x4 x5 s k

/-- The state after `k` unmasked trips. -/
def state3 (i : grid0.Coords) (x2 x3 : FVec F S4096x256 .bf16) (x4 x5 : FVec F S512x256 .bf16)
    (s : Carry F × FVec F S4096x256 .f32) : ℕ → Carry F × FVec F S4096x256 .f32
  | 0 => s
  | k + 1 => if h : k < (k0_t3_loop i).trips then step3 x2 x3 x4 x5 (blk3 i ⟨k, h⟩) (state3 i x2 x3 x4 x5 s k)
      else state3 i x2 x3 x4 x5 s k

/-! ## A grid point -/

/-- The grid point's second coordinate as a word, -/
def jw (i : grid0.Coords) : BitVec 32 := BitVec.ofNat 32 (i 1).val
/-- and the first query block it meets. -/
def fw (i : grid0.Coords) : BitVec 32 := Scalar.divsi (Scalar.muli (jw i) 512#32) 1024#32

/-- The state a grid point ends with, from the gradient of the queries `d` it finds. -/
def pointState (i : grid0.Coords) (x2 x3 : FVec F S4096x256 .bf16) (x4 x5 : FVec F S512x256 .bf16)
    (d : FVec F S4096x256 .f32) : Carry F × FVec F S4096x256 .f32 :=
  state3 i x2 x3 x4 x5 (state1 i (jw i) (fw i) x2 x3 x4 x5 ((k0_pay58, k0_pay58, k0_pay58, k0_pay58), d) (k0_t1_loop i).trips)
    (k0_t3_loop i).trips

/-- What a point writes of the gradient of the keys: the two heads side by side. -/
def keyOut (a : Carry F) : FVec F S512x256 .f32 :=
  VecWindow.put (s := S512x256) (VecWindow.put (s := S512x256) (fun _ => Scalar.ofBits .f32 0x00000000#32) ![0, 0] S512x128.size a.1)
    ![0, 128] S512x128.size a.2.2.1

/-- What a point writes of the gradient of the values: the first 64 columns of each head side by side. -/
def valueOut (a : Carry F) : FVec F S512x128 .bf16 := k0_pay5 a.2.1 a.2.2.2

end Cert.KernelIdeal.Fox

end
-- ==== Proof.Blocks.lean ====
/- The body's arithmetic over the extended reals: what a trip over a block of queries adds to the gradients, entry by entry. -/
module

public import proofs.«01_k».proof.Proof.Model
public import Idealize.ShloMosaic.Lib.ValueIdx
public import Idealize.ShloMosaic.Lib.WordCmp
public import Idealize.ShloMosaic.PureOps.Ideal.Laws

@[expose] public section

set_option maxRecDepth 16384

noncomputable section

namespace Cert.KernelIdeal.Fox

open Cert.KernelIdeal Cert.KernelIdeal.Gen
open Idealize.ShloMosaic Idealize.ShloMosaic.TcCoe Idealize.ShloMosaic.ValueIdx
open scoped BigOperators

/-! ## Where an entry of a block lies -/

/-- Row `r` of query block `b`. -/
def rowOf (b : Fin 4) (r : Fin 1024) : Fin 4096 := ⟨1024 * b.val + r.val, by omega⟩
/-- Lane `c` of head `h` of a pair. -/
def laneOf (h : Fin 2) (c : Fin 128) : Fin 256 := ⟨128 * h.val + c.val, by omega⟩

theorem win_apply {α : Type} (x : S4096x256.Idx → α) (b : Fin 4) (h : Fin 2) (r : Fin 1024) (c : Fin 128) :
    win x b h (ix2 r c) = x (ix2 (rowOf b r) (laneOf h c)) :=
  congrArg x (funext fun a => Fin.ext (by
    match a with
    | ⟨0, _⟩ => show 1024 * b.val + 1 * r.val = 1024 * b.val + r.val; omega
    | ⟨1, _⟩ => show 128 * h.val + 1 * c.val = 128 * h.val + c.val; omega))

theorem half_apply {α : Type} (x : S512x256.Idx → α) (h : Fin 2) (k : Fin 512) (c : Fin 128) :
    half x h (ix2 k c) = x (ix2 k (laneOf h c)) :=
  congrArg x (funext fun a => Fin.ext (by
    match a with
    | ⟨0, _⟩ => show 0 + 1 * k.val = k.val; omega
    | ⟨1, _⟩ => show 128 * h.val + 1 * c.val = 128 * h.val + c.val; omega))

theorem win_putW_same {α : Type} (x : S4096x256.Idx → α) (b : Fin 4) (h : Fin 2) (w : S1024x128.Idx → α) :
    win (putW x b h w) b h = w := VecWindow.window_put_same (s := S4096x256) x (offW b h) S1024x128.size (offW_le b h) w

theorem win_putW_row {α : Type} (x : S4096x256.Idx → α) (b b' : Fin 4) (h h' : Fin 2) (w : S1024x128.Idx → α) (e : b' ≠ b) :
    win (putW x b h w) b' h' = win x b' h' :=
  VecWindow.window_put_of_disjoint (s := S4096x256) x (offW b h) S1024x128.size (offW b' h') S1024x128.size (offW_le b' h') w 0 (by
    have : b'.val ≠ b.val := fun h => e (Fin.ext h)
    show 1024 * b'.val + 1024 ≤ 1024 * b.val ∨ 1024 * b.val + 1024 ≤ 1024 * b'.val
    omega)

theorem win_putW_head {α : Type} (x : S4096x256.Idx → α) (b b' : Fin 4) (h h' : Fin 2) (w : S1024x128.Idx → α) (e : h' ≠ h) :
    win (putW x b h w) b' h' = win x b' h' :=
  VecWindow.window_put_of_disjoint (s := S4096x256) x (offW b h) S1024x128.size (offW b' h') S1024x128.size (offW_le b' h') w 1 (by
    have : h'.val ≠ h.val := fun h => e (Fin.ext h)
    show 128 * h'.val + 128 ≤ 128 * h.val ∨ 128 * h.val + 128 ≤ 128 * h'.val
    omega)

/-! ## The three products of a block -/

/-- The products of the rows of two blocks. -/
theorem rows_apply (a : FVec Ideal S1024x128 .bf16) (b : FVec Ideal S512x128 .bf16) (r : Fin 1024) (k : Fin 512) :
    matmul dot_S1024x128_S512x128_S1024x512_1_1_0_0_n_n none a b (constant S1024x512 .f32 0x00000000#32) (ix2 r k)
      = ∑ c : Fin 128, a (ix2 r c) * b (ix2 k c) := by
  simp only [matmul]
  rw [Ideal.matmul_constant_zero_apply, ← Equiv.sum_comp (contrEquiv1 dot_S1024x128_S512x128_S1024x512_1_1_0_0_n_n 128 rfl rfl).symm]
  refine Finset.sum_congr rfl fun c _ => ?_
  have hc := contrEquiv1_symm_val dot_S1024x128_S512x128_S1024x512_1_1_0_0_n_n 128 rfl rfl c
  refine congrArg₂ (· * ·) (congrArg a (funext fun x => Fin.ext ?_)) (congrArg b (funext fun x => Fin.ext ?_))
  · match x with
    | ⟨0, _⟩ => rfl
    | ⟨1, _⟩ => exact (DotDims.lhsIdx_val_of_single _ rfl _ _).trans hc
  · match x with
    | ⟨0, _⟩ => rfl
    | ⟨1, _⟩ => exact (DotDims.rhsIdx_val_of_single _ rfl _ _).trans hc

theorem addT_apply (acc : FVec Ideal S512x128 .f32) (a : FVec Ideal S1024x512 .bf16) (b : FVec Ideal S1024x128 .bf16) (k : Fin 512) (c : Fin 128) :
    addT acc a b (ix2 k c) = acc (ix2 k c) + ∑ r : Fin 1024, a (ix2 r k) * b (ix2 r c) := by
  unfold addT
  rw [addf_apply]
  refine congrArg (_ + ·) ?_
  simp only [matmul]
  rw [Ideal.matmul_constant_zero_apply, ← Equiv.sum_comp (contrEquiv1 dot_S1024x512_S1024x128_S512x128_0_0_1_1_n_n 1024 rfl rfl).symm]
  refine Finset.sum_congr rfl fun r _ => ?_
  have hc := contrEquiv1_symm_val dot_S1024x512_S1024x128_S512x128_0_0_1_1_n_n 1024 rfl rfl r
  refine congrArg₂ (· * ·) (congrArg a (funext fun x => Fin.ext ?_)) (congrArg b (funext fun x => Fin.ext ?_))
  · match x with
    | ⟨0, _⟩ => exact (DotDims.lhsIdx_val_of_single _ rfl _ _).trans hc
    | ⟨1, _⟩ => rfl
  · match x with
    | ⟨0, _⟩ => exact (DotDims.rhsIdx_val_of_single _ rfl _ _).trans hc
    | ⟨1, _⟩ => rfl

theorem addN_apply (acc : FVec Ideal S1024x128 .f32) (a : FVec Ideal S1024x512 .bf16) (b : FVec Ideal S512x128 .bf16) (r : Fin 1024) (c : Fin 128) :
    addN acc a b (ix2 r c) = acc (ix2 r c) + ∑ k : Fin 512, a (ix2 r k) * b (ix2 k c) := by
  unfold addN
  rw [addf_apply]
  refine congrArg (_ + ·) ?_
  simp only [matmul]
  rw [Ideal.matmul_constant_zero_apply, ← Equiv.sum_comp (contrEquiv1 dot_S1024x512_S512x128_S1024x128_1_0_0_1_n_n 512 rfl rfl).symm]
  refine Finset.sum_congr rfl fun k _ => ?_
  have hc := contrEquiv1_symm_val dot_S1024x512_S512x128_S1024x128_1_0_0_1_n_n 512 rfl rfl k
  refine congrArg₂ (· * ·) (congrArg a (funext fun x => Fin.ext ?_)) (congrArg b (funext fun x => Fin.ext ?_))
  · match x with
    | ⟨0, _⟩ => rfl
    | ⟨1, _⟩ => exact (DotDims.lhsIdx_val_of_single _ rfl _ _).trans hc
  · match x with
    | ⟨0, _⟩ => exact (DotDims.rhsIdx_val_of_single _ rfl _ _).trans hc
    | ⟨1, _⟩ => rfl

theorem expQK_apply (q : FVec Ideal S1024x128 .bf16) (kb : FVec Ideal S512x128 .bf16) (r : Fin 1024) (k : Fin 512) :
    expQK q kb (ix2 r k) = Ideal.exp (∑ c : Fin 128, q (ix2 r c) * kb (ix2 k c)) :=
  congrArg Ideal.exp (rows_apply q kb r k)

theorem dsOf_apply (p : FVec Ideal S1024x512 .f32) (ct : FVec Ideal S1024x128 .bf16) (vb : FVec Ideal S512x128 .bf16) (r : Fin 1024) (k : Fin 512) :
    dsOf p ct vb (ix2 r k) = p (ix2 r k) * ∑ c : Fin 128, ct (ix2 r c) * vb (ix2 k c) :=
  congrArg (p (ix2 r k) * ·) (rows_apply ct vb r k)

/-! ## The mask -/

/-- The masked trip's word: half a query block when the key block is its second half. -/
theorem word_eq : ∀ i : grid0.Coords, wordOf (jw i) (fw i) 0 = BitVec.ofNat 32 (512 * ((i 1).val % 2)) := by decide +kernel

theorem maskW_apply (e : ℕ) (he : e < 2) (r : Fin 1024) (k : Fin 512) :
    maskW (BitVec.ofNat 32 (512 * e)) (ix2 r k) = 1#1 ↔ 512 * e + k.val ≤ r.val := by
  show IntOp.cmpi .sge (k0_pay53 (ix2 r k)) (BitVec.ofNat 32 (512 * e)) = 1#1 ↔ 512 * e + k.val ≤ r.val
  have e0 : k0_pay53 (ix2 r k) = IntOp.subi (BitVec.ofNat 32 r.val) (BitVec.ofNat 32 k.val) := by
    show IntOp.subi (BitVec.ofNat 32 (0 * 1024 + r.val)) (BitVec.ofNat 32 (0 * 512 + k.val)) = _
    simp only [Nat.zero_mul, Nat.zero_add]
  rw [e0]
  have hr := r.isLt
  have hk := k.isLt
  have e1 : (BitVec.ofNat 32 r.val).toInt = (r.val : ℤ) := WordCmp.toInt_ofNat_of_lt (by omega)
  have e2 : (BitVec.ofNat 32 k.val).toInt = (k.val : ℤ) := WordCmp.toInt_ofNat_of_lt (by omega)
  have e3 : (BitVec.ofNat 32 (512 * e)).toInt = ((512 * e : ℕ) : ℤ) := WordCmp.toInt_ofNat_of_lt (by omega)
  have e4 : (BitVec.ofNat 32 r.val - BitVec.ofNat 32 k.val).toInt = (r.val : Int) - k.val := by
    rw [BitVec.toInt_sub, e1, e2]; simp [Int.bmod]; omega
  simp only [IntOp.cmpi, IntOp.subi, BitVec.sle, e3, e4]
  by_cases h : 512 * e + k.val ≤ r.val
  · rw [decide_eq_true (by push_cast; omega)]; simp [h]
  · rw [decide_eq_false (by push_cast; omega)]; simp [h]

/-! ## A block's shares -/

section Shares
variable (j : ℕ) (x2 x3 : FVec Ideal S4096x256 .bf16) (x4 x5 : FVec Ideal S512x256 .bf16)

/-- Key block `j`'s probability at key `k` of the query in row `r` of block `b`: zero at keys after the query. -/
def prob (h : Fin 2) (b : Fin 4) (r : Fin 1024) (k : Fin 512) : EReal :=
  if 512 * j + k.val ≤ 1024 * b.val + r.val then Ideal.exp (∑ c : Fin 128, win x2 b h (ix2 r c) * half x4 h (ix2 k c)) else 0

/-- The gradient of the score there. -/
def dsc (h : Fin 2) (b : Fin 4) (r : Fin 1024) (k : Fin 512) : EReal :=
  prob j x2 x4 h b r k * ∑ c : Fin 128, win x3 b h (ix2 r c) * half x5 h (ix2 k c)

/-- What block `b` adds to the gradient of the keys, -/
def keyShare (h : Fin 2) (b : Fin 4) (k : Fin 512) (c : Fin 128) : EReal :=
  ∑ r : Fin 1024, dsc j x2 x3 x4 x5 h b r k * win x2 b h (ix2 r c)
/-- of the values, -/
def valShare (h : Fin 2) (b : Fin 4) (k : Fin 512) (c : Fin 128) : EReal :=
  ∑ r : Fin 1024, prob j x2 x4 h b r k * win x3 b h (ix2 r c)
/-- and what the key block adds to the gradient of its queries. -/
def queryShare (h : Fin 2) (b : Fin 4) (r : Fin 1024) (c : Fin 128) : EReal :=
  ∑ k : Fin 512, dsc j x2 x3 x4 x5 h b r k * half x4 h (ix2 k c)

/-- The key gradient of head `h` in a carry, -/
def keyOf (a : Carry Ideal) (h : Fin 2) : FVec Ideal S512x128 .f32 := if h = 0 then a.1 else a.2.2.1
/-- and the value gradient. -/
def valOf (a : Carry Ideal) (h : Fin 2) : FVec Ideal S512x128 .f32 := if h = 0 then a.2.1 else a.2.2.2

/-- The state when the query blocks below `n` have been met. -/
structure Met (d : FVec Ideal S4096x256 .f32) (n : ℕ) (s : Carry Ideal × FVec Ideal S4096x256 .f32) : Prop where
  key : ∀ h k c, keyOf s.1 h (ix2 k c) = ∑ b : Fin 4, if b.val < n then keyShare j x2 x3 x4 x5 h b k c else 0
  val : ∀ h k c, valOf s.1 h (ix2 k c) = ∑ b : Fin 4, if b.val < n then valShare j x2 x3 x4 h b k c else 0
  query : ∀ h b r c, win s.2 b h (ix2 r c) = win d b h (ix2 r c) + if b.val < n then queryShare j x2 x3 x4 x5 h b r c else 0

/-- A trip over block `b`, the two heads' probabilities being `p`. -/
def step (p : Fin 2 → FVec Ideal S1024x512 .f32) (b : Fin 4) (s : Carry Ideal × FVec Ideal S4096x256 .f32) :
    Carry Ideal × FVec Ideal S4096x256 .f32 :=
  (carryStep (p 0) (p 1) (half x5 0) (half x5 1) x2 x3 b s.1,
   gradStep (p 0) (p 1) (half x4 0) (half x4 1) (half x5 0) (half x5 1) x3 b s.2)

theorem sum_lt_succ (f : Fin 4 → EReal) (n : Fin 4) :
    (∑ b : Fin 4, if b.val < n.val + 1 then f b else 0) = (∑ b : Fin 4, if b.val < n.val then f b else 0) + f n := by
  have : ∀ b : Fin 4, (if b.val < n.val + 1 then f b else 0) = (if b.val < n.val then f b else 0) + if b = n then f b else 0 := by
    intro b
    by_cases h : b = n
    · subst h; simp
    · have : b.val ≠ n.val := fun e => h (Fin.ext e)
      by_cases h2 : b.val < n.val
      · rw [if_pos (by omega), if_pos h2, if_neg h, add_zero]
      · rw [if_neg (by omega), if_neg h2, if_neg h, add_zero]
  rw [Finset.sum_congr rfl fun b _ => this b, Finset.sum_add_distrib, Finset.sum_ite_eq' Finset.univ n f, if_pos (Finset.mem_univ n)]

theorem Met.step {d : FVec Ideal S4096x256 .f32} {n : Fin 4} {s : Carry Ideal × FVec Ideal S4096x256 .f32}
    (H : Met j x2 x3 x4 x5 d n.val s) (p : Fin 2 → FVec Ideal S1024x512 .f32)
    (hp : ∀ h r k, p h (ix2 r k) = prob j x2 x4 h n r k) : Met j x2 x3 x4 x5 d (n.val + 1) (step x2 x3 x4 x5 p n s) where
  key h k c := by
    rw [sum_lt_succ, ← H.key]
    have e : keyOf (Fox.step x2 x3 x4 x5 p n s).1 h = addT (keyOf s.1 h) (dsOf (p h) (win x3 n h) (half x5 h)) (win x2 n h) := by
      fin_cases h <;> rfl
    rw [e, addT_apply]
    refine congrArg (_ + ·) (Finset.sum_congr rfl fun r _ => ?_)
    rw [dsOf_apply, hp]; rfl
  val h k c := by
    rw [sum_lt_succ, ← H.val]
    have e : valOf (Fox.step x2 x3 x4 x5 p n s).1 h = addT (valOf s.1 h) (truncf .bf16 (p h) bitsLt_bf16_f32) (win x3 n h) := by
      fin_cases h <;> rfl
    rw [e, addT_apply]
    refine congrArg (_ + ·) (Finset.sum_congr rfl fun r _ => ?_)
    rw [truncf_apply, hp]
  query h b r c := by
    by_cases hb : b = n
    · subst hb
      have e : win (Fox.step x2 x3 x4 x5 p b s).2 b h = addN (win s.2 b h) (dsOf (p h) (win x3 b h) (half x5 h)) (half x4 h) := by
        show win (putW (putW _ _ _ _) _ _ _) _ _ = _
        fin_cases h
        · exact (win_putW_head _ b b 1 0 _ (by decide)).trans (win_putW_same _ b 0 _)
        · exact (win_putW_same _ b 1 _)
      have q := H.query h b r c
      rw [if_neg (Nat.lt_irrefl _), add_zero] at q
      rw [e, addN_apply, q, if_pos (Nat.lt_succ_self _)]
      refine congrArg (_ + ·) (Finset.sum_congr rfl fun k _ => ?_)
      rw [dsOf_apply, hp]; rfl
    · have e : win (Fox.step x2 x3 x4 x5 p n s).2 b h = win s.2 b h := by
        show win (putW (putW _ _ _ _) _ _ _) _ _ = _
        rw [win_putW_row _ _ _ _ _ _ hb, win_putW_row _ _ _ _ _ _ hb]
      rw [e, H.query]
      have : b.val ≠ n.val := fun e => hb (Fin.ext e)
      by_cases h2 : b.val < n.val
      · rw [if_pos h2, if_pos (by omega)]
      · rw [if_neg h2, if_neg (by omega)]

/-- A query block before the key block has no share: each of its probabilities is zero. -/
theorem prob_before (h : Fin 2) (b : Fin 4) (hb : b.val < j / 2) (r : Fin 1024) (k : Fin 512) : prob j x2 x4 h b r k = 0 :=
  if_neg (by omega)
theorem dsc_before (h : Fin 2) (b : Fin 4) (hb : b.val < j / 2) (r : Fin 1024) (k : Fin 512) : dsc j x2 x3 x4 x5 h b r k = 0 := by
  unfold dsc; rw [prob_before j x2 x4 h b hb, zero_mul]
theorem keyShare_before (h : Fin 2) (b : Fin 4) (hb : b.val < j / 2) (k : Fin 512) (c : Fin 128) : keyShare j x2 x3 x4 x5 h b k c = 0 :=
  Finset.sum_eq_zero fun r _ => by rw [dsc_before j x2 x3 x4 x5 h b hb, zero_mul]
theorem valShare_before (h : Fin 2) (b : Fin 4) (hb : b.val < j / 2) (k : Fin 512) (c : Fin 128) : valShare j x2 x3 x4 h b k c = 0 :=
  Finset.sum_eq_zero fun r _ => by rw [prob_before j x2 x4 h b hb, zero_mul]
theorem queryShare_before (h : Fin 2) (b : Fin 4) (hb : b.val < j / 2) (r : Fin 1024) (c : Fin 128) : queryShare j x2 x3 x4 x5 h b r c = 0 :=
  Finset.sum_eq_zero fun k _ => by rw [dsc_before j x2 x3 x4 x5 h b hb, zero_mul]

theorem zero_word : (Scalar.ofBits .f32 0x00000000#32 : Ideal .f32) = 0 := Ideal.ofBits_zero_f32

/-- Before any trip. -/
theorem Met.start (d : FVec Ideal S4096x256 .f32) : Met j x2 x3 x4 x5 d (j / 2) ((k0_pay58, k0_pay58, k0_pay58, k0_pay58), d) where
  key h k c := by
    rw [Finset.sum_eq_zero fun b _ => ?_]
    · fin_cases h <;> exact zero_word
    · split
      · exact keyShare_before _ _ _ _ _ _ _ (by assumption) _ _
      · rfl
  val h k c := by
    rw [Finset.sum_eq_zero fun b _ => ?_]
    · fin_cases h <;> exact zero_word
    · split
      · exact valShare_before _ _ _ _ _ _ (by assumption) _ _
      · rfl
  query h b r c := by
    split
    · rw [queryShare_before _ _ _ _ _ _ _ (by assumption), add_zero]
    · rw [add_zero]

end Shares

/-! ## A grid point -/

theorem masked_prob (i : grid0.Coords) (x2 : FVec Ideal S4096x256 .bf16) (x4 : FVec Ideal S512x256 .bf16) (h : Fin 2) (b : Fin 4)
    (hb : b.val = (i 1).val / 2) (r : Fin 1024) (k : Fin 512) :
    expMasked (wordOf (jw i) (fw i) 0) (win x2 b h) (half x4 h) (ix2 r k) = prob (i 1).val x2 x4 h b r k := by
  unfold expMasked prob
  rw [word_eq, select_apply, expQK_apply, broadcast_apply, zero_word]
  have hm := maskW_apply ((i 1).val % 2) (by omega) r k
  show (if maskW (BitVec.ofNat 32 (512 * ((i 1).val % 2))) (ix2 r k) = 1#1 then _ else _) = _
  by_cases hc : 512 * ((i 1).val % 2) + k.val ≤ r.val
  · rw [if_pos (hm.mpr hc), if_pos (by omega)]
  · rw [if_neg (fun e => hc (hm.mp e)), if_neg (by omega)]

theorem unmasked_prob (i : grid0.Coords) (x2 : FVec Ideal S4096x256 .bf16) (x4 : FVec Ideal S512x256 .bf16) (h : Fin 2) (b : Fin 4)
    (hb : (i 1).val / 2 < b.val) (r : Fin 1024) (k : Fin 512) :
    expQK (win x2 b h) (half x4 h) (ix2 r k) = prob (i 1).val x2 x4 h b r k := by
  unfold prob
  rw [expQK_apply, if_pos (by omega)]

theorem step1_eq (a v : BitVec 32) (x2 x3 : FVec Ideal S4096x256 .bf16) (x4 x5 : FVec Ideal S512x256 .bf16) (k : ℕ) (b : Fin 4)
    (s : Carry Ideal × FVec Ideal S4096x256 .f32) :
    step1 a v x2 x3 x4 x5 k b s = step x2 x3 x4 x5 (fun h => expMasked (wordOf a v k) (win x2 b h) (half x4 h)) b s := rfl
theorem step3_eq (x2 x3 : FVec Ideal S4096x256 .bf16) (x4 x5 : FVec Ideal S512x256 .bf16) (b : Fin 4)
    (s : Carry Ideal × FVec Ideal S4096x256 .f32) :
    step3 x2 x3 x4 x5 b s = step x2 x3 x4 x5 (fun h => expQK (win x2 b h) (half x4 h)) b s := rfl

section Point
variable (i : grid0.Coords) (x2 x3 : FVec Ideal S4096x256 .bf16) (x4 x5 : FVec Ideal S512x256 .bf16) (d : FVec Ideal S4096x256 .f32)

/-- After the masked trip the key block's own query block has been met. -/
theorem met_masked (s : Carry Ideal × FVec Ideal S4096x256 .f32) (H : Met (i 1).val x2 x3 x4 x5 d ((i 1).val / 2) s) (n : ℕ) (hn : n = 1) :
    Met (i 1).val x2 x3 x4 x5 d ((i 1).val / 2 + 1) (state1 i (jw i) (fw i) x2 x3 x4 x5 s n) := by
  subst hn
  have h0 : 0 < (k0_t1_loop i).trips := by rw [trips1]; decide
  have e : state1 i (jw i) (fw i) x2 x3 x4 x5 s 1 = step1 (jw i) (fw i) x2 x3 x4 x5 0 (blk1 i ⟨0, h0⟩) s := by
    rw [state1, dif_pos h0, state1]
  rw [e, step1_eq]
  have H' : Met (i 1).val x2 x3 x4 x5 d (blk1 i ⟨0, h0⟩).val s := H
  exact Met.step _ _ _ _ _ H' _ (fun h r k => masked_prob i x2 x4 h _ rfl r k)

/-- Each unmasked trip meets one block more. -/
theorem met_unmasked (s : Carry Ideal × FVec Ideal S4096x256 .f32) (H : Met (i 1).val x2 x3 x4 x5 d ((i 1).val / 2 + 1) s) :
    ∀ n, n ≤ (k0_t3_loop i).trips → Met (i 1).val x2 x3 x4 x5 d ((i 1).val / 2 + 1 + n) (state3 i x2 x3 x4 x5 s n) := by
  intro n
  induction n with
  | zero => intro _; exact H
  | succ n ih =>
    intro hn
    have hlt : n < (k0_t3_loop i).trips := hn
    have e : state3 i x2 x3 x4 x5 s (n + 1) = step3 x2 x3 x4 x5 (blk3 i ⟨n, hlt⟩) (state3 i x2 x3 x4 x5 s n) := by
      rw [state3, dif_pos hlt]
    rw [e, step3_eq]
    have H' : Met (i 1).val x2 x3 x4 x5 d (blk3 i ⟨n, hlt⟩).val (state3 i x2 x3 x4 x5 s n) := ih (Nat.le_of_lt hlt)
    exact Met.step _ _ _ _ _ H' _ (fun h r k => unmasked_prob i x2 x4 h _
      (by show (i 1).val / 2 < (i 1).val / 2 + 1 + n; omega) r k)

/-- What a grid point leaves: every query block met. -/
theorem met_point : Met (i 1).val x2 x3 x4 x5 d 4 (pointState i x2 x3 x4 x5 d) := by
  have hi : (i 1).val < 8 := (i 1).isLt
  have h := met_unmasked i x2 x3 x4 x5 d _ (met_masked i x2 x3 x4 x5 d _ (Met.start (i 1).val x2 x3 x4 x5 d) _ (trips1 i)) _ le_rfl
  have e : (i 1).val / 2 + 1 + (k0_t3_loop i).trips = 4 := by rw [trips3]; omega
  rw [e] at h
  exact h

end Point

end Cert.KernelIdeal.Fox

end
-- ==== Proof.Trips.lean ====
/- The kernel's loops run once per trip: the masked one, the unmasked ones, and the two that make no trip. -/
module

public import proofs.«01_k».proof.Proof.Model
public import proofs.«01_k».proof.Proof.Gen.KernelIdeal.Loops
public import Idealize.ShloMosaic.Lib.Exec
public import Idealize.ShloMosaic.Lib.Pipeline.Value
public import Idealize.ShloMosaic.Lib.Tactic

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem off1_lit (i : grid0.Coords) (k : Fin (k0_t1_loop i).trips) : k0_off1 i k = ![1024 * ((i 1).val / 2), 0] := off1_eq i k
theorem off2_lit (i : grid0.Coords) (k : Fin (k0_t1_loop i).trips) : k0_off2 i k = ![1024 * ((i 1).val / 2), 128] := off2_eq i k
instance (i : grid0.Coords) (k : Fin (k0_t1_loop i).trips) : ClosedOff (k0_off1 i k) := ⟨_, off1_lit i k⟩
instance (i : grid0.Coords) (k : Fin (k0_t1_loop i).trips) : ClosedOff (k0_off2 i k) := ⟨_, off2_lit i k⟩

variable (c : Dev nD) (i : grid0.Coords)
  (arg2 : Memref sig .tc .vmem S4096x256 .bf16) (harg2 : arg2.IsWhole) (arg3 : Memref sig .tc .vmem S4096x256 .bf16) (harg3 : arg3.IsWhole)
  (arg4 : Memref sig .tc .vmem S512x256 .bf16) (harg4 : arg4.IsWhole) (arg5 : Memref sig .tc .vmem S512x256 .bf16) (harg5 : arg5.IsWhole)
  (arg6 : Memref sig .tc .vmem S4096x256 .f32) (harg6 : arg6.IsWhole) (arg7 : Memref sig .tc .vmem S512x256 .f32) (harg7 : arg7.IsWhole)
  (arg8 : Memref sig .tc .vmem S512x128 .bf16) (harg8 : arg8.IsWhole)

/-- The buffers one trip touches. -/
abbrev Held (X2 : BufTy.Contents (Elt F) arg2.view.ty) (X3 : BufTy.Contents (Elt F) arg3.view.ty)
    (f : BufTy.Contents (Elt F) arg6.view.ty) : sProp 𝕄 :=
  iprop((arg2.view.loc (c : Thread nD τ) ↦[arg2.view.set]{fullShare} X2) ∗ (arg3.view.loc (c : Thread nD τ) ↦[arg3.view.set]{fullShare} X3)
    ∗ (arg6.view.loc (c : Thread nD τ) ↦[arg6.view.set]{fullShare} f))

/-! ## The loop of the masked trip -/

/-- One trip, run: what it yields and the stores it makes, as functions of the carry and of the contents it finds. -/
def trip1 (arg1 : BitVec 32) (v6 v8 v10 v12 : Vec F S512x128 .bf16) (v15 : BitVec 32)
    (X2 : BufTy.Contents (Elt F) arg2.view.ty) (X3 : BufTy.Contents (Elt F) arg3.view.ty) (k : Fin (k0_t1_loop i).trips) :
    Σ' (R : Carry F → BufTy.Contents (Elt F) arg6.view.ty → Carry F),
      { L : Carry F → BufTy.Contents (Elt F) arg6.view.ty → List (View.Piece (Elt F) S4096x256 .f32) //
        ∀ (E : Set ℕ) (acc : Carry F) (f : BufTy.Contents (Elt F) arg6.view.ty),
          Held (F := F) c arg2 arg3 arg6 X2 X3 f
          ⊢ wp frame (wpE (defs₀ (F := F)) Variants.none (c : Thread nD τ) none) E
              (k0_t1_body (F := F) i arg2 harg2 arg3 harg3 arg4 harg4 arg5 harg5 arg6 harg6 arg7 harg7 arg8 harg8 arg1 v6 v8 v10 v12 v15 k acc)
              (fun yld => iprop(⌜yld = R acc f⌝ ∗ Held (F := F) c arg2 arg3 arg6 X2 X3 (arg6.view.writes (Elt F) f (L acc f)))) } := by
  refine ⟨?_, ?_, fun E acc f => ?run⟩
  case run =>
    unfold k0_t1_body
    iintro ⟨H2, H3, H6⟩
    sl_exec
    sl_step
    sl_close

/-- The carry and the stores before trip `k`, over the contents `G` found at the loop's entry. -/
def list1 (arg1 : BitVec 32) (v6 v8 v10 v12 : Vec F S512x128 .bf16) (v15 : BitVec 32)
    (X2 : BufTy.Contents (Elt F) arg2.view.ty) (X3 : BufTy.Contents (Elt F) arg3.view.ty) (G : BufTy.Contents (Elt F) arg6.view.ty)
    (init : Carry F) : ℕ → Carry F × List (View.Piece (Elt F) S4096x256 .f32)
  | 0 => (init, [])
  | k + 1 =>
    let p := list1 arg1 v6 v8 v10 v12 v15 X2 X3 G init k
    if h : k < (k0_t1_loop i).trips then
      ((trip1 c i arg2 harg2 arg3 harg3 arg4 harg4 arg5 harg5 arg6 harg6 arg7 harg7 arg8 harg8 arg1 v6 v8 v10 v12 v15 X2 X3 ⟨k, h⟩).1 p.1 (arg6.view.writes (Elt F) G p.2),
       (trip1 c i arg2 harg2 arg3 harg3 arg4 harg4 arg5 harg5 arg6 harg6 arg7 harg7 arg8 harg8 arg1 v6 v8 v10 v12 v15 X2 X3 ⟨k, h⟩).2.1 p.1 (arg6.view.writes (Elt F) G p.2) ++ p.2)
    else p

/-- The loop's invariant: the two inputs as they were, the output with the stores of the trips before, the carry theirs. -/
abbrev inv1 (arg1 : BitVec 32) (v6 v8 v10 v12 : Vec F S512x128 .bf16) (v15 : BitVec 32)
    (X2 : BufTy.Contents (Elt F) arg2.view.ty) (X3 : BufTy.Contents (Elt F) arg3.view.ty) (G : BufTy.Contents (Elt F) arg6.view.ty)
    (init : Carry F) (k : ℕ) (acc : Carry F) : sProp 𝕄 :=
  iprop((arg2.view.loc (c : Thread nD τ) ↦[arg2.view.set]{fullShare} X2) ∗ (arg3.view.loc (c : Thread nD τ) ↦[arg3.view.set]{fullShare} X3)
    ∗ (∃ f, (arg6.view.loc (c : Thread nD τ) ↦[arg6.view.set]{fullShare} f)
        ∗ ⌜f = arg6.view.writes (Elt F) G (list1 c i arg2 harg2 arg3 harg3 arg4 harg4 arg5 harg5 arg6 harg6 arg7 harg7 arg8 harg8 arg1 v6 v8 v10 v12 v15 X2 X3 G init k).2⌝)
    ∗ ⌜acc = (list1 c i arg2 harg2 arg3 harg3 arg4 harg4 arg5 harg5 arg6 harg6 arg7 harg7 arg8 harg8 arg1 v6 v8 v10 v12 v15 X2 X3 G init k).1⌝)

set_option warn.classDefReducibility false in
/-- The loop by its invariant. -/
@[sl_loop] def loop1 (E : Set ℕ) (arg1 : BitVec 32) (v6 v8 v10 v12 : Vec F S512x128 .bf16) (v15 : BitVec 32)
    (X2 : BufTy.Contents (Elt F) arg2.view.ty) (X3 : BufTy.Contents (Elt F) arg3.view.ty) (G : BufTy.Contents (Elt F) arg6.view.ty)
    (init : Carry F) :
    LoopInvTy_k0_t1 (F := F) Unit ℕ (UR sig nD τ) ℕ Variants.none c none E i arg2 harg2 arg3 harg3 arg4 harg4 arg5 harg5 arg6 harg6 arg7 harg7 arg8 harg8 arg1 v6 v8 v10 v12 v15 init where
  inv := inv1 c i arg2 harg2 arg3 harg3 arg4 harg4 arg5 harg5 arg6 harg6 arg7 harg7 arg8 harg8 arg1 v6 v8 v10 v12 v15 X2 X3 G init
  step k acc := by
    iintro ⟨H2, H3, ⟨%f, H6, %hf⟩, %hacc⟩
    subst hacc
    iapply (wp_wand_r Idealize.ShloMosaic.frame (wpE (defs₀ (F := F)) Variants.none (c : Thread nD τ) none) E)
    isplitl [H2 H3 H6]
    · iapply ((trip1 c i arg2 harg2 arg3 harg3 arg4 harg4 arg5 harg5 arg6 harg6 arg7 harg7 arg8 harg8 arg1 v6 v8 v10 v12 v15 X2 X3 k).2.2 E _ f)
      isplitl [H2]; · iexact H2
      isplitl [H3]; · iexact H3
      iexact H6
    · iintro %yld ⟨%hy, H2, H3, H6⟩
      isplitl [H2]; · iexact H2
      isplitl [H3]; · iexact H3
      have hs : list1 c i arg2 harg2 arg3 harg3 arg4 harg4 arg5 harg5 arg6 harg6 arg7 harg7 arg8 harg8 arg1 v6 v8 v10 v12 v15 X2 X3 G init (k.val + 1)
          = ((trip1 c i arg2 harg2 arg3 harg3 arg4 harg4 arg5 harg5 arg6 harg6 arg7 harg7 arg8 harg8 arg1 v6 v8 v10 v12 v15 X2 X3 k).1 (list1 c i arg2 harg2 arg3 harg3 arg4 harg4 arg5 harg5 arg6 harg6 arg7 harg7 arg8 harg8 arg1 v6 v8 v10 v12 v15 X2 X3 G init k.val).1
              (arg6.view.writes (Elt F) G (list1 c i arg2 harg2 arg3 harg3 arg4 harg4 arg5 harg5 arg6 harg6 arg7 harg7 arg8 harg8 arg1 v6 v8 v10 v12 v15 X2 X3 G init k.val).2),
             (trip1 c i arg2 harg2 arg3 harg3 arg4 harg4 arg5 harg5 arg6 harg6 arg7 harg7 arg8 harg8 arg1 v6 v8 v10 v12 v15 X2 X3 k).2.1 (list1 c i arg2 harg2 arg3 harg3 arg4 harg4 arg5 harg5 arg6 harg6 arg7 harg7 arg8 harg8 arg1 v6 v8 v10 v12 v15 X2 X3 G init k.val).1
              (arg6.view.writes (Elt F) G (list1 c i arg2 harg2 arg3 harg3 arg4 harg4 arg5 harg5 arg6 harg6 arg7 harg7 arg8 harg8 arg1 v6 v8 v10 v12 v15 X2 X3 G init k.val).2)
                ++ (list1 c i arg2 harg2 arg3 harg3 arg4 harg4 arg5 harg5 arg6 harg6 arg7 harg7 arg8 harg8 arg1 v6 v8 v10 v12 v15 X2 X3 G init k.val).2) := by
        rw [list1.eq_2]; exact dif_pos k.isLt
      rw [hs]
      isplitl [H6]
      · iexists _; isplitl [H6]; · iexact H6
        ipureintro; rw [hf, ← View.writes_append]
      ipureintro; rw [hy, hf]

/-- A trip's yield and stores are the plain step. -/
theorem trip1_eq (arg1 v15 : BitVec 32) (X2 : BufTy.Contents (Elt F) arg2.view.ty) (X3 : BufTy.Contents (Elt F) arg3.view.ty)
    (x4 x5 : FVec F S512x256 .bf16) (k : Fin (k0_t1_loop i).trips) (acc : Carry F) (f : BufTy.Contents (Elt F) arg6.view.ty) :
    ((trip1 c i arg2 harg2 arg3 harg3 arg4 harg4 arg5 harg5 arg6 harg6 arg7 harg7 arg8 harg8 arg1 (half x4 0) (half x4 1) (half x5 0) (half x5 1) v15 X2 X3 k).1 acc f,
      arg6.view.read (Elt F) (arg6.view.writes (Elt F) f ((trip1 c i arg2 harg2 arg3 harg3 arg4 harg4 arg5 harg5 arg6 harg6 arg7 harg7 arg8 harg8 arg1 (half x4 0) (half x4 1) (half x5 0) (half x5 1) v15 X2 X3 k).2.1 acc f)))
      = step1 arg1 v15 (arg2.view.read (Elt F) X2) (arg3.view.read (Elt F) X3) x4 x5 k.val (blk1 i k) (acc, arg6.view.read (Elt F) f) := by
  have h2 : ∀ X : BufTy.Contents (Elt F) arg2.view.ty, arg2.view.readAt (Elt F) (Rect.unit (s := S4096x256) (k0_off1 i k) S1024x128.size (k0_off1_inb i k)).toLoadRect X
      = win (arg2.view.read (Elt F) X) (blk1 i k) 0 := fun X => View.readAt_unit _ _ _ (off1_eq i k) _
  have h2' : ∀ X : BufTy.Contents (Elt F) arg2.view.ty, arg2.view.readAt (Elt F) (Rect.unit (s := S4096x256) (k0_off2 i k) S1024x128.size (k0_off2_inb i k)).toLoadRect X
      = win (arg2.view.read (Elt F) X) (blk1 i k) 1 := fun X => View.readAt_unit _ _ _ (off2_eq i k) _
  have h3 : ∀ X : BufTy.Contents (Elt F) arg3.view.ty, arg3.view.readAt (Elt F) (Rect.unit (s := S4096x256) (k0_off1 i k) S1024x128.size (k0_off1_inb i k)).toLoadRect X
      = win (arg3.view.read (Elt F) X) (blk1 i k) 0 := fun X => View.readAt_unit _ _ _ (off1_eq i k) _
  have h3' : ∀ X : BufTy.Contents (Elt F) arg3.view.ty, arg3.view.readAt (Elt F) (Rect.unit (s := S4096x256) (k0_off2 i k) S1024x128.size (k0_off2_inb i k)).toLoadRect X
      = win (arg3.view.read (Elt F) X) (blk1 i k) 1 := fun X => View.readAt_unit _ _ _ (off2_eq i k) _
  have h6 : ∀ X : BufTy.Contents (Elt F) arg6.view.ty, arg6.view.readAt (Elt F) (Rect.unit (s := S4096x256) (k0_off1 i k) S1024x128.size (k0_off1_inb i k)).toLoadRect X
      = win (arg6.view.read (Elt F) X) (blk1 i k) 0 := fun X => View.readAt_unit _ _ _ (off1_eq i k) _
  have h6' : ∀ X : BufTy.Contents (Elt F) arg6.view.ty, arg6.view.readAt (Elt F) (Rect.unit (s := S4096x256) (k0_off2 i k) S1024x128.size (k0_off2_inb i k)).toLoadRect X
      = win (arg6.view.read (Elt F) X) (blk1 i k) 1 := fun X => View.readAt_unit _ _ _ (off2_eq i k) _
  unfold trip1
  dsimp only
  rw [View.read_writes_cons_put _ _ _ _ _ (off2_eq i k), View.read_writes_cons_put _ _ _ _ _ (off1_eq i k), View.writes_nil]
  unfold trip1.sl.r trip1.sl.r_1 trip1.sl.r_2 trip1.sl.r_3 trip1.sl.r_4 trip1.sl.arg9 trip1.sl.v85 trip1.sl.v99
  simp only [h2, h2', h3, h3', h6, h6']
  simp only [k0_pay6, k0_pay7, k0_pay8, k0_pay9, k0_pay10, k0_pay11, k0_pay12, k0_pay13, k0_pay14, k0_pay15, k0_pay54, k0_pay55, k0_pay56, k0_pay57, k0_pay59, k0_pay60, k0_pay61, k0_pay62, k0_pay63, shapeCast_self]
  rfl

/-- The stores made before trip `k` leave what the plain recursion says, and the carry is its carry. -/
theorem list1_eq (arg1 v15 : BitVec 32)
    (X2 : BufTy.Contents (Elt F) arg2.view.ty) (X3 : BufTy.Contents (Elt F) arg3.view.ty) (x4 x5 : FVec F S512x256 .bf16)
    (G : BufTy.Contents (Elt F) arg6.view.ty) (init : Carry F) (k : ℕ) :
    ((list1 c i arg2 harg2 arg3 harg3 arg4 harg4 arg5 harg5 arg6 harg6 arg7 harg7 arg8 harg8 arg1 (half x4 0) (half x4 1) (half x5 0) (half x5 1) v15 X2 X3 G init k).1,
      arg6.view.read (Elt F) (arg6.view.writes (Elt F) G (list1 c i arg2 harg2 arg3 harg3 arg4 harg4 arg5 harg5 arg6 harg6 arg7 harg7 arg8 harg8 arg1 (half x4 0) (half x4 1) (half x5 0) (half x5 1) v15 X2 X3 G init k).2))
      = state1 i arg1 v15 (arg2.view.read (Elt F) X2) (arg3.view.read (Elt F) X3) x4 x5 (init, arg6.view.read (Elt F) G) k := by
  induction k with
  | zero => rfl
  | succ k ih =>
    rw [list1.eq_2, state1.eq_2]
    dsimp only
    by_cases h : k < (k0_t1_loop i).trips
    · rw [dif_pos h, dif_pos h, ← ih, View.writes_append]
      exact trip1_eq ..
    · rw [dif_neg h, dif_neg h]; exact ih

/-! ## The loop of the unmasked trips -/

/-- One trip, run: what it yields and the stores it makes, as functions of the carry and of the contents it finds. -/
def trip3 (v7 v9 v11 v13 : FVec F S512x128 .bf16) (v20 : BitVec 32)
    (X2 : BufTy.Contents (Elt F) arg2.view.ty) (X3 : BufTy.Contents (Elt F) arg3.view.ty) (k : Fin (k0_t3_loop i).trips) :
    Σ' (R : Carry F → BufTy.Contents (Elt F) arg6.view.ty → Carry F),
      { L : Carry F → BufTy.Contents (Elt F) arg6.view.ty → List (View.Piece (Elt F) S4096x256 .f32) //
        ∀ (E : Set ℕ) (acc : Carry F) (f : BufTy.Contents (Elt F) arg6.view.ty),
          Held (F := F) c arg2 arg3 arg6 X2 X3 f
          ⊢ wp frame (wpE (defs₀ (F := F)) Variants.none (c : Thread nD τ) none) E
              (k0_t3_body (F := F) i arg2 harg2 arg3 harg3 arg4 harg4 arg5 harg5 arg6 harg6 arg7 harg7 arg8 harg8 v7 v9 v11 v13 v20 k acc)
              (fun yld => iprop(⌜yld = R acc f⌝ ∗ Held (F := F) c arg2 arg3 arg6 X2 X3 (arg6.view.writes (Elt F) f (L acc f)))) } := by
  refine ⟨?_, ?_, fun E acc f => ?run⟩
  case run =>
    unfold k0_t3_body
    iintro ⟨H2, H3, H6⟩
    sl_exec
    sl_step
    sl_close

/-- The carry and the stores before trip `k`, over the contents `G` found at the loop's entry. -/
def list3 (v7 v9 v11 v13 : FVec F S512x128 .bf16) (v20 : BitVec 32)
    (X2 : BufTy.Contents (Elt F) arg2.view.ty) (X3 : BufTy.Contents (Elt F) arg3.view.ty) (G : BufTy.Contents (Elt F) arg6.view.ty)
    (init : Carry F) : ℕ → Carry F × List (View.Piece (Elt F) S4096x256 .f32)
  | 0 => (init, [])
  | k + 1 =>
    let p := list3 v7 v9 v11 v13 v20 X2 X3 G init k
    if h : k < (k0_t3_loop i).trips then
      ((trip3 c i arg2 harg2 arg3 harg3 arg4 harg4 arg5 harg5 arg6 harg6 arg7 harg7 arg8 harg8 v7 v9 v11 v13 v20 X2 X3 ⟨k, h⟩).1 p.1 (arg6.view.writes (Elt F) G p.2),
       (trip3 c i arg2 harg2 arg3 harg3 arg4 harg4 arg5 harg5 arg6 harg6 arg7 harg7 arg8 harg8 v7 v9 v11 v13 v20 X2 X3 ⟨k, h⟩).2.1 p.1 (arg6.view.writes (Elt F) G p.2) ++ p.2)
    else p

/-- The loop's invariant: the two inputs as they were, the output with the stores of the trips before, the carry theirs. -/
abbrev inv3 (v7 v9 v11 v13 : FVec F S512x128 .bf16) (v20 : BitVec 32)
    (X2 : BufTy.Contents (Elt F) arg2.view.ty) (X3 : BufTy.Contents (Elt F) arg3.view.ty) (G : BufTy.Contents (Elt F) arg6.view.ty)
    (init : Carry F) (k : ℕ) (acc : Carry F) : sProp 𝕄 :=
  iprop((arg2.view.loc (c : Thread nD τ) ↦[arg2.view.set]{fullShare} X2) ∗ (arg3.view.loc (c : Thread nD τ) ↦[arg3.view.set]{fullShare} X3)
    ∗ (∃ f, (arg6.view.loc (c : Thread nD τ) ↦[arg6.view.set]{fullShare} f)
        ∗ ⌜f = arg6.view.writes (Elt F) G (list3 c i arg2 harg2 arg3 harg3 arg4 harg4 arg5 harg5 arg6 harg6 arg7 harg7 arg8 harg8 v7 v9 v11 v13 v20 X2 X3 G init k).2⌝)
    ∗ ⌜acc = (list3 c i arg2 harg2 arg3 harg3 arg4 harg4 arg5 harg5 arg6 harg6 arg7 harg7 arg8 harg8 v7 v9 v11 v13 v20 X2 X3 G init k).1⌝)

set_option warn.classDefReducibility false in
/-- The loop by its invariant. -/
@[sl_loop] def loop3 (E : Set ℕ) (v7 v9 v11 v13 : FVec F S512x128 .bf16) (v20 : BitVec 32)
    (X2 : BufTy.Contents (Elt F) arg2.view.ty) (X3 : BufTy.Contents (Elt F) arg3.view.ty) (G : BufTy.Contents (Elt F) arg6.view.ty)
    (init : Carry F) :
    LoopInvTy_k0_t3 (F := F) Unit ℕ (UR sig nD τ) ℕ Variants.none c none E i arg2 harg2 arg3 harg3 arg4 harg4 arg5 harg5 arg6 harg6 arg7 harg7 arg8 harg8 v7 v9 v11 v13 v20 init where
  inv := inv3 c i arg2 harg2 arg3 harg3 arg4 harg4 arg5 harg5 arg6 harg6 arg7 harg7 arg8 harg8 v7 v9 v11 v13 v20 X2 X3 G init
  step k acc := by
    iintro ⟨H2, H3, ⟨%f, H6, %hf⟩, %hacc⟩
    subst hacc
    iapply (wp_wand_r Idealize.ShloMosaic.frame (wpE (defs₀ (F := F)) Variants.none (c : Thread nD τ) none) E)
    isplitl [H2 H3 H6]
    · iapply ((trip3 c i arg2 harg2 arg3 harg3 arg4 harg4 arg5 harg5 arg6 harg6 arg7 harg7 arg8 harg8 v7 v9 v11 v13 v20 X2 X3 k).2.2 E _ f)
      isplitl [H2]; · iexact H2
      isplitl [H3]; · iexact H3
      iexact H6
    · iintro %yld ⟨%hy, H2, H3, H6⟩
      isplitl [H2]; · iexact H2
      isplitl [H3]; · iexact H3
      have hs : list3 c i arg2 harg2 arg3 harg3 arg4 harg4 arg5 harg5 arg6 harg6 arg7 harg7 arg8 harg8 v7 v9 v11 v13 v20 X2 X3 G init (k.val + 1)
          = ((trip3 c i arg2 harg2 arg3 harg3 arg4 harg4 arg5 harg5 arg6 harg6 arg7 harg7 arg8 harg8 v7 v9 v11 v13 v20 X2 X3 k).1 (list3 c i arg2 harg2 arg3 harg3 arg4 harg4 arg5 harg5 arg6 harg6 arg7 harg7 arg8 harg8 v7 v9 v11 v13 v20 X2 X3 G init k.val).1
              (arg6.view.writes (Elt F) G (list3 c i arg2 harg2 arg3 harg3 arg4 harg4 arg5 harg5 arg6 harg6 arg7 harg7 arg8 harg8 v7 v9 v11 v13 v20 X2 X3 G init k.val).2),
             (trip3 c i arg2 harg2 arg3 harg3 arg4 harg4 arg5 harg5 arg6 harg6 arg7 harg7 arg8 harg8 v7 v9 v11 v13 v20 X2 X3 k).2.1 (list3 c i arg2 harg2 arg3 harg3 arg4 harg4 arg5 harg5 arg6 harg6 arg7 harg7 arg8 harg8 v7 v9 v11 v13 v20 X2 X3 G init k.val).1
              (arg6.view.writes (Elt F) G (list3 c i arg2 harg2 arg3 harg3 arg4 harg4 arg5 harg5 arg6 harg6 arg7 harg7 arg8 harg8 v7 v9 v11 v13 v20 X2 X3 G init k.val).2)
                ++ (list3 c i arg2 harg2 arg3 harg3 arg4 harg4 arg5 harg5 arg6 harg6 arg7 harg7 arg8 harg8 v7 v9 v11 v13 v20 X2 X3 G init k.val).2) := by
        rw [list3.eq_2]; exact dif_pos k.isLt
      rw [hs]
      isplitl [H6]
      · iexists _; isplitl [H6]; · iexact H6
        ipureintro; rw [hf, ← View.writes_append]
      ipureintro; rw [hy, hf]

/-- A trip's yield and stores are the plain step. -/
theorem trip3_eq (v20 : BitVec 32) (X2 : BufTy.Contents (Elt F) arg2.view.ty) (X3 : BufTy.Contents (Elt F) arg3.view.ty)
    (x4 x5 : FVec F S512x256 .bf16) (k : Fin (k0_t3_loop i).trips) (acc : Carry F) (f : BufTy.Contents (Elt F) arg6.view.ty) :
    ((trip3 c i arg2 harg2 arg3 harg3 arg4 harg4 arg5 harg5 arg6 harg6 arg7 harg7 arg8 harg8 (half x4 0) (half x4 1) (half x5 0) (half x5 1) v20 X2 X3 k).1 acc f,
      arg6.view.read (Elt F) (arg6.view.writes (Elt F) f ((trip3 c i arg2 harg2 arg3 harg3 arg4 harg4 arg5 harg5 arg6 harg6 arg7 harg7 arg8 harg8 (half x4 0) (half x4 1) (half x5 0) (half x5 1) v20 X2 X3 k).2.1 acc f)))
      = step3 (arg2.view.read (Elt F) X2) (arg3.view.read (Elt F) X3) x4 x5 (blk3 i k) (acc, arg6.view.read (Elt F) f) := by
  have h2 : ∀ X : BufTy.Contents (Elt F) arg2.view.ty, arg2.view.readAt (Elt F) (Rect.unit (s := S4096x256) (k0_off5 i k) S1024x128.size (k0_off5_inb i k)).toLoadRect X
      = win (arg2.view.read (Elt F) X) (blk3 i k) 0 := fun X => View.readAt_unit _ _ _ (off5_eq i k) _
  have h2' : ∀ X : BufTy.Contents (Elt F) arg2.view.ty, arg2.view.readAt (Elt F) (Rect.unit (s := S4096x256) (k0_off6 i k) S1024x128.size (k0_off6_inb i k)).toLoadRect X
      = win (arg2.view.read (Elt F) X) (blk3 i k) 1 := fun X => View.readAt_unit _ _ _ (off6_eq i k) _
  have h3 : ∀ X : BufTy.Contents (Elt F) arg3.view.ty, arg3.view.readAt (Elt F) (Rect.unit (s := S4096x256) (k0_off5 i k) S1024x128.size (k0_off5_inb i k)).toLoadRect X
      = win (arg3.view.read (Elt F) X) (blk3 i k) 0 := fun X => View.readAt_unit _ _ _ (off5_eq i k) _
  have h3' : ∀ X : BufTy.Contents (Elt F) arg3.view.ty, arg3.view.readAt (Elt F) (Rect.unit (s := S4096x256) (k0_off6 i k) S1024x128.size (k0_off6_inb i k)).toLoadRect X
      = win (arg3.view.read (Elt F) X) (blk3 i k) 1 := fun X => View.readAt_unit _ _ _ (off6_eq i k) _
  have h6 : ∀ X : BufTy.Contents (Elt F) arg6.view.ty, arg6.view.readAt (Elt F) (Rect.unit (s := S4096x256) (k0_off5 i k) S1024x128.size (k0_off5_inb i k)).toLoadRect X
      = win (arg6.view.read (Elt F) X) (blk3 i k) 0 := fun X => View.readAt_unit _ _ _ (off5_eq i k) _
  have h6' : ∀ X : BufTy.Contents (Elt F) arg6.view.ty, arg6.view.readAt (Elt F) (Rect.unit (s := S4096x256) (k0_off6 i k) S1024x128.size (k0_off6_inb i k)).toLoadRect X
      = win (arg6.view.read (Elt F) X) (blk3 i k) 1 := fun X => View.readAt_unit _ _ _ (off6_eq i k) _
  unfold trip3
  dsimp only
  rw [View.read_writes_cons_put _ _ _ _ _ (off6_eq i k), View.read_writes_cons_put _ _ _ _ _ (off5_eq i k), View.writes_nil]
  unfold trip3.sl.r trip3.sl.r_1 trip3.sl.r_2 trip3.sl.r_3 trip3.sl.r_4 trip3.sl.r_5
  unfold trip3.sl.v85
  simp only [h2, h2', h3, h3', h6, h6']
  simp only [k0_pay1, k0_pay2, k0_pay26, k0_pay27, k0_pay28, k0_pay29, k0_pay30, k0_pay31, k0_pay32, k0_pay33, k0_pay34, k0_pay35, k0_pay36, k0_pay37, k0_pay38, shapeCast_self]
  rfl

/-- The stores made before trip `k` leave what the plain recursion says, and the carry is its carry. -/
theorem list3_eq (v20 : BitVec 32)
    (X2 : BufTy.Contents (Elt F) arg2.view.ty) (X3 : BufTy.Contents (Elt F) arg3.view.ty) (x4 x5 : FVec F S512x256 .bf16)
    (G : BufTy.Contents (Elt F) arg6.view.ty) (init : Carry F) (k : ℕ) :
    ((list3 c i arg2 harg2 arg3 harg3 arg4 harg4 arg5 harg5 arg6 harg6 arg7 harg7 arg8 harg8 (half x4 0) (half x4 1) (half x5 0) (half x5 1) v20 X2 X3 G init k).1,
      arg6.view.read (Elt F) (arg6.view.writes (Elt F) G (list3 c i arg2 harg2 arg3 harg3 arg4 harg4 arg5 harg5 arg6 harg6 arg7 harg7 arg8 harg8 (half x4 0) (half x4 1) (half x5 0) (half x5 1) v20 X2 X3 G init k).2))
      = state3 i  (arg2.view.read (Elt F) X2) (arg3.view.read (Elt F) X3) x4 x5 (init, arg6.view.read (Elt F) G) k := by
  induction k with
  | zero => rfl
  | succ k ih =>
    rw [list3.eq_2, state3.eq_2]
    dsimp only
    by_cases h : k < (k0_t3_loop i).trips
    · rw [dif_pos h, dif_pos h, ← ih, View.writes_append]
      exact trip3_eq ..
    · rw [dif_neg h, dif_neg h]; exact ih

/-! ## The loops that make no trip -/

set_option warn.classDefReducibility false in
/-- The second masked loop makes no trip: its bound is its start. -/
@[sl_loop] def loop2 (E : Set ℕ) (arg1 : BitVec 32) (v6 v8 v10 v12 : Vec F S512x128 .bf16) (v26 : BitVec 32) (init : Carry F) :
    LoopInvTy_k0_t2 (F := F) Unit ℕ (UR sig nD τ) ℕ Variants.none c none E i arg2 harg2 arg3 harg3 arg4 harg4 arg5 harg5 arg6 harg6 arg7 harg7 arg8 harg8 arg1 v6 v8 v10 v12 v26 init where
  inv k acc := iprop(⌜acc = init⌝)
  step k acc := absurd k.isLt (by have := trips2 i; unfold Scf.Loop.trips at this; omega)

set_option warn.classDefReducibility false in
/-- The second unmasked loop makes no trip either. -/
@[sl_loop] def loop4 (E : Set ℕ) (v7 v9 v11 v13 : FVec F S512x128 .bf16) (v33 : BitVec 32) (init : Carry F) :
    LoopInvTy_k0_t4 (F := F) Unit ℕ (UR sig nD τ) ℕ Variants.none c none E i arg2 harg2 arg3 harg3 arg4 harg4 arg5 harg5 arg6 harg6 arg7 harg7 arg8 harg8 v7 v9 v11 v13 v33 init where
  inv k acc := iprop(⌜acc = init⌝)
  step k acc := absurd k.isLt (by have := trips4 i; unfold Scf.Loop.trips at this; omega)

end Cert.KernelIdeal.Fox

end
-- ==== Proof.Run.lean ====
/- The kernel's body at a grid point, run: what its three outputs hold after it, as functions of what its inputs hold. -/
module

public import proofs.«01_k».proof.Proof.Trips
public import Idealize.ShloMosaic.Lib.Pipeline.FrameBody
public import Idealize.ShloMosaic.Lib.WordCmp

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The branch at the start of the body: taken at a pair of heads' first key block. -/
abbrev opens (i : grid0.Coords) : Prop :=
  (Scalar.cmpi .ne (Scalar.extui (Scalar.cmpi .eq (BitVec.ofNat 32 (i 1).val) 0#32)) 0#32) = 1#1

variable (c : Dev nD) (i : grid0.Coords)
  (arg2 : Memref sig .tc .vmem S4096x256 .bf16) (harg2 : arg2.IsWhole) (arg3 : Memref sig .tc .vmem S4096x256 .bf16) (harg3 : arg3.IsWhole)
  (arg4 : Memref sig .tc .vmem S512x256 .bf16) (harg4 : arg4.IsWhole) (arg5 : Memref sig .tc .vmem S512x256 .bf16) (harg5 : arg5.IsWhole)
  (arg6 : Memref sig .tc .vmem S4096x256 .f32) (harg6 : arg6.IsWhole) (arg7 : Memref sig .tc .vmem S512x256 .f32) (harg7 : arg7.IsWhole)
  (arg8 : Memref sig .tc .vmem S512x128 .bf16) (harg8 : arg8.IsWhole)
  (x0 x1 : FVec F S4096x256 .bf16) (x2 x3 : FVec F S512x256 .bf16)

/-- The masked trips' carry and stores, at the values the body passes. -/
abbrev masked (G : BufTy.Contents (Elt F) arg6.view.ty) : Carry F × List (View.Piece (Elt F) S4096x256 .f32) :=
  list1 c i arg2 harg2 arg3 harg3 arg4 harg4 arg5 harg5 arg6 harg6 arg7 harg7 arg8 harg8 (jw i) (half x2 0) (half x2 1) (half x3 0) (half x3 1) (fw i)
    (harg2.unread x0) (harg3.unread x1) G (k0_pay58, k0_pay58, k0_pay58, k0_pay58) (k0_t1_loop i).trips

/-- The unmasked trips', after them. -/
abbrev unmasked (v20 : BitVec 32) (G : BufTy.Contents (Elt F) arg6.view.ty) : Carry F × List (View.Piece (Elt F) S4096x256 .f32) :=
  list3 c i arg2 harg2 arg3 harg3 arg4 harg4 arg5 harg5 arg6 harg6 arg7 harg7 arg8 harg8 (half x2 0) (half x2 1) (half x3 0) (half x3 1) v20
    (harg2.unread x0) (harg3.unread x1)
    (arg6.view.writes (Elt F) G (masked c i arg2 harg2 arg3 harg3 arg4 harg4 arg5 harg5 arg6 harg6 arg7 harg7 arg8 harg8 x0 x1 x2 x3 G).2)
    (masked c i arg2 harg2 arg3 harg3 arg4 harg4 arg5 harg5 arg6 harg6 arg7 harg7 arg8 harg8 x0 x1 x2 x3 G).1 (k0_t3_loop i).trips

/-- The two loops' carry and what their stores leave are the point's state. -/
theorem lists_eq (v20 : BitVec 32) (G : BufTy.Contents (Elt F) arg6.view.ty) :
    ((unmasked c i arg2 harg2 arg3 harg3 arg4 harg4 arg5 harg5 arg6 harg6 arg7 harg7 arg8 harg8 x0 x1 x2 x3 v20 G).1,
      arg6.view.read (Elt F) (arg6.view.writes (Elt F) (arg6.view.writes (Elt F) G (masked c i arg2 harg2 arg3 harg3 arg4 harg4 arg5 harg5 arg6 harg6 arg7 harg7 arg8 harg8 x0 x1 x2 x3 G).2)
        (unmasked c i arg2 harg2 arg3 harg3 arg4 harg4 arg5 harg5 arg6 harg6 arg7 harg7 arg8 harg8 x0 x1 x2 x3 v20 G).2)) = pointState i x0 x1 x2 x3 (arg6.view.read (Elt F) G) := by
  unfold pointState
  rw [list3_eq, list1_eq, harg2.read_unread, harg3.read_unread]

theorem half_of_read4 (x : FVec F S512x256 .bf16) (inb) :
    arg4.view.readAt (Elt F) (Rect.unit (s := S512x256) ![0, 0] S512x128.size inb).toLoadRect (harg4.unread x) = half x 0 := by
  rw [View.readAt_unit (h := rfl) (inb' := inb), harg4.read_unread]; rfl
theorem half_of_read4' (x : FVec F S512x256 .bf16) (inb) :
    arg4.view.readAt (Elt F) (Rect.unit (s := S512x256) ![0, 128] S512x128.size inb).toLoadRect (harg4.unread x) = half x 1 := by
  rw [View.readAt_unit (h := rfl) (inb' := inb), harg4.read_unread]; rfl

/-- Two stores side by side leave the two heads' gradients of the keys, whatever they cover. -/
theorem keyOut_of_read (f : BufTy.Contents (Elt F) arg7.view.ty) (a : Carry F) (w0 w1 : FVec F S512x128 .f32) (inb) (inb')
    (h0 : w0 = a.1) (h1 : w1 = a.2.2.1) :
    arg7.view.read (Elt F) (arg7.view.writes (Elt F) f
        [⟨Rect.unit (s := S512x256) ![0, 128] S512x128.size inb, w1⟩, ⟨Rect.unit (s := S512x256) ![0, 0] S512x128.size inb', w0⟩])
      = keyOut a := by
  subst h0 h1
  rw [View.read_writes_cons_put (h := rfl), View.read_writes_cons_put (h := rfl), View.writes_nil]
  funext y
  unfold keyOut VecWindow.put
  split
  · rfl
  · rename_i h1
    split
    · rfl
    · rename_i h2
      exfalso
      have y0 := (y 0).isLt; have y1 := (y 1).isLt
      simp [Fin.forall_fin_two, S512x256, S512x128] at h1 h2 y0 y1
      omega

set_option maxHeartbeats 400000 in
/-- The body at a point that opens a pair of heads. -/
theorem run_opens (hc : opens i) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (pointState i x0 x1 x2 x3 k0_pay52).2
            ∗ owns (c : Thread nD τ) arg7 fullShare (keyOut (pointState i x0 x1 x2 x3 k0_pay52).1)
            ∗ owns (c : Thread nD τ) arg8 fullShare (valueOut (pointState i x0 x1 x2 x3 k0_pay52).1)) -∗ K ⟨⟩))
      ⊢ wp frame (wpE (defs₀ (F := F)) Variants.none c none) E
          (cc0_fox_attn_bwd i arg2 harg2 arg3 harg3 arg4 harg4 arg5 harg5 arg6 harg6 arg7 harg7 arg8 harg8) K := by
  simp only [cc0_fox_attn_bwd_eq_skeleton]; unfold cc0_fox_attn_bwd_skel
  simp only [k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc)
  sl_step
  have e0 : run_opens.sl.r (F := F) c arg4 harg4 x2 = half x2 0 := by
    unfold run_opens.sl.r k0_pay54; simp only [shapeCast_self]; exact half_of_read4 ..
  have e1 : run_opens.sl.r_1 (F := F) c arg4 harg4 x2 = half x2 1 := by
    unfold run_opens.sl.r_1 k0_pay55; simp only [shapeCast_self]; exact half_of_read4' ..
  have e2 : run_opens.sl.r_2 (F := F) c arg5 harg5 x3 = half x3 0 := by
    unfold run_opens.sl.r_2 k0_pay56; simp only [shapeCast_self]; exact half_of_read4 ..
  have e3 : run_opens.sl.r_3 (F := F) c arg5 harg5 x3 = half x3 1 := by
    unfold run_opens.sl.r_3 k0_pay57; simp only [shapeCast_self]; exact half_of_read4' ..
  rw [e0, e1, e2, e3]
  unfold run_opens.sl.r_4 run_opens.sl.r_5 run_opens.sl.r_6 run_opens.sl.r_7
  rw [half_of_read4, half_of_read4, half_of_read4', half_of_read4']
  have hf := lists_eq (F := F) c i arg2 harg2 arg3 harg3 arg4 harg4 arg5 harg5 arg6 harg6 arg7 harg7 arg8 harg8 x0 x1 x2 x3 (run_opens.sl.v20 i) (arg6.view.writes (Elt F) arg6.view.junk run_opens.sl.H4_1)
  have e15 : run_opens.sl.v15 i = fw i := rfl
  have ej : BitVec.ofNat 32 (i 1).val = jw i := rfl
  simp only [View.writes_append, Prod.mk.eta, e15, ej]
  have h6 : arg6.view.read (Elt F) (arg6.view.writes (Elt F) arg6.view.junk run_opens.sl.H4_1) = (k0_pay52 : FVec F S4096x256 .f32) := by
    unfold run_opens.sl.H4_1; exact View.read_writes_full ..
  rw [h6] at hf
  have hf1 := congrArg Prod.fst hf
  have hf2 := congrArg Prod.snd hf
  unfold unmasked masked Scf.Loop.trips at hf1 hf2
  simp only [ej] at hf1 hf2
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr [H4]; swap; · iexact H4
    ipureintro; refine Eq.trans ?_ hf2; congr! 3
  isplitl [H5]
  · iexists _; isplitr [H5]; swap; · iexact H5
    ipureintro; rw [← hf1]; refine keyOut_of_read arg7 _ _ _ _ _ _ ?_ ?_ <;> congr! 3
  · iexists _; isplitr [H6]; swap; · iexact H6
    ipureintro; rw [← hf1]; refine (View.read_writes_full ..).trans ?_; unfold valueOut; congr! 2

set_option maxHeartbeats 400000 in
/-- The body at any other point: the gradient of the queries goes on from what the point finds. -/
theorem run_keeps (d : FVec F S4096x256 .f32) (hc : ¬ opens i) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare d ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (pointState i x0 x1 x2 x3 d).2
            ∗ owns (c : Thread nD τ) arg7 fullShare (keyOut (pointState i x0 x1 x2 x3 d).1)
            ∗ owns (c : Thread nD τ) arg8 fullShare (valueOut (pointState i x0 x1 x2 x3 d).1)) -∗ K ⟨⟩))
      ⊢ wp frame (wpE (defs₀ (F := F)) Variants.none c none) E
          (cc0_fox_attn_bwd i arg2 harg2 arg3 harg3 arg4 harg4 arg5 harg5 arg6 harg6 arg7 harg7 arg8 harg8) K := by
  simp only [cc0_fox_attn_bwd_eq_skeleton]; unfold cc0_fox_attn_bwd_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  have e0 : run_keeps.sl.r (F := F) c arg4 harg4 x2 = half x2 0 := by
    unfold run_keeps.sl.r k0_pay54; simp only [shapeCast_self]; exact half_of_read4 ..
  have e1 : run_keeps.sl.r_1 (F := F) c arg4 harg4 x2 = half x2 1 := by
    unfold run_keeps.sl.r_1 k0_pay55; simp only [shapeCast_self]; exact half_of_read4' ..
  have e2 : run_keeps.sl.r_2 (F := F) c arg5 harg5 x3 = half x3 0 := by
    unfold run_keeps.sl.r_2 k0_pay56; simp only [shapeCast_self]; exact half_of_read4 ..
  have e3 : run_keeps.sl.r_3 (F := F) c arg5 harg5 x3 = half x3 1 := by
    unfold run_keeps.sl.r_3 k0_pay57; simp only [shapeCast_self]; exact half_of_read4' ..
  rw [e0, e1, e2, e3]
  unfold run_keeps.sl.r_4 run_keeps.sl.r_5 run_keeps.sl.r_6 run_keeps.sl.r_7
  rw [half_of_read4, half_of_read4, half_of_read4', half_of_read4']
  have hf := lists_eq (F := F) c i arg2 harg2 arg3 harg3 arg4 harg4 arg5 harg5 arg6 harg6 arg7 harg7 arg8 harg8 x0 x1 x2 x3 (run_keeps.sl.v20 i) (harg6.unread d)
  have e15 : run_keeps.sl.v15 i = fw i := rfl
  have ej : BitVec.ofNat 32 (i 1).val = jw i := rfl
  simp only [View.writes_append, Prod.mk.eta, e15, ej]
  rw [harg6.read_unread] at hf
  have hf1 := congrArg Prod.fst hf
  have hf2 := congrArg Prod.snd hf
  unfold unmasked masked Scf.Loop.trips at hf1 hf2
  simp only [ej] at hf1 hf2
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr [H4]; swap; · iexact H4
    ipureintro; refine Eq.trans ?_ hf2; congr! 3
  isplitl [H5]
  · iexists _; isplitr [H5]; swap; · iexact H5
    ipureintro; rw [← hf1]; refine keyOut_of_read arg7 _ _ _ _ _ _ ?_ ?_ <;> congr! 3
  · iexists _; isplitr [H6]; swap; · iexact H6
    ipureintro; rw [← hf1]; refine (View.read_writes_full ..).trans ?_; unfold valueOut; congr! 2

end Cert.KernelIdeal.Fox

end
-- ==== Proof.Launch.lean ====
/- The launch: what the outputs' buffers hold after each grid point, the pipeline's proof data, and the run of the whole program. -/
module

public import proofs.«01_k».proof.Proof.Run
public import proofs.«01_k».proof.Proof.Gen.KernelIdeal.Frame
public import Idealize.ShloMosaic.Lib.Pipeline.FrameSuffix
public import Idealize.ShloMosaic.Lib.Claim

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point opens a pair of heads exactly when it is the first of its eight. -/
theorem opens_iff (t : Fin cfg0.N) : opens (grid0.coords t) ↔ t.val % 8 = 0 := by
  have ht : t.val < 64 := Nat.lt_of_lt_of_eq t.isLt N_0
  have e1 : (grid0.coords t 1).val = t.val / 1 % 8 := Pipeline.Grid.coords_val t 1 (by decide) rfl
  simp only [opens, e1]
  word_cmp

/-- The gradient of the queries after the body at position `n`, the position before having left its own. -/
def gradAfter (c : Dev nD) : (n : ℕ) → n < cfg0.N → FVec F S4096x256 .f32
  | 0, h => (pointState (grid0.coords ⟨0, h⟩) (iblk m c 0 ⟨0, h⟩) (iblk m c 1 ⟨0, h⟩) (iblk m c 2 ⟨0, h⟩) (iblk m c 3 ⟨0, h⟩) k0_pay52).2
  | n + 1, h => (pointState (grid0.coords ⟨n + 1, h⟩) (iblk m c 0 ⟨n + 1, h⟩) (iblk m c 1 ⟨n + 1, h⟩) (iblk m c 2 ⟨n + 1, h⟩) (iblk m c 3 ⟨n + 1, h⟩)
      (if (n + 1) % 8 = 0 then k0_pay52 else gradAfter c n (Nat.lt_of_succ_lt h))).2

/-- What the body at `t` finds there, zeros at the first point of a pair of heads. -/
def gradFound (c : Dev nD) (t : Fin cfg0.N) : FVec F S4096x256 .f32 :=
  if t.val % 8 = 0 then k0_pay52 else gradAfter m c (t.val - 1) (Nat.lt_of_le_of_lt (Nat.sub_le _ _) t.isLt)

/-- The state the body ends with at `t`. -/
def stateAt (c : Dev nD) (t : Fin cfg0.N) : Carry F × FVec F S4096x256 .f32 :=
  pointState (grid0.coords t) (iblk m c 0 t) (iblk m c 1 t) (iblk m c 2 t) (iblk m c 3 t) (gradFound m c t)

theorem gradAfter_eq (c : Dev nD) (t : Fin cfg0.N) : gradAfter m c t.val t.isLt = (stateAt m c t).2 := by
  obtain ⟨n, hn⟩ := t
  cases n with
  | zero => rfl
  | succ n => rfl

/-- The proof data: the arrays as the region finds them, each input's buffer at its block, the outputs' at the point's state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stateAt m c t).2
    | ⟨5, _⟩ => keyOut (stateAt m c t).1
    | ⟨6, _⟩ => valueOut (stateAt m c t).1
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (stateAt m c t).2 := by dsimp only [dats]
theorem after_5 (c : Dev nD) (t : Fin cfg0.N) : (dats m 0 c).after 5 t = keyOut (stateAt m c t).1 := by dsimp only [dats]
theorem after_6 (c : Dev nD) (t : Fin cfg0.N) : (dats m 0 c).after 6 t = valueOut (stateAt m c t).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Away from a pair's first point the gradient's buffer holds what the point before left: it was not written back between. -/
theorem before_4 (c : Dev nD) (t : Fin cfg0.N) (h0 : ¬t.val % 8 = 0) (d) : (dats m 0 c).before 4 t d = gradFound m c t := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl), after_4, ← gradAfter_eq, gradFound, if_neg h0]

/-- What the body is called with at `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  by_cases h0 : t.val % 8 = 0
  · have e : stateAt m c t = pointState (grid0.coords t) (iblk m c 0 t) (iblk m c 1 t) (iblk m c 2 t) (iblk m c 3 t) k0_pay52 := by
      unfold stateAt gradFound; rw [if_pos h0]
    rw [e]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_opens c (grid0.coords t) _ _ _ _ _ _ _ _ _ _ _ _ _ _ (iblk m c 0 t) (iblk m c 1 t) (iblk m c 2 t) (iblk m c 3 t) ((opens_iff t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before_4 m c t h0]
    unfold stateAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_keeps c (grid0.coords t) _ _ _ _ _ _ _ _ _ _ _ _ _ _ (iblk m c 0 t) (iblk m c 1 t) (iblk m c 2 t) (iblk m c 3 t) (gradFound m c t) (fun h => h0 ((opens_iff t).mp h)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of the whole program: every buffer at what the pipeline and the host's lines leave, every counter at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments are unchanged and every counter is zero at the end. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Fox

end
-- ==== Proof.Pairs.lean ====
/- What the grid leaves, entry by entry: over all the points of a pair of heads the blocks' shares add up to sums over all the queries and all the keys. -/
module

public import proofs.«01_k».proof.Proof.Blocks
public import proofs.«01_k».proof.Proof.Launch
public import Idealize.ShloMosaic.Lib.KernelVsHost

@[expose] public section

set_option maxRecDepth 16384

noncomputable section

namespace Cert.KernelIdeal.Fox

open Cert.KernelIdeal Cert.KernelIdeal.Gen
open Idealize.ShloMosaic Idealize.ShloMosaic.TcCoe Idealize.ShloMosaic.ValueIdx
open Idealize.SL Idealize.SL.RA Idealize.SL.Sem
open scoped BigOperators

/-! ## The sums over all queries and keys -/

/-- Column `c` of head `H` among all heads' columns. -/
def colOf (H : Fin 16) (c : Fin 128) : Fin 2048 := ⟨128 * H.val + c.val, by omega⟩
/-- Head `h` of pair `p`. -/
def headOf (p : Fin 8) (h : Fin 2) : Fin 16 := ⟨2 * p.val + h.val, by omega⟩
/-- Key `k` of key block `j`. -/
def keyAt (j : Fin 8) (k : Fin 512) : Fin 4096 := ⟨512 * j.val + k.val, by omega⟩

section Sums
variable (qs outs ks vs : S4096x2048.Idx → EReal)

/-- The probability of key `k` at query `q`, -/
def probAt (H : Fin 16) (q k : Fin 4096) : EReal :=
  if k.val ≤ q.val then Ideal.exp (∑ c : Fin 128, qs (ix2 q (colOf H c)) * ks (ix2 k (colOf H c))) else 0
/-- and the gradient of its score. -/
def scoreGradAt (H : Fin 16) (q k : Fin 4096) : EReal :=
  probAt qs ks H q k * ∑ c : Fin 128, outs (ix2 q (colOf H c)) * vs (ix2 k (colOf H c))
/-- The gradient of the queries, -/
def queryGradAt (H : Fin 16) (q : Fin 4096) (c : Fin 128) : EReal :=
  ∑ k : Fin 4096, scoreGradAt qs outs ks vs H q k * ks (ix2 k (colOf H c))
/-- of the keys, -/
def keyGradAt (H : Fin 16) (k : Fin 4096) (c : Fin 128) : EReal :=
  ∑ q : Fin 4096, scoreGradAt qs outs ks vs H q k * qs (ix2 q (colOf H c))
/-- and of the values. -/
def valueGradAt (H : Fin 16) (k : Fin 4096) (c : Fin 128) : EReal :=
  ∑ q : Fin 4096, probAt qs ks H q k * outs (ix2 q (colOf H c))
end Sums

theorem sum_rows (f : Fin 4096 → EReal) : (∑ b : Fin 4, ∑ r : Fin 1024, f (rowOf b r)) = ∑ q : Fin 4096, f q := by
  rw [← Fintype.sum_prod_type' (f := fun b r => f (rowOf b r))]
  refine Fintype.sum_equiv (finProdFinEquiv (m := 4) (n := 1024)) _ _ fun x => congrArg f (Fin.ext ?_)
  show 1024 * x.1.val + x.2.val = x.2.val + 1024 * x.1.val
  omega

theorem sum_keys (f : Fin 4096 → EReal) : (∑ j : Fin 8, ∑ k : Fin 512, f (keyAt j k)) = ∑ q : Fin 4096, f q := by
  rw [← Fintype.sum_prod_type' (f := fun b r => f (keyAt b r))]
  refine Fintype.sum_equiv (finProdFinEquiv (m := 8) (n := 512)) _ _ fun x => congrArg f (Fin.ext ?_)
  show 512 * x.1.val + x.2.val = x.2.val + 512 * x.1.val
  omega

/-! ## The blocks the windows read -/

/-- The pair a point works at, -/
def pairOf (t : Fin cfg0.N) : Fin 8 := ⟨t.val / 8, by have := t.isLt; have e : cfg0.N = 64 := N_0; omega⟩
/-- and its key block. -/
def keyBlock (t : Fin cfg0.N) : Fin 8 := ⟨t.val % 8, by omega⟩

theorem coord_key (t : Fin cfg0.N) : (grid0.coords t 1).val = (keyBlock t).val := by
  have : (grid0.coords t 1).val = t.val / 1 % 8 := Pipeline.Grid.coords_val t _ (by decide) rfl
  rw [this]; show t.val / 1 % 8 = t.val % 8; rw [Nat.div_one]

theorem index_0 : ∀ t : Fin grid0.N, win0_0.index t 0 = 0 ∧ win0_0.index t 1 = t.val / 8 := by decide +kernel
theorem index_1 : ∀ t : Fin grid0.N, win0_1.index t 0 = 0 ∧ win0_1.index t 1 = t.val / 8 := by decide +kernel
theorem index_2 : ∀ t : Fin grid0.N, win0_2.index t 0 = t.val % 8 ∧ win0_2.index t 1 = t.val / 8 := by decide +kernel
theorem index_3 : ∀ t : Fin grid0.N, win0_3.index t 0 = t.val % 8 ∧ win0_3.index t 1 = t.val / 8 := by decide +kernel
theorem index_4 : ∀ t : Fin grid0.N, win0_4.index t 0 = 0 ∧ win0_4.index t 1 = t.val / 8 := by decide +kernel
theorem index_5 : ∀ t : Fin grid0.N, win0_5.index t 0 = t.val % 8 ∧ win0_5.index t 1 = t.val / 8 := by decide +kernel
theorem index_6 : ∀ t : Fin grid0.N, win0_6.index t 0 = t.val % 8 ∧ win0_6.index t 1 = t.val / 8 := by decide +kernel

variable (m : (ℓ : Loc nD τ sig) → Buf (Elt Ideal) ℓ) (c : Dev nD)

/-- The augmented queries, output cotangents, keys and values the call is given. -/
abbrev qsOf : S4096x2048.Idx → EReal := V m c main_v54
abbrev outsOf : S4096x2048.Idx → EReal := V m c main_v102
abbrev ksOf : S4096x2048.Idx → EReal := V m c main_v76
abbrev vsOf : S4096x2048.Idx → EReal := V m c main_v83

theorem block_0 (t : Fin cfg0.N) (q : Fin 4096) (h : Fin 2) (l : Fin 128) :
    (iblk m c 0 t : FVec Ideal S4096x256 .bf16) (ix2 q (laneOf h l)) = qsOf m c (ix2 q (colOf (headOf (pairOf t) h) l)) := by
  unfold iblk
  rw [View.read_apply]
  show V m c main_v54 _ = V m c main_v54 _
  congr 1
  funext a
  apply Fin.ext
  match a with
  | ⟨0, _⟩ => show win0_0.index t 0 * 4096 + 1 * q.val = q.val; rw [(index_0 t).1]; omega
  | ⟨1, _⟩ => show win0_0.index t 1 * 256 + 1 * (128 * h.val + l.val) = 128 * (2 * (t.val / 8) + h.val) + l.val; rw [(index_0 t).2]; omega

theorem block_1 (t : Fin cfg0.N) (q : Fin 4096) (h : Fin 2) (l : Fin 128) :
    (iblk m c 1 t : FVec Ideal S4096x256 .bf16) (ix2 q (laneOf h l)) = outsOf m c (ix2 q (colOf (headOf (pairOf t) h) l)) := by
  unfold iblk
  rw [View.read_apply]
  show V m c main_v102 _ = V m c main_v102 _
  congr 1
  funext a
  apply Fin.ext
  match a with
  | ⟨0, _⟩ => show win0_1.index t 0 * 4096 + 1 * q.val = q.val; rw [(index_1 t).1]; omega
  | ⟨1, _⟩ => show win0_1.index t 1 * 256 + 1 * (128 * h.val + l.val) = 128 * (2 * (t.val / 8) + h.val) + l.val; rw [(index_1 t).2]; omega

theorem block_2 (t : Fin cfg0.N) (k : Fin 512) (h : Fin 2) (l : Fin 128) :
    (iblk m c 2 t : FVec Ideal S512x256 .bf16) (ix2 k (laneOf h l)) = ksOf m c (ix2 (keyAt (keyBlock t) k) (colOf (headOf (pairOf t) h) l)) := by
  unfold iblk
  rw [View.read_apply]
  show V m c main_v76 _ = V m c main_v76 _
  congr 1
  funext a
  apply Fin.ext
  match a with
  | ⟨0, _⟩ => show win0_2.index t 0 * 512 + 1 * k.val = 512 * (t.val % 8) + k.val; rw [(index_2 t).1]; omega
  | ⟨1, _⟩ => show win0_2.index t 1 * 256 + 1 * (128 * h.val + l.val) = 128 * (2 * (t.val / 8) + h.val) + l.val; rw [(index_2 t).2]; omega

theorem block_3 (t : Fin cfg0.N) (k : Fin 512) (h : Fin 2) (l : Fin 128) :
    (iblk m c 3 t : FVec Ideal S512x256 .bf16) (ix2 k (laneOf h l)) = vsOf m c (ix2 (keyAt (keyBlock t) k) (colOf (headOf (pairOf t) h) l)) := by
  unfold iblk
  rw [View.read_apply]
  show V m c main_v83 _ = V m c main_v83 _
  congr 1
  funext a
  apply Fin.ext
  match a with
  | ⟨0, _⟩ => show win0_3.index t 0 * 512 + 1 * k.val = 512 * (t.val % 8) + k.val; rw [(index_3 t).1]; omega
  | ⟨1, _⟩ => show win0_3.index t 1 * 256 + 1 * (128 * h.val + l.val) = 128 * (2 * (t.val / 8) + h.val) + l.val; rw [(index_3 t).2]; omega

/-! ## A point's shares -/

theorem prob_point (t : Fin cfg0.N) (h : Fin 2) (b : Fin 4) (r : Fin 1024) (k : Fin 512) :
    prob (keyBlock t).val (iblk m c 0 t) (iblk m c 2 t) h b r k
      = probAt (qsOf m c) (ksOf m c) (headOf (pairOf t) h) (rowOf b r) (keyAt (keyBlock t) k) := by
  unfold prob probAt
  refine congrArg (fun s => if 512 * (keyBlock t).val + k.val ≤ 1024 * b.val + r.val then Ideal.exp s else 0) (Finset.sum_congr rfl fun l _ => ?_)
  rw [win_apply, half_apply, block_0, block_2]

theorem dsc_point (t : Fin cfg0.N) (h : Fin 2) (b : Fin 4) (r : Fin 1024) (k : Fin 512) :
    dsc (keyBlock t).val (iblk m c 0 t) (iblk m c 1 t) (iblk m c 2 t) (iblk m c 3 t) h b r k
      = scoreGradAt (qsOf m c) (outsOf m c) (ksOf m c) (vsOf m c) (headOf (pairOf t) h) (rowOf b r) (keyAt (keyBlock t) k) := by
  unfold dsc scoreGradAt
  rw [prob_point]
  refine congrArg (_ * ·) (Finset.sum_congr rfl fun l _ => ?_)
  rw [win_apply, half_apply, block_1, block_3]

/-- What a point leaves of its key block's gradients. -/
theorem met_state (t : Fin cfg0.N) :
    Met (keyBlock t).val (iblk m c 0 t) (iblk m c 1 t) (iblk m c 2 t) (iblk m c 3 t) (gradFound m c t) 4 (stateAt m c t) := by
  have H := met_point (grid0.coords t) (iblk m c 0 t) (iblk m c 1 t) (iblk m c 2 t) (iblk m c 3 t) (gradFound m c t)
  rw [coord_key] at H
  exact H

theorem key_state (t : Fin cfg0.N) (h : Fin 2) (k : Fin 512) (l : Fin 128) :
    keyOf (stateAt m c t).1 h (ix2 k l)
      = keyGradAt (qsOf m c) (outsOf m c) (ksOf m c) (vsOf m c) (headOf (pairOf t) h) (keyAt (keyBlock t) k) l := by
  rw [(met_state m c t).key]
  unfold keyGradAt
  rw [← sum_rows]
  refine Finset.sum_congr rfl fun b _ => ?_
  rw [if_pos b.isLt]
  refine Finset.sum_congr rfl fun r _ => ?_
  rw [dsc_point, win_apply, block_0]

theorem value_state (t : Fin cfg0.N) (h : Fin 2) (k : Fin 512) (l : Fin 128) :
    valOf (stateAt m c t).1 h (ix2 k l)
      = valueGradAt (qsOf m c) (outsOf m c) (ksOf m c) (headOf (pairOf t) h) (keyAt (keyBlock t) k) l := by
  rw [(met_state m c t).val]
  unfold valueGradAt
  rw [← sum_rows]
  refine Finset.sum_congr rfl fun b _ => ?_
  rw [if_pos b.isLt]
  refine Finset.sum_congr rfl fun r _ => ?_
  rw [prob_point, win_apply, block_1]

/-! ## The gradient of the queries, key block after key block -/

/-- Key block `j`'s share of it. -/
def blockShare (p j : Fin 8) (h : Fin 2) (q : Fin 4096) (l : Fin 128) : EReal :=
  ∑ k : Fin 512, scoreGradAt (qsOf m c) (outsOf m c) (ksOf m c) (vsOf m c) (headOf p h) q (keyAt j k)
    * ksOf m c (ix2 (keyAt j k) (colOf (headOf p h) l))

theorem query_step (t : Fin cfg0.N) (b : Fin 4) (h : Fin 2) (r : Fin 1024) (l : Fin 128) :
    (stateAt m c t).2 (ix2 (rowOf b r) (laneOf h l))
      = gradFound m c t (ix2 (rowOf b r) (laneOf h l)) + blockShare m c (pairOf t) (keyBlock t) h (rowOf b r) l := by
  have H := (met_state m c t).query h b r l
  rw [win_apply, win_apply, if_pos b.isLt] at H
  rw [H]
  refine congrArg (_ + ·) (Finset.sum_congr rfl fun k _ => ?_)
  rw [dsc_point, half_apply, block_2]

theorem sum_le_succ (f : Fin 8 → EReal) (j : ℕ) (hj : j + 1 < 8) :
    (∑ i : Fin 8, if i.val ≤ j + 1 then f i else 0) = (∑ i : Fin 8, if i.val ≤ j then f i else 0) + f ⟨j + 1, hj⟩ := by
  have : ∀ i : Fin 8, (if i.val ≤ j + 1 then f i else 0) = (if i.val ≤ j then f i else 0) + if i = ⟨j + 1, hj⟩ then f i else 0 := by
    intro i
    by_cases h : i = ⟨j + 1, hj⟩
    · subst h; simp
    · have : i.val ≠ j + 1 := fun e => h (Fin.ext e)
      by_cases h2 : i.val ≤ j
      · rw [if_pos (by omega), if_pos h2, if_neg h, add_zero]
      · rw [if_neg (by omega), if_neg h2, if_neg h, add_zero]
  rw [Finset.sum_congr rfl fun b _ => this b, Finset.sum_add_distrib, Finset.sum_ite_eq' Finset.univ ⟨j + 1, hj⟩ f, if_pos (Finset.mem_univ _)]

theorem sum_le_zero (f : Fin 8 → EReal) : (∑ i : Fin 8, if i.val ≤ 0 then f i else 0) = f 0 := by
  have : ∀ i : Fin 8, (if i.val ≤ 0 then f i else 0) = if i = 0 then f i else 0 := by
    intro i
    by_cases h : i = 0
    · subst h; simp
    · have : i.val ≠ 0 := fun e => h (Fin.ext e)
      rw [if_neg (by omega), if_neg h]
  rw [Finset.sum_congr rfl fun b _ => this b, Finset.sum_ite_eq' Finset.univ 0 f, if_pos (Finset.mem_univ _)]

theorem opened (q : Fin 4096) (l : Fin 256) : (k0_pay52 : FVec Ideal S4096x256 .f32) (ix2 q l) = 0 := zero_word

theorem query_after (h : Fin 2) (b : Fin 4) (r : Fin 1024) (l : Fin 128) : ∀ (n : ℕ) (hn : n < cfg0.N),
    (stateAt m c ⟨n, hn⟩).2 (ix2 (rowOf b r) (laneOf h l))
      = ∑ j : Fin 8, if j.val ≤ n % 8 then blockShare m c (pairOf ⟨n, hn⟩) j h (rowOf b r) l else 0
  | 0, hn => by
    rw [query_step]
    unfold gradFound
    rw [if_pos (show (⟨0, hn⟩ : Fin cfg0.N).val % 8 = 0 from rfl), opened, zero_add]
    exact (sum_le_zero fun j => blockShare m c (pairOf ⟨0, hn⟩) j h (rowOf b r) l).symm
  | n + 1, hn => by
    rw [query_step]
    by_cases h0 : (n + 1) % 8 = 0
    · unfold gradFound
      rw [if_pos (show (⟨n + 1, hn⟩ : Fin cfg0.N).val % 8 = 0 from h0), opened, zero_add, h0, sum_le_zero]
      exact congrArg (fun j => blockShare m c (pairOf ⟨n + 1, hn⟩) j h (rowOf b r) l) (Fin.ext h0)
    · have ih := query_after h b r l n (Nat.lt_of_succ_lt hn)
      have e : gradFound m c ⟨n + 1, hn⟩ = (stateAt m c ⟨n, Nat.lt_of_succ_lt hn⟩).2 := by
        unfold gradFound
        rw [if_neg (show ¬(⟨n + 1, hn⟩ : Fin cfg0.N).val % 8 = 0 from h0)]
        exact gradAfter_eq m c ⟨n, Nat.lt_of_succ_lt hn⟩
      have hp : pairOf ⟨n, Nat.lt_of_succ_lt hn⟩ = pairOf ⟨n + 1, hn⟩ := Fin.ext (by show n / 8 = (n + 1) / 8; omega)
      rw [e, ih, hp, show (n + 1) % 8 = n % 8 + 1 by omega, sum_le_succ _ _ (by omega)]
      refine congrArg (_ + ·) (congrArg (fun j => blockShare m c (pairOf ⟨n + 1, hn⟩) j h (rowOf b r) l) (Fin.ext ?_))
      show (n + 1) % 8 = n % 8 + 1
      omega

/-- After a pair's last key block. -/
theorem query_state (t : Fin cfg0.N) (ht : t.val % 8 = 7) (h : Fin 2) (q : Fin 4096) (l : Fin 128) :
    (stateAt m c t).2 (ix2 q (laneOf h l)) = queryGradAt (qsOf m c) (outsOf m c) (ksOf m c) (vsOf m c) (headOf (pairOf t) h) q l := by
  have hq : q = rowOf ⟨q.val / 1024, by omega⟩ ⟨q.val % 1024, by omega⟩ :=
    Fin.ext (by show q.val = 1024 * (q.val / 1024) + q.val % 1024; omega)
  rw [hq, query_after m c h _ _ l t.val t.isLt, ← hq, ht]
  unfold queryGradAt
  rw [← sum_keys]
  refine Finset.sum_congr rfl fun j _ => ?_
  rw [if_pos (by omega)]; rfl

end Cert.KernelIdeal.Fox

end
-- ==== Proof.PrefixLanes.lean ====
/- The kernel's four operands on arrays of reals, lane by lane: each head has 128 lanes, 64 of them the head's own, and the next ones
   carry the gate, the logarithm of the sum of exponentials and the output's product with its gradient. -/
module

public import proofs.«01_k».proof.Proof.PrefixSoftmax
public import proofs.«01_k».proof.Proof.Joins
public import proofs.«01_k».proof.Proof.Pairs

@[expose] public section

noncomputable section

namespace Cert.KernelIdeal.Prefix

open Cert.KernelIdeal Cert.KernelIdeal.Gen Idealize.ShloMosaic Idealize.ShloMosaic.ValueIdx Cert.Attention Cert.Real Cert.KernelIdeal.Joins Cert.KernelIdeal.Fox

variable (q k v g : Lanes) (b : Rows)

theorem rest (r : ℝ) : (r : EReal) - (r : EReal) = ((0 : ℝ) : EReal) := by rw [← EReal.coe_sub, sub_self]

theorem neg_zero_real : -((0 : ℝ) : EReal) = ((0 : ℝ) : EReal) := by rw [← EReal.coe_neg, neg_zero]

theorem ones (i : S4096x16.Idx) : pre_v32 (F := Ideal) i = ((1 : ℝ) : EReal) := ofBits_one

/-! The three parts of a number: rounding being the identity, the first is the number and the other two are zero. -/

theorem gate_whole (i : S4096x16.Idx) : pre_v35 (F := Ideal) (ofLanes q) (ofLanes k) (ofRows b) i = ((b (i 0) (i 1) - lse q k b (i 1) (i 0) : ℝ) : EReal) := by
  rw [pre_v35_apply, lse_real]
  generalize lse q k b (i 1) (i 0) = l
  exact (EReal.coe_sub _ _).symm
theorem gate_first (i : S4096x16.Idx) : pre_v37 (F := Ideal) (ofLanes q) (ofLanes k) (ofRows b) i = ((b (i 0) (i 1) - lse q k b (i 1) (i 0) : ℝ) : EReal) := by
  rw [pre_v37_apply, pre_v36_apply, gate_whole]; rfl
theorem gate_second (i : S4096x16.Idx) : pre_v40 (F := Ideal) (ofLanes q) (ofLanes k) (ofRows b) i = ((0 : ℝ) : EReal) := by
  rw [pre_v40_apply, pre_v39_apply, pre_v38_apply, gate_whole, gate_first]
  generalize b (i 0) (i 1) - lse q k b (i 1) (i 0) = r
  exact rest r
theorem gate_third (i : S4096x16.Idx) : pre_v44 (F := Ideal) (ofLanes q) (ofLanes k) (ofRows b) i = ((0 : ℝ) : EReal) := by
  rw [pre_v44_apply, pre_v43_apply, pre_v42_apply, pre_v41_apply, gate_second, gate_whole, gate_first]
  generalize b (i 0) (i 1) - lse q k b (i 1) (i 0) = r
  exact (congrArg (· - ((0 : ℝ) : EReal)) (rest r)).trans (rest 0)

theorem key_first (i : S4096x16.Idx) : pre_v56 (F := Ideal) (ofRows b) i = ((b (i 0) (i 1) : ℝ) : EReal) := rfl
theorem key_second (i : S4096x16.Idx) : pre_v59 (F := Ideal) (ofRows b) i = ((0 : ℝ) : EReal) := by
  show (ofRows b i : EReal) - pre_v56 (F := Ideal) (ofRows b) i = _
  have h : (ofRows b i : EReal) = pre_v56 (F := Ideal) (ofRows b) i := rfl
  rw [h, key_first]; exact rest _
theorem key_third (i : S4096x16.Idx) : pre_v63 (F := Ideal) (ofRows b) i = ((0 : ℝ) : EReal) := by
  show (ofRows b i : EReal) - pre_v56 (F := Ideal) (ofRows b) i - pre_v59 (F := Ideal) (ofRows b) i = _
  have h : (ofRows b i : EReal) = pre_v56 (F := Ideal) (ofRows b) i := rfl
  rw [key_second, h, key_first, rest]; exact rest _

theorem delta_first (i : S4096x16.Idx) : pre_v85 (F := Ideal) (ofLanes q) (ofLanes k) (ofLanes v) (ofRows b) (ofLanes g) i = ((meanGrad q k v g b (i 1) (i 0) : ℝ) : EReal) := delta_real q k v g b i
theorem delta_second (i : S4096x16.Idx) : pre_v88 (F := Ideal) (ofLanes q) (ofLanes k) (ofLanes v) (ofRows b) (ofLanes g) i = ((0 : ℝ) : EReal) := by
  show pre_v31 (F := Ideal) (ofLanes q) (ofLanes k) (ofLanes v) (ofRows b) (ofLanes g) i - pre_v85 (F := Ideal) (ofLanes q) (ofLanes k) (ofLanes v) (ofRows b) (ofLanes g) i = _
  have h : pre_v31 (F := Ideal) (ofLanes q) (ofLanes k) (ofLanes v) (ofRows b) (ofLanes g) i = pre_v85 (F := Ideal) (ofLanes q) (ofLanes k) (ofLanes v) (ofRows b) (ofLanes g) i := rfl
  rw [h, delta_first]; exact rest _
theorem delta_third (i : S4096x16.Idx) : pre_v92 (F := Ideal) (ofLanes q) (ofLanes k) (ofLanes v) (ofRows b) (ofLanes g) i = ((0 : ℝ) : EReal) := by
  show pre_v31 (F := Ideal) (ofLanes q) (ofLanes k) (ofLanes v) (ofRows b) (ofLanes g) i - pre_v85 (F := Ideal) (ofLanes q) (ofLanes k) (ofLanes v) (ofRows b) (ofLanes g) i - pre_v88 (F := Ideal) (ofLanes q) (ofLanes k) (ofLanes v) (ofRows b) (ofLanes g) i = _
  have h : pre_v31 (F := Ideal) (ofLanes q) (ofLanes k) (ofLanes v) (ofRows b) (ofLanes g) i = pre_v85 (F := Ideal) (ofLanes q) (ofLanes k) (ofLanes v) (ofRows b) (ofLanes g) i := rfl
  rw [delta_second, h, delta_first, rest]; exact rest _

theorem key_neg_first (i : S4096x16.Idx) : pre_v64 (F := Ideal) (ofRows b) i = ((-(b (i 0) (i 1)) : ℝ) : EReal) :=
  (congrArg (fun z : EReal => -z) (key_first b i)).trans (EReal.coe_neg _).symm
theorem key_neg_second (i : S4096x16.Idx) : pre_v65 (F := Ideal) (ofRows b) i = ((0 : ℝ) : EReal) :=
  (congrArg (fun z : EReal => -z) (key_second b i)).trans neg_zero_real
theorem key_neg_third (i : S4096x16.Idx) : pre_v66 (F := Ideal) (ofRows b) i = ((0 : ℝ) : EReal) :=
  (congrArg (fun z : EReal => -z) (key_third b i)).trans neg_zero_real

theorem delta_neg_first (i : S4096x16.Idx) : pre_v93 (F := Ideal) (ofLanes q) (ofLanes k) (ofLanes v) (ofRows b) (ofLanes g) i = ((-(meanGrad q k v g b (i 1) (i 0)) : ℝ) : EReal) :=
  (congrArg (fun z : EReal => -z) (delta_first q k v g b i)).trans (EReal.coe_neg _).symm
theorem delta_neg_second (i : S4096x16.Idx) : pre_v94 (F := Ideal) (ofLanes q) (ofLanes k) (ofLanes v) (ofRows b) (ofLanes g) i = ((0 : ℝ) : EReal) :=
  (congrArg (fun z : EReal => -z) (delta_second q k v g b i)).trans neg_zero_real
theorem delta_neg_third (i : S4096x16.Idx) : pre_v95 (F := Ideal) (ofLanes q) (ofLanes k) (ofLanes v) (ofRows b) (ofLanes g) i = ((0 : ℝ) : EReal) :=
  (congrArg (fun z : EReal => -z) (delta_third q k v g b i)).trans neg_zero_real

/-! The place of lane `c` of head `H` in a row of 2048. -/

theorem idx_53 (s : Fin 4096) (H : Fin 16) (c : Fin 128) : idx_v53 (ix2 s (colOf H c)) = ix3 s H c := funext fun a => Fin.ext (by
  have h0 := s.isLt
  have h1 := H.isLt
  have h2 := c.isLt
  match a with
  | ⟨0, _⟩ => show (s.val * 2048 + (128 * H.val + c.val)) / 2048 = s.val; omega
  | ⟨1, _⟩ => show (s.val * 2048 + (128 * H.val + c.val)) / 128 % 16 = H.val; omega
  | ⟨2, _⟩ => show (s.val * 2048 + (128 * H.val + c.val)) % 128 = c.val; omega)

theorem idx_75 (s : Fin 4096) (H : Fin 16) (c : Fin 128) : idx_v75 (ix2 s (colOf H c)) = ix3 s H c := funext fun a => Fin.ext (by
  have h0 := s.isLt
  have h1 := H.isLt
  have h2 := c.isLt
  match a with
  | ⟨0, _⟩ => show (s.val * 2048 + (128 * H.val + c.val)) / 2048 = s.val; omega
  | ⟨1, _⟩ => show (s.val * 2048 + (128 * H.val + c.val)) / 128 % 16 = H.val; omega
  | ⟨2, _⟩ => show (s.val * 2048 + (128 * H.val + c.val)) % 128 = c.val; omega)

theorem idx_82 (s : Fin 4096) (H : Fin 16) (c : Fin 128) : idx_v82 (ix2 s (colOf H c)) = ix3 s H c := funext fun a => Fin.ext (by
  have h0 := s.isLt
  have h1 := H.isLt
  have h2 := c.isLt
  match a with
  | ⟨0, _⟩ => show (s.val * 2048 + (128 * H.val + c.val)) / 2048 = s.val; omega
  | ⟨1, _⟩ => show (s.val * 2048 + (128 * H.val + c.val)) / 128 % 16 = H.val; omega
  | ⟨2, _⟩ => show (s.val * 2048 + (128 * H.val + c.val)) % 128 = c.val; omega)

theorem idx_101 (s : Fin 4096) (H : Fin 16) (c : Fin 128) : idx_v101 (ix2 s (colOf H c)) = ix3 s H c := funext fun a => Fin.ext (by
  have h0 := s.isLt
  have h1 := H.isLt
  have h2 := c.isLt
  match a with
  | ⟨0, _⟩ => show (s.val * 2048 + (128 * H.val + c.val)) / 2048 = s.val; omega
  | ⟨1, _⟩ => show (s.val * 2048 + (128 * H.val + c.val)) / 128 % 16 = H.val; omega
  | ⟨2, _⟩ => show (s.val * 2048 + (128 * H.val + c.val)) % 128 = c.val; omega)

/-- The four operands. -/
def opQ : S4096x2048.Idx → EReal := pre_v54 (F := Ideal) (ofLanes q) (ofLanes k) (ofRows b)
def opK : S4096x2048.Idx → EReal := pre_v76 (F := Ideal) (ofLanes k) (ofRows b)
def opV : S4096x2048.Idx → EReal := pre_v83 (F := Ideal) (ofLanes v)
def opG : S4096x2048.Idx → EReal := pre_v102 (F := Ideal) (ofLanes q) (ofLanes k) (ofLanes v) (ofRows b) (ofLanes g)

variable (s : Fin 4096) (H : Fin 16)

/-! The queries. -/

theorem qs_eq (c : Fin 128) : opQ q k b (ix2 s (colOf H c)) = join8 (pre_v34 (F := Ideal) (ofLanes q)) (pre_v45 (F := Ideal) (ofLanes q) (ofLanes k) (ofRows b)) (pre_v46 (F := Ideal) (ofLanes q) (ofLanes k) (ofRows b)) (pre_v47 (F := Ideal) (ofLanes q) (ofLanes k) (ofRows b)) (pre_v48 (F := Ideal)) (pre_v49 (F := Ideal)) (pre_v50 (F := Ideal)) (pre_v51 (F := Ideal)) (ix3 s H c) := by
  show pre_v53 (F := Ideal) (ofLanes q) (ofLanes k) (ofRows b) (ix2 s (colOf H c)) = _
  rw [pre_v53_apply, idx_53]; rfl
theorem qs_low (d : Fin 64) : opQ q k b (ix2 s (colOf H (low d))) = ((q s H d * (1 / 8) : ℝ) : EReal) := by
  rw [qs_eq, join8_low]; rw [pre_v34_apply, pre_v33_apply, pre_cst_5_apply, EReal.coe_mul]; exact congrArg (_ * ·) ofBits_eighth
theorem qs_64 : opQ q k b (ix2 s (colOf H 64)) = ((b s H - lse q k b H s : ℝ) : EReal) := by
  rw [qs_eq, join8_1]; rw [pre_v45_apply]; exact gate_first q k b _
theorem qs_65 : opQ q k b (ix2 s (colOf H 65)) = ((0 : ℝ) : EReal) := by
  rw [qs_eq, join8_2]; rw [pre_v46_apply]; exact gate_second q k b _
theorem qs_66 : opQ q k b (ix2 s (colOf H 66)) = ((0 : ℝ) : EReal) := by
  rw [qs_eq, join8_3]; rw [pre_v47_apply]; exact gate_third q k b _
theorem qs_67 : opQ q k b (ix2 s (colOf H 67)) = ((1 : ℝ) : EReal) := by
  rw [qs_eq, join8_4]; rw [pre_v48_apply]; exact ones _
theorem qs_68 : opQ q k b (ix2 s (colOf H 68)) = ((1 : ℝ) : EReal) := by
  rw [qs_eq, join8_5]; rw [pre_v49_apply]; exact ones _
theorem qs_69 : opQ q k b (ix2 s (colOf H 69)) = ((1 : ℝ) : EReal) := by
  rw [qs_eq, join8_6]; rw [pre_v50_apply]; exact ones _
theorem qs_high (e : Fin 58) : opQ q k b (ix2 s (colOf H (high e))) = ((0 : ℝ) : EReal) := by
  rw [qs_eq, join8_high]; rw [pre_v51_apply]; exact ofBits_zero

/-! The keys. -/

theorem ks_eq (c : Fin 128) : opK k b (ix2 s (colOf H c)) = join8 (ofLanes k) (pre_v67 (F := Ideal)) (pre_v68 (F := Ideal)) (pre_v69 (F := Ideal)) (pre_v70 (F := Ideal) (ofRows b)) (pre_v71 (F := Ideal) (ofRows b)) (pre_v72 (F := Ideal) (ofRows b)) (pre_v73 (F := Ideal)) (ix3 s H c) := by
  show pre_v75 (F := Ideal) (ofLanes k) (ofRows b) (ix2 s (colOf H c)) = _
  rw [pre_v75_apply, idx_75]; rfl
theorem ks_low (d : Fin 64) : opK k b (ix2 s (colOf H (low d))) = ((k s H d : ℝ) : EReal) := by
  rw [ks_eq, join8_low]
theorem ks_64 : opK k b (ix2 s (colOf H 64)) = ((1 : ℝ) : EReal) := by
  rw [ks_eq, join8_1]; rw [pre_v67_apply]; exact ones _
theorem ks_65 : opK k b (ix2 s (colOf H 65)) = ((1 : ℝ) : EReal) := by
  rw [ks_eq, join8_2]; rw [pre_v68_apply]; exact ones _
theorem ks_66 : opK k b (ix2 s (colOf H 66)) = ((1 : ℝ) : EReal) := by
  rw [ks_eq, join8_3]; rw [pre_v69_apply]; exact ones _
theorem ks_67 : opK k b (ix2 s (colOf H 67)) = ((-(b s H) : ℝ) : EReal) := by
  rw [ks_eq, join8_4]; rw [pre_v70_apply]; exact key_neg_first b _
theorem ks_68 : opK k b (ix2 s (colOf H 68)) = ((0 : ℝ) : EReal) := by
  rw [ks_eq, join8_5]; rw [pre_v71_apply]; exact key_neg_second b _
theorem ks_69 : opK k b (ix2 s (colOf H 69)) = ((0 : ℝ) : EReal) := by
  rw [ks_eq, join8_6]; rw [pre_v72_apply]; exact key_neg_third b _
theorem ks_high (e : Fin 58) : opK k b (ix2 s (colOf H (high e))) = ((0 : ℝ) : EReal) := by
  rw [ks_eq, join8_high]; rw [pre_v73_apply]; exact ofBits_zero

/-! The values. -/

theorem vs_eq (c : Fin 128) : opV v (ix2 s (colOf H c)) = join5 (ofLanes v) (pre_v77 (F := Ideal)) (pre_v78 (F := Ideal)) (pre_v79 (F := Ideal)) (pre_v80 (F := Ideal)) (ix3 s H c) := by
  show pre_v82 (F := Ideal) (ofLanes v) (ix2 s (colOf H c)) = _
  rw [pre_v82_apply, idx_82]; rfl
theorem vs_low (d : Fin 64) : opV v (ix2 s (colOf H (low d))) = ((v s H d : ℝ) : EReal) := by
  rw [vs_eq, join5_low]
theorem vs_64 : opV v (ix2 s (colOf H 64)) = ((1 : ℝ) : EReal) := by
  rw [vs_eq, join5_1]; rw [pre_v77_apply]; exact ones _
theorem vs_65 : opV v (ix2 s (colOf H 65)) = ((1 : ℝ) : EReal) := by
  rw [vs_eq, join5_2]; rw [pre_v78_apply]; exact ones _
theorem vs_66 : opV v (ix2 s (colOf H 66)) = ((1 : ℝ) : EReal) := by
  rw [vs_eq, join5_3]; rw [pre_v79_apply]; exact ones _
theorem vs_fill (e : Fin 61) : opV v (ix2 s (colOf H (high' e))) = ((0 : ℝ) : EReal) := by
  rw [vs_eq, join5_high]; rw [pre_v80_apply]; exact ofBits_zero
theorem vs_67 : opV v (ix2 s (colOf H 67)) = ((0 : ℝ) : EReal) := vs_fill v s H 0
theorem vs_68 : opV v (ix2 s (colOf H 68)) = ((0 : ℝ) : EReal) := vs_fill v s H 1
theorem vs_69 : opV v (ix2 s (colOf H 69)) = ((0 : ℝ) : EReal) := vs_fill v s H 2
theorem vs_high (e : Fin 58) : opV v (ix2 s (colOf H (high e))) = ((0 : ℝ) : EReal) := by
  have h : high e = high' ⟨e.val + 3, by omega⟩ := Fin.ext (show 70 + e.val = 67 + (e.val + 3) by omega)
  rw [h]; exact vs_fill v s H _

/-! The gradients of the output. -/

theorem outs_eq (c : Fin 128) : opG q k v g b (ix2 s (colOf H c)) = join5 (ofLanes g) (pre_v96 (F := Ideal) (ofLanes q) (ofLanes k) (ofLanes v) (ofRows b) (ofLanes g)) (pre_v97 (F := Ideal) (ofLanes q) (ofLanes k) (ofLanes v) (ofRows b) (ofLanes g)) (pre_v98 (F := Ideal) (ofLanes q) (ofLanes k) (ofLanes v) (ofRows b) (ofLanes g)) (pre_v99 (F := Ideal)) (ix3 s H c) := by
  show pre_v101 (F := Ideal) (ofLanes q) (ofLanes k) (ofLanes v) (ofRows b) (ofLanes g) (ix2 s (colOf H c)) = _
  rw [pre_v101_apply, idx_101]; rfl
theorem outs_low (d : Fin 64) : opG q k v g b (ix2 s (colOf H (low d))) = ((g s H d : ℝ) : EReal) := by
  rw [outs_eq, join5_low]
theorem outs_64 : opG q k v g b (ix2 s (colOf H 64)) = ((-(meanGrad q k v g b H s) : ℝ) : EReal) := by
  rw [outs_eq, join5_1]; rw [pre_v96_apply]; exact delta_neg_first q k v g b _
theorem outs_65 : opG q k v g b (ix2 s (colOf H 65)) = ((0 : ℝ) : EReal) := by
  rw [outs_eq, join5_2]; rw [pre_v97_apply]; exact delta_neg_second q k v g b _
theorem outs_66 : opG q k v g b (ix2 s (colOf H 66)) = ((0 : ℝ) : EReal) := by
  rw [outs_eq, join5_3]; rw [pre_v98_apply]; exact delta_neg_third q k v g b _
theorem outs_fill (e : Fin 61) : opG q k v g b (ix2 s (colOf H (high' e))) = ((0 : ℝ) : EReal) := by
  rw [outs_eq, join5_high]; rw [pre_v99_apply]; exact ofBits_zero
theorem outs_67 : opG q k v g b (ix2 s (colOf H 67)) = ((0 : ℝ) : EReal) := outs_fill q k v g b s H 0
theorem outs_68 : opG q k v g b (ix2 s (colOf H 68)) = ((0 : ℝ) : EReal) := outs_fill q k v g b s H 1
theorem outs_69 : opG q k v g b (ix2 s (colOf H 69)) = ((0 : ℝ) : EReal) := outs_fill q k v g b s H 2
theorem outs_high (e : Fin 58) : opG q k v g b (ix2 s (colOf H (high e))) = ((0 : ℝ) : EReal) := by
  have h : high e = high' ⟨e.val + 3, by omega⟩ := Fin.ext (show 70 + e.val = 67 + (e.val + 3) by omega)
  rw [h]; exact outs_fill q k v g b s H _

end Cert.KernelIdeal.Prefix

end
-- ==== Proof.KernelSums.lean ====
/- The region's sums on arrays of reals: the probabilities, the scores' gradients and the four sums of them. -/
module

public import proofs.«01_k».proof.Proof.PrefixLanes

@[expose] public section

noncomputable section

namespace Cert.KernelIdeal.Prefix

open Cert.KernelIdeal Cert.KernelIdeal.Gen Idealize.ShloMosaic Idealize.ShloMosaic.ValueIdx Cert.Attention Cert.Real Cert.KernelIdeal.Joins Cert.KernelIdeal.Fox

variable (q k v g : Lanes) (b : Rows)

variable (H : Fin 16) (s t : Fin 4096)

/-- A query against a key over the 128 lanes: the score less the query's logarithm. -/
theorem logits : ∑ c : Fin 128, opQ q k b (ix2 s (colOf H c)) * opK k b (ix2 t (colOf H c)) = ((score q k b H s t - lse q k b H s : ℝ) : EReal) := by
  have first : ∑ d : Fin 64, opQ q k b (ix2 s (colOf H (low d))) * opK k b (ix2 t (colOf H (low d)))
      = ((∑ d : Fin 64, q s H d * (1 / 8) * k t H d : ℝ) : EReal) := by
    rw [← coe_sum]; exact Finset.sum_congr rfl fun d _ => by rw [qs_low, ks_low, EReal.coe_mul (q s H d * (1 / 8))]
  have last : ∑ e : Fin 58, opQ q k b (ix2 s (colOf H (high e))) * opK k b (ix2 t (colOf H (high e))) = ((∑ e : Fin 58, (0 * 0 : ℝ) : ℝ) : EReal) := by
    rw [← coe_sum]; exact Finset.sum_congr rfl fun e _ => by rw [qs_high, ks_high, EReal.coe_mul]
  rw [sum_lanes, first, last, qs_64, qs_65, qs_66, qs_67, qs_68, qs_69, ks_64, ks_65, ks_66, ks_67, ks_68, ks_69]
  simp only [← EReal.coe_mul, ← EReal.coe_add]
  refine congrArg (fun r : ℝ => (r : EReal)) ?_
  rw [← score_scaled q k b (lse q k b H s) H s t]
  simp only [mul_zero, Finset.sum_const_zero]
  ring

theorem prob_at : probAt (opQ q k b) (opK k b) H s t = ((prob q k b H s t : ℝ) : EReal) := by
  unfold probAt
  by_cases h : t.val ≤ s.val
  · rw [if_pos h, logits]
    show ((_root_.Real.exp (score q k b H s t - lse q k b H s) : ℝ) : EReal) = _
    refine congrArg (fun r : ℝ => (r : EReal)) ?_
    unfold lse
    exact exp_sub_lse q k b _ H s t h
  · rw [if_neg h, prob_after q k b H s t h]; rfl

/-- The output's gradient against a value over the 128 lanes: the probability's gradient less their mean. -/
theorem grads : ∑ c : Fin 128, opG q k v g b (ix2 s (colOf H c)) * opV v (ix2 t (colOf H c))
    = ((probGrad v g H s t - meanGrad q k v g b H s : ℝ) : EReal) := by
  have first : ∑ d : Fin 64, opG q k v g b (ix2 s (colOf H (low d))) * opV v (ix2 t (colOf H (low d)))
      = ((∑ d : Fin 64, g s H d * v t H d : ℝ) : EReal) := by
    rw [← coe_sum]; exact Finset.sum_congr rfl fun d _ => by rw [outs_low, vs_low, EReal.coe_mul]
  have last : ∑ e : Fin 58, opG q k v g b (ix2 s (colOf H (high e))) * opV v (ix2 t (colOf H (high e))) = ((∑ e : Fin 58, (0 * 0 : ℝ) : ℝ) : EReal) := by
    rw [← coe_sum]; exact Finset.sum_congr rfl fun e _ => by rw [outs_high, vs_high, EReal.coe_mul]
  rw [sum_lanes, first, last, outs_64, outs_65, outs_66, outs_67, outs_68, outs_69, vs_64, vs_65, vs_66, vs_67, vs_68, vs_69]
  simp only [← EReal.coe_mul, ← EReal.coe_add]
  refine congrArg (fun r : ℝ => (r : EReal)) ?_
  unfold probGrad
  simp only [mul_zero, Finset.sum_const_zero]
  ring

theorem score_grad_at : scoreGradAt (opQ q k b) (opG q k v g b) (opK k b) (opV v) H s t = ((scoreGrad q k v g b H s t : ℝ) : EReal) := by
  unfold scoreGradAt scoreGrad
  rw [prob_at, grads, EReal.coe_mul]

/-- The queries' gradient before the scale, -/
theorem query_low (d : Fin 64) : queryGradAt (opQ q k b) (opG q k v g b) (opK k b) (opV v) H s (low d)
    = ((∑ t : Fin 4096, scoreGrad q k v g b H s t * k t H d : ℝ) : EReal) := by
  unfold queryGradAt
  rw [← coe_sum]; exact Finset.sum_congr rfl fun t _ => by rw [score_grad_at, ks_low, EReal.coe_mul]
/-- a query's sum of the scores' gradients, -/
theorem query_64 : queryGradAt (opQ q k b) (opG q k v g b) (opK k b) (opV v) H s 64
    = ((∑ t : Fin 4096, scoreGrad q k v g b H s t : ℝ) : EReal) := by
  unfold queryGradAt
  rw [← coe_sum]; exact Finset.sum_congr rfl fun t _ => by rw [score_grad_at, ks_64, ← EReal.coe_mul, mul_one]
/-- the keys' gradient, -/
theorem key_low (d : Fin 64) : keyGradAt (opQ q k b) (opG q k v g b) (opK k b) (opV v) H t (low d)
    = ((∑ s : Fin 4096, scoreGrad q k v g b H s t * (q s H d * (1 / 8)) : ℝ) : EReal) := by
  unfold keyGradAt
  rw [← coe_sum]; exact Finset.sum_congr rfl fun s _ => by rw [score_grad_at, qs_low, EReal.coe_mul (scoreGrad q k v g b H s t)]
/-- a key's sum of the scores' gradients, -/
theorem key_67 : keyGradAt (opQ q k b) (opG q k v g b) (opK k b) (opV v) H t 67
    = ((∑ s : Fin 4096, scoreGrad q k v g b H s t : ℝ) : EReal) := by
  unfold keyGradAt
  rw [← coe_sum]; exact Finset.sum_congr rfl fun s _ => by rw [score_grad_at, qs_67, ← EReal.coe_mul, mul_one]
/-- and the values' gradient. -/
theorem value_low (d : Fin 64) : valueGradAt (opQ q k b) (opG q k v g b) (opK k b) H t (low d)
    = ((∑ s : Fin 4096, prob q k b H s t * g s H d : ℝ) : EReal) := by
  unfold valueGradAt
  rw [← coe_sum]; exact Finset.sum_congr rfl fun s _ => by rw [prob_at, outs_low, EReal.coe_mul]

end Cert.KernelIdeal.Prefix

end
-- ==== Proof.PrefixOps.lean ====
/- The host operations the kernel runs before its region, as one list. -/
module

public import proofs.«01_k».proof.Proof.Gen.KernelIdeal.Frame
public import Idealize.ShloMosaic.Lib.StableHlo.Run

@[expose] public section

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]

/-- The joining that writes `main_v52`, by name, so that its operands stand as plain arguments. -/
def fn_main_v52 : (main_v34 : Ref sig .tc).ty.Contents (Elt F) → (main_v45 : Ref sig .tc).ty.Contents (Elt F) → (main_v46 : Ref sig .tc).ty.Contents (Elt F) → (main_v47 : Ref sig .tc).ty.Contents (Elt F) → (main_v48 : Ref sig .tc).ty.Contents (Elt F) → (main_v49 : Ref sig .tc).ty.Contents (Elt F) → (main_v50 : Ref sig .tc).ty.Contents (Elt F) → (main_v51 : Ref sig .tc).ty.Contents (Elt F) → (main_v52 : Ref sig .tc).ty.Contents (Elt F) :=
  (fun u0 u1 u2 u3 u4 u5 u6 u7 => (concatenate S4096x16x128 2 [⟨S4096x16x64, (u0 : (⟨S4096x16x64, .f32⟩ : BufTy).Contents (Elt F))⟩, ⟨S4096x16x1, (u1 : (⟨S4096x16x1, .f32⟩ : BufTy).Contents (Elt F))⟩, ⟨S4096x16x1, (u2 : (⟨S4096x16x1, .f32⟩ : BufTy).Contents (Elt F))⟩, ⟨S4096x16x1, (u3 : (⟨S4096x16x1, .f32⟩ : BufTy).Contents (Elt F))⟩, ⟨S4096x16x1, (u4 : (⟨S4096x16x1, .f32⟩ : BufTy).Contents (Elt F))⟩, ⟨S4096x16x1, (u5 : (⟨S4096x16x1, .f32⟩ : BufTy).Contents (Elt F))⟩, ⟨S4096x16x1, (u6 : (⟨S4096x16x1, .f32⟩ : BufTy).Contents (Elt F))⟩, ⟨S4096x16x58, (u7 : (⟨S4096x16x58, .f32⟩ : BufTy).Contents (Elt F))⟩] concatenates_S4096x16x64_S4096x16x1_S4096x16x1_S4096x16x1_S4096x16x1_S4096x16x1_S4096x16x1_S4096x16x58_S4096x16x128_d2 : (⟨S4096x16x128, .f32⟩ : BufTy).Contents (Elt F)))

/-- The joining that writes `main_v74`, by name, so that its operands stand as plain arguments. -/
def fn_main_v74 : (main_arg1 : Ref sig .tc).ty.Contents (Elt F) → (main_v67 : Ref sig .tc).ty.Contents (Elt F) → (main_v68 : Ref sig .tc).ty.Contents (Elt F) → (main_v69 : Ref sig .tc).ty.Contents (Elt F) → (main_v70 : Ref sig .tc).ty.Contents (Elt F) → (main_v71 : Ref sig .tc).ty.Contents (Elt F) → (main_v72 : Ref sig .tc).ty.Contents (Elt F) → (main_v73 : Ref sig .tc).ty.Contents (Elt F) → (main_v74 : Ref sig .tc).ty.Contents (Elt F) :=
  (fun u0 u1 u2 u3 u4 u5 u6 u7 => (concatenate S4096x16x128 2 [⟨S4096x16x64, (u0 : (⟨S4096x16x64, .f32⟩ : BufTy).Contents (Elt F))⟩, ⟨S4096x16x1, (u1 : (⟨S4096x16x1, .f32⟩ : BufTy).Contents (Elt F))⟩, ⟨S4096x16x1, (u2 : (⟨S4096x16x1, .f32⟩ : BufTy).Contents (Elt F))⟩, ⟨S4096x16x1, (u3 : (⟨S4096x16x1, .f32⟩ : BufTy).Contents (Elt F))⟩, ⟨S4096x16x1, (u4 : (⟨S4096x16x1, .f32⟩ : BufTy).Contents (Elt F))⟩, ⟨S4096x16x1, (u5 : (⟨S4096x16x1, .f32⟩ : BufTy).Contents (Elt F))⟩, ⟨S4096x16x1, (u6 : (⟨S4096x16x1, .f32⟩ : BufTy).Contents (Elt F))⟩, ⟨S4096x16x58, (u7 : (⟨S4096x16x58, .f32⟩ : BufTy).Contents (Elt F))⟩] concatenates_S4096x16x64_S4096x16x1_S4096x16x1_S4096x16x1_S4096x16x1_S4096x16x1_S4096x16x1_S4096x16x58_S4096x16x128_d2 : (⟨S4096x16x128, .f32⟩ : BufTy).Contents (Elt F)))

/-- The joining that writes `main_v81`, by name, so that its operands stand as plain arguments. -/
def fn_main_v81 : (main_arg2 : Ref sig .tc).ty.Contents (Elt F) → (main_v77 : Ref sig .tc).ty.Contents (Elt F) → (main_v78 : Ref sig .tc).ty.Contents (Elt F) → (main_v79 : Ref sig .tc).ty.Contents (Elt F) → (main_v80 : Ref sig .tc).ty.Contents (Elt F) → (main_v81 : Ref sig .tc).ty.Contents (Elt F) :=
  (fun u0 u1 u2 u3 u4 => (concatenate S4096x16x128 2 [⟨S4096x16x64, (u0 : (⟨S4096x16x64, .f32⟩ : BufTy).Contents (Elt F))⟩, ⟨S4096x16x1, (u1 : (⟨S4096x16x1, .f32⟩ : BufTy).Contents (Elt F))⟩, ⟨S4096x16x1, (u2 : (⟨S4096x16x1, .f32⟩ : BufTy).Contents (Elt F))⟩, ⟨S4096x16x1, (u3 : (⟨S4096x16x1, .f32⟩ : BufTy).Contents (Elt F))⟩, ⟨S4096x16x61, (u4 : (⟨S4096x16x61, .f32⟩ : BufTy).Contents (Elt F))⟩] concatenates_S4096x16x64_S4096x16x1_S4096x16x1_S4096x16x1_S4096x16x61_S4096x16x128_d2 : (⟨S4096x16x128, .f32⟩ : BufTy).Contents (Elt F)))

/-- The joining that writes `main_v100`, by name, so that its operands stand as plain arguments. -/
def fn_main_v100 : (main_arg4 : Ref sig .tc).ty.Contents (Elt F) → (main_v96 : Ref sig .tc).ty.Contents (Elt F) → (main_v97 : Ref sig .tc).ty.Contents (Elt F) → (main_v98 : Ref sig .tc).ty.Contents (Elt F) → (main_v99 : Ref sig .tc).ty.Contents (Elt F) → (main_v100 : Ref sig .tc).ty.Contents (Elt F) :=
  (fun u0 u1 u2 u3 u4 => (concatenate S4096x16x128 2 [⟨S4096x16x64, (u0 : (⟨S4096x16x64, .f32⟩ : BufTy).Contents (Elt F))⟩, ⟨S4096x16x1, (u1 : (⟨S4096x16x1, .f32⟩ : BufTy).Contents (Elt F))⟩, ⟨S4096x16x1, (u2 : (⟨S4096x16x1, .f32⟩ : BufTy).Contents (Elt F))⟩, ⟨S4096x16x1, (u3 : (⟨S4096x16x1, .f32⟩ : BufTy).Contents (Elt F))⟩, ⟨S4096x16x61, (u4 : (⟨S4096x16x61, .f32⟩ : BufTy).Contents (Elt F))⟩] concatenates_S4096x16x64_S4096x16x1_S4096x16x1_S4096x16x1_S4096x16x61_S4096x16x128_d2 : (⟨S4096x16x128, .f32⟩ : BufTy).Contents (Elt F)))

/-- The host operations before the region, in order. -/
abbrev prefixOps : List (HloOp τ sig (Elt F)) :=
  [ binary main_arg0 main_arg1 main_v0 ((fun l r => Host.dotGeneral dot_S4096x16x64_S4096x16x64_S16x4096x4096_2_2_0_0_1_1 none l r) : (⟨S4096x16x64, .f32⟩ : BufTy).Contents (Elt F) → (⟨S4096x16x64, .f32⟩ : BufTy).Contents (Elt F) → (⟨S16x4096x4096, .f32⟩ : BufTy).Contents (Elt F)),
    nullary main_cst (constant S_ .f32 0x3E000000#32),
    unary main_cst main_v1 (broadcastInDim S16x4096x4096 ![] bcast_S_S16x4096x4096 : (⟨S_, .f32⟩ : BufTy).Contents (Elt F) → (⟨S16x4096x4096, .f32⟩ : BufTy).Contents (Elt F)),
    binary main_v0 main_v1 main_v2 (mulf : (⟨S16x4096x4096, .f32⟩ : BufTy).Contents (Elt F) → (⟨S16x4096x4096, .f32⟩ : BufTy).Contents (Elt F) → (⟨S16x4096x4096, .f32⟩ : BufTy).Contents (Elt F)),
    unary main_arg3 main_v3 ((transpose S16x4096 [1, 0] · transposes_S4096x16_S16x4096_1_0) : (⟨S4096x16, .f32⟩ : BufTy).Contents (Elt F) → (⟨S16x4096, .f32⟩ : BufTy).Contents (Elt F)),
    unary main_v3 main_v4 (broadcastInDim S16x4096x1 ![0, 1] bcast_S16x4096_S16x4096x1_0_1 : (⟨S16x4096, .f32⟩ : BufTy).Contents (Elt F) → (⟨S16x4096x1, .f32⟩ : BufTy).Contents (Elt F)),
    unary main_v4 main_v5 (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)),
    binary main_v2 main_v5 main_v6 (addf : (⟨S16x4096x4096, .f32⟩ : BufTy).Contents (Elt F) → (⟨S16x4096x4096, .f32⟩ : BufTy).Contents (Elt F) → (⟨S16x4096x4096, .f32⟩ : BufTy).Contents (Elt F)),
    unary main_arg3 main_v7 ((transpose S16x4096 [1, 0] · transposes_S4096x16_S16x4096_1_0) : (⟨S4096x16, .f32⟩ : BufTy).Contents (Elt F) → (⟨S16x4096, .f32⟩ : BufTy).Contents (Elt F)),
    unary main_v7 main_v8 (broadcastInDim S16x1x4096 ![0, 2] bcast_S16x4096_S16x1x4096_0_2 : (⟨S16x4096, .f32⟩ : BufTy).Contents (Elt F) → (⟨S16x1x4096, .f32⟩ : BufTy).Contents (Elt F)),
    unary main_v8 main_v9 (broadcastInDim S16x4096x4096 ![0, 1, 2] bcast_S16x1x4096_S16x4096x4096_0_1_2 : (⟨S16x1x4096, .f32⟩ : BufTy).Contents (Elt F) → (⟨S16x4096x4096, .f32⟩ : BufTy).Contents (Elt F)),
    binary main_v6 main_v9 main_v10 (subf : (⟨S16x4096x4096, .f32⟩ : BufTy).Contents (Elt F) → (⟨S16x4096x4096, .f32⟩ : BufTy).Contents (Elt F) → (⟨S16x4096x4096, .f32⟩ : BufTy).Contents (Elt F)),
    nullary main_v11 (iotaInDim S4096x4096 32 0),
    nullary main_v12 (iotaInDim S4096x4096 32 1),
    binary main_v11 main_v12 main_v13 (cmpi .sge : (⟨S4096x4096, .i32⟩ : BufTy).Contents (Elt F) → (⟨S4096x4096, .i32⟩ : BufTy).Contents (Elt F) → (⟨S4096x4096, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S4096x4096, .i1⟩) main_v13) (TRef.of (T := ⟨S16x4096x4096, .i1⟩) main_call0_v1) (broadcastInDim S16x4096x4096 ![1, 2] bcast_S4096x4096_S16x4096x4096_1_2),
    TRef.unary (TRef.of (T := ⟨S_, .f32⟩) main_call0_v0) (TRef.of (T := ⟨S16x4096x4096, .f32⟩) main_call0_v2) (broadcastInDim S16x4096x4096 ![] bcast_S_S16x4096x4096),
    TRef.ternary (TRef.of (T := ⟨S16x4096x4096, .i1⟩) main_call0_v1) (TRef.of (T := ⟨S16x4096x4096, .f32⟩) main_v10) (TRef.of (T := ⟨S16x4096x4096, .f32⟩) main_call0_v2) (TRef.of (T := ⟨S16x4096x4096, .f32⟩) main_v14) select,
    nullary main_cst_1 (constant S_ .f32 0xFF800000#32),
    binary main_v14 main_cst_1 main_v15 ((fun x v => Host.reduce FloatOps.maximumf x v reducesTo_S16x4096x4096_S16x4096_d2 h_S_) : (⟨S16x4096x4096, .f32⟩ : BufTy).Contents (Elt F) → (⟨S_, .f32⟩ : BufTy).Contents (Elt F) → (⟨S16x4096, .f32⟩ : BufTy).Contents (Elt F)),
    unary main_v15 main_v16 (broadcastInDim S16x4096x1 ![0, 1] bcast_S16x4096_S16x4096x1_0_1 : (⟨S16x4096, .f32⟩ : BufTy).Contents (Elt F) → (⟨S16x4096x1, .f32⟩ : BufTy).Contents (Elt F)),
    unary main_v16 main_v17 (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)),
    binary main_v14 main_v17 main_v18 (subf : (⟨S16x4096x4096, .f32⟩ : BufTy).Contents (Elt F) → (⟨S16x4096x4096, .f32⟩ : BufTy).Contents (Elt F) → (⟨S16x4096x4096, .f32⟩ : BufTy).Contents (Elt F)),
    unary main_v18 main_v19 (Host.exp : (⟨S16x4096x4096, .f32⟩ : BufTy).Contents (Elt F) → (⟨S16x4096x4096, .f32⟩ : BufTy).Contents (Elt F)),
    nullary main_cst_2 (constant S_ .f32 0x00000000#32),
    binary main_v19 main_cst_2 main_v20 ((fun x v => Host.reduceAdd x v reducesTo_S16x4096x4096_S16x4096_d2 h_S_) : (⟨S16x4096x4096, .f32⟩ : BufTy).Contents (Elt F) → (⟨S_, .f32⟩ : BufTy).Contents (Elt F) → (⟨S16x4096, .f32⟩ : BufTy).Contents (Elt F)),
    unary main_v20 main_v21 (broadcastInDim S16x4096x1 ![0, 1] bcast_S16x4096_S16x4096x1_0_1 : (⟨S16x4096, .f32⟩ : BufTy).Contents (Elt F) → (⟨S16x4096x1, .f32⟩ : BufTy).Contents (Elt F)),
    unary main_v21 main_v22 (broadcastInDim S16x4096x4096 ![0, 1, 2] bcast_S16x4096x1_S16x4096x4096_0_1_2 : (⟨S16x4096x1, .f32⟩ : BufTy).Contents (Elt F) → (⟨S16x4096x4096, .f32⟩ : BufTy).Contents (Elt F)),
    binary main_v19 main_v22 main_v23 (Host.divf : (⟨S16x4096x4096, .f32⟩ : BufTy).Contents (Elt F) → (⟨S16x4096x4096, .f32⟩ : BufTy).Contents (Elt F) → (⟨S16x4096x4096, .f32⟩ : BufTy).Contents (Elt F)),
    binary main_arg2 main_v23 main_v24 ((fun l r => Host.dotGeneral dot_S4096x16x64_S16x4096x4096_S16x64x4096_0_2_2_1_1_0 none l r) : (⟨S4096x16x64, .f32⟩ : BufTy).Contents (Elt F) → (⟨S16x4096x4096, .f32⟩ : BufTy).Contents (Elt F) → (⟨S16x64x4096, .f32⟩ : BufTy).Contents (Elt F)),
    unary main_v24 main_v25 ((transpose S4096x16x64 [2, 0, 1] · transposes_S16x64x4096_S4096x16x64_2_0_1) : (⟨S16x64x4096, .f32⟩ : BufTy).Contents (Elt F) → (⟨S4096x16x64, .f32⟩ : BufTy).Contents (Elt F)),
    unary main_v21 main_v26 (Host.log : (⟨S16x4096x1, .f32⟩ : BufTy).Contents (Elt F) → (⟨S16x4096x1, .f32⟩ : BufTy).Contents (Elt F)),
    binary main_v16 main_v26 main_v27 (addf : (⟨S16x4096x1, .f32⟩ : BufTy).Contents (Elt F) → (⟨S16x4096x1, .f32⟩ : BufTy).Contents (Elt F) → (⟨S16x4096x1, .f32⟩ : BufTy).Contents (Elt F)),
    reshape main_v27 main_v28 (rfl : (.f32 : EltTy) = .f32) shapeCasts_S16x4096x1_S16x4096,
    unary main_v28 main_v29 ((transpose S4096x16 [1, 0] · transposes_S16x4096_S4096x16_1_0) : (⟨S16x4096, .f32⟩ : BufTy).Contents (Elt F) → (⟨S4096x16, .f32⟩ : BufTy).Contents (Elt F)),
    binary main_arg4 main_v25 main_v30 (mulf : (⟨S4096x16x64, .f32⟩ : BufTy).Contents (Elt F) → (⟨S4096x16x64, .f32⟩ : BufTy).Contents (Elt F) → (⟨S4096x16x64, .f32⟩ : BufTy).Contents (Elt F)),
    nullary main_cst_3 (constant S_ .f32 0x00000000#32),
    binary main_v30 main_cst_3 main_v31 ((fun x v => Host.reduceAdd x v reducesTo_S4096x16x64_S4096x16_d2 h_S_) : (⟨S4096x16x64, .f32⟩ : BufTy).Contents (Elt F) → (⟨S_, .f32⟩ : BufTy).Contents (Elt F) → (⟨S4096x16, .f32⟩ : BufTy).Contents (Elt F)),
    nullary main_cst_4 (constant S_ .f32 0x3F800000#32),
    unary main_cst_4 main_v32 (broadcastInDim S4096x16 ![] bcast_S_S4096x16 : (⟨S_, .f32⟩ : BufTy).Contents (Elt F) → (⟨S4096x16, .f32⟩ : BufTy).Contents (Elt F)),
    nullary main_cst_5 (constant S_ .f32 0x3E000000#32),
    unary main_cst_5 main_v33 (broadcastInDim S4096x16x64 ![] bcast_S_S4096x16x64 : (⟨S_, .f32⟩ : BufTy).Contents (Elt F) → (⟨S4096x16x64, .f32⟩ : BufTy).Contents (Elt F)),
    binary main_arg0 main_v33 main_v34 (mulf : (⟨S4096x16x64, .f32⟩ : BufTy).Contents (Elt F) → (⟨S4096x16x64, .f32⟩ : BufTy).Contents (Elt F) → (⟨S4096x16x64, .f32⟩ : BufTy).Contents (Elt F)),
    binary main_arg3 main_v29 main_v35 (subf : (⟨S4096x16, .f32⟩ : BufTy).Contents (Elt F) → (⟨S4096x16, .f32⟩ : BufTy).Contents (Elt F) → (⟨S4096x16, .f32⟩ : BufTy).Contents (Elt F)),
    unary main_v35 main_v36 ((truncf .bf16 · bitsLt_bf16_f32) : (⟨S4096x16, .f32⟩ : BufTy).Contents (Elt F) → (⟨S4096x16, .bf16⟩ : BufTy).Contents (Elt F)),
    unary main_v36 main_v37 ((extf .f32 · bitsLt_bf16_f32) : (⟨S4096x16, .bf16⟩ : BufTy).Contents (Elt F) → (⟨S4096x16, .f32⟩ : BufTy).Contents (Elt F)),
    binary main_v35 main_v37 main_v38 (subf : (⟨S4096x16, .f32⟩ : BufTy).Contents (Elt F) → (⟨S4096x16, .f32⟩ : BufTy).Contents (Elt F) → (⟨S4096x16, .f32⟩ : BufTy).Contents (Elt F)),
    unary main_v38 main_v39 ((truncf .bf16 · bitsLt_bf16_f32) : (⟨S4096x16, .f32⟩ : BufTy).Contents (Elt F) → (⟨S4096x16, .bf16⟩ : BufTy).Contents (Elt F)),
    unary main_v39 main_v40 ((extf .f32 · bitsLt_bf16_f32) : (⟨S4096x16, .bf16⟩ : BufTy).Contents (Elt F) → (⟨S4096x16, .f32⟩ : BufTy).Contents (Elt F)),
    binary main_v35 main_v37 main_v41 (subf : (⟨S4096x16, .f32⟩ : BufTy).Contents (Elt F) → (⟨S4096x16, .f32⟩ : BufTy).Contents (Elt F) → (⟨S4096x16, .f32⟩ : BufTy).Contents (Elt F)),
    binary main_v41 main_v40 main_v42 (subf : (⟨S4096x16, .f32⟩ : BufTy).Contents (Elt F) → (⟨S4096x16, .f32⟩ : BufTy).Contents (Elt F) → (⟨S4096x16, .f32⟩ : BufTy).Contents (Elt F)),
    unary main_v42 main_v43 ((truncf .bf16 · bitsLt_bf16_f32) : (⟨S4096x16, .f32⟩ : BufTy).Contents (Elt F) → (⟨S4096x16, .bf16⟩ : BufTy).Contents (Elt F)),
    unary main_v43 main_v44 ((extf .f32 · bitsLt_bf16_f32) : (⟨S4096x16, .bf16⟩ : BufTy).Contents (Elt F) → (⟨S4096x16, .f32⟩ : BufTy).Contents (Elt F)),
    unary main_v37 main_v45 (broadcastInDim S4096x16x1 ![0, 1] bcast_S4096x16_S4096x16x1_0_1 : (⟨S4096x16, .f32⟩ : BufTy).Contents (Elt F) → (⟨S4096x16x1, .f32⟩ : BufTy).Contents (Elt F)),
    unary main_v40 main_v46 (broadcastInDim S4096x16x1 ![0, 1] bcast_S4096x16_S4096x16x1_0_1 : (⟨S4096x16, .f32⟩ : BufTy).Contents (Elt F) → (⟨S4096x16x1, .f32⟩ : BufTy).Contents (Elt F)),
    unary main_v44 main_v47 (broadcastInDim S4096x16x1 ![0, 1] bcast_S4096x16_S4096x16x1_0_1 : (⟨S4096x16, .f32⟩ : BufTy).Contents (Elt F) → (⟨S4096x16x1, .f32⟩ : BufTy).Contents (Elt F)),
    unary main_v32 main_v48 (broadcastInDim S4096x16x1 ![0, 1] bcast_S4096x16_S4096x16x1_0_1 : (⟨S4096x16, .f32⟩ : BufTy).Contents (Elt F) → (⟨S4096x16x1, .f32⟩ : BufTy).Contents (Elt F)),
    unary main_v32 main_v49 (broadcastInDim S4096x16x1 ![0, 1] bcast_S4096x16_S4096x16x1_0_1 : (⟨S4096x16, .f32⟩ : BufTy).Contents (Elt F) → (⟨S4096x16x1, .f32⟩ : BufTy).Contents (Elt F)),
    unary main_v32 main_v50 (broadcastInDim S4096x16x1 ![0, 1] bcast_S4096x16_S4096x16x1_0_1 : (⟨S4096x16, .f32⟩ : BufTy).Contents (Elt F) → (⟨S4096x16x1, .f32⟩ : BufTy).Contents (Elt F)),
    nullary main_cst_6 (constant S_ .f32 0x00000000#32),
    unary main_cst_6 main_v51 (broadcastInDim S4096x16x58 ![] bcast_S_S4096x16x58 : (⟨S_, .f32⟩ : BufTy).Contents (Elt F) → (⟨S4096x16x58, .f32⟩ : BufTy).Contents (Elt F)),
    nary ![main_v34, main_v45, main_v46, main_v47, main_v48, main_v49, main_v50, main_v51] main_v52 (fun u => fn_main_v52 (F := F) (u 0) (u 1) (u 2) (u 3) (u 4) (u 5) (u 6) (u 7)),
    reshape main_v52 main_v53 (rfl : (.f32 : EltTy) = .f32) shapeCasts_S4096x16x128_S4096x2048,
    unary main_v53 main_v54 ((truncf .bf16 · bitsLt_bf16_f32) : (⟨S4096x2048, .f32⟩ : BufTy).Contents (Elt F) → (⟨S4096x2048, .bf16⟩ : BufTy).Contents (Elt F)),
    unary main_arg3 main_v55 ((truncf .bf16 · bitsLt_bf16_f32) : (⟨S4096x16, .f32⟩ : BufTy).Contents (Elt F) → (⟨S4096x16, .bf16⟩ : BufTy).Contents (Elt F)),
    unary main_v55 main_v56 ((extf .f32 · bitsLt_bf16_f32) : (⟨S4096x16, .bf16⟩ : BufTy).Contents (Elt F) → (⟨S4096x16, .f32⟩ : BufTy).Contents (Elt F)),
    binary main_arg3 main_v56 main_v57 (subf : (⟨S4096x16, .f32⟩ : BufTy).Contents (Elt F) → (⟨S4096x16, .f32⟩ : BufTy).Contents (Elt F) → (⟨S4096x16, .f32⟩ : BufTy).Contents (Elt F)),
    unary main_v57 main_v58 ((truncf .bf16 · bitsLt_bf16_f32) : (⟨S4096x16, .f32⟩ : BufTy).Contents (Elt F) → (⟨S4096x16, .bf16⟩ : BufTy).Contents (Elt F)),
    unary main_v58 main_v59 ((extf .f32 · bitsLt_bf16_f32) : (⟨S4096x16, .bf16⟩ : BufTy).Contents (Elt F) → (⟨S4096x16, .f32⟩ : BufTy).Contents (Elt F)),
    binary main_arg3 main_v56 main_v60 (subf : (⟨S4096x16, .f32⟩ : BufTy).Contents (Elt F) → (⟨S4096x16, .f32⟩ : BufTy).Contents (Elt F) → (⟨S4096x16, .f32⟩ : BufTy).Contents (Elt F)),
    binary main_v60 main_v59 main_v61 (subf : (⟨S4096x16, .f32⟩ : BufTy).Contents (Elt F) → (⟨S4096x16, .f32⟩ : BufTy).Contents (Elt F) → (⟨S4096x16, .f32⟩ : BufTy).Contents (Elt F)),
    unary main_v61 main_v62 ((truncf .bf16 · bitsLt_bf16_f32) : (⟨S4096x16, .f32⟩ : BufTy).Contents (Elt F) → (⟨S4096x16, .bf16⟩ : BufTy).Contents (Elt F)),
    unary main_v62 main_v63 ((extf .f32 · bitsLt_bf16_f32) : (⟨S4096x16, .bf16⟩ : BufTy).Contents (Elt F) → (⟨S4096x16, .f32⟩ : BufTy).Contents (Elt F)),
    unary main_v56 main_v64 (Host.negf : (⟨S4096x16, .f32⟩ : BufTy).Contents (Elt F) → (⟨S4096x16, .f32⟩ : BufTy).Contents (Elt F)),
    unary main_v59 main_v65 (Host.negf : (⟨S4096x16, .f32⟩ : BufTy).Contents (Elt F) → (⟨S4096x16, .f32⟩ : BufTy).Contents (Elt F)),
    unary main_v63 main_v66 (Host.negf : (⟨S4096x16, .f32⟩ : BufTy).Contents (Elt F) → (⟨S4096x16, .f32⟩ : BufTy).Contents (Elt F)),
    unary main_v32 main_v67 (broadcastInDim S4096x16x1 ![0, 1] bcast_S4096x16_S4096x16x1_0_1 : (⟨S4096x16, .f32⟩ : BufTy).Contents (Elt F) → (⟨S4096x16x1, .f32⟩ : BufTy).Contents (Elt F)),
    unary main_v32 main_v68 (broadcastInDim S4096x16x1 ![0, 1] bcast_S4096x16_S4096x16x1_0_1 : (⟨S4096x16, .f32⟩ : BufTy).Contents (Elt F) → (⟨S4096x16x1, .f32⟩ : BufTy).Contents (Elt F)),
    unary main_v32 main_v69 (broadcastInDim S4096x16x1 ![0, 1] bcast_S4096x16_S4096x16x1_0_1 : (⟨S4096x16, .f32⟩ : BufTy).Contents (Elt F) → (⟨S4096x16x1, .f32⟩ : BufTy).Contents (Elt F)),
    unary main_v64 main_v70 (broadcastInDim S4096x16x1 ![0, 1] bcast_S4096x16_S4096x16x1_0_1 : (⟨S4096x16, .f32⟩ : BufTy).Contents (Elt F) → (⟨S4096x16x1, .f32⟩ : BufTy).Contents (Elt F)),
    unary main_v65 main_v71 (broadcastInDim S4096x16x1 ![0, 1] bcast_S4096x16_S4096x16x1_0_1 : (⟨S4096x16, .f32⟩ : BufTy).Contents (Elt F) → (⟨S4096x16x1, .f32⟩ : BufTy).Contents (Elt F)),
    unary main_v66 main_v72 (broadcastInDim S4096x16x1 ![0, 1] bcast_S4096x16_S4096x16x1_0_1 : (⟨S4096x16, .f32⟩ : BufTy).Contents (Elt F) → (⟨S4096x16x1, .f32⟩ : BufTy).Contents (Elt F)),
    nullary main_cst_7 (constant S_ .f32 0x00000000#32),
    unary main_cst_7 main_v73 (broadcastInDim S4096x16x58 ![] bcast_S_S4096x16x58 : (⟨S_, .f32⟩ : BufTy).Contents (Elt F) → (⟨S4096x16x58, .f32⟩ : BufTy).Contents (Elt F)),
    nary ![main_arg1, main_v67, main_v68, main_v69, main_v70, main_v71, main_v72, main_v73] main_v74 (fun u => fn_main_v74 (F := F) (u 0) (u 1) (u 2) (u 3) (u 4) (u 5) (u 6) (u 7)),
    reshape main_v74 main_v75 (rfl : (.f32 : EltTy) = .f32) shapeCasts_S4096x16x128_S4096x2048,
    unary main_v75 main_v76 ((truncf .bf16 · bitsLt_bf16_f32) : (⟨S4096x2048, .f32⟩ : BufTy).Contents (Elt F) → (⟨S4096x2048, .bf16⟩ : BufTy).Contents (Elt F)),
    unary main_v32 main_v77 (broadcastInDim S4096x16x1 ![0, 1] bcast_S4096x16_S4096x16x1_0_1 : (⟨S4096x16, .f32⟩ : BufTy).Contents (Elt F) → (⟨S4096x16x1, .f32⟩ : BufTy).Contents (Elt F)),
    unary main_v32 main_v78 (broadcastInDim S4096x16x1 ![0, 1] bcast_S4096x16_S4096x16x1_0_1 : (⟨S4096x16, .f32⟩ : BufTy).Contents (Elt F) → (⟨S4096x16x1, .f32⟩ : BufTy).Contents (Elt F)),
    unary main_v32 main_v79 (broadcastInDim S4096x16x1 ![0, 1] bcast_S4096x16_S4096x16x1_0_1 : (⟨S4096x16, .f32⟩ : BufTy).Contents (Elt F) → (⟨S4096x16x1, .f32⟩ : BufTy).Contents (Elt F)),
    nullary main_cst_8 (constant S_ .f32 0x00000000#32),
    unary main_cst_8 main_v80 (broadcastInDim S4096x16x61 ![] bcast_S_S4096x16x61 : (⟨S_, .f32⟩ : BufTy).Contents (Elt F) → (⟨S4096x16x61, .f32⟩ : BufTy).Contents (Elt F)),
    nary ![main_arg2, main_v77, main_v78, main_v79, main_v80] main_v81 (fun u => fn_main_v81 (F := F) (u 0) (u 1) (u 2) (u 3) (u 4)),
    reshape main_v81 main_v82 (rfl : (.f32 : EltTy) = .f32) shapeCasts_S4096x16x128_S4096x2048,
    unary main_v82 main_v83 ((truncf .bf16 · bitsLt_bf16_f32) : (⟨S4096x2048, .f32⟩ : BufTy).Contents (Elt F) → (⟨S4096x2048, .bf16⟩ : BufTy).Contents (Elt F)),
    unary main_v31 main_v84 ((truncf .bf16 · bitsLt_bf16_f32) : (⟨S4096x16, .f32⟩ : BufTy).Contents (Elt F) → (⟨S4096x16, .bf16⟩ : BufTy).Contents (Elt F)),
    unary main_v84 main_v85 ((extf .f32 · bitsLt_bf16_f32) : (⟨S4096x16, .bf16⟩ : BufTy).Contents (Elt F) → (⟨S4096x16, .f32⟩ : BufTy).Contents (Elt F)),
    binary main_v31 main_v85 main_v86 (subf : (⟨S4096x16, .f32⟩ : BufTy).Contents (Elt F) → (⟨S4096x16, .f32⟩ : BufTy).Contents (Elt F) → (⟨S4096x16, .f32⟩ : BufTy).Contents (Elt F)),
    unary main_v86 main_v87 ((truncf .bf16 · bitsLt_bf16_f32) : (⟨S4096x16, .f32⟩ : BufTy).Contents (Elt F) → (⟨S4096x16, .bf16⟩ : BufTy).Contents (Elt F)),
    unary main_v87 main_v88 ((extf .f32 · bitsLt_bf16_f32) : (⟨S4096x16, .bf16⟩ : BufTy).Contents (Elt F) → (⟨S4096x16, .f32⟩ : BufTy).Contents (Elt F)),
    binary main_v31 main_v85 main_v89 (subf : (⟨S4096x16, .f32⟩ : BufTy).Contents (Elt F) → (⟨S4096x16, .f32⟩ : BufTy).Contents (Elt F) → (⟨S4096x16, .f32⟩ : BufTy).Contents (Elt F)),
    binary main_v89 main_v88 main_v90 (subf : (⟨S4096x16, .f32⟩ : BufTy).Contents (Elt F) → (⟨S4096x16, .f32⟩ : BufTy).Contents (Elt F) → (⟨S4096x16, .f32⟩ : BufTy).Contents (Elt F)),
    unary main_v90 main_v91 ((truncf .bf16 · bitsLt_bf16_f32) : (⟨S4096x16, .f32⟩ : BufTy).Contents (Elt F) → (⟨S4096x16, .bf16⟩ : BufTy).Contents (Elt F)),
    unary main_v91 main_v92 ((extf .f32 · bitsLt_bf16_f32) : (⟨S4096x16, .bf16⟩ : BufTy).Contents (Elt F) → (⟨S4096x16, .f32⟩ : BufTy).Contents (Elt F)),
    unary main_v85 main_v93 (Host.negf : (⟨S4096x16, .f32⟩ : BufTy).Contents (Elt F) → (⟨S4096x16, .f32⟩ : BufTy).Contents (Elt F)),
    unary main_v88 main_v94 (Host.negf : (⟨S4096x16, .f32⟩ : BufTy).Contents (Elt F) → (⟨S4096x16, .f32⟩ : BufTy).Contents (Elt F)),
    unary main_v92 main_v95 (Host.negf : (⟨S4096x16, .f32⟩ : BufTy).Contents (Elt F) → (⟨S4096x16, .f32⟩ : BufTy).Contents (Elt F)),
    unary main_v93 main_v96 (broadcastInDim S4096x16x1 ![0, 1] bcast_S4096x16_S4096x16x1_0_1 : (⟨S4096x16, .f32⟩ : BufTy).Contents (Elt F) → (⟨S4096x16x1, .f32⟩ : BufTy).Contents (Elt F)),
    unary main_v94 main_v97 (broadcastInDim S4096x16x1 ![0, 1] bcast_S4096x16_S4096x16x1_0_1 : (⟨S4096x16, .f32⟩ : BufTy).Contents (Elt F) → (⟨S4096x16x1, .f32⟩ : BufTy).Contents (Elt F)),
    unary main_v95 main_v98 (broadcastInDim S4096x16x1 ![0, 1] bcast_S4096x16_S4096x16x1_0_1 : (⟨S4096x16, .f32⟩ : BufTy).Contents (Elt F) → (⟨S4096x16x1, .f32⟩ : BufTy).Contents (Elt F)),
    nullary main_cst_9 (constant S_ .f32 0x00000000#32),
    unary main_cst_9 main_v99 (broadcastInDim S4096x16x61 ![] bcast_S_S4096x16x61 : (⟨S_, .f32⟩ : BufTy).Contents (Elt F) → (⟨S4096x16x61, .f32⟩ : BufTy).Contents (Elt F)),
    nary ![main_arg4, main_v96, main_v97, main_v98, main_v99] main_v100 (fun u => fn_main_v100 (F := F) (u 0) (u 1) (u 2) (u 3) (u 4)),
    reshape main_v100 main_v101 (rfl : (.f32 : EltTy) = .f32) shapeCasts_S4096x16x128_S4096x2048,
    unary main_v101 main_v102 ((truncf .bf16 · bitsLt_bf16_f32) : (⟨S4096x2048, .f32⟩ : BufTy).Contents (Elt F) → (⟨S4096x2048, .bf16⟩ : BufTy).Contents (Elt F)) ]

set_option maxRecDepth 8192 in
set_option maxHeartbeats 4000000 in
/-- The region is entered after exactly these operations. -/
theorem prefixOps_eq : (List.flatten [hostOps0, hostOps0_1, hostOps0_2] : List (HloOp τ sig (Elt F))) = prefixOps := rfl

end Cert.KernelIdeal.Prefix

end
-- ==== Proof.PrefixEntry.lean ====
/- What the four prepared arrays hold when the region is entered. -/
module

public import proofs.«01_k».proof.Proof.PrefixOps
public import proofs.«01_k».proof.Proof.PrefixRead

@[expose] public section

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 12000000 in
/-- The array of queries when the region is entered. -/
theorem entry_queries (m : (ℓ : Loc nD τ sig) → Buf (Elt F) ℓ) (c : Dev nD) :
    V m c main_v54 = pre_v54 (F := F) (m ((c.tc : Thread nD τ).loc main_arg0)) (m ((c.tc : Thread nD τ).loc main_arg1)) (m ((c.tc : Thread nD τ).loc main_arg3)) := by
  show after _ _ _ = _
  rw [prefixOps_eq]
  simp only [prefixOps, TRef.ternary, TRef.unary, TRef.toBuf, TRef.ofBuf, cast_eq]
  after_results_simp <;> (try dsimp only [Matrix.cons_val]) <;> (try after_results_simp) <;> rfl

set_option maxRecDepth 8192 in
set_option maxHeartbeats 12000000 in
/-- The array of gradients of the outputs when the region is entered. -/
theorem entry_outs (m : (ℓ : Loc nD τ sig) → Buf (Elt F) ℓ) (c : Dev nD) :
    V m c main_v102 = pre_v102 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after _ _ _ = _
  rw [prefixOps_eq]
  simp only [prefixOps, TRef.ternary, TRef.unary, TRef.toBuf, TRef.ofBuf, cast_eq]
  after_results_simp <;> (try dsimp only [Matrix.cons_val]) <;> (try after_results_simp) <;> rfl

set_option maxRecDepth 8192 in
set_option maxHeartbeats 12000000 in
/-- The array of keys when the region is entered. -/
theorem entry_keys (m : (ℓ : Loc nD τ sig) → Buf (Elt F) ℓ) (c : Dev nD) :
    V m c main_v76 = pre_v76 (F := F) (m ((c.tc : Thread nD τ).loc main_arg1)) (m ((c.tc : Thread nD τ).loc main_arg3)) := by
  show after _ _ _ = _
  rw [prefixOps_eq]
  simp only [prefixOps, TRef.ternary, TRef.unary, TRef.toBuf, TRef.ofBuf, cast_eq]
  after_results_simp <;> (try dsimp only [Matrix.cons_val]) <;> (try after_results_simp) <;> rfl

set_option maxRecDepth 8192 in
set_option maxHeartbeats 12000000 in
/-- The array of values when the region is entered. -/
theorem entry_vals (m : (ℓ : Loc nD τ sig) → Buf (Elt F) ℓ) (c : Dev nD) :
    V m c main_v83 = pre_v83 (F := F) (m ((c.tc : Thread nD τ).loc main_arg2)) := by
  show after _ _ _ = _
  rw [prefixOps_eq]
  simp only [prefixOps, TRef.ternary, TRef.unary, TRef.toBuf, TRef.ofBuf, cast_eq]
  after_results_simp <;> (try dsimp only [Matrix.cons_val]) <;> (try after_results_simp) <;> rfl

end Cert.KernelIdeal.Prefix

end
-- ==== Proof.Arrays.lean ====
/- The call's three results as whole arrays: what each window's write-backs leave is one function of the call's operands. -/
module

public import proofs.«01_k».proof.Proof.Pairs
public import Idealize.ShloMosaic.Lib.Pipeline.Value

@[expose] public section

set_option maxRecDepth 16384

noncomputable section

namespace Cert.KernelIdeal.Fox

open Cert.KernelIdeal Cert.KernelIdeal.Gen
open Idealize.ShloMosaic Idealize.ShloMosaic.TcCoe Idealize.ShloMosaic.ValueIdx
open Idealize.SL Idealize.SL.RA Idealize.SL.Sem
open scoped BigOperators

/-- The head and lane of a column. -/
def colHead (i : Fin 2048) : Fin 16 := ⟨i.val / 128, by omega⟩
def colLane (i : Fin 2048) : Fin 128 := ⟨i.val % 128, by omega⟩
/-- The head and lane of a column of the values. -/
def valHead (i : Fin 1024) : Fin 16 := ⟨i.val / 64, by omega⟩
def valLane (i : Fin 1024) : Fin 128 := ⟨i.val % 64, by omega⟩

/-! ## What a point hands its windows -/

theorem keyOut_apply (a : Carry Ideal) (h : Fin 2) (k : Fin 512) (l : Fin 128) :
    keyOut a (ix2 k (laneOf h l)) = keyOf a h (ix2 k l) := by
  have hk := k.isLt
  have hl := l.isLt
  fin_cases h
  · show VecWindow.put (s := S512x256) _ ![0, 128] S512x128.size a.2.2.1 (ix2 k (laneOf 0 l)) = a.1 (ix2 k l)
    unfold VecWindow.put
    rw [dif_neg (fun H => by have := (H 1).1; change 128 ≤ 128 * 0 + l.val at this; omega)]
    rw [dif_pos (fun b => by
      match b with
      | ⟨0, _⟩ => show 0 ≤ k.val ∧ k.val < 0 + 512; omega
      | ⟨1, _⟩ => show 0 ≤ 128 * 0 + l.val ∧ 128 * 0 + l.val < 0 + 128; omega)]
    refine congrArg a.1 (funext fun b => Fin.ext ?_)
    match b with
    | ⟨0, _⟩ => show k.val - 0 = k.val; omega
    | ⟨1, _⟩ => show 128 * 0 + l.val - 0 = l.val; omega
  · show VecWindow.put (s := S512x256) _ ![0, 128] S512x128.size a.2.2.1 (ix2 k (laneOf 1 l)) = a.2.2.1 (ix2 k l)
    unfold VecWindow.put
    rw [dif_pos (fun b => by
      match b with
      | ⟨0, _⟩ => show 0 ≤ k.val ∧ k.val < 0 + 512; omega
      | ⟨1, _⟩ => show 128 ≤ 128 * 1 + l.val ∧ 128 * 1 + l.val < 128 + 128; omega)]
    refine congrArg a.2.2.1 (funext fun b => Fin.ext ?_)
    match b with
    | ⟨0, _⟩ => show k.val - 0 = k.val; omega
    | ⟨1, _⟩ => show 128 * 1 + l.val - 128 = l.val; omega

theorem lane_word : ∀ l : Fin 128, IntOp.cmpi .slt (BitVec.ofNat 32 (0 * 128 + l.val)) 64#32 = 1#1 ↔ l.val < 64 := by decide +kernel

theorem valueOut_apply (a : Carry Ideal) (k : Fin 512) (l : Fin 128) :
    valueOut a (ix2 k l) = valOf a ⟨l.val / 64, by omega⟩ (ix2 k ⟨l.val % 64, by omega⟩) := by
  have hl := l.isLt
  show (if IntOp.cmpi .slt (BitVec.ofNat 32 (0 * 128 + l.val)) 64#32 = 1#1 then a.2.1 (ix2 k l)
    else dynamicRotate 1 64#32 none a.2.2.2 rotates_S512x128_d1 (ix2 k l)) = _
  by_cases h : l.val < 64
  · rw [if_pos ((lane_word l).mpr h)]
    unfold valOf
    rw [if_pos (Fin.ext (by show l.val / 64 = 0; omega))]
    exact congrArg a.2.1 (congrArg (ix2 k) (Fin.ext (by show l.val = l.val % 64; omega)))
  · rw [if_neg (fun e => h ((lane_word l).mp e))]
    unfold valOf
    rw [if_neg (fun e => by have := congrArg Fin.val e; change l.val / 64 = 0 at this; omega)]
    refine dynamicRotate_apply (s := S512x128) (1 : Fin 2) 64#32 _ rotates_S512x128_d1 _ _ fun b => ?_
    match b with
    | ⟨0, _⟩ => rfl
    | ⟨1, _⟩ =>
      show l.val % 64 = (l.val + 128 - 64 % 128) % 128
      omega

/-! ## The arrays -/

variable (m : (ℓ : Loc nD τ sig) → Buf (Elt Ideal) ℓ) (c : Dev nD)

/-- The queries' gradient array, -/
def resultQ : S4096x2048.Idx → EReal := fun i =>
  queryGradAt (qsOf m c) (outsOf m c) (ksOf m c) (vsOf m c) (colHead (i 1)) (i 0) (colLane (i 1))
/-- the keys', -/
def resultK : S4096x2048.Idx → EReal := fun i =>
  keyGradAt (qsOf m c) (outsOf m c) (ksOf m c) (vsOf m c) (colHead (i 1)) (i 0) (colLane (i 1))
/-- and the values'. -/
def resultV : S4096x1024.Idx → EReal := fun i =>
  valueGradAt (qsOf m c) (outsOf m c) (ksOf m c) (valHead (i 1)) (i 0) (valLane (i 1))

attribute [local irreducible] stateAt gradFound queryGradAt keyGradAt valueGradAt

/-- A column of a pair's block by its head and lane. -/
theorem eq_lane {n : ℕ} (j : (⟨2, ![n, 256]⟩ : Shape).Idx) (h : (j 1).val / 128 < 2) :
    j = ix2 (j 0) (laneOf ⟨(j 1).val / 128, h⟩ ⟨(j 1).val % 128, Nat.mod_lt _ (by decide)⟩) := by
  funext a
  apply Fin.ext
  match a with
  | ⟨0, _⟩ => rfl
  | ⟨1, _⟩ => show (j 1).val = 128 * ((j 1).val / 128) + (j 1).val % 128; omega

theorem query_block (t : Fin cfg0.N) (ht : t.val % 8 = 7) (j : S4096x256.Idx) (h : (j 1).val / 128 < 2) :
    (stateAt m c t).2 j = queryGradAt (qsOf m c) (outsOf m c) (ksOf m c) (vsOf m c) (headOf (pairOf t) ⟨(j 1).val / 128, h⟩) (j 0)
      ⟨(j 1).val % 128, Nat.mod_lt _ (by decide)⟩ :=
  (congrArg (stateAt m c t).2 (eq_lane j h)).trans (query_state m c t ht _ _ _)

theorem key_block (t : Fin cfg0.N) (j : S512x256.Idx) (h : (j 1).val / 128 < 2) :
    keyOut (stateAt m c t).1 j = keyGradAt (qsOf m c) (outsOf m c) (ksOf m c) (vsOf m c) (headOf (pairOf t) ⟨(j 1).val / 128, h⟩)
      (keyAt (keyBlock t) (j 0)) ⟨(j 1).val % 128, Nat.mod_lt _ (by decide)⟩ :=
  (congrArg (keyOut (stateAt m c t).1) (eq_lane j h)).trans ((keyOut_apply _ _ _ _).trans (key_state m c t _ _ _))

theorem value_block (t : Fin cfg0.N) (j : S512x128.Idx) (h : (j 1).val / 64 < 2) :
    valueOut (stateAt m c t).1 j = valueGradAt (qsOf m c) (outsOf m c) (ksOf m c) (headOf (pairOf t) ⟨(j 1).val / 64, h⟩)
      (keyAt (keyBlock t) (j 0)) ⟨(j 1).val % 64, Nat.lt_of_lt_of_le (Nat.mod_lt _ (by decide)) (by decide)⟩ := by
  have e : j = ix2 (j 0) (j 1) := by
    funext a
    match a with
    | ⟨0, _⟩ => rfl
    | ⟨1, _⟩ => rfl
  have h1 := valueOut_apply (stateAt m c t).1 (j 0) (j 1)
  have h2 := value_state m c t ⟨(j 1).val / 64, h⟩ (j 0) ⟨(j 1).val % 64, Nat.lt_of_lt_of_le (Nat.mod_lt _ (by decide)) (by decide)⟩
  have h3 := h1.trans h2
  exact (congrArg (valueOut (stateAt m c t).1) e).trans h3

theorem flushed_4 (t : Fin cfg0.N) (hf : (cfg0.win 4).flush t = true) :
    (dats m 0 c).flushed 4 t = ((cfg0.win 4).blk t).view.read (Elt Ideal) (resultQ m c) := by
  have ht : t.val % 8 = 7 := (flush0_4 t).mp hf
  show (cfg0.win 4).cut (grid0.coords t) ((dats m 0 c).after 4 t) = _
  rw [after_4]
  funext j
  rw [View.read_apply]
  have h1 : (j 1).val < 256 := (j 1).isLt
  have h2 : (j 1).val / 128 < 2 := by omega
  have h := query_block m c t ht j h2
  refine Eq.trans (show _ = _ from h) ?_
  clear h
  show queryGradAt _ _ _ _ _ _ _ = queryGradAt _ _ _ _ _ _ _
  refine congr (congr (congrArg _ (Fin.ext ?_)) (Fin.ext ?_)) (Fin.ext ?_)
  · show 2 * (t.val / 8) + (j 1).val / 128 = (win0_4.index t 1 * 256 + 1 * (j 1).val) / 128
    rw [(index_4 t).2]; omega
  · show (j 0).val = win0_4.index t 0 * 4096 + 1 * (j 0).val
    rw [(index_4 t).1]; omega
  · show (j 1).val % 128 = (win0_4.index t 1 * 256 + 1 * (j 1).val) % 128
    rw [(index_4 t).2]; omega

theorem flushed_5 (t : Fin cfg0.N) (hf : (cfg0.win 5).flush t = true) :
    (dats m 0 c).flushed 5 t = ((cfg0.win 5).blk t).view.read (Elt Ideal) (resultK m c) := by
  show (cfg0.win 5).cut (grid0.coords t) ((dats m 0 c).after 5 t) = _
  rw [after_5]
  funext j
  rw [View.read_apply]
  have h1 : (j 1).val < 256 := (j 1).isLt
  have h2 : (j 1).val / 128 < 2 := by omega
  have h := key_block m c t j h2
  refine Eq.trans (show _ = _ from h) ?_
  clear h
  show keyGradAt _ _ _ _ _ _ _ = keyGradAt _ _ _ _ _ _ _
  refine congr (congr (congrArg _ (Fin.ext ?_)) (Fin.ext ?_)) (Fin.ext ?_)
  · show 2 * (t.val / 8) + (j 1).val / 128 = (win0_5.index t 1 * 256 + 1 * (j 1).val) / 128
    rw [(index_5 t).2]; omega
  · show 512 * (t.val % 8) + (j 0).val = win0_5.index t 0 * 512 + 1 * (j 0).val
    rw [(index_5 t).1]; omega
  · show (j 1).val % 128 = (win0_5.index t 1 * 256 + 1 * (j 1).val) % 128
    rw [(index_5 t).2]; omega

theorem flushed_6 (t : Fin cfg0.N) (hf : (cfg0.win 6).flush t = true) :
    (dats m 0 c).flushed 6 t = ((cfg0.win 6).blk t).view.read (Elt Ideal) (resultV m c) := by
  show (cfg0.win 6).cut (grid0.coords t) ((dats m 0 c).after 6 t) = _
  rw [after_6]
  funext j
  rw [View.read_apply]
  have h1 : (j 1).val < 128 := (j 1).isLt
  have h2 : (j 1).val / 64 < 2 := by omega
  have h := value_block m c t j h2
  refine Eq.trans (show _ = _ from h) ?_
  clear h
  show valueGradAt _ _ _ _ _ _ = valueGradAt _ _ _ _ _ _
  refine congr (congr (congrArg _ (Fin.ext ?_)) (Fin.ext ?_)) (Fin.ext ?_)
  · show 2 * (t.val / 8) + (j 1).val / 64 = (win0_6.index t 1 * 128 + 1 * (j 1).val) / 64
    rw [(index_6 t).2]; omega
  · show 512 * (t.val % 8) + (j 0).val = win0_6.index t 0 * 512 + 1 * (j 0).val
    rw [(index_6 t).1]; omega
  · show (j 1).val % 64 = (win0_6.index t 1 * 128 + 1 * (j 1).val) % 64
    rw [(index_6 t).2]; omega

theorem size_4 : ∀ t : Fin grid0.N, win0_4.size 0 = 4096 ∧ win0_4.size 1 = 256 ∧ win0_4.xsize (grid0.coords t) 0 = 4096 ∧ win0_4.xsize (grid0.coords t) 1 = 256 := by decide +kernel
theorem size_5 : ∀ t : Fin grid0.N, win0_5.size 0 = 512 ∧ win0_5.size 1 = 256 ∧ win0_5.xsize (grid0.coords t) 0 = 512 ∧ win0_5.xsize (grid0.coords t) 1 = 256 := by decide +kernel
theorem size_6 : ∀ t : Fin grid0.N, win0_6.size 0 = 512 ∧ win0_6.size 1 = 128 ∧ win0_6.xsize (grid0.coords t) 0 = 512 ∧ win0_6.xsize (grid0.coords t) 1 = 128 := by decide +kernel

theorem point_lt {n : ℕ} (h : n < 64) : n < cfg0.N := by have e : cfg0.N = 64 := N_0; omega

theorem final_4 : (dats m 0 c).arrAt 4 cfg0.N = resultQ m c :=
  (dats m 0 c).arrAt_eq_of_cover 4 (resultQ m c) (flushed_4 m c) fun i => by
    have h0 : (i 0 : ℕ) < 4096 := (i 0).isLt
    have h1 : (i 1 : ℕ) < 2048 := (i 1).isLt
    let t : Fin cfg0.N := ⟨8 * ((i 1 : ℕ) / 256) + 7, point_lt (by omega)⟩
    have ht : t.val = 8 * ((i 1 : ℕ) / 256) + 7 := rfl
    refine ⟨t, (flush0_4 t).mpr (by omega), ?_⟩
    show i ∈ ((View.whole main_v103_0).slice (win0_4.rect t)).set
    rw [View.set_slice_whole, Rect.mem_set_unit]
    have hs := size_4 t
    have hi := index_4 t
    intro a
    match a with
    | ⟨0, _⟩ =>
      show win0_4.index t 0 * win0_4.size 0 ≤ (i 0 : ℕ) ∧ (i 0 : ℕ) < win0_4.index t 0 * win0_4.size 0 + win0_4.xsize (grid0.coords t) 0
      rw [hi.1, hs.1, hs.2.2.1]; omega
    | ⟨1, _⟩ =>
      show win0_4.index t 1 * win0_4.size 1 ≤ (i 1 : ℕ) ∧ (i 1 : ℕ) < win0_4.index t 1 * win0_4.size 1 + win0_4.xsize (grid0.coords t) 1
      rw [hi.2, hs.2.1, hs.2.2.2]; omega

theorem final_5 : (dats m 0 c).arrAt 5 cfg0.N = resultK m c :=
  (dats m 0 c).arrAt_eq_of_cover 5 (resultK m c) (flushed_5 m c) fun i => by
    have h0 : (i 0 : ℕ) < 4096 := (i 0).isLt
    have h1 : (i 1 : ℕ) < 2048 := (i 1).isLt
    let t : Fin cfg0.N := ⟨8 * ((i 1 : ℕ) / 256) + (i 0 : ℕ) / 512, point_lt (by omega)⟩
    have ht : t.val = 8 * ((i 1 : ℕ) / 256) + (i 0 : ℕ) / 512 := rfl
    refine ⟨t, flush0_5 t, ?_⟩
    show i ∈ ((View.whole main_v103_1).slice (win0_5.rect t)).set
    rw [View.set_slice_whole, Rect.mem_set_unit]
    have hs := size_5 t
    have hi := index_5 t
    intro a
    match a with
    | ⟨0, _⟩ =>
      show win0_5.index t 0 * win0_5.size 0 ≤ (i 0 : ℕ) ∧ (i 0 : ℕ) < win0_5.index t 0 * win0_5.size 0 + win0_5.xsize (grid0.coords t) 0
      rw [hi.1, hs.1, hs.2.2.1]; omega
    | ⟨1, _⟩ =>
      show win0_5.index t 1 * win0_5.size 1 ≤ (i 1 : ℕ) ∧ (i 1 : ℕ) < win0_5.index t 1 * win0_5.size 1 + win0_5.xsize (grid0.coords t) 1
      rw [hi.2, hs.2.1, hs.2.2.2]; omega

theorem final_6 : (dats m 0 c).arrAt 6 cfg0.N = resultV m c :=
  (dats m 0 c).arrAt_eq_of_cover 6 (resultV m c) (flushed_6 m c) fun i => by
    have h0 : (i 0 : ℕ) < 4096 := (i 0).isLt
    have h1 : (i 1 : ℕ) < 1024 := (i 1).isLt
    let t : Fin cfg0.N := ⟨8 * ((i 1 : ℕ) / 128) + (i 0 : ℕ) / 512, point_lt (by omega)⟩
    have ht : t.val = 8 * ((i 1 : ℕ) / 128) + (i 0 : ℕ) / 512 := rfl
    refine ⟨t, flush0_6 t, ?_⟩
    show i ∈ ((View.whole main_v103_2).slice (win0_6.rect t)).set
    rw [View.set_slice_whole, Rect.mem_set_unit]
    have hs := size_6 t
    have hi := index_6 t
    intro a
    match a with
    | ⟨0, _⟩ =>
      show win0_6.index t 0 * win0_6.size 0 ≤ (i 0 : ℕ) ∧ (i 0 : ℕ) < win0_6.index t 0 * win0_6.size 0 + win0_6.xsize (grid0.coords t) 0
      rw [hi.1, hs.1, hs.2.2.1]; omega
    | ⟨1, _⟩ =>
      show win0_6.index t 1 * win0_6.size 1 ≤ (i 1 : ℕ) ∧ (i 1 : ℕ) < win0_6.index t 1 * win0_6.size 1 + win0_6.xsize (grid0.coords t) 1
      rw [hi.2, hs.2.1, hs.2.2.2]; omega

end Cert.KernelIdeal.Fox

end
-- ==== Proof.Tail.lean ====
/- The host's lines after the call, and the run of the whole program with its four results read entry by entry. -/
module

public import proofs.«01_k».proof.Proof.Arrays

@[expose] public section

set_option maxRecDepth 16384

noncomputable section

namespace Cert.KernelIdeal.Fox

open Cert.KernelIdeal Cert.KernelIdeal.Gen
open Idealize.ShloMosaic Idealize.ShloMosaic.TcCoe Idealize.ShloMosaic.ValueIdx Idealize.ShloMosaic.StableHlo
open Idealize.SL Idealize.SL.RA Idealize.SL.Sem
open scoped BigOperators

/-! ## The lines as functions of the call's results -/

section Lines
variable (W : Valuation τ sig (Elt Ideal))

theorem ext_heads {x y : S4096x16x64.Idx → EReal} (h : ∀ (s : Fin 4096) (H : Fin 16) (d : Fin 64), x (ix3 s H d) = y (ix3 s H d)) : x = y := by
  funext i
  have e : i = ix3 (i 0) (i 1) (i 2) := eq_ix3 i
  rw [e]; exact h _ _ _
theorem ext_sums {x y : S4096x16.Idx → EReal} (h : ∀ (s : Fin 4096) (H : Fin 16), x (ix2 s H) = y (ix2 s H)) : x = y := by
  funext i
  have e : i = ix2 (i 0) (i 1) := eq_ix2 i
  rw [e]; exact h _ _

/-- A result by heads. -/
def byHead (x : S4096x2048.Idx → EReal) : S4096x16x128.Idx → EReal := shapeCast S4096x16x128 x shapeCasts_S4096x2048_S4096x16x128

theorem byHead_apply (x : S4096x2048.Idx → EReal) (s : Fin 4096) (H : Fin 16) (l : Fin 128) :
    byHead x (ix3 s H l) = x (ix2 s (colOf H l)) :=
  shapeCast_apply x shapeCasts_S4096x2048_S4096x16x128 (ix3 s H l) (ix2 s (colOf H l))
    (by rw [Shape.rowMajor_val_three, Shape.rowMajor_val_two]; show s.val * 2048 + (128 * H.val + l.val) = (s.val * 16 + H.val) * 128 + l.val; omega)

/-- The first 64 lanes of each head. -/
def firstLanes (x : S4096x16x128.Idx → EReal) : S4096x16x64.Idx → EReal :=
  extractStridedSlice S4096x16x64 ![0, 0, 0] x slices_S4096x16x128_S4096x16x64_0_0_0

/-- Lane `d` of the first 64 among all lanes. -/
def lane (d : Fin 64) : Fin 128 := ⟨d.val, by omega⟩

theorem firstLanes_apply (x : S4096x16x128.Idx → EReal) (s : Fin 4096) (H : Fin 16) (d : Fin 64) :
    firstLanes x (ix3 s H d) = x (ix3 s H (lane d)) :=
  extractStridedSlice_apply _ x slices_S4096x16x128_S4096x16x64_0_0_0 (ix3 s H d) (ix3 s H (lane d)) fun a => by
    match a with
    | ⟨0, _⟩ => show s.val = 0 + s.val; omega
    | ⟨1, _⟩ => show H.val = 0 + H.val; omega
    | ⟨2, _⟩ => show d.val = 0 + d.val; omega

/-- One lane of each head of the queries' gradient, -/
def lane64 (x : S4096x16x128.Idx → EReal) : S4096x16.Idx → EReal :=
  shapeCast S4096x16 (extractStridedSlice S4096x16x1 ![0, 0, 64] x slices_S4096x16x128_S4096x16x1_0_0_64) shapeCasts_S4096x16x1_S4096x16
/-- and of the keys'. -/
def lane67 (x : S4096x16x128.Idx → EReal) : S4096x16.Idx → EReal :=
  shapeCast S4096x16 (extractStridedSlice S4096x16x1 ![0, 0, 67] x slices_S4096x16x128_S4096x16x1_0_0_67) shapeCasts_S4096x16x1_S4096x16

theorem lane64_apply (x : S4096x16x128.Idx → EReal) (s : Fin 4096) (H : Fin 16) : lane64 x (ix2 s H) = x (ix3 s H 64) := by
  refine (shapeCast_apply _ shapeCasts_S4096x16x1_S4096x16 (ix2 s H) (ix3 s H 0) ?_).trans ?_
  · rw [Shape.rowMajor_val_three, Shape.rowMajor_val_two]; show (s.val * 16 + H.val) * 1 + 0 = s.val * 16 + H.val; omega
  · exact extractStridedSlice_apply _ x slices_S4096x16x128_S4096x16x1_0_0_64 (ix3 s H 0) (ix3 s H 64) fun a => by
      match a with
      | ⟨0, _⟩ => show s.val = 0 + s.val; omega
      | ⟨1, _⟩ => show H.val = 0 + H.val; omega
      | ⟨2, _⟩ => rfl

theorem lane67_apply (x : S4096x16x128.Idx → EReal) (s : Fin 4096) (H : Fin 16) : lane67 x (ix2 s H) = x (ix3 s H 67) := by
  refine (shapeCast_apply _ shapeCasts_S4096x16x1_S4096x16 (ix2 s H) (ix3 s H 0) ?_).trans ?_
  · rw [Shape.rowMajor_val_three, Shape.rowMajor_val_two]; show (s.val * 16 + H.val) * 1 + 0 = s.val * 16 + H.val; omega
  · exact extractStridedSlice_apply _ x slices_S4096x16x128_S4096x16x1_0_0_67 (ix3 s H 0) (ix3 s H 67) fun a => by
      match a with
      | ⟨0, _⟩ => show s.val = 0 + s.val; omega
      | ⟨1, _⟩ => show H.val = 0 + H.val; omega
      | ⟨2, _⟩ => rfl

/-- The values' gradient by heads. -/
def valByHead (x : S4096x1024.Idx → EReal) : S4096x16x64.Idx → EReal := shapeCast S4096x16x64 x shapeCasts_S4096x1024_S4096x16x64

theorem valByHead_apply (x : S4096x1024.Idx → EReal) (s : Fin 4096) (H : Fin 16) (d : Fin 64) :
    valByHead x (ix3 s H d) = x (ix2 s ⟨64 * H.val + d.val, by omega⟩) :=
  shapeCast_apply x shapeCasts_S4096x1024_S4096x16x64 (ix3 s H d) _
    (by rw [Shape.rowMajor_val_three, Shape.rowMajor_val_two]; show s.val * 1024 + (64 * H.val + d.val) = (s.val * 16 + H.val) * 64 + d.val; omega)

/-- The scale. -/
def scale : EReal := Ideal.ofBits .f32 0x3E000000#32

theorem tail_q : after hostOps1 W (Proc.devRef .tc main_v108)
    = fun i => firstLanes (byHead (W (Proc.devRef .tc main_v103_0))) i * scale := by
  after_results_simp <;> rfl

theorem tail_k : after hostOps1 W (Proc.devRef .tc main_v109) = firstLanes (byHead (W (Proc.devRef .tc main_v103_1))) := by
  after_results_simp <;> rfl

theorem tail_v : after hostOps1 W (Proc.devRef .tc main_v111) = valByHead (W (Proc.devRef .tc main_v103_2)) := by
  after_results_simp <;> rfl

theorem tail_c : after hostOps1 W (Proc.devRef .tc main_v116)
    = fun i => lane64 (byHead (W (Proc.devRef .tc main_v103_0))) i - lane67 (byHead (W (Proc.devRef .tc main_v103_1))) i := by
  after_results_simp <;> rfl

end Lines

/-! ## The run's results -/

variable (m : (ℓ : Loc nD τ sig) → Buf (Elt Ideal) ℓ) (ρ : Dev nD → PrngReg) (c : Dev nD)

/-- The gradient of the queries, -/
def gradQ : S4096x16x64.Idx → EReal := fun i =>
  queryGradAt (qsOf m c) (outsOf m c) (ksOf m c) (vsOf m c) (i 1) (i 0) (lane (i 2)) * scale
/-- of the keys, -/
def gradK : S4096x16x64.Idx → EReal := fun i =>
  keyGradAt (qsOf m c) (outsOf m c) (ksOf m c) (vsOf m c) (i 1) (i 0) (lane (i 2))
/-- of the values, -/
def gradV : S4096x16x64.Idx → EReal := fun i =>
  valueGradAt (qsOf m c) (outsOf m c) (ksOf m c) (i 1) (i 0) (lane (i 2))
/-- and of the running sums. -/
def gradC : S4096x16.Idx → EReal := fun i =>
  queryGradAt (qsOf m c) (outsOf m c) (ksOf m c) (vsOf m c) (i 1) (i 0) 64
    - keyGradAt (qsOf m c) (outsOf m c) (ksOf m c) (vsOf m c) (i 1) (i 0) 67

theorem colHead_colOf (H : Fin 16) (l : Fin 128) : colHead (colOf H l) = H :=
  Fin.ext (by show (128 * H.val + l.val) / 128 = H.val; omega)
theorem colLane_colOf (H : Fin 16) (l : Fin 128) : colLane (colOf H l) = l :=
  Fin.ext (by show (128 * H.val + l.val) % 128 = l.val; omega)

theorem resultQ_apply (s : Fin 4096) (H : Fin 16) (l : Fin 128) : resultQ m c (ix2 s (colOf H l))
    = queryGradAt (qsOf m c) (outsOf m c) (ksOf m c) (vsOf m c) H s l := by
  show queryGradAt _ _ _ _ (colHead (colOf H l)) s (colLane (colOf H l)) = _
  rw [colHead_colOf, colLane_colOf]

theorem resultK_apply (s : Fin 4096) (H : Fin 16) (l : Fin 128) : resultK m c (ix2 s (colOf H l))
    = keyGradAt (qsOf m c) (outsOf m c) (ksOf m c) (vsOf m c) H s l := by
  show keyGradAt _ _ _ _ (colHead (colOf H l)) s (colLane (colOf H l)) = _
  rw [colHead_colOf, colLane_colOf]

theorem resultV_apply (s : Fin 4096) (H : Fin 16) (d : Fin 64) : resultV m c (ix2 s ⟨64 * H.val + d.val, by omega⟩)
    = valueGradAt (qsOf m c) (outsOf m c) (ksOf m c) H s (lane d) := by
  show valueGradAt _ _ _ (valHead ⟨64 * H.val + d.val, _⟩) s (valLane ⟨64 * H.val + d.val, _⟩) = _
  rw [show valHead ⟨64 * H.val + d.val, by omega⟩ = H from Fin.ext (by show (64 * H.val + d.val) / 64 = H.val; omega),
    show valLane ⟨64 * H.val + d.val, by omega⟩ = lane d from Fin.ext (by show (64 * H.val + d.val) % 64 = d.val; omega)]

/-- The buffers when the call returns. -/
abbrev exitAt : Valuation τ sig (Elt Ideal) := Pipeline.withArrays (cfgs 0).spec c (V0 m c) fun w => (dats m 0 c).arrAt w (cfgs 0).N

theorem exit_q : exitAt m c (Proc.devRef .tc main_v103_0) = resultQ m c :=
  (Pipeline.withArrays_arr (cfgs 0).spec launch0.win.arr_inj c (V0 m c) _ 4).trans (final_4 m c)
theorem exit_k : exitAt m c (Proc.devRef .tc main_v103_1) = resultK m c :=
  (Pipeline.withArrays_arr (cfgs 0).spec launch0.win.arr_inj c (V0 m c) _ 5).trans (final_5 m c)
theorem exit_v : exitAt m c (Proc.devRef .tc main_v103_2) = resultV m c :=
  (Pipeline.withArrays_arr (cfgs 0).spec launch0.win.arr_inj c (V0 m c) _ 6).trans (final_6 m c)

theorem end_q : Pipeline.afterTail₀ cfgs (dats m) 0 (V0 m) [hostOps1] c main_v108 = gradQ m c := by
  show after hostOps1 (exitAt m c) (Proc.devRef .tc main_v108) = _
  rw [tail_q, exit_q]
  refine ext_heads fun s H d => ?_
  show firstLanes _ (ix3 s H d) * scale = _
  rw [firstLanes_apply, byHead_apply, resultQ_apply]; rfl

theorem end_k : Pipeline.afterTail₀ cfgs (dats m) 0 (V0 m) [hostOps1] c main_v109 = gradK m c := by
  show after hostOps1 (exitAt m c) (Proc.devRef .tc main_v109) = _
  rw [tail_k, exit_k]
  refine ext_heads fun s H d => ?_
  rw [firstLanes_apply, byHead_apply, resultK_apply]; rfl

theorem end_v : Pipeline.afterTail₀ cfgs (dats m) 0 (V0 m) [hostOps1] c main_v111 = gradV m c := by
  show after hostOps1 (exitAt m c) (Proc.devRef .tc main_v111) = _
  rw [tail_v, exit_v]
  refine ext_heads fun s H d => ?_
  rw [valByHead_apply, resultV_apply]; rfl

theorem end_c : Pipeline.afterTail₀ cfgs (dats m) 0 (V0 m) [hostOps1] c main_v116 = gradC m c := by
  show after hostOps1 (exitAt m c) (Proc.devRef .tc main_v116) = _
  rw [tail_c, exit_q, exit_k]
  refine ext_sums fun s H => ?_
  show lane64 _ (ix2 s H) - lane67 _ (ix2 s H) = _
  rw [lane64_apply, lane67_apply, byHead_apply, byHead_apply, resultQ_apply, resultK_apply]; rfl

/-- The kernel's run: its four results and its arguments at the end. -/
theorem run_value : θ_run defs (onTc (τ := τ) (main (F := Ideal))) ⟨m, fun _ => 0, ρ⟩ (fun r => ∀ c : Dev nD,
      r.2.mem ((c.tc : Thread nD τ).loc main_v108) = gradQ m c
      ∧ r.2.mem ((c.tc : Thread nD τ).loc main_v109) = gradK m c
      ∧ r.2.mem ((c.tc : Thread nD τ).loc main_v111) = gradV m c
      ∧ r.2.mem ((c.tc : Thread nD τ).loc main_v116) = gradC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  have H := (h.1.1 c).2
  exact ⟨(H main_v108 (Pipeline.mem_restRefs_of main_v108 (by decide) (by decide))).trans (end_q m c),
    (H main_v109 (Pipeline.mem_restRefs_of main_v109 (by decide) (by decide))).trans (end_k m c),
    (H main_v111 (Pipeline.mem_restRefs_of main_v111 (by decide) (by decide))).trans (end_v m c),
    (H main_v116 (Pipeline.mem_restRefs_of main_v116 (by decide) (by decide))).trans (end_c m c), h.2.1 c⟩

end Cert.KernelIdeal.Fox

end
-- ==== Proof.RefSoftmax.lean ====
/- The reference on arrays of reals, up to its softmax: the scores, the mask, the row maximum, the weights, their sums and the
   probabilities, each a real number. -/
module

public import proofs.«01_k».proof.Proof.Finite
public import proofs.«01_k».proof.Proof.Gen.ReferenceIdeal.Read

@[expose] public section

noncomputable section

namespace Cert.ReferenceIdeal.Softmax

open Cert.ReferenceIdeal Cert.ReferenceIdeal.Gen Cert.ReferenceIdeal.Read Idealize.ShloMosaic Cert.Attention Cert.Real

variable (q k v g : Lanes) (b : Rows)

theorem dot_real (i : S16x4096x4096.Idx) :
    val_main_v4 (F := Ideal) (ofLanes q) (ofLanes k) i = ((∑ d : Fin 64, q (i 1) (i 0) d * k (i 2) (i 0) d : ℝ) : EReal) := by
  rw [val_main_v4_apply, ← coe_sum]
  refine Finset.sum_congr rfl fun d _ => ?_
  rw [val_main_v1_apply, val_main_v2_apply, EReal.coe_mul]
  rfl

theorem scale_real (i : S16x4096x4096.Idx) : val_main_v5 (F := Ideal) i = ((1 / 8 : ℝ) : EReal) := by
  rw [val_main_v5_apply, val_main_cst_apply]; exact ofBits_eighth

theorem gate_query (i : S16x4096x4096.Idx) : val_main_v8 (F := Ideal) (ofRows b) i = ((b (i 1) (i 0) : ℝ) : EReal) := by
  rw [val_main_v8_apply, val_main_v7_apply, val_main_v0_apply]; rfl

theorem gate_key (i : S16x4096x4096.Idx) : val_main_v11 (F := Ideal) (ofRows b) i = ((b (i 2) (i 0) : ℝ) : EReal) := by
  rw [val_main_v11_apply, val_main_v10_apply, val_main_v0_apply]; rfl

theorem score_real (i : S16x4096x4096.Idx) :
    val_main_v12 (F := Ideal) (ofLanes q) (ofLanes k) (ofRows b) i = ((score q k b (i 0) (i 1) (i 2) : ℝ) : EReal) := by
  rw [val_main_v12_apply, val_main_v9_apply, val_main_v6_apply, dot_real, scale_real, gate_query, gate_key]
  unfold score; rw [EReal.coe_sub, EReal.coe_add, EReal.coe_mul]; rfl

theorem mask_word (i : S16x4096x4096.Idx) : val_main_v20_1 (F := Ideal) i = if (i 2).val ≤ (i 1).val then 1#1 else 0#1 := by
  have h1 : (i 1).val < 4096 := (i 1).isLt
  have h2 : (i 2).val < 4096 := (i 2).isLt
  rw [val_main_v20_1_apply, val_main_v19_apply, val_main_v17_apply, val_main_v14_apply, val_main_v13_apply, val_main_v18_apply,
    val_main_v16_apply, val_main_v15_apply]
  exact cmpi_sge_small _ _ h1 h2

theorem bottom (i : S16x4096x4096.Idx) : val_main_call0_v2 (F := Ideal) i = (⊥ : EReal) := by
  rw [val_main_call0_v2_apply, val_main_call0_v0_apply, val_main_cst_0_apply]; exact ofBits_bot

theorem masked_real (i : S16x4096x4096.Idx) :
    val_main_v20_0 (F := Ideal) (ofLanes q) (ofLanes k) (ofRows b) i
      = if (i 2).val ≤ (i 1).val then ((score q k b (i 0) (i 1) (i 2) : ℝ) : EReal) else ⊥ := by
  rw [val_main_v20_0_apply, mask_word, score_real, bottom]
  exact select_word _ _ _

/-- The row maximum is a real: the diagonal score is one of its entries. -/
theorem max_real (i : S16x4096.Idx) :
    (((val_main_v28 (F := Ideal) (ofLanes q) (ofLanes k) (ofRows b) i : EReal).toReal : ℝ) : EReal)
      = val_main_v28 (F := Ideal) (ofLanes q) (ofLanes k) (ofRows b) i := by
  have e : val_main_v28 (F := Ideal) (ofLanes q) (ofLanes k) (ofRows b) i = val_main_v21 (F := Ideal) (ofLanes q) (ofLanes k) (ofRows b) i := by
    rw [val_main_v28_apply, val_main_v27_apply, val_main_cst_3_apply]
    generalize val_main_v21 (F := Ideal) (ofLanes q) (ofLanes k) (ofRows b) i = y
    show max (Ideal.ofBits .f32 0xFF800000#32) (y : EReal) = y
    rw [ofBits_bot]; exact max_bot_left _
  rw [e]
  unfold val_main_v21
  have hv := masked_real q k b
  revert hv
  generalize val_main_v20_0 (F := Ideal) (ofLanes q) (ofLanes k) (ofRows b) = y
  intro hv
  have E := Host.reduce_eq_fold_single (fun a c : EReal => max a c) y (val_main_cst_1 (F := Ideal))
    reducesTo_S16x4096x4096_S16x4096_d2 (by decide) h_S_ i
  refine (congrArg (fun z : EReal => ((z.toReal : ℝ) : EReal)) E).trans (Eq.trans ?_ E.symm)
  refine real_fold_max _ _ ?_ (fun t => ?_) (i 1) ?_
  · rw [val_main_cst_1_apply]
    exact fun h => absurd (ofBits_bot.symm.trans h) bot_ne_top
  · refine fun h => ?_
    have h' := (hv _).symm.trans h
    split at h'
    · exact EReal.coe_ne_top _ h'
    · exact bot_ne_top h'
  · refine fun h => ?_
    have h' := (hv _).symm.trans h
    split at h'
    · exact EReal.coe_ne_bot _ h'
    · exact absurd (le_of_eq rfl) ‹¬ _›

/-- The real number that the row maximum is. -/
def rowMax (H : Fin 16) (s : Fin 4096) : ℝ :=
  (val_main_v28 (F := Ideal) (ofLanes q) (ofLanes k) (ofRows b) (ValueIdx.ix2 H s) : EReal).toReal

theorem rowMax_eq (i : S16x4096.Idx) :
    val_main_v28 (F := Ideal) (ofLanes q) (ofLanes k) (ofRows b) i = ((rowMax q k b (i 0) (i 1) : ℝ) : EReal) :=
  (max_real q k b i).symm.trans
    (congrArg (fun j : S16x4096.Idx => (((val_main_v28 (F := Ideal) (ofLanes q) (ofLanes k) (ofRows b) j : EReal).toReal : ℝ) : EReal)) (ValueIdx.eq_ix2 i))

/-- The exponential of a score against the row maximum. -/
abbrev wt (H : Fin 16) (s t : Fin 4096) : ℝ := weight q k b (rowMax q k b H s) H s t
/-- The sum of a query's exponentials. -/
abbrev tot (H : Fin 16) (s : Fin 4096) : ℝ := total q k b (rowMax q k b H s) H s

theorem weight_real (i : S16x4096x4096.Idx) :
    val_main_v41 (F := Ideal) (ofLanes q) (ofLanes k) (ofRows b) i = ((wt q k b (i 0) (i 1) (i 2) : ℝ) : EReal) := by
  rw [val_main_v41_apply, val_main_v40_apply, val_main_v39_apply, val_main_v38_apply, rowMax_eq, masked_real]
  show Ideal.exp ((if (i 2).val ≤ (i 1).val then ((score q k b (i 0) (i 1) (i 2) : ℝ) : EReal) else ⊥)
    - ((rowMax q k b (i 0) (i 1) : ℝ) : EReal)) = _
  unfold wt weight
  by_cases h : (i 2).val ≤ (i 1).val
  · rw [if_pos h, if_pos h, ← EReal.coe_sub]; rfl
  · rw [if_neg h, if_neg h, EReal.bot_sub]; rfl

theorem total_real (i : S16x4096.Idx) :
    val_main_v42 (F := Ideal) (ofLanes q) (ofLanes k) (ofRows b) i = ((tot q k b (i 0) (i 1) : ℝ) : EReal) := by
  rw [val_main_v42_apply, val_main_cst_9_apply]
  unfold tot total
  rw [← coe_sum]
  refine (congrArg (· + _) (ofBits_zero.trans EReal.coe_zero)).trans ((zero_add _).trans ?_)
  exact Finset.sum_congr rfl fun t _ => weight_real q k b _

theorem total_column (i : S16x4096x1.Idx) :
    val_main_v43 (F := Ideal) (ofLanes q) (ofLanes k) (ofRows b) i = ((tot q k b (i 0) (i 1) : ℝ) : EReal) := by
  rw [val_main_v43_apply, total_real]; rfl

theorem tot_ne (H : Fin 16) (s : Fin 4096) : tot q k b H s ≠ 0 := (total_pos q k b _ H s).ne'

theorem prob_real (i : S16x4096x4096.Idx) :
    val_main_v45 (F := Ideal) (ofLanes q) (ofLanes k) (ofRows b) i = ((prob q k b (i 0) (i 1) (i 2) : ℝ) : EReal) := by
  rw [val_main_v45_apply, val_main_v44_apply, total_column, weight_real]
  refine (div_real _ _ (tot_ne q k b _ _)).trans ?_
  exact congrArg _ (weight_div_total q k b _ _ _ _)

end Cert.ReferenceIdeal.Softmax

end
-- ==== Proof.RefGrads.lean ====
/- The reference's gradients on arrays of reals: what differentiating the softmax leaves is the score's gradient, and each result is a
   sum of it. -/
module

public import proofs.«01_k».proof.Proof.RefSoftmax

@[expose] public section

noncomputable section

namespace Cert.ReferenceIdeal.Grads

open Cert.ReferenceIdeal Cert.ReferenceIdeal.Gen Cert.ReferenceIdeal.Read Cert.ReferenceIdeal.Softmax Idealize.ShloMosaic Cert.Attention
  Cert.Real

variable (q k v g : Lanes) (b : Rows)

theorem out_grad (i : S16x4096x64.Idx) : val_main_v51 (F := Ideal) (ofLanes g) i = ((g (i 1) (i 0) (i 2) : ℝ) : EReal) := by
  rw [val_main_v51_apply]; rfl

theorem zero_start (z : EReal) (y : EReal) (h : z = Ideal.ofBits .f32 0x00000000#32) : z + y = y := by
  rw [h, ofBits_zero, EReal.coe_zero, zero_add]

theorem probGrad_real (i : S16x4096x4096.Idx) :
    val_main_v54 (F := Ideal) (ofLanes v) (ofLanes g) i = ((probGrad v g (i 0) (i 1) (i 2) : ℝ) : EReal) := by
  rw [val_main_v54_apply]
  unfold probGrad
  rw [← coe_sum]
  refine Finset.sum_congr rfl fun d _ => ?_
  rw [out_grad, val_main_v3_apply, EReal.coe_mul]; rfl

theorem inverse_square (i : S16x4096x4096.Idx) :
    val_main_v55 (F := Ideal) (ofLanes q) (ofLanes k) (ofRows b) i
      = ((1 / (tot q k b (i 0) (i 1) * tot q k b (i 0) (i 1)) : ℝ) : EReal) := by
  rw [val_main_v55_apply, val_main_v48_apply, val_main_v47_apply, val_main_cst_10_apply, val_main_v46_apply, total_column]
  show Ideal.div (Ideal.ofBits .f32 0x3F800000#32) (((tot q k b (i 0) (i 1) : ℝ) : EReal) * ((tot q k b (i 0) (i 1) : ℝ) : EReal)) = _
  rw [ofBits_one, ← EReal.coe_mul]
  exact div_real _ _ (mul_ne_zero (tot_ne q k b _ _) (tot_ne q k b _ _))

/-- The sum that the gradient of a row's total is. -/
abbrev rowSum (H : Fin 16) (s : Fin 4096) : ℝ :=
  ∑ u, probGrad v g H s u * (1 / (tot q k b H s * tot q k b H s)) * wt q k b H s u

theorem row_sum (i : S16x4096.Idx) :
    val_main_v58 (F := Ideal) (ofLanes q) (ofLanes k) (ofLanes v) (ofRows b) (ofLanes g) i
      = ((rowSum q k v g b (i 0) (i 1) : ℝ) : EReal) := by
  rw [val_main_v58_apply]
  refine (zero_start _ _ (val_main_cst_11_apply _)).trans ?_
  unfold rowSum
  rw [← coe_sum]
  refine Finset.sum_congr rfl fun u _ => ?_
  rw [val_main_v57_apply, val_main_v56_apply, probGrad_real, inverse_square, weight_real, EReal.coe_mul, EReal.coe_mul]; rfl

theorem column_index (i : S16x4096x1.Idx) : idx_main_v59 i = ValueIdx.ix2 (i 0) (i 1) := funext fun a => Fin.ext (by
  have h2 : (i 2).val < 1 := (i 2).isLt
  have h1 : (i 1).val < 4096 := (i 1).isLt
  match a with
  | ⟨0, _⟩ => show (((i 0).val * 4096 + (i 1).val) * 1 + (i 2).val) / 4096 = (i 0).val; omega
  | ⟨1, _⟩ => show (((i 0).val * 4096 + (i 1).val) * 1 + (i 2).val) % 4096 = (i 1).val; omega)

theorem total_grad (i : S16x4096x4096.Idx) :
    val_main_v64 (F := Ideal) (ofLanes q) (ofLanes k) (ofLanes v) (ofRows b) (ofLanes g) i
      = ((-rowSum q k v g b (i 0) (i 1) : ℝ) : EReal) := by
  rw [val_main_v64_apply, val_main_v63_apply]
  refine (zero_start _ _ (val_main_cst_12_apply _)).trans ?_
  rw [Fin.sum_univ_one, val_main_v60_apply, val_main_v59_apply, row_sum, column_index, EReal.coe_neg]; rfl

theorem scoreGrad_unmasked (i : S16x4096x4096.Idx) :
    val_main_v66 (F := Ideal) (ofLanes q) (ofLanes k) (ofLanes v) (ofRows b) (ofLanes g) i
      = ((scoreGrad q k v g b (i 0) (i 1) (i 2) : ℝ) : EReal) := by
  have e : val_main_v62 (F := Ideal) (ofLanes q) (ofLanes k) (ofLanes v) (ofRows b) (ofLanes g) i
      = ((probGrad v g (i 0) (i 1) (i 2) / tot q k b (i 0) (i 1) : ℝ) : EReal) := by
    rw [val_main_v62_apply, val_main_v61_apply, total_column, probGrad_real]
    exact div_real _ _ (tot_ne q k b _ _)
  rw [val_main_v66_apply, val_main_v65_apply, total_grad, weight_real, e]
  refine Eq.trans ?_ (congrArg _ (quotient_grad q k v g b (rowMax q k b (i 0) (i 1)) (i 0) (i 1) (i 2)))
  rw [EReal.coe_mul, EReal.coe_add]
  rfl

theorem scoreGrad_real (i : S16x4096x4096.Idx) :
    val_main_v67 (F := Ideal) (ofLanes q) (ofLanes k) (ofLanes v) (ofRows b) (ofLanes g) i
      = ((scoreGrad q k v g b (i 0) (i 1) (i 2) : ℝ) : EReal) := by
  rw [val_main_v67_apply, mask_word, scoreGrad_unmasked, val_main_call1_v0_apply, val_main_call1_cst_apply]
  refine (select_word _ _ _).trans ?_
  by_cases h : (i 2).val ≤ (i 1).val
  · exact if_pos h
  · refine (if_neg h).trans (ofBits_zero.trans ?_)
    exact congrArg _ (scoreGrad_after q k v g b _ _ _ h).symm

theorem scaled_real (i : S16x4096x4096.Idx) :
    val_main_v77 (F := Ideal) (ofLanes q) (ofLanes k) (ofLanes v) (ofRows b) (ofLanes g) i
      = ((scoreGrad q k v g b (i 0) (i 1) (i 2) * (1 / 8) : ℝ) : EReal) := by
  rw [val_main_v77_apply, scoreGrad_real, val_main_v76_apply, val_main_cst_17_apply, EReal.coe_mul, ← ofBits_eighth]; rfl

/-- The query's gradient. -/
theorem query_result (i : S4096x16x64.Idx) :
    val_main_v82 (F := Ideal) (ofLanes q) (ofLanes k) (ofLanes v) (ofRows b) (ofLanes g) i
      = ((∑ t : Fin 4096, scoreGrad q k v g b (i 1) (i 0) t * (1 / 8) * k t (i 1) (i 2) : ℝ) : EReal) := by
  rw [val_main_v82_apply, val_main_v79_apply, ← coe_sum]
  refine Finset.sum_congr rfl fun t _ => ?_
  rw [scaled_real, val_main_v2_apply, EReal.coe_mul]; rfl

/-- The key's gradient. -/
theorem key_result (i : S4096x16x64.Idx) :
    val_main_v81 (F := Ideal) (ofLanes q) (ofLanes k) (ofLanes v) (ofRows b) (ofLanes g) i
      = ((∑ s : Fin 4096, scoreGrad q k v g b (i 1) s (i 0) * (1 / 8) * q s (i 1) (i 2) : ℝ) : EReal) := by
  rw [val_main_v81_apply, val_main_v78_apply, ← coe_sum]
  refine Finset.sum_congr rfl fun s _ => ?_
  rw [scaled_real, val_main_v1_apply, EReal.coe_mul]; rfl

/-- The value's gradient. -/
theorem value_result (i : S4096x16x64.Idx) :
    val_main_v80 (F := Ideal) (ofLanes q) (ofLanes k) (ofRows b) (ofLanes g) i
      = ((∑ s : Fin 4096, g s (i 1) (i 2) * prob q k b (i 1) s (i 0) : ℝ) : EReal) := by
  rw [val_main_v80_apply, val_main_v53_apply, val_main_v52_apply, ← coe_sum]
  refine Finset.sum_congr rfl fun s _ => ?_
  rw [out_grad, prob_real, EReal.coe_mul]; rfl

theorem middle_index (i : S16x1x4096.Idx) : idx_main_v70 i = ValueIdx.ix2 (i 0) (i 2) := funext fun a => Fin.ext (by
  have h1 : (i 1).val < 1 := (i 1).isLt
  have h2 : (i 2).val < 4096 := (i 2).isLt
  match a with
  | ⟨0, _⟩ => show (((i 0).val * 1 + (i 1).val) * 4096 + (i 2).val) / 4096 = (i 0).val; omega
  | ⟨1, _⟩ => show (((i 0).val * 1 + (i 1).val) * 4096 + (i 2).val) % 4096 = (i 2).val; omega)

theorem sum_over_queries (i : S16x4096.Idx) :
    val_main_v69 (F := Ideal) (ofLanes q) (ofLanes k) (ofLanes v) (ofRows b) (ofLanes g) i
      = ((∑ s : Fin 4096, -scoreGrad q k v g b (i 0) s (i 1) : ℝ) : EReal) := by
  rw [val_main_v69_apply]
  refine (zero_start _ _ (val_main_cst_13_apply _)).trans ?_
  rw [← coe_sum]
  refine Finset.sum_congr rfl fun s _ => ?_
  rw [val_main_v68_apply, scoreGrad_real, EReal.coe_neg]; rfl

theorem sum_over_keys (i : S16x4096.Idx) :
    val_main_v72 (F := Ideal) (ofLanes q) (ofLanes k) (ofLanes v) (ofRows b) (ofLanes g) i
      = ((∑ t : Fin 4096, scoreGrad q k v g b (i 0) (i 1) t : ℝ) : EReal) := by
  rw [val_main_v72_apply]
  refine (zero_start _ _ (val_main_cst_15_apply _)).trans ?_
  rw [← coe_sum]
  exact Finset.sum_congr rfl fun t _ => scoreGrad_real q k v g b _

theorem last_index (i : S16x4096x1.Idx) : idx_main_v73 i = ValueIdx.ix2 (i 0) (i 1) := column_index i

/-- The gates' gradient. -/
theorem gate_result (i : S4096x16.Idx) :
    val_main_v83 (F := Ideal) (ofLanes q) (ofLanes k) (ofLanes v) (ofRows b) (ofLanes g) i
      = (((∑ s : Fin 4096, -scoreGrad q k v g b (i 1) s (i 0)) + ∑ t : Fin 4096, scoreGrad q k v g b (i 1) (i 0) t : ℝ) : EReal) := by
  have e1 : val_main_v71 (F := Ideal) (ofLanes q) (ofLanes k) (ofLanes v) (ofRows b) (ofLanes g) (idx_main_v83 i)
      = ((∑ s : Fin 4096, -scoreGrad q k v g b (i 1) s (i 0) : ℝ) : EReal) := by
    rw [val_main_v71_apply]
    refine (zero_start _ _ (val_main_cst_14_apply _)).trans ?_
    rw [Fin.sum_univ_one, val_main_v70_apply, sum_over_queries, middle_index]; rfl
  have e2 : val_main_v74 (F := Ideal) (ofLanes q) (ofLanes k) (ofLanes v) (ofRows b) (ofLanes g) (idx_main_v83 i)
      = ((∑ t : Fin 4096, scoreGrad q k v g b (i 1) (i 0) t : ℝ) : EReal) := by
    rw [val_main_v74_apply]
    refine (zero_start _ _ (val_main_cst_16_apply _)).trans ?_
    rw [Fin.sum_univ_one, val_main_v73_apply, sum_over_keys, last_index]; rfl
  rw [val_main_v83_apply, val_main_v75_apply, e1, e2, EReal.coe_add]; rfl

end Cert.ReferenceIdeal.Grads

end
-- ==== Proof.KernelValue.lean ====
/- On finite arguments the kernel's four results are the reference's. -/
module

public import proofs.«01_k».proof.Proof.KernelSums
public import proofs.«01_k».proof.Proof.PrefixEntry
public import proofs.«01_k».proof.Proof.Tail
public import proofs.«01_k».proof.Proof.RefGrads

@[expose] public section

noncomputable section

namespace Cert.KernelIdeal.Fox

open Cert.KernelIdeal Cert.KernelIdeal.Gen Idealize.ShloMosaic Idealize.ShloMosaic.TcCoe Idealize.ShloMosaic.ValueIdx Cert.Attention Cert.Real Cert.KernelIdeal.Joins Cert.KernelIdeal.Prefix

open Cert.ReferenceIdeal.Read Cert.ReferenceIdeal.Grads

attribute [local irreducible] queryGradAt keyGradAt valueGradAt scoreGrad prob opQ opK opV opG

variable (m : (ℓ : Loc nD τ sig) → Buf (Elt Ideal) ℓ) (c : Dev nD) (q k v g : Lanes) (b : Rows)

/-- Device `c` holds these reals. -/
structure Holds : Prop where
  h0 : m ((c.tc : Thread nD τ).loc main_arg0) = ofLanes q
  h1 : m ((c.tc : Thread nD τ).loc main_arg1) = ofLanes k
  h2 : m ((c.tc : Thread nD τ).loc main_arg2) = ofLanes v
  h3 : m ((c.tc : Thread nD τ).loc main_arg3) = ofRows b
  h4 : m ((c.tc : Thread nD τ).loc main_arg4) = ofLanes g

section
variable {m c q k v g b} (h : Holds m c q k v g b)
include h

theorem opQ_eq : qsOf m c = opQ q k b := by
  unfold qsOf opQ; rw [entry_queries, h.h0, h.h1, h.h3]
theorem opG_eq : outsOf m c = opG q k v g b := by
  unfold outsOf opG; rw [entry_outs, h.h0, h.h1, h.h2, h.h3, h.h4]
theorem opK_eq : ksOf m c = opK k b := by
  unfold ksOf opK; rw [entry_keys, h.h1, h.h3]
theorem opV_eq : vsOf m c = opV v := by
  unfold vsOf opV; rw [entry_vals, h.h2]

theorem gradQ_eq : gradQ m c = Cert.ReferenceIdeal.Read.val_main_v82 (F := Ideal) (ofLanes q) (ofLanes k) (ofLanes v) (ofRows b) (ofLanes g) := by
  funext i
  refine Eq.trans ?_ (query_result q k v g b i).symm
  unfold gradQ
  rw [opQ_eq h, opG_eq h, opK_eq h, opV_eq h]
  refine (congrArg₂ (· * ·) (query_low q k v g b (i 1) (i 0) (i 2)) ofBits_eighth).trans ?_
  rw [← EReal.coe_mul, Finset.sum_mul]
  exact congrArg (fun r : ℝ => (r : EReal)) (Finset.sum_congr rfl fun t _ => by ring)

theorem gradK_eq : gradK m c = Cert.ReferenceIdeal.Read.val_main_v81 (F := Ideal) (ofLanes q) (ofLanes k) (ofLanes v) (ofRows b) (ofLanes g) := by
  funext i
  refine Eq.trans ?_ (key_result q k v g b i).symm
  unfold gradK
  rw [opQ_eq h, opG_eq h, opK_eq h, opV_eq h]
  refine (key_low q k v g b (i 1) (i 0) (i 2)).trans ?_
  exact congrArg (fun r : ℝ => (r : EReal)) (Finset.sum_congr rfl fun t _ => by ring)

theorem gradV_eq : gradV m c = Cert.ReferenceIdeal.Read.val_main_v80 (F := Ideal) (ofLanes q) (ofLanes k) (ofRows b) (ofLanes g) := by
  funext i
  refine Eq.trans ?_ (value_result q k g b i).symm
  unfold gradV
  rw [opQ_eq h, opG_eq h, opK_eq h]
  refine (value_low q k v g b (i 1) (i 0) (i 2)).trans ?_
  exact congrArg (fun r : ℝ => (r : EReal)) (Finset.sum_congr rfl fun t _ => by ring)

theorem gradC_eq : gradC m c = Cert.ReferenceIdeal.Read.val_main_v83 (F := Ideal) (ofLanes q) (ofLanes k) (ofLanes v) (ofRows b) (ofLanes g) := by
  funext i
  refine Eq.trans ?_ (gate_result q k v g b i).symm
  unfold gradC
  rw [opQ_eq h, opG_eq h, opK_eq h, opV_eq h]
  refine (congrArg₂ (· - ·) (query_64 q k v g b (i 1) (i 0)) (key_67 q k v g b (i 1) (i 0))).trans ?_
  rw [← EReal.coe_sub]
  refine congrArg (fun r : ℝ => (r : EReal)) ?_
  rw [Finset.sum_neg_distrib, sub_eq_neg_add]

end

end Cert.KernelIdeal.Fox

end
-- ==== Proof.Same.lean ====
/- The kernel and its idealization are one program: their bodies, tables and main functions are equal, part by part. -/
module

public import proofs.«01_k».proof.Defs
public import proofs.«01_k».proof.Proof.Gen.Kernel
public import proofs.«01_k».proof.Proof.Gen.KernelIdeal

@[expose] public section

set_option maxHeartbeats 4000000

noncomputable section

namespace Cert.Same

open Idealize.ShloMosaic

variable {F : FTy → Type} [FloatOps F]

theorem body_eq : Cert.Kernel.cc0_fox_attn_bwd (F := F) = Cert.KernelIdeal.cc0_fox_attn_bwd (F := F) := rfl

theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : Cert.Kernel.defs (F := F) = Cert.KernelIdeal.defs (F := F) := by
  unfold Cert.Kernel.defs Cert.KernelIdeal.defs
  exact congrArg (Pipeline.defs Cert.Kernel.pcfgs) defs₀_eq

theorem part0_eq : Cert.Kernel.main_part0 (F := F) = Cert.KernelIdeal.main_part0 (F := F) := rfl
theorem part1_eq : Cert.Kernel.main_part1 (F := F) = Cert.KernelIdeal.main_part1 (F := F) := rfl
theorem part2_eq : Cert.Kernel.main_part2 (F := F) = Cert.KernelIdeal.main_part2 (F := F) := rfl

theorem main_eq : Cert.Kernel.main (F := F) = Cert.KernelIdeal.main (F := F) := by
  unfold Cert.Kernel.main Cert.KernelIdeal.main
  rw [part0_eq, part1_eq, part2_eq]
  rfl

end Cert.Same

end
-- ==== Proof.Products.lean ====
/- Matrix products over the extended reals as sums over the contracted coordinate: the kernel's product of two blocks, the host's product
   of two arrays, and a product's block as the product of the operands' blocks. -/
module

public import Idealize.ShloMosaic.PureOps.Ideal.Laws
public import Idealize.ShloMosaic.Lib.ValueIdx
public import Idealize.ShloMosaic.Lib.MatmulPlain
public import Idealize.ShloMosaic.Lib.KernelVsHost
public import Idealize.ShloMosaic.Lib.Pipeline.Value

@[expose] public section

noncomputable section

namespace Cert.Products

open Idealize.ShloMosaic Idealize.ShloMosaic.ValueIdx
open scoped BigOperators

/-- A matrix of extended reals. -/
abbrev Mat (m n : ℕ) := (⟨2, ![m, n]⟩ : Shape).Idx → EReal

/-- The products of the rows of two matrices: `a bᵀ`. -/
def rowsBy {M K N : ℕ} (a : Mat M K) (b : Mat N K) : Mat M N := fun i => ∑ k : Fin K, a (ix2 (i 0) k) * b (ix2 (i 1) k)
/-- The product of two matrices: `a b`. -/
def prod {M K N : ℕ} (a : Mat M K) (b : Mat K N) : Mat M N := fun i => ∑ k : Fin K, a (ix2 (i 0) k) * b (ix2 k (i 1))
/-- The products of the columns of two matrices: `aᵀ b`. -/
def colsBy {M K N : ℕ} (a : Mat K M) (b : Mat K N) : Mat M N := fun i => ∑ k : Fin K, a (ix2 k (i 0)) * b (ix2 k (i 1))

/-- The dimension numbers of `aᵀ b`. -/
def colDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem eq_ix2 {M N : ℕ} (i : (⟨2, ![M, N]⟩ : Shape).Idx) : i = ix2 (i 0) (i 1) := by
  funext a
  match a with
  | ⟨0, _⟩ => rfl
  | ⟨1, _⟩ => rfl

variable {M K N : ℕ} {φ₁ φ₂ : FTy}

/-- The kernel's product of the rows of two blocks, accumulated from zero. -/
theorem matmul_rows (a : FVec Ideal ⟨2, ![M, K]⟩ φ₁) (b : FVec Ideal ⟨2, ![N, K]⟩ φ₂) :
    matmul (DotDims.transposedRhs M K N) none a b (constant ⟨2, ![M, N]⟩ .f32 0x00000000#32) = rowsBy a b := by
  funext i
  simp only [matmul]
  rw [Ideal.matmul_constant_zero_apply, ← Equiv.sum_comp (DotDims.transposedRhsContr M K N).symm]
  refine Finset.sum_congr rfl fun k _ => ?_
  have hk := contrEquiv1_symm_val (DotDims.transposedRhs M K N) K rfl rfl k
  refine congrArg₂ (· * ·) (congrArg a (funext fun x => Fin.ext ?_)) (congrArg b (funext fun x => Fin.ext ?_))
  · match x with
    | ⟨0, _⟩ => rfl
    | ⟨1, _⟩ => exact hk
  · match x with
    | ⟨0, _⟩ => rfl
    | ⟨1, _⟩ => exact hk

/-- The host's. -/
theorem dot_rows (a : FVec Ideal ⟨2, ![M, K]⟩ φ₁) (b : FVec Ideal ⟨2, ![N, K]⟩ φ₂) :
    Host.dotGeneral (DotDims.transposedRhs M K N) none a b = rowsBy a b :=
  (matmul_zero_eq_dotGeneral _ none a b).symm.trans (matmul_rows a b)

/-- The kernel's product of two blocks, accumulated from zero. -/
theorem matmul_prod (a : FVec Ideal ⟨2, ![M, K]⟩ φ₁) (b : FVec Ideal ⟨2, ![K, N]⟩ φ₂) :
    matmul (DotDims.plain M K N) none a b (constant ⟨2, ![M, N]⟩ .f32 0x00000000#32) = prod a b := by
  funext i
  simp only [matmul]
  rw [Ideal.matmul_constant_zero_apply, ← Equiv.sum_comp (DotDims.plainContr M K N).symm]
  refine Finset.sum_congr rfl fun k _ => ?_
  have hk := contrEquiv1_symm_val (DotDims.plain M K N) K rfl rfl k
  refine congrArg₂ (· * ·) (congrArg a (funext fun x => Fin.ext ?_)) (congrArg b (funext fun x => Fin.ext ?_))
  · match x with
    | ⟨0, _⟩ => rfl
    | ⟨1, _⟩ => exact hk
  · match x with
    | ⟨0, _⟩ => exact hk
    | ⟨1, _⟩ => rfl

/-- The host's. -/
theorem dot_prod (a : FVec Ideal ⟨2, ![M, K]⟩ φ₁) (b : FVec Ideal ⟨2, ![K, N]⟩ φ₂) :
    Host.dotGeneral (DotDims.plain M K N) none a b = prod a b :=
  (matmul_zero_eq_dotGeneral _ none a b).symm.trans (matmul_prod a b)

/-- The host's, added to an array. -/
theorem add_dot_prod (h : FVec Ideal ⟨2, ![M, N]⟩ .f32) (a : FVec Ideal ⟨2, ![M, K]⟩ φ₁) (b : FVec Ideal ⟨2, ![K, N]⟩ φ₂) :
    addf h (Host.dotGeneral (DotDims.plain M K N) none a b) = fun i => prod a b i + h i := by
  rw [dot_prod]
  exact funext fun i => add_comm _ _

/-- The host's product of the columns of two arrays. -/
theorem dot_cols (a : FVec Ideal ⟨2, ![K, M]⟩ φ₁) (b : FVec Ideal ⟨2, ![K, N]⟩ φ₂) :
    Host.dotGeneral (colDims M K N) none a b = colsBy a b := by
  funext i
  simp only [Host.dotGeneral]
  rw [Ideal.dotGeneral_apply, ← Equiv.sum_comp (contrEquiv1 (colDims M K N) K rfl rfl).symm]
  refine Finset.sum_congr rfl fun k _ => ?_
  have hk := contrEquiv1_symm_val (colDims M K N) K rfl rfl k
  refine congrArg₂ (· * ·) (congrArg a (funext fun x => Fin.ext ?_)) (congrArg b (funext fun x => Fin.ext ?_))
  · match x with
    | ⟨0, _⟩ => exact hk
    | ⟨1, _⟩ => rfl
  · match x with
    | ⟨0, _⟩ => exact hk
    | ⟨1, _⟩ => rfl

/-- The kernel's, accumulated from zero. -/
theorem matmul_cols (a : FVec Ideal ⟨2, ![K, M]⟩ φ₁) (b : FVec Ideal ⟨2, ![K, N]⟩ φ₂) :
    matmul (colDims M K N) none a b (constant ⟨2, ![M, N]⟩ .f32 0x00000000#32) = colsBy a b :=
  (matmul_zero_eq_dotGeneral _ none a b).trans (dot_cols a b)

/-- The transpose of a product of columns is the product with the operands exchanged. -/
theorem transpose_cols (a : Mat K M) (b : Mat K N) (h : (⟨2, ![M, N]⟩ : Shape).Transposes [1, 0] ⟨2, ![N, M]⟩) :
    transpose ⟨2, ![N, M]⟩ [1, 0] (colsBy a b) h = colsBy b a := by
  funext i
  refine (transpose_apply [1, 0] _ h i (ix2 (i 1) (i 0)) ?_).trans ?_
  · intro x
    match x with
    | ⟨0, _⟩ => rfl
    | ⟨1, _⟩ => rfl
  · exact Finset.sum_congr rfl fun k _ => mul_comm _ _

/-- The host's product of the columns of two arrays, transposed. -/
theorem transpose_dot_cols (a : FVec Ideal ⟨2, ![K, M]⟩ φ₁) (b : FVec Ideal ⟨2, ![K, N]⟩ φ₂)
    (h : (⟨2, ![M, N]⟩ : Shape).Transposes [1, 0] ⟨2, ![N, M]⟩) :
    transpose ⟨2, ![N, M]⟩ [1, 0] (Host.dotGeneral (colDims M K N) none a b) h = colsBy b a := by
  rw [dot_cols]
  exact transpose_cols a b h

/-- An entry of the product of two blocks, when the blocks' rows are rows of two arrays. -/
theorem rowsBy_block {m n : ℕ} (x : Mat m K) (y : Mat n K) (a : Mat M K) (b : Mat N K) (j : (⟨2, ![m, n]⟩ : Shape).Idx)
    (i : (⟨2, ![M, N]⟩ : Shape).Idx) (hx : ∀ k, x (ix2 (j 0) k) = a (ix2 (i 0) k)) (hy : ∀ k, y (ix2 (j 1) k) = b (ix2 (i 1) k)) :
    rowsBy x y j = rowsBy a b i :=
  Finset.sum_congr rfl fun k _ => congrArg₂ (· * ·) (hx k) (hy k)

theorem prod_block {m n : ℕ} (x : Mat m K) (y : Mat K n) (a : Mat M K) (b : Mat K N) (j : (⟨2, ![m, n]⟩ : Shape).Idx)
    (i : (⟨2, ![M, N]⟩ : Shape).Idx) (hx : ∀ k, x (ix2 (j 0) k) = a (ix2 (i 0) k)) (hy : ∀ k, y (ix2 k (j 1)) = b (ix2 k (i 1))) :
    prod x y j = prod a b i :=
  Finset.sum_congr rfl fun k _ => congrArg₂ (· * ·) (hx k) (hy k)

theorem colsBy_block {m n : ℕ} (x : Mat K m) (y : Mat K n) (a : Mat K M) (b : Mat K N) (j : (⟨2, ![m, n]⟩ : Shape).Idx)
    (i : (⟨2, ![M, N]⟩ : Shape).Idx) (hx : ∀ k, x (ix2 k (j 0)) = a (ix2 k (i 0))) (hy : ∀ k, y (ix2 k (j 1)) = b (ix2 k (i 1))) :
    colsBy x y j = colsBy a b i :=
  Finset.sum_congr rfl fun k _ => congrArg₂ (· * ·) (hx k) (hy k)

end Cert.Products

end
-- ==== Proof.Regions.lean ====
/- A launch of several kernel regions among stretches of host operations, read at its last boundary: every unscoped buffer of a TensorCore
   holds that boundary's contents. -/
module

public import Idealize.ShloMosaic.Lib.Pipeline.Kit
public import Idealize.ShloMosaic.Lib.Pipeline.Regions
public import Idealize.ShloMosaic.Lib.Pipeline.RegionsLoop
public import Idealize.ShloMosaic.Lib.Pipeline.FrameBody
public import Idealize.ShloMosaic.Lib.Pipeline.FrameSuffix
public import Idealize.ShloMosaic.Lib.Tactic

@[expose] public section

set_option Elab.async false

noncomputable section

namespace Cert.Products

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg)

variable {nD : ℕ} {τ : Topo} {sig : RefSig} {Val : EltTy → Type} {Λ₀ : Labels} {P : Type} [Fintype P] [DecidableEq P]
  [∀ e, Nonempty (Val e)]

local notation "𝕄" => MT nD τ sig Unit Val ℕ (UR sig nD τ) ℕ

/-- What a core carries beside its buffers: its generator register, and that it owes nothing. -/
abbrev Beside (c : Dev nD) : sProp 𝕄 := iprop((∃ r, prngReg c r) ∗ ∃ W, owes (c : Thread nD τ) (0 : CellTallies nD τ sig Unit) W)
/-- A core's unscoped buffers at the contents `W`, and what it carries beside them. -/
abbrev At (W : Dev nD → Valuation τ sig Val) (c : Dev nD) : sProp 𝕄 :=
  iprop(StableHlo.held (c : Thread nD τ) (Pipeline.ucRefs τ sig) (W c) ∗ Beside c)

variable (pcs : P → PCfg sig Λ₀ Val) (a : (p : P) → (pcs p).Adm)
  (pdats : (p : P) → (c : Dev nD) → Dat τ Val Unit ℕ (UR sig nD τ) ℕ (Pipeline.pin pcs a p) c)
  (hinj : Function.Injective (Pipeline.cellOf (nD := nD) (Pipeline.pin pcs a)))
  (defs₀ : Defs nD τ sig Val Λ₀)

/-- What a chain of segments ends in may be weakened. -/
theorem chains_mono {T' T'' : Dev nD → sProp 𝕄} (h : ∀ c, T' c ⊢ T'' c) :
    ∀ {T : Dev nD → sProp 𝕄} (l : List (Pipeline.Seg pcs a pdats () defs₀ Variants.none (fun _ => ∅) (fun _ _ => 0))),
      Pipeline.Seg.Chains T l T' → Pipeline.Seg.Chains T l T''
  | _, [], hc => fun c => (hc c).trans (h c)
  | _, _ :: l, hc => ⟨hc.1, chains_mono h l hc.2⟩

include hinj in
set_option backward.isDefEq.respectTransparency.types false in
theorem run_last (m : (ℓ : Loc nD τ sig) → Buf Val ℓ) (ρ : Dev nD → PrngReg)
    (main : Dev nD → Prog (TpuEff nD τ sig Val (Pipeline.Sig Λ₀ P fun p => (pcs p).Adm) .tc) PUnit)
    (segs : List (Pipeline.Seg pcs a pdats () defs₀ Variants.none (fun _ => ∅) (fun _ _ => 0)))
    (hmain : ∀ c, main c = Pipeline.Seg.run segs) (hnd : (Pipeline.Seg.pipes segs).Nodup)
    (W₀ Wₙ : Dev nD → Valuation τ sig Val) (h₀ : ∀ c b, W₀ c b = m ((c : Dev nD), b))
    (hch : Pipeline.Seg.Chains (At W₀) segs (At Wₙ)) :
    θ_run (Pipeline.defs pcs defs₀) (onTc main) ⟨m, fun _ => 0, ρ⟩
      fun r => ∀ c : Dev nD, ∀ b ∈ Pipeline.ucRefs τ sig, r.2.mem (c, b) = Wₙ c b :=
  Pipeline.θ_run_regions_kit_sems pcs a pdats () hinj emb₁ defs₀ Variants.none (fun _ => ∅) (fun _ _ => 0) m ρ main segs
    (fun c Q => by rw [hmain c]) hnd
    (O₀ := 0) (hL := fun _ _ => rfl) (G := fun _ => iprop(emp))
    (u₀ := initOf (Pipeline.cells (Pipeline.pin pcs a) hinj) (Pipeline.launchToks (Pipeline.pin pcs a) hinj))
    (hu₀ := by
      iintro Hu; imodintro
      isplitl [Hu]
      · iapply (show (ownU (initOf (Pipeline.cells (Pipeline.pin pcs a) hinj) (Pipeline.launchToks (Pipeline.pin pcs a) hinj)) : sProp 𝕄)
            ⊢ BI.own (emb₁ (initOf (Pipeline.cells (Pipeline.pin pcs a) hinj) (Pipeline.launchToks (Pipeline.pin pcs a) hinj))) from .rfl)
        iexact Hu
      iapply (show (BI.emp : sProp 𝕄) ⊢ bigSep Finset.univ (fun _ : Dev nD => (BI.emp : sProp 𝕄)) from by rw [BI.bigSep_emp_const])
      iempintro)
    (T₀ := At W₀) (Tₙ := fun c => iprop(StableHlo.held (c : Thread nD τ) (Pipeline.ucRefs τ sig) (Wₙ c) ∗ ∃ r, prngReg c r))
    (hch := chains_mono pcs a pdats defs₀ (fun c => by
      iintro ⟨Hh, Hp, HO⟩
      isplitl [Hh Hp]
      · isplitl [Hh]; · iexact Hh
        iexact Hp
      iexact HO) segs hch)
    (hinit := by
      refine Pipeline.initEach _ _ fun c => ?_
      rw [show unscopedBufs c (fun b => m ((c : Thread nD τ).loc b)) = StableHlo.held (c : Thread nD τ) (Pipeline.ucRefs τ sig) (W₀ c)
        from (Pipeline.unscopedBufs_held c (fun b => m ((c : Dev nD), b))).trans (by rw [show W₀ c = fun b => m ((c : Dev nD), b) from funext (h₀ c)])]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wₙ c b)
    (hfin := fun c s' => by
      iintro ⟨⟨Hh, -⟩, HSI⟩
      unfold StableHlo.held
      imodintro
      iapply (pointsTo_read_all (Pipeline.ucRefs τ sig) (fun b => (((c : Thread nD τ)).1, b)) (Wₙ c) s')
      isplitl [Hh] <;> iassumption)
    (hQ := fun s h _ c b hb => h c b hb)

end Cert.Products

end
-- ==== Proof.Down.lean ====
/- The feed-forward network's second product, backward: the kernel's two calls are the products the reference's derivative is. -/
module

public import proofs.«01_k».proof.Defs
public import proofs.«01_k».proof.Proof.Products
public import proofs.«01_k».proof.Proof.Regions
public import proofs.«01_k».proof.Proof.Gen.Kernel2Ideal.Frame
public import proofs.«01_k».proof.Proof.Gen.Reference2Ideal.Run
public import Idealize.ShloMosaic.Lib.Pipeline.ValueKit
public import Idealize.ShloMosaic.Lib.Quiescent

@[expose] public section

noncomputable section

namespace Cert.Kernel2Ideal.Down

open Cert.Kernel2Ideal Cert.Kernel2Ideal.Gen Cert.Products
open Idealize.ShloMosaic Idealize.ShloMosaic.TcCoe Idealize.ShloMosaic.ValueIdx Idealize.ShloMosaic.Tactic
open Idealize.SL Idealize.SL.BI Idealize.SL.BI.BIBase Idealize.SL.ProofMode Idealize.SL.Sem

section
variable (V : (c : Dev nD) → (b : Ref sig .tc) → Buf (Elt Ideal) ((c : Thread nD τ).loc b)) (c : Dev nD)

theorem idx0 : ∀ t : Fin grid0.N, win0_0.index t = ![win0_2.index t 0, 0] ∧ win0_1.index t = ![win0_2.index t 1, 0] := by decide +kernel

theorem region0 : (dat0 V c).arrAt 2 cfg0.N = rowsBy (V c main_v2 : Mat _ _) (V c main_v1) := by
  refine (dat0 V c).arrAt_eq_of_covers 2 _ (by decide +kernel) fun t hf y => ?_
  blk_simp
  rw [after0_2]
  frame_out
  unfold k0_pay1
  simp only [shapeCast_self]
  refine (congrFun (matmul_rows _ _) y).trans (rowsBy_block _ _ _ _ _ _ (fun k => ?_) fun k => ?_)
  · blk_ext [iblk0, (idx0 t).1]; exact (Pipeline.Window.rect_emb_val win0_2 t y 0).symm
  · blk_ext [iblk0, (idx0 t).2]; exact (Pipeline.Window.rect_emb_val win0_2 t y 1).symm

theorem idx1 : ∀ t : Fin grid1.N, win1_0.index t = ![0, win1_2.index t 0] ∧ win1_1.index t = ![0, win1_2.index t 1] := by decide +kernel

theorem region1 : (dat1 V c).arrAt 2 cfg1.N = colsBy (V c main_v0 : Mat _ _) (V c main_v2) := by
  refine (dat1 V c).arrAt_eq_of_covers 2 _ (by decide +kernel) fun t hf y => ?_
  blk_simp
  rw [after1_2]
  frame_out
  unfold k1_pay1
  simp only [shapeCast_self]
  refine (congrFun (matmul_cols (φ₁ := .bf16) (φ₂ := .bf16) _ _) y).trans (colsBy_block _ _ _ _ _ _ (fun k => ?_) fun k => ?_)
  · blk_ext [iblk1, (idx1 t).1]; exact (Pipeline.Window.rect_emb_val win1_2 t y 0).symm
  · blk_ext [iblk1, (idx1 t).2]; exact (Pipeline.Window.rect_emb_val win1_2 t y 1).symm

end

variable (m : (ℓ : Loc nD τ sig) → Buf (Elt Ideal) ℓ) (ρ : Dev nD → PrngReg) (c : Dev nD)

/-- The activation's gradient. -/
def gradX : Mat 4096 2816 := rowsBy (m ((c : Thread nD τ).loc main_arg2) : Mat 4096 1024) (m ((c : Thread nD τ).loc main_arg1))
/-- The weights' gradient. -/
def gradW : Mat 2816 1024 := colsBy (m ((c : Thread nD τ).loc main_arg0) : Mat 4096 2816) (m ((c : Thread nD τ).loc main_arg2))

theorem after_x : W4 m ρ c (Proc.devRef .tc main_v3) = gradX m c :=
  (W4_of m ρ c main_v3 (by decide)).trans <| (W3_of m ρ c main_v3 (by decide)).trans <| (W2_arr m ρ c 2).trans <|
    (region0 (V1 m ρ) c).trans (by
      have h2 : W1 m ρ c (Proc.devRef .tc main_v2) = m ((c : Thread nD τ).loc main_arg2) := by after_results; rfl
      have h1 : W1 m ρ c (Proc.devRef .tc main_v1) = m ((c : Thread nD τ).loc main_arg1) := by after_results; rfl
      simp only [V1]; rw [h2, h1]; rfl)

theorem after_w : W4 m ρ c (Proc.devRef .tc main_v5) = gradW m c := by
  have h : W4 m ρ c (Proc.devRef .tc main_v5) = W3 m ρ c (Proc.devRef .tc main_v4) := by after_results; rfl
  refine h.trans ((W3_arr m ρ c 2).trans ((region1 (V2 m ρ) c).trans ?_))
  have h0 : V2 m ρ c main_v0 = m ((c : Thread nD τ).loc main_arg0) := (W2_of m ρ c main_v0 (by decide)).trans (by after_results; rfl)
  have h2 : V2 m ρ c main_v2 = m ((c : Thread nD τ).loc main_arg2) := (W2_of m ρ c main_v2 (by decide)).trans (by after_results; rfl)
  rw [h0, h2]; rfl

theorem last : θ_run (defs (F := Ideal)) (onTc (τ := τ) (main (F := Ideal))) ⟨m, fun _ => 0, ρ⟩
    fun r => ∀ c : Dev nD, ∀ b ∈ Pipeline.ucRefs τ sig, r.2.mem (c, b) = W4 m ρ c b :=
  run_last (pcfgs (F := Ideal)) adm (pdats m ρ) cellOf_inj defs₀ m ρ main (segs m ρ) (main_run m ρ)
    (by simp only [segs, Pipeline.Seg.pipes_host, Pipeline.Seg.pipes_region, Pipeline.Seg.pipes_nil]; decide)
    (W0 m ρ) (W4 m ρ) (fun _ _ => rfl)
    ⟨fun _ => .rfl, fun _ => .rfl, fun _ => .rfl, fun _ => .rfl, fun _ => .rfl⟩

theorem reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem algebraic : Cert.algebraic_Kernel2Ideal_Reference2Ideal := fun m g m' g' _ hargs => by
  refine ⟨gradX m, gradW m, (θ_run defs _ _).mono (fun r h c => ?_) (last m g),
    (θ_run Cert.Reference2Ideal.defs _ _).mono (fun r h c => ?_) (Cert.Reference2Ideal.Value.run (F := Ideal) m' g')⟩
  · exact ⟨(h c _ (mem_uc main_v3 (by decide))).trans (after_x m g c), (h c _ (mem_uc main_v5 (by decide))).trans (after_w m g c),
      (h c _ (mem_uc main_arg0 (by decide))).trans (W4_main_arg0 m g c), (h c _ (mem_uc main_arg1 (by decide))).trans (W4_main_arg1 m g c),
      (h c _ (mem_uc main_arg2 (by decide))).trans (W4_main_arg2 m g c)⟩
  · obtain ⟨hx, hw, hrest⟩ := h c
    obtain ⟨a0, a1, a2⟩ := hargs c
    rw [a1, a2] at hx
    rw [a0, a2] at hw
    exact ⟨hx.trans (dot_rows _ _), hw.trans (transpose_dot_cols _ _ _), hrest⟩

end Cert.Kernel2Ideal.Down

end
-- ==== Proof.Columns.lean ====
/- Ranges of a matrix's columns, with zeros beyond its last: how the host's slices and paddings are such ranges, and how the products of
   ranges make up the products of the whole. -/
module

public import proofs.«01_k».proof.Proof.Products

@[expose] public section

noncomputable section

namespace Cert.Products

open Idealize.ShloMosaic Idealize.ShloMosaic.ValueIdx
open scoped BigOperators

/-- `K` columns from column `o`, zero past the last. -/
def part {M N : ℕ} (o K : ℕ) (b : Mat M N) : Mat M K := fun i =>
  if h : o + (i 1).val < N then b (ix2 (i 0) ⟨o + (i 1).val, h⟩) else 0

variable {M N : ℕ}

theorem part_inside (o K : ℕ) (b : Mat M N) (i : (⟨2, ![M, K]⟩ : Shape).Idx) (r : Fin M) (k : Fin N) (hr : (i 0).val = r.val)
    (hk : o + (i 1).val = k.val) : part o K b i = b (ix2 r k) := by
  unfold part
  rw [dif_pos (hk ▸ k.isLt)]
  exact congrArg b (congrArg₂ ix2 (Fin.ext hr) (Fin.ext hk))

theorem part_outside (o K : ℕ) (b : Mat M N) (i : (⟨2, ![M, K]⟩ : Shape).Idx) (h : N ≤ o + (i 1).val) : part o K b i = 0 := by
  unfold part
  rw [dif_neg (Nat.not_lt.mpr h)]

theorem part_whole (b : Mat M N) : part 0 N b = b := by
  funext i
  exact (part_inside 0 N b i (i 0) (i 1) rfl (Nat.zero_add _)).trans (congrArg b (eq_ix2 i).symm)

theorem part_part (o K k : ℕ) (h : k ≤ K) (b : Mat M N) : part 0 k (part o K b) = part o k b := by
  funext i
  have hi : (i 1).val < k := (i 1).isLt
  refine (part_inside 0 k (part o K b) i (i 0) ⟨(i 1).val, by omega⟩ rfl (Nat.zero_add _)).trans ?_
  rfl

/-- The host's slice of columns. -/
theorem slice_part (o K : ℕ) (b : Mat M N) (h : (⟨2, ![M, N]⟩ : Shape).Slices ![0, o] ⟨2, ![M, K]⟩) :
    extractStridedSlice ⟨2, ![M, K]⟩ ![0, o] b h = part o K b := by
  funext i
  have hlt : o + (i 1).val < N := Nat.lt_of_lt_of_le (Nat.add_lt_add_left (i 1).isLt _) (h.2 1)
  refine Eq.symm ((part_inside o K b i (i 0) ⟨o + (i 1).val, hlt⟩ rfl rfl).trans (congrArg b (funext fun a => Fin.ext ?_)))
  match a with
  | ⟨0, _⟩ => exact (Nat.zero_add _).symm
  | ⟨1, _⟩ => rfl

/-- The host's padding of the last columns with zeros. -/
theorem pad_part (o K L e : ℕ) (ho : o + K = N) (b : Mat M N) {u : Shape} (v : u.Idx → EReal)
    (h : (⟨2, ![M, K]⟩ : Shape).Pads ![0, 0] ![0, e] ![0, 0] ⟨2, ![M, L]⟩) (hu : 0 < u.numel) (hv : v (Shape.Idx.first hu) = 0) :
    pad ⟨2, ![M, L]⟩ ![0, 0] ![0, e] ![0, 0] (part o K b) v h hu = part o L b := by
  funext i
  rcases Nat.lt_or_ge (i 1).val K with hk | hk
  · refine (pad_apply_of_inside _ _ _ _ v h hu i (ix2 (i 0) ⟨(i 1).val, hk⟩) fun a => ?_).trans ?_
    · match a with
      | ⟨0, _⟩ => show (i 0).val = 0 + (i 0).val * (0 + 1); omega
      | ⟨1, _⟩ => show (i 1).val = 0 + (i 1).val * (0 + 1); omega
    · rfl
  · refine (pad_apply_of_not_inside _ _ _ _ v h hu i 1 fun hin => ?_).trans (hv.trans (part_outside o L b i (by omega)).symm)
    have h3 : ((i 1).val - 0) / (0 + 1) < K := hin.2.2
    omega

/-- A range of a product's columns is the product with that range. -/
theorem cols_part {K : ℕ} (o L : ℕ) (x : Mat K M) (d : Mat K N) : colsBy x (part o L d) = part o L (colsBy x d) := by
  funext i
  rcases Nat.lt_or_ge (o + (i 1).val) N with h | h
  · refine Eq.trans ?_ (part_inside o L (colsBy x d) i (i 0) ⟨o + (i 1).val, h⟩ rfl rfl).symm
    exact Finset.sum_congr rfl fun k _ => congrArg (x (ix2 k (i 0)) * ·) (part_inside o L d (ix2 k (i 1)) k ⟨o + (i 1).val, h⟩ rfl rfl)
  · refine Eq.trans (Finset.sum_eq_zero fun k _ => ?_) (part_outside o L (colsBy x d) i h).symm
    rw [part_outside o L d (ix2 k (i 1)) h, mul_zero]

theorem prod_part {K : ℕ} (o L : ℕ) (x : Mat M K) (d : Mat K N) : prod x (part o L d) = part o L (prod x d) := by
  funext i
  rcases Nat.lt_or_ge (o + (i 1).val) N with h | h
  · refine Eq.trans ?_ (part_inside o L (prod x d) i (i 0) ⟨o + (i 1).val, h⟩ rfl rfl).symm
    exact Finset.sum_congr rfl fun k _ => congrArg (x (ix2 (i 0) k) * ·) (part_inside o L d (ix2 k (i 1)) k ⟨o + (i 1).val, h⟩ rfl rfl)
  · refine Eq.trans (Finset.sum_eq_zero fun k _ => ?_) (part_outside o L (prod x d) i h).symm
    rw [part_outside o L d (ix2 k (i 1)) h, mul_zero]

/-- A range of the host's product's columns. -/
theorem slice_dot_prod {K : ℕ} {φ₁ φ₂ : FTy} (o L : ℕ) (a : FVec Ideal ⟨2, ![M, K]⟩ φ₁) (b : FVec Ideal ⟨2, ![K, N]⟩ φ₂)
    (h : (⟨2, ![M, N]⟩ : Shape).Slices ![0, o] ⟨2, ![M, L]⟩) :
    extractStridedSlice ⟨2, ![M, L]⟩ ![0, o] (Host.dotGeneral (DotDims.plain M K N) none a b) h = part o L (prod a b) := by
  rw [dot_prod]
  exact slice_part o L (prod a b) h

section Rows

variable {M' : ℕ} (a : Mat M N) (b : Mat M' N)

/-- The product of the rows over one range of columns. -/
def rowsOver (o K : ℕ) : Mat M M' := rowsBy (part o K a) (part o K b)

theorem rowsOver_whole : rowsOver a b 0 N = rowsBy a b := by
  unfold rowsOver
  rw [part_whole, part_whole]

theorem rowsOver_split (o K L : ℕ) (i : (⟨2, ![M, M']⟩ : Shape).Idx) :
    rowsOver a b o (K + L) i = rowsOver a b o K i + rowsOver a b (o + K) L i := by
  refine (Fin.sum_univ_add _).trans (congrArg₂ (· + ·) rfl (Finset.sum_congr rfl fun k _ => congrArg₂ (· * ·) ?_ ?_)) <;>
  · simp only [part, Nat.add_assoc]; rfl

theorem rowsOver_outside (o K : ℕ) (h : N ≤ o) (i : (⟨2, ![M, M']⟩ : Shape).Idx) : rowsOver a b o K i = 0 := by
  unfold rowsOver rowsBy
  exact Finset.sum_eq_zero fun k _ => by rw [part_outside o K a _ (Nat.le_add_right_of_le h), zero_mul]

/-- The padding adds nothing. -/
theorem rowsOver_pad (o K L : ℕ) (h : N ≤ o + K) (i : (⟨2, ![M, M']⟩ : Shape).Idx) : rowsOver a b o (K + L) i = rowsOver a b o K i := by
  rw [rowsOver_split, rowsOver_outside a b (o + K) L h i, add_zero]

/-- Two ranges, the second padded. -/
theorem rowsOver_two (K L P : ℕ) (h : K + L = N) (i : (⟨2, ![M, M']⟩ : Shape).Idx) :
    rowsOver a b K (L + P) i + rowsOver a b 0 K i = rowsBy a b i := by
  rw [rowsOver_pad a b K L P h.ge, add_comm, ← rowsOver_whole]
  subst h
  rw [rowsOver_split, Nat.zero_add]

/-- Three ranges, the third padded. -/
theorem rowsOver_three (K L J P : ℕ) (h : K + L + J = N) (i : (⟨2, ![M, M']⟩ : Shape).Idx) :
    rowsOver a b (K + L) (J + P) i + (rowsOver a b K L i + rowsOver a b 0 K i) = rowsBy a b i := by
  rw [← rowsOver_two a b (K + L) J P h, rowsOver_split a b 0 K L, Nat.zero_add, add_comm (rowsOver a b K L i)]

end Rows

section Join

/-- A join along the columns, read at a column of piece `k`. -/
theorem join_piece (xs : List ((s : Shape) × (s.Idx → EReal))) (h : Shape.Concatenates (xs.map (·.1)) ⟨2, ![M, N]⟩ 1) (k : ℕ)
    (hk : k < xs.length) (n : ℕ) (x : Mat M n) (hx : xs[k] = ⟨⟨2, ![M, n]⟩, x⟩) (pre : ℕ)
    (hpre : (((xs.take k).map (·.1)).map fun s => if h : s.rank = 2 then s.size ((1 : Fin 2).cast h.symm) else 0).sum = pre)
    (i : (⟨2, ![M, N]⟩ : Shape).Idx) (e : Fin n) (he : pre + e.val = (i 1).val) :
    concatenate ⟨2, ![M, N]⟩ 1 xs h i = x (ix2 (i 0) e) := by
  refine concatenate_apply_piece (t := ⟨2, ![M, N]⟩) 1 xs h i k hk ⟨2, ![M, n]⟩ x hx rfl pre hpre (ix2 (i 0) e) (fun a ha => ?_) he
  match a, ha with
  | ⟨0, _⟩, _ => rfl
  | ⟨1, _⟩, ha => exact absurd rfl ha

theorem join_two (g : Mat M N) (K L : ℕ) (hN : K + L = N)
    (h : Shape.Concatenates [⟨2, ![M, K]⟩, ⟨2, ![M, L]⟩] ⟨2, ![M, N]⟩ 1) :
    concatenate ⟨2, ![M, N]⟩ 1 [⟨⟨2, ![M, K]⟩, part 0 K g⟩, ⟨⟨2, ![M, L]⟩, part K L g⟩] h = g := by
  let pieces : List ((s : Shape) × (s.Idx → EReal)) := [⟨⟨2, ![M, K]⟩, part 0 K g⟩, ⟨⟨2, ![M, L]⟩, part K L g⟩]
  funext i
  have hi : (i 1).val < N := (i 1).isLt
  have eq := congrArg g (eq_ix2 i).symm
  rcases Nat.lt_or_ge (i 1).val K with hk | hk
  · refine (join_piece pieces h 0 (by decide : 0 < 2) K (part 0 K g) rfl 0 rfl i ⟨(i 1).val, hk⟩ (Nat.zero_add _)).trans ?_
    exact (part_inside 0 K g _ (i 0) (i 1) rfl (Nat.zero_add _)).trans eq
  · refine (join_piece pieces h 1 (by decide : 1 < 2) L (part K L g) rfl K rfl i ⟨(i 1).val - K, by omega⟩ (by simp only; omega)).trans ?_
    exact (part_inside K L g _ (i 0) (i 1) rfl (by show K + ((i 1).val - K) = (i 1).val; omega)).trans eq

theorem join_three (g : Mat M N) (K L J : ℕ) (hN : K + L + J = N)
    (h : Shape.Concatenates [⟨2, ![M, K]⟩, ⟨2, ![M, L]⟩, ⟨2, ![M, J]⟩] ⟨2, ![M, N]⟩ 1) :
    concatenate ⟨2, ![M, N]⟩ 1 [⟨⟨2, ![M, K]⟩, part 0 K g⟩, ⟨⟨2, ![M, L]⟩, part K L g⟩, ⟨⟨2, ![M, J]⟩, part (K + L) J g⟩] h = g := by
  let pieces : List ((s : Shape) × (s.Idx → EReal)) := [⟨⟨2, ![M, K]⟩, part 0 K g⟩, ⟨⟨2, ![M, L]⟩, part K L g⟩, ⟨⟨2, ![M, J]⟩, part (K + L) J g⟩]
  funext i
  have hi : (i 1).val < N := (i 1).isLt
  have eq := congrArg g (eq_ix2 i).symm
  rcases Nat.lt_or_ge (i 1).val K with hk | hk
  · refine (join_piece pieces h 0 (by decide : 0 < 3) K (part 0 K g) rfl 0 rfl i ⟨(i 1).val, hk⟩ (Nat.zero_add _)).trans ?_
    exact (part_inside 0 K g _ (i 0) (i 1) rfl (Nat.zero_add _)).trans eq
  rcases Nat.lt_or_ge (i 1).val (K + L) with hl | hl
  · refine (join_piece pieces h 1 (by decide : 1 < 3) L (part K L g) rfl K rfl i ⟨(i 1).val - K, by omega⟩ (by simp only; omega)).trans ?_
    exact (part_inside K L g _ (i 0) (i 1) rfl (by show K + ((i 1).val - K) = (i 1).val; omega)).trans eq
  · refine (join_piece pieces h 2 (by decide : 2 < 3) J (part (K + L) J g) rfl (K + L) rfl i ⟨(i 1).val - (K + L), by omega⟩
      (by simp only; omega)).trans ?_
    exact (part_inside (K + L) J g _ (i 0) (i 1) rfl (by show K + L + ((i 1).val - (K + L)) = (i 1).val; omega)).trans eq

theorem join_three_of (g : Mat M N) (K L J : ℕ) (hN : K + L + J = N) (x : Mat M K) (y : Mat M L) (z : Mat M J)
    (h : Shape.Concatenates [⟨2, ![M, K]⟩, ⟨2, ![M, L]⟩, ⟨2, ![M, J]⟩] ⟨2, ![M, N]⟩ 1)
    (hx : x = part 0 K g) (hy : y = part K L g) (hz : z = part (K + L) J g) :
    concatenate ⟨2, ![M, N]⟩ 1 [⟨⟨2, ![M, K]⟩, x⟩, ⟨⟨2, ![M, L]⟩, y⟩, ⟨⟨2, ![M, J]⟩, z⟩] h = g := by
  subst hx hy hz
  exact join_three g K L J hN h

end Join

end Cert.Products

end
-- ==== Proof.Up.lean ====
/- The feed-forward network's first product, backward: the kernel's four calls are the gate's and the value's parts of the products the
   reference's derivative is. -/
module

public import proofs.«01_k».proof.Defs
public import proofs.«01_k».proof.Proof.Columns
public import proofs.«01_k».proof.Proof.Regions
public import proofs.«01_k».proof.Proof.Gen.Kernel3Ideal.Frame
public import proofs.«01_k».proof.Proof.Gen.Reference3Ideal.Run
public import Idealize.ShloMosaic.Lib.Pipeline.ValueKit
public import Idealize.ShloMosaic.Lib.Quiescent

@[expose] public section

noncomputable section

namespace Cert.Kernel3Ideal.Up

open Cert.Kernel3Ideal Cert.Kernel3Ideal.Gen Cert.Products
open Idealize.ShloMosaic Idealize.ShloMosaic.TcCoe Idealize.ShloMosaic.ValueIdx Idealize.ShloMosaic.Tactic
open Idealize.SL Idealize.SL.BI Idealize.SL.BI.BIBase Idealize.SL.ProofMode Idealize.SL.Sem

section
variable (V : (c : Dev nD) → (b : Ref sig .tc) → Buf (Elt Ideal) ((c : Thread nD τ).loc b)) (c : Dev nD)

theorem idx0 : ∀ t : Fin grid0.N, win0_0.index t = ![win0_2.index t 0, 0] ∧ win0_1.index t = ![win0_2.index t 1, 0] := by decide +kernel

theorem region0 : (dat0 V c).arrAt 2 cfg0.N = rowsBy (V c main_v3 : Mat _ _) (part 0 2816 (V c main_v1 : Mat 1024 5632)) := by
  refine (dat0 V c).arrAt_eq_of_covers 2 _ (by decide +kernel) fun t hf y => ?_
  blk_simp
  rw [after0_2]
  frame_out
  unfold k0_pay1
  simp only [shapeCast_self]
  refine (congrFun (matmul_rows _ _) y).trans (rowsBy_block _ _ _ _ _ _ (fun k => ?_) fun k => ?_)
  · blk_ext [iblk0, (idx0 t).1]; exact (Pipeline.Window.rect_emb_val win0_2 t y 0).symm
  · refine Eq.trans ?_ (part_inside 0 2816 _ _ _ ⟨0 + k.val, by omega⟩ rfl rfl).symm
    blk_ext [iblk0, (idx0 t).2]
    exact (Pipeline.Window.rect_emb_val win0_2 t y 1).symm

theorem idx1 : ∀ t : Fin grid1.N, win1_0.index t = ![win1_3.index t 0, 0] ∧ win1_1.index t = ![win1_3.index t 1, 1]
    ∧ win1_2.index t = win1_3.index t := by decide +kernel

theorem region1 : (dat1 V c).arrAt 3 cfg1.N
    = fun i => rowsBy (V c main_v5 : Mat _ _) (part 2816 2816 (V c main_v1 : Mat 1024 5632)) i + (V c main_v6 : Mat _ _) i := by
  refine (dat1 V c).arrAt_eq_of_covers 3 _ (by decide +kernel) fun t hf y => ?_
  blk_simp
  rw [after1_3]
  frame_out
  unfold k1_pay1
  simp only [shapeCast_self]
  refine congrArg₂ (· + ·) ((congrFun (matmul_rows (φ₁ := .bf16) (φ₂ := .bf16) _ _) y).trans
    (rowsBy_block _ _ _ _ _ _ (fun k => ?_) fun k => ?_)) ?_
  · blk_ext [iblk1, (idx1 t).1]; exact (Pipeline.Window.rect_emb_val win1_3 t y 0).symm
  · refine Eq.trans ?_ (part_inside 2816 2816 _ _ _ ⟨2816 + k.val, by omega⟩ rfl rfl).symm
    blk_ext [iblk1, (idx1 t).2.1]
    exact (Pipeline.Window.rect_emb_val win1_3 t y 1).symm
  · blk_ext [iblk1, (idx1 t).2.2]

theorem idx2 : ∀ t : Fin grid2.N, win2_0.index t = ![0, win2_2.index t 0] ∧ win2_1.index t = ![0, win2_2.index t 1] := by decide +kernel

theorem region2 : (dat2 V c).arrAt 2 cfg2.N = colsBy (V c main_v0 : Mat _ _) (V c main_v3) := by
  refine (dat2 V c).arrAt_eq_of_covers 2 _ (by decide +kernel) fun t hf y => ?_
  blk_simp
  rw [after2_2]
  frame_out
  unfold k2_pay1
  simp only [shapeCast_self]
  refine (congrFun (matmul_cols (φ₁ := .bf16) (φ₂ := .bf16) _ _) y).trans (colsBy_block _ _ _ _ _ _ (fun k => ?_) fun k => ?_)
  · blk_ext [iblk2, (idx2 t).1]; exact (Pipeline.Window.rect_emb_val win2_2 t y 0).symm
  · blk_ext [iblk2, (idx2 t).2]; exact (Pipeline.Window.rect_emb_val win2_2 t y 1).symm

theorem idx3 : ∀ t : Fin grid3.N, win3_0.index t = ![0, win3_2.index t 0] ∧ win3_1.index t = ![0, win3_2.index t 1] := by decide +kernel

theorem region3 : (dat3 V c).arrAt 2 cfg3.N = colsBy (V c main_v0 : Mat _ _) (V c main_v5) := by
  refine (dat3 V c).arrAt_eq_of_covers 2 _ (by decide +kernel) fun t hf y => ?_
  blk_simp
  rw [after3_2]
  frame_out
  unfold k3_pay1
  simp only [shapeCast_self]
  refine (congrFun (matmul_cols (φ₁ := .bf16) (φ₂ := .bf16) _ _) y).trans (colsBy_block _ _ _ _ _ _ (fun k => ?_) fun k => ?_)
  · blk_ext [iblk3, (idx3 t).1]; exact (Pipeline.Window.rect_emb_val win3_2 t y 0).symm
  · blk_ext [iblk3, (idx3 t).2]; exact (Pipeline.Window.rect_emb_val win3_2 t y 1).symm

end

variable (m : (ℓ : Loc nD τ sig) → Buf (Elt Ideal) ℓ) (ρ : Dev nD → PrngReg) (c : Dev nD)

/-- The layer's input, its weights, and the gradient at its result. -/
abbrev xIn : Mat 4096 1024 := m ((c : Thread nD τ).loc main_arg0)
abbrev wIn : Mat 1024 5632 := m ((c : Thread nD τ).loc main_arg1)
abbrev dIn : Mat 4096 5632 := m ((c : Thread nD τ).loc main_arg2)

/-- The input's gradient. -/
def gradX : Mat 4096 1024 := rowsBy (dIn m c) (wIn m c)
/-- The weights' gradient. -/
def gradW : Mat 1024 5632 := colsBy (xIn m c) (dIn m c)

theorem entry_x : W1 m ρ c (Proc.devRef .tc main_v0) = xIn m c := by after_results; rfl
theorem entry_w : W1 m ρ c (Proc.devRef .tc main_v1) = wIn m c := by after_results; rfl
theorem entry_gate : W1 m ρ c (Proc.devRef .tc main_v3) = part 0 2816 (dIn m c) := by
  after_results
  exact slice_part 0 2816 (dIn m c) slices_S4096x5632_S4096x2816_0_0
theorem entry_value : W1 m ρ c (Proc.devRef .tc main_v5) = part 2816 2816 (dIn m c) := by
  after_results
  exact slice_part 2816 2816 (dIn m c) slices_S4096x5632_S4096x2816_0_2816

theorem after_x : W6 m ρ c (Proc.devRef .tc main_v7) = gradX m c := by
  refine (W6_of m ρ c main_v7 (by decide)).trans <| (W5_of m ρ c main_v7 (by decide)).trans <| (W4_of m ρ c main_v7 (by decide)).trans <|
    (W3_arr m ρ c 3).trans <| (region1 (V2 m ρ) c).trans ?_
  have hd : V2 m ρ c main_v5 = part 2816 2816 (dIn m c) := (W2_of m ρ c main_v5 (by decide)).trans (entry_value m ρ c)
  have hw : V2 m ρ c main_v1 = wIn m c := (W2_of m ρ c main_v1 (by decide)).trans (entry_w m ρ c)
  have hr : V2 m ρ c main_v6 = rowsBy (part 0 2816 (dIn m c)) (part 0 2816 (wIn m c)) :=
    (W2_arr m ρ c 2).trans ((region0 (V1 m ρ) c).trans (by simp only [V1]; rw [entry_gate, entry_w]))
  rw [hd, hw, hr]
  exact funext (rowsOver_two (dIn m c) (wIn m c) 2816 2816 0 rfl)

theorem after_w : W6 m ρ c (Proc.devRef .tc main_v11) = gradW m c := by
  have hx : V3 m ρ c main_v0 = xIn m c :=
    (W3_of m ρ c main_v0 (by decide)).trans ((W2_of m ρ c main_v0 (by decide)).trans (entry_x m ρ c))
  have hg : V3 m ρ c main_v3 = part 0 2816 (dIn m c) :=
    (W3_of m ρ c main_v3 (by decide)).trans ((W2_of m ρ c main_v3 (by decide)).trans (entry_gate m ρ c))
  have hv : V4 m ρ c main_v5 = part 2816 2816 (dIn m c) :=
    (W4_of m ρ c main_v5 (by decide)).trans ((W3_of m ρ c main_v5 (by decide)).trans ((W2_of m ρ c main_v5 (by decide)).trans (entry_value m ρ c)))
  have hx' : V4 m ρ c main_v0 = xIn m c := (W4_of m ρ c main_v0 (by decide)).trans hx
  have h8 : W5 m ρ c (Proc.devRef .tc main_v8) = part 0 2816 (gradW m c) :=
    (W5_of m ρ c main_v8 (by decide)).trans ((W4_arr m ρ c 2).trans ((region2 (V3 m ρ) c).trans (by rw [hx, hg]; exact cols_part _ _ _ _)))
  have h9 : W5 m ρ c (Proc.devRef .tc main_v9) = part 2816 2816 (gradW m c) :=
    (W5_arr m ρ c 2).trans ((region3 (V4 m ρ) c).trans (by rw [hx', hv]; exact cols_part _ _ _ _))
  after_results
  rw [h8, h9]
  exact join_two (gradW m c) 2816 2816 rfl concatenates_S1024x2816_S1024x2816_S1024x5632_d1

theorem last : θ_run (defs (F := Ideal)) (onTc (τ := τ) (main (F := Ideal))) ⟨m, fun _ => 0, ρ⟩
    fun r => ∀ c : Dev nD, ∀ b ∈ Pipeline.ucRefs τ sig, r.2.mem (c, b) = W6 m ρ c b :=
  run_last (pcfgs (F := Ideal)) adm (pdats m ρ) cellOf_inj defs₀ m ρ main (segs m ρ) (main_run m ρ)
    (by simp only [segs, Pipeline.Seg.pipes_host, Pipeline.Seg.pipes_region, Pipeline.Seg.pipes_nil]; decide)
    (W0 m ρ) (W6 m ρ) (fun _ _ => rfl)
    ⟨fun _ => .rfl, fun _ => .rfl, fun _ => .rfl, fun _ => .rfl, fun _ => .rfl, fun _ => .rfl, fun _ => .rfl⟩

theorem reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic : Cert.algebraic_Kernel3Ideal_Reference3Ideal := fun m g m' g' _ hargs => by
  refine ⟨gradX m, gradW m, (θ_run defs _ _).mono (fun r h c => ?_) (last m g),
    (θ_run Cert.Reference3Ideal.defs _ _).mono (fun r h c => ?_) (Cert.Reference3Ideal.Value.run (F := Ideal) m' g')⟩
  · exact ⟨(h c _ (mem_uc main_v7 (by decide))).trans (after_x m g c), (h c _ (mem_uc main_v11 (by decide))).trans (after_w m g c),
      (h c _ (mem_uc main_arg0 (by decide))).trans (W6_main_arg0 m g c), (h c _ (mem_uc main_arg1 (by decide))).trans (W6_main_arg1 m g c),
      (h c _ (mem_uc main_arg2 (by decide))).trans (W6_main_arg2 m g c)⟩
  · obtain ⟨hx, hw, hrest⟩ := h c
    obtain ⟨a0, a1, a2⟩ := hargs c
    rw [a1, a2] at hx
    rw [a0, a2] at hw
    exact ⟨hx.trans (dot_rows _ _), hw.trans (transpose_dot_cols _ _ _), hrest⟩

end Cert.Kernel3Ideal.Up

end
-- ==== Proof.FoxOut.lean ====
/- The attention's output product, backward: the kernel's two calls are the products the reference's derivative is. -/
module

public import proofs.«01_k».proof.Defs
public import proofs.«01_k».proof.Proof.Products
public import proofs.«01_k».proof.Proof.Regions
public import proofs.«01_k».proof.Proof.Gen.Kernel4Ideal.Frame
public import proofs.«01_k».proof.Proof.Gen.Reference4Ideal.Run
public import Idealize.ShloMosaic.Lib.Pipeline.ValueKit
public import Idealize.ShloMosaic.Lib.Quiescent

@[expose] public section

noncomputable section

namespace Cert.Kernel4Ideal.FoxOut

open Cert.Kernel4Ideal Cert.Kernel4Ideal.Gen Cert.Products
open Idealize.ShloMosaic Idealize.ShloMosaic.TcCoe Idealize.ShloMosaic.ValueIdx Idealize.ShloMosaic.Tactic
open Idealize.SL Idealize.SL.BI Idealize.SL.BI.BIBase Idealize.SL.ProofMode Idealize.SL.Sem

section
variable (V : (c : Dev nD) → (b : Ref sig .tc) → Buf (Elt Ideal) ((c : Thread nD τ).loc b)) (c : Dev nD)

theorem idx0 : ∀ t : Fin grid0.N, win0_0.index t = ![win0_2.index t 0, 0] ∧ win0_1.index t = ![win0_2.index t 1, 0] := by decide +kernel

theorem region0 : (dat0 V c).arrAt 2 cfg0.N = rowsBy (V c main_v2 : Mat _ _) (V c main_v1) := by
  refine (dat0 V c).arrAt_eq_of_covers 2 _ (by decide +kernel) fun t hf y => ?_
  blk_simp
  rw [after0_2]
  frame_out
  unfold k0_pay1
  simp only [shapeCast_self]
  refine (congrFun (matmul_rows _ _) y).trans (rowsBy_block _ _ _ _ _ _ (fun k => ?_) fun k => ?_)
  · blk_ext [iblk0, (idx0 t).1]; exact (Pipeline.Window.rect_emb_val win0_2 t y 0).symm
  · blk_ext [iblk0, (idx0 t).2]; exact (Pipeline.Window.rect_emb_val win0_2 t y 1).symm

theorem idx1 : ∀ t : Fin grid1.N, win1_0.index t = ![0, win1_2.index t 0] ∧ win1_1.index t = ![0, win1_2.index t 1] := by decide +kernel

theorem region1 : (dat1 V c).arrAt 2 cfg1.N = colsBy (V c main_v0 : Mat _ _) (V c main_v2) := by
  refine (dat1 V c).arrAt_eq_of_covers 2 _ (by decide +kernel) fun t hf y => ?_
  blk_simp
  rw [after1_2]
  frame_out
  unfold k1_pay1
  simp only [shapeCast_self]
  refine (congrFun (matmul_cols (φ₁ := .bf16) (φ₂ := .bf16) _ _) y).trans (colsBy_block _ _ _ _ _ _ (fun k => ?_) fun k => ?_)
  · blk_ext [iblk1, (idx1 t).1]; exact (Pipeline.Window.rect_emb_val win1_2 t y 0).symm
  · blk_ext [iblk1, (idx1 t).2]; exact (Pipeline.Window.rect_emb_val win1_2 t y 1).symm

end

variable (m : (ℓ : Loc nD τ sig) → Buf (Elt Ideal) ℓ) (ρ : Dev nD → PrngReg) (c : Dev nD)

/-- The activation's gradient. -/
def gradX : Mat 4096 1024 := rowsBy (m ((c : Thread nD τ).loc main_arg2) : Mat 4096 1024) (m ((c : Thread nD τ).loc main_arg1))
/-- The weights' gradient. -/
def gradW : Mat 1024 1024 := colsBy (m ((c : Thread nD τ).loc main_arg0) : Mat 4096 1024) (m ((c : Thread nD τ).loc main_arg2))

theorem after_x : W4 m ρ c (Proc.devRef .tc main_v3) = gradX m c :=
  (W4_of m ρ c main_v3 (by decide)).trans <| (W3_of m ρ c main_v3 (by decide)).trans <| (W2_arr m ρ c 2).trans <|
    (region0 (V1 m ρ) c).trans (by
      have h2 : W1 m ρ c (Proc.devRef .tc main_v2) = m ((c : Thread nD τ).loc main_arg2) := by after_results; rfl
      have h1 : W1 m ρ c (Proc.devRef .tc main_v1) = m ((c : Thread nD τ).loc main_arg1) := by after_results; rfl
      simp only [V1]; rw [h2, h1]; rfl)

theorem after_w : W4 m ρ c (Proc.devRef .tc main_v5) = gradW m c := by
  have h : W4 m ρ c (Proc.devRef .tc main_v5) = W3 m ρ c (Proc.devRef .tc main_v4) := by after_results; rfl
  refine h.trans ((W3_arr m ρ c 2).trans ((region1 (V2 m ρ) c).trans ?_))
  have h0 : V2 m ρ c main_v0 = m ((c : Thread nD τ).loc main_arg0) := (W2_of m ρ c main_v0 (by decide)).trans (by after_results; rfl)
  have h2 : V2 m ρ c main_v2 = m ((c : Thread nD τ).loc main_arg2) := (W2_of m ρ c main_v2 (by decide)).trans (by after_results; rfl)
  rw [h0, h2]; rfl

theorem last : θ_run (defs (F := Ideal)) (onTc (τ := τ) (main (F := Ideal))) ⟨m, fun _ => 0, ρ⟩
    fun r => ∀ c : Dev nD, ∀ b ∈ Pipeline.ucRefs τ sig, r.2.mem (c, b) = W4 m ρ c b :=
  run_last (pcfgs (F := Ideal)) adm (pdats m ρ) cellOf_inj defs₀ m ρ main (segs m ρ) (main_run m ρ)
    (by simp only [segs, Pipeline.Seg.pipes_host, Pipeline.Seg.pipes_region, Pipeline.Seg.pipes_nil]; decide)
    (W0 m ρ) (W4 m ρ) (fun _ _ => rfl)
    ⟨fun _ => .rfl, fun _ => .rfl, fun _ => .rfl, fun _ => .rfl, fun _ => .rfl⟩

theorem reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic : Cert.algebraic_Kernel4Ideal_Reference4Ideal := fun m g m' g' _ hargs => by
  refine ⟨gradX m, gradW m, (θ_run defs _ _).mono (fun r h c => ?_) (last m g),
    (θ_run Cert.Reference4Ideal.defs _ _).mono (fun r h c => ?_) (Cert.Reference4Ideal.Value.run (F := Ideal) m' g')⟩
  · exact ⟨(h c _ (mem_uc main_v3 (by decide))).trans (after_x m g c), (h c _ (mem_uc main_v5 (by decide))).trans (after_w m g c),
      (h c _ (mem_uc main_arg0 (by decide))).trans (W4_main_arg0 m g c), (h c _ (mem_uc main_arg1 (by decide))).trans (W4_main_arg1 m g c),
      (h c _ (mem_uc main_arg2 (by decide))).trans (W4_main_arg2 m g c)⟩
  · obtain ⟨hx, hw, hrest⟩ := h c
    obtain ⟨a0, a1, a2⟩ := hargs c
    rw [a1, a2] at hx
    rw [a0, a2] at hw
    exact ⟨hx.trans (dot_rows _ _), hw.trans (transpose_dot_cols _ _ _), hrest⟩

end Cert.Kernel4Ideal.FoxOut

end
-- ==== Proof.FoxIn.lean ====
/- The attention's input product, backward: the kernel's four calls are the parts of the products the reference's derivative is, the last
   sixteen columns padded to 128. -/
module

public import proofs.«01_k».proof.Defs
public import proofs.«01_k».proof.Proof.Columns
public import proofs.«01_k».proof.Proof.Regions
public import proofs.«01_k».proof.Proof.Gen.Kernel5Ideal.Frame
public import proofs.«01_k».proof.Proof.Gen.Reference5Ideal.Run
public import Idealize.ShloMosaic.Lib.Pipeline.ValueKit
public import Idealize.ShloMosaic.Lib.Quiescent

@[expose] public section

noncomputable section

namespace Cert.Kernel5Ideal.FoxIn

open Cert.Kernel5Ideal Cert.Kernel5Ideal.Gen Cert.Products
open Idealize.ShloMosaic Idealize.ShloMosaic.TcCoe Idealize.ShloMosaic.ValueIdx Idealize.ShloMosaic.Tactic
open Idealize.SL Idealize.SL.BI Idealize.SL.BI.BIBase Idealize.SL.ProofMode Idealize.SL.Sem

section
variable (V : (c : Dev nD) → (b : Ref sig .tc) → Buf (Elt Ideal) ((c : Thread nD τ).loc b)) (c : Dev nD)

theorem idx0 : ∀ t : Fin grid0.N, win0_0.index t = ![win0_2.index t 0, 0] ∧ win0_1.index t = ![win0_2.index t 1, 0] := by decide +kernel

theorem region0 : (dat0 V c).arrAt 2 cfg0.N = rowsBy (V c main_v6 : Mat _ _) (V c main_v3) := by
  refine (dat0 V c).arrAt_eq_of_covers 2 _ (by decide +kernel) fun t hf y => ?_
  blk_simp
  rw [after0_2]
  frame_out
  unfold k0_pay1
  simp only [shapeCast_self]
  refine (congrFun (matmul_rows _ _) y).trans (rowsBy_block _ _ _ _ _ _ (fun k => ?_) fun k => ?_)
  · blk_ext [iblk0, (idx0 t).1]; exact (Pipeline.Window.rect_emb_val win0_2 t y 0).symm
  · blk_ext [iblk0, (idx0 t).2]; exact (Pipeline.Window.rect_emb_val win0_2 t y 1).symm

theorem idx1 : ∀ t : Fin grid1.N, win1_0.index t = ![win1_3.index t 0, 0] ∧ win1_1.index t = ![win1_3.index t 1, 0]
    ∧ win1_2.index t = win1_3.index t := by decide +kernel

theorem region1 : (dat1 V c).arrAt 3 cfg1.N = fun i => rowsBy (V c main_v8 : Mat _ _) (V c main_v5) i + (V c main_v9 : Mat _ _) i := by
  refine (dat1 V c).arrAt_eq_of_covers 3 _ (by decide +kernel) fun t hf y => ?_
  blk_simp
  rw [after1_3]
  frame_out
  unfold k1_pay1
  simp only [shapeCast_self]
  refine congrArg₂ (· + ·) ((congrFun (matmul_rows (φ₁ := .bf16) (φ₂ := .bf16) _ _) y).trans
    (rowsBy_block _ _ _ _ _ _ (fun k => ?_) fun k => ?_)) ?_
  · blk_ext [iblk1, (idx1 t).1]; exact (Pipeline.Window.rect_emb_val win1_3 t y 0).symm
  · blk_ext [iblk1, (idx1 t).2.1]; exact (Pipeline.Window.rect_emb_val win1_3 t y 1).symm
  · blk_ext [iblk1, (idx1 t).2.2]

theorem idx2 : ∀ t : Fin grid2.N, win2_0.index t = ![0, win2_2.index t 0] ∧ win2_1.index t = ![0, win2_2.index t 1] := by decide +kernel

theorem region2 : (dat2 V c).arrAt 2 cfg2.N = colsBy (V c main_v0 : Mat _ _) (V c main_v6) := by
  refine (dat2 V c).arrAt_eq_of_covers 2 _ (by decide +kernel) fun t hf y => ?_
  blk_simp
  rw [after2_2]
  frame_out
  unfold k2_pay1
  simp only [shapeCast_self]
  refine (congrFun (matmul_cols (φ₁ := .bf16) (φ₂ := .bf16) _ _) y).trans (colsBy_block _ _ _ _ _ _ (fun k => ?_) fun k => ?_)
  · blk_ext [iblk2, (idx2 t).1]; exact (Pipeline.Window.rect_emb_val win2_2 t y 0).symm
  · blk_ext [iblk2, (idx2 t).2]; exact (Pipeline.Window.rect_emb_val win2_2 t y 1).symm

theorem idx3 : ∀ t : Fin grid3.N, win3_0.index t = ![0, win3_2.index t 0] ∧ win3_1.index t = ![0, win3_2.index t 1] := by decide +kernel

theorem region3 : (dat3 V c).arrAt 2 cfg3.N = colsBy (V c main_v0 : Mat _ _) (V c main_v8) := by
  refine (dat3 V c).arrAt_eq_of_covers 2 _ (by decide +kernel) fun t hf y => ?_
  blk_simp
  rw [after3_2]
  frame_out
  unfold k3_pay1
  simp only [shapeCast_self]
  refine (congrFun (matmul_cols (φ₁ := .bf16) (φ₂ := .bf16) _ _) y).trans (colsBy_block _ _ _ _ _ _ (fun k => ?_) fun k => ?_)
  · blk_ext [iblk3, (idx3 t).1]; exact (Pipeline.Window.rect_emb_val win3_2 t y 0).symm
  · blk_ext [iblk3, (idx3 t).2]; exact (Pipeline.Window.rect_emb_val win3_2 t y 1).symm

end

variable (m : (ℓ : Loc nD τ sig) → Buf (Elt Ideal) ℓ) (ρ : Dev nD → PrngReg) (c : Dev nD)

/-- The layer's input, its weights, and the gradient at its result. -/
abbrev xIn : Mat 4096 1024 := m ((c : Thread nD τ).loc main_arg0)
abbrev wIn : Mat 1024 4112 := m ((c : Thread nD τ).loc main_arg1)
abbrev dIn : Mat 4096 4112 := m ((c : Thread nD τ).loc main_arg2)

/-- The input's gradient. -/
def gradX : Mat 4096 1024 := rowsBy (dIn m c) (wIn m c)
/-- The weights' gradient. -/
def gradW : Mat 1024 4112 := colsBy (xIn m c) (dIn m c)

theorem entry_x : W4 m ρ c (Proc.devRef .tc main_v0) = xIn m c := by after_results; rfl
theorem entry_d0 : W4 m ρ c (Proc.devRef .tc main_v6) = part 0 4096 (dIn m c) := by
  after_results
  exact slice_part 0 4096 (dIn m c) slices_S4096x4112_S4096x4096_0_0
theorem entry_w0 : W4 m ρ c (Proc.devRef .tc main_v3) = part 0 4096 (wIn m c) := by
  after_results
  exact slice_part 0 4096 (wIn m c) slices_S1024x4112_S1024x4096_0_0

/-- The padding's value. -/
theorem zero_first : (sitofp .bf16 (constantI S_ 32 0#32) : FVec Ideal S_ .bf16) (Shape.Idx.first h_S_) = 0 := by
  show (((0#32 : BitVec 32).toInt : ℝ) : EReal) = 0
  simp

theorem entry_d1 : W4 m ρ c (Proc.devRef .tc main_v8) = part 4096 128 (dIn m c) := by
  after_results
  refine Eq.trans ?_ (pad_part 4096 16 128 112 rfl (dIn m c) _ pads_S4096x16_S4096x128_000_01120 h_S_ zero_first)
  exact congrArg (pad _ _ _ _ · _ _ _) (slice_part 4096 16 (dIn m c) slices_S4096x4112_S4096x16_0_4096)
theorem entry_w1 : W4 m ρ c (Proc.devRef .tc main_v5) = part 4096 128 (wIn m c) := by
  after_results
  refine Eq.trans ?_ (pad_part 4096 16 128 112 rfl (wIn m c) _ pads_S1024x16_S1024x128_000_01120 h_S_ zero_first)
  exact congrArg (pad _ _ _ _ · _ _ _) (slice_part 4096 16 (wIn m c) slices_S1024x4112_S1024x16_0_4096)

theorem after_x : W9 m ρ c (Proc.devRef .tc main_v10) = gradX m c := by
  refine (W9_of m ρ c main_v10 (by decide)).trans <| (W8_of m ρ c main_v10 (by decide)).trans <| (W7_of m ρ c main_v10 (by decide)).trans <|
    (W6_arr m ρ c 3).trans <| (region1 (V5 m ρ) c).trans ?_
  have hd : V5 m ρ c main_v8 = part 4096 128 (dIn m c) := (W5_of m ρ c main_v8 (by decide)).trans (entry_d1 m ρ c)
  have hw : V5 m ρ c main_v5 = part 4096 128 (wIn m c) := (W5_of m ρ c main_v5 (by decide)).trans (entry_w1 m ρ c)
  have hr : V5 m ρ c main_v9 = rowsBy (part 0 4096 (dIn m c)) (part 0 4096 (wIn m c)) :=
    (W5_arr m ρ c 2).trans ((region0 (V4 m ρ) c).trans (by simp only [V4]; rw [entry_d0, entry_w0]))
  rw [hd, hw, hr]
  exact funext (rowsOver_two (dIn m c) (wIn m c) 4096 16 112 rfl)

theorem after_w : W9 m ρ c (Proc.devRef .tc main_v15) = gradW m c := by
  have hx : V6 m ρ c main_v0 = xIn m c :=
    (W6_of m ρ c main_v0 (by decide)).trans ((W5_of m ρ c main_v0 (by decide)).trans (entry_x m ρ c))
  have hd : V6 m ρ c main_v6 = part 0 4096 (dIn m c) :=
    (W6_of m ρ c main_v6 (by decide)).trans ((W5_of m ρ c main_v6 (by decide)).trans (entry_d0 m ρ c))
  have hd' : V7 m ρ c main_v8 = part 4096 128 (dIn m c) :=
    (W7_of m ρ c main_v8 (by decide)).trans ((W6_of m ρ c main_v8 (by decide)).trans ((W5_of m ρ c main_v8 (by decide)).trans (entry_d1 m ρ c)))
  have hx' : V7 m ρ c main_v0 = xIn m c := (W7_of m ρ c main_v0 (by decide)).trans hx
  have h0 : W8 m ρ c (Proc.devRef .tc main_v11) = part 0 4096 (gradW m c) :=
    (W8_of m ρ c main_v11 (by decide)).trans ((W7_arr m ρ c 2).trans ((region2 (V6 m ρ) c).trans (by rw [hx, hd]; exact cols_part _ _ _ _)))
  have h1 : W8 m ρ c (Proc.devRef .tc main_v12) = part 4096 128 (gradW m c) :=
    (W8_arr m ρ c 2).trans ((region3 (V7 m ρ) c).trans (by rw [hx', hd']; exact cols_part _ _ _ _))
  have hs : extractStridedSlice S1024x16 ![0, 0] (part 4096 128 (gradW m c)) slices_S1024x128_S1024x16_0_0 = part 4096 16 (gradW m c) :=
    (slice_part 0 16 (part 4096 128 (gradW m c)) slices_S1024x128_S1024x16_0_0).trans (part_part 4096 128 16 (by decide) _)
  after_results
  rw [h0, h1, hs]
  exact join_two (gradW m c) 4096 16 rfl concatenates_S1024x4096_S1024x16_S1024x4112_d1

theorem last : θ_run (defs (F := Ideal)) (onTc (τ := τ) (main (F := Ideal))) ⟨m, fun _ => 0, ρ⟩
    fun r => ∀ c : Dev nD, ∀ b ∈ Pipeline.ucRefs τ sig, r.2.mem (c, b) = W9 m ρ c b :=
  run_last (pcfgs (F := Ideal)) adm (pdats m ρ) cellOf_inj defs₀ m ρ main (segs m ρ) (main_run m ρ)
    (by simp only [segs, Pipeline.Seg.pipes_host, Pipeline.Seg.pipes_region, Pipeline.Seg.pipes_nil]; decide)
    (W0 m ρ) (W9 m ρ) (fun _ _ => rfl)
    ⟨fun _ => .rfl, fun _ => .rfl, fun _ => .rfl, fun _ => .rfl, fun _ => .rfl, fun _ => .rfl, fun _ => .rfl, fun _ => .rfl, fun _ => .rfl, fun _ => .rfl⟩

theorem reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic : Cert.algebraic_Kernel5Ideal_Reference5Ideal := fun m g m' g' _ hargs => by
  refine ⟨gradX m, gradW m, (θ_run defs _ _).mono (fun r h c => ?_) (last m g),
    (θ_run Cert.Reference5Ideal.defs _ _).mono (fun r h c => ?_) (Cert.Reference5Ideal.Value.run (F := Ideal) m' g')⟩
  · exact ⟨(h c _ (mem_uc main_v10 (by decide))).trans (after_x m g c), (h c _ (mem_uc main_v15 (by decide))).trans (after_w m g c),
      (h c _ (mem_uc main_arg0 (by decide))).trans (W9_main_arg0 m g c), (h c _ (mem_uc main_arg1 (by decide))).trans (W9_main_arg1 m g c),
      (h c _ (mem_uc main_arg2 (by decide))).trans (W9_main_arg2 m g c)⟩
  · obtain ⟨hx, hw, hrest⟩ := h c
    obtain ⟨a0, a1, a2⟩ := hargs c
    rw [a1, a2] at hx
    rw [a0, a2] at hw
    exact ⟨hx.trans (dot_rows _ _), hw.trans (transpose_dot_cols _ _ _), hrest⟩

end Cert.Kernel5Ideal.FoxIn

end
-- ==== Proof.SsdOut.lean ====
/- The state-space layer's output product, backward: the kernel's two calls are the products the reference's derivative is. -/
module

public import proofs.«01_k».proof.Defs
public import proofs.«01_k».proof.Proof.Products
public import proofs.«01_k».proof.Proof.Regions
public import proofs.«01_k».proof.Proof.Gen.Kernel6Ideal.Frame
public import proofs.«01_k».proof.Proof.Gen.Reference6Ideal.Run
public import Idealize.ShloMosaic.Lib.Pipeline.ValueKit
public import Idealize.ShloMosaic.Lib.Quiescent

@[expose] public section

noncomputable section

namespace Cert.Kernel6Ideal.SsdOut

open Cert.Kernel6Ideal Cert.Kernel6Ideal.Gen Cert.Products
open Idealize.ShloMosaic Idealize.ShloMosaic.TcCoe Idealize.ShloMosaic.ValueIdx Idealize.ShloMosaic.Tactic
open Idealize.SL Idealize.SL.BI Idealize.SL.BI.BIBase Idealize.SL.ProofMode Idealize.SL.Sem

section
variable (V : (c : Dev nD) → (b : Ref sig .tc) → Buf (Elt Ideal) ((c : Thread nD τ).loc b)) (c : Dev nD)

theorem idx0 : ∀ t : Fin grid0.N, win0_0.index t = ![win0_2.index t 0, 0] ∧ win0_1.index t = ![win0_2.index t 1, 0] := by decide +kernel

theorem region0 : (dat0 V c).arrAt 2 cfg0.N = rowsBy (V c main_v2 : Mat _ _) (V c main_v1) := by
  refine (dat0 V c).arrAt_eq_of_covers 2 _ (by decide +kernel) fun t hf y => ?_
  blk_simp
  rw [after0_2]
  frame_out
  unfold k0_pay1
  simp only [shapeCast_self]
  refine (congrFun (matmul_rows _ _) y).trans (rowsBy_block _ _ _ _ _ _ (fun k => ?_) fun k => ?_)
  · blk_ext [iblk0, (idx0 t).1]; exact (Pipeline.Window.rect_emb_val win0_2 t y 0).symm
  · blk_ext [iblk0, (idx0 t).2]; exact (Pipeline.Window.rect_emb_val win0_2 t y 1).symm

theorem idx1 : ∀ t : Fin grid1.N, win1_0.index t = ![0, win1_2.index t 0] ∧ win1_1.index t = ![0, win1_2.index t 1] := by decide +kernel

theorem region1 : (dat1 V c).arrAt 2 cfg1.N = colsBy (V c main_v0 : Mat _ _) (V c main_v2) := by
  refine (dat1 V c).arrAt_eq_of_covers 2 _ (by decide +kernel) fun t hf y => ?_
  blk_simp
  rw [after1_2]
  frame_out
  unfold k1_pay1
  simp only [shapeCast_self]
  refine (congrFun (matmul_cols (φ₁ := .bf16) (φ₂ := .bf16) _ _) y).trans (colsBy_block _ _ _ _ _ _ (fun k => ?_) fun k => ?_)
  · blk_ext [iblk1, (idx1 t).1]; exact (Pipeline.Window.rect_emb_val win1_2 t y 0).symm
  · blk_ext [iblk1, (idx1 t).2]; exact (Pipeline.Window.rect_emb_val win1_2 t y 1).symm

end

variable (m : (ℓ : Loc nD τ sig) → Buf (Elt Ideal) ℓ) (ρ : Dev nD → PrngReg) (c : Dev nD)

/-- The activation's gradient. -/
def gradX : Mat 4096 2048 := rowsBy (m ((c : Thread nD τ).loc main_arg2) : Mat 4096 1024) (m ((c : Thread nD τ).loc main_arg1))
/-- The weights' gradient. -/
def gradW : Mat 2048 1024 := colsBy (m ((c : Thread nD τ).loc main_arg0) : Mat 4096 2048) (m ((c : Thread nD τ).loc main_arg2))

theorem after_x : W4 m ρ c (Proc.devRef .tc main_v3) = gradX m c :=
  (W4_of m ρ c main_v3 (by decide)).trans <| (W3_of m ρ c main_v3 (by decide)).trans <| (W2_arr m ρ c 2).trans <|
    (region0 (V1 m ρ) c).trans (by
      have h2 : W1 m ρ c (Proc.devRef .tc main_v2) = m ((c : Thread nD τ).loc main_arg2) := by after_results; rfl
      have h1 : W1 m ρ c (Proc.devRef .tc main_v1) = m ((c : Thread nD τ).loc main_arg1) := by after_results; rfl
      simp only [V1]; rw [h2, h1]; rfl)

theorem after_w : W4 m ρ c (Proc.devRef .tc main_v5) = gradW m c := by
  have h : W4 m ρ c (Proc.devRef .tc main_v5) = W3 m ρ c (Proc.devRef .tc main_v4) := by after_results; rfl
  refine h.trans ((W3_arr m ρ c 2).trans ((region1 (V2 m ρ) c).trans ?_))
  have h0 : V2 m ρ c main_v0 = m ((c : Thread nD τ).loc main_arg0) := (W2_of m ρ c main_v0 (by decide)).trans (by after_results; rfl)
  have h2 : V2 m ρ c main_v2 = m ((c : Thread nD τ).loc main_arg2) := (W2_of m ρ c main_v2 (by decide)).trans (by after_results; rfl)
  rw [h0, h2]; rfl

theorem last : θ_run (defs (F := Ideal)) (onTc (τ := τ) (main (F := Ideal))) ⟨m, fun _ => 0, ρ⟩
    fun r => ∀ c : Dev nD, ∀ b ∈ Pipeline.ucRefs τ sig, r.2.mem (c, b) = W4 m ρ c b :=
  run_last (pcfgs (F := Ideal)) adm (pdats m ρ) cellOf_inj defs₀ m ρ main (segs m ρ) (main_run m ρ)
    (by simp only [segs, Pipeline.Seg.pipes_host, Pipeline.Seg.pipes_region, Pipeline.Seg.pipes_nil]; decide)
    (W0 m ρ) (W4 m ρ) (fun _ _ => rfl)
    ⟨fun _ => .rfl, fun _ => .rfl, fun _ => .rfl, fun _ => .rfl, fun _ => .rfl⟩

theorem reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem algebraic : Cert.algebraic_Kernel6Ideal_Reference6Ideal := fun m g m' g' _ hargs => by
  refine ⟨gradX m, gradW m, (θ_run defs _ _).mono (fun r h c => ?_) (last m g),
    (θ_run Cert.Reference6Ideal.defs _ _).mono (fun r h c => ?_) (Cert.Reference6Ideal.Value.run (F := Ideal) m' g')⟩
  · exact ⟨(h c _ (mem_uc main_v3 (by decide))).trans (after_x m g c), (h c _ (mem_uc main_v5 (by decide))).trans (after_w m g c),
      (h c _ (mem_uc main_arg0 (by decide))).trans (W4_main_arg0 m g c), (h c _ (mem_uc main_arg1 (by decide))).trans (W4_main_arg1 m g c),
      (h c _ (mem_uc main_arg2 (by decide))).trans (W4_main_arg2 m g c)⟩
  · obtain ⟨hx, hw, hrest⟩ := h c
    obtain ⟨a0, a1, a2⟩ := hargs c
    rw [a1, a2] at hx
    rw [a0, a2] at hw
    exact ⟨hx.trans (dot_rows _ _), hw.trans (transpose_dot_cols _ _ _), hrest⟩

end Cert.Kernel6Ideal.SsdOut

end
-- ==== Proof.SsdIn.lean ====
/- The state-space layer's input product, backward: the kernel's six calls are the parts of the products the reference's derivative is, the
   last 32 columns padded to 128. -/
module

public import proofs.«01_k».proof.Defs
public import proofs.«01_k».proof.Proof.Columns
public import proofs.«01_k».proof.Proof.Regions
public import proofs.«01_k».proof.Proof.Gen.Kernel7Ideal.Frame
public import proofs.«01_k».proof.Proof.Gen.Reference7Ideal.Run
public import Idealize.ShloMosaic.Lib.Pipeline.ValueKit
public import Idealize.ShloMosaic.Lib.Quiescent

@[expose] public section

noncomputable section

namespace Cert.Kernel7Ideal.SsdIn

open Cert.Kernel7Ideal Cert.Kernel7Ideal.Gen Cert.Products
open Idealize.ShloMosaic Idealize.ShloMosaic.TcCoe Idealize.ShloMosaic.ValueIdx Idealize.ShloMosaic.Tactic
open Idealize.SL Idealize.SL.BI Idealize.SL.BI.BIBase Idealize.SL.ProofMode Idealize.SL.Sem

section
variable (V : (c : Dev nD) → (b : Ref sig .tc) → Buf (Elt Ideal) ((c : Thread nD τ).loc b)) (c : Dev nD)

theorem idx0 : ∀ t : Fin grid0.N, win0_0.index t = ![win0_2.index t 0, 0] ∧ win0_1.index t = ![win0_2.index t 1, 0] := by decide +kernel

theorem region0 : (dat0 V c).arrAt 2 cfg0.N = rowsBy (V c main_v7 : Mat _ _) (V c main_v3) := by
  refine (dat0 V c).arrAt_eq_of_covers 2 _ (by decide +kernel) fun t hf y => ?_
  blk_simp
  rw [after0_2]
  frame_out
  unfold k0_pay1
  simp only [shapeCast_self]
  refine (congrFun (matmul_rows _ _) y).trans (rowsBy_block _ _ _ _ _ _ (fun k => ?_) fun k => ?_)
  · blk_ext [iblk0, (idx0 t).1]; exact (Pipeline.Window.rect_emb_val win0_2 t y 0).symm
  · blk_ext [iblk0, (idx0 t).2]; exact (Pipeline.Window.rect_emb_val win0_2 t y 1).symm

theorem idx1 : ∀ t : Fin grid1.N, win1_0.index t = ![win1_3.index t 0, 0] ∧ win1_1.index t = ![win1_3.index t 1, 0]
    ∧ win1_2.index t = win1_3.index t := by decide +kernel

theorem region1 : (dat1 V c).arrAt 3 cfg1.N = fun i => rowsBy (V c main_v8 : Mat _ _) (V c main_v4) i + (V c main_v11 : Mat _ _) i := by
  refine (dat1 V c).arrAt_eq_of_covers 3 _ (by decide +kernel) fun t hf y => ?_
  blk_simp
  rw [after1_3]
  frame_out
  unfold k1_pay1
  simp only [shapeCast_self]
  refine congrArg₂ (· + ·) ((congrFun (matmul_rows (φ₁ := .bf16) (φ₂ := .bf16) _ _) y).trans
    (rowsBy_block _ _ _ _ _ _ (fun k => ?_) fun k => ?_)) ?_
  · blk_ext [iblk1, (idx1 t).1]; exact (Pipeline.Window.rect_emb_val win1_3 t y 0).symm
  · blk_ext [iblk1, (idx1 t).2.1]; exact (Pipeline.Window.rect_emb_val win1_3 t y 1).symm
  · blk_ext [iblk1, (idx1 t).2.2]

theorem idx2 : ∀ t : Fin grid2.N, win2_0.index t = ![win2_3.index t 0, 0] ∧ win2_1.index t = ![win2_3.index t 1, 0]
    ∧ win2_2.index t = win2_3.index t := by decide +kernel

theorem region2 : (dat2 V c).arrAt 3 cfg2.N = fun i => rowsBy (V c main_v10 : Mat _ _) (V c main_v6) i + (V c main_v12 : Mat _ _) i := by
  refine (dat2 V c).arrAt_eq_of_covers 3 _ (by decide +kernel) fun t hf y => ?_
  blk_simp
  rw [after2_3]
  frame_out
  unfold k2_pay1
  simp only [shapeCast_self]
  refine congrArg₂ (· + ·) ((congrFun (matmul_rows (φ₁ := .bf16) (φ₂ := .bf16) _ _) y).trans
    (rowsBy_block _ _ _ _ _ _ (fun k => ?_) fun k => ?_)) ?_
  · blk_ext [iblk2, (idx2 t).1]; exact (Pipeline.Window.rect_emb_val win2_3 t y 0).symm
  · blk_ext [iblk2, (idx2 t).2.1]; exact (Pipeline.Window.rect_emb_val win2_3 t y 1).symm
  · blk_ext [iblk2, (idx2 t).2.2]

theorem idx3 : ∀ t : Fin grid3.N, win3_0.index t = ![0, win3_2.index t 0] ∧ win3_1.index t = ![0, win3_2.index t 1] := by decide +kernel

theorem region3 : (dat3 V c).arrAt 2 cfg3.N = colsBy (V c main_v0 : Mat _ _) (V c main_v7) := by
  refine (dat3 V c).arrAt_eq_of_covers 2 _ (by decide +kernel) fun t hf y => ?_
  blk_simp
  rw [after3_2]
  frame_out
  unfold k3_pay1
  simp only [shapeCast_self]
  refine (congrFun (matmul_cols (φ₁ := .bf16) (φ₂ := .bf16) _ _) y).trans (colsBy_block _ _ _ _ _ _ (fun k => ?_) fun k => ?_)
  · blk_ext [iblk3, (idx3 t).1]; exact (Pipeline.Window.rect_emb_val win3_2 t y 0).symm
  · blk_ext [iblk3, (idx3 t).2]; exact (Pipeline.Window.rect_emb_val win3_2 t y 1).symm

theorem idx4 : ∀ t : Fin grid4.N, win4_0.index t = ![0, win4_2.index t 0] ∧ win4_1.index t = ![0, win4_2.index t 1] := by decide +kernel

theorem region4 : (dat4 V c).arrAt 2 cfg4.N = colsBy (V c main_v0 : Mat _ _) (V c main_v8) := by
  refine (dat4 V c).arrAt_eq_of_covers 2 _ (by decide +kernel) fun t hf y => ?_
  blk_simp
  rw [after4_2]
  frame_out
  unfold k4_pay1
  simp only [shapeCast_self]
  refine (congrFun (matmul_cols (φ₁ := .bf16) (φ₂ := .bf16) _ _) y).trans (colsBy_block _ _ _ _ _ _ (fun k => ?_) fun k => ?_)
  · blk_ext [iblk4, (idx4 t).1]; exact (Pipeline.Window.rect_emb_val win4_2 t y 0).symm
  · blk_ext [iblk4, (idx4 t).2]; exact (Pipeline.Window.rect_emb_val win4_2 t y 1).symm

theorem idx5 : ∀ t : Fin grid5.N, win5_0.index t = ![0, win5_2.index t 0] ∧ win5_1.index t = ![0, win5_2.index t 1] := by decide +kernel

theorem region5 : (dat5 V c).arrAt 2 cfg5.N = colsBy (V c main_v0 : Mat _ _) (V c main_v10) := by
  refine (dat5 V c).arrAt_eq_of_covers 2 _ (by decide +kernel) fun t hf y => ?_
  blk_simp
  rw [after5_2]
  frame_out
  unfold k5_pay1
  simp only [shapeCast_self]
  refine (congrFun (matmul_cols (φ₁ := .bf16) (φ₂ := .bf16) _ _) y).trans (colsBy_block _ _ _ _ _ _ (fun k => ?_) fun k => ?_)
  · blk_ext [iblk5, (idx5 t).1]; exact (Pipeline.Window.rect_emb_val win5_2 t y 0).symm
  · blk_ext [iblk5, (idx5 t).2]; exact (Pipeline.Window.rect_emb_val win5_2 t y 1).symm

end

variable (m : (ℓ : Loc nD τ sig) → Buf (Elt Ideal) ℓ) (ρ : Dev nD → PrngReg) (c : Dev nD)

/-- The layer's input, its weights, and the gradient at its result. -/
abbrev xIn : Mat 4096 1024 := m ((c : Thread nD τ).loc main_arg0)
abbrev wIn : Mat 1024 5152 := m ((c : Thread nD τ).loc main_arg1)
abbrev dIn : Mat 4096 5152 := m ((c : Thread nD τ).loc main_arg2)

/-- The input's gradient. -/
def gradX : Mat 4096 1024 := rowsBy (dIn m c) (wIn m c)
/-- The weights' gradient. -/
def gradW : Mat 1024 5152 := colsBy (xIn m c) (dIn m c)

theorem entry_x : W4 m ρ c (Proc.devRef .tc main_v0) = xIn m c := by after_results; rfl
theorem entry_d0 : W4 m ρ c (Proc.devRef .tc main_v7) = part 0 2048 (dIn m c) := by
  after_results
  exact slice_part 0 2048 (dIn m c) slices_S4096x5152_S4096x2048_0_0
theorem entry_w0 : W4 m ρ c (Proc.devRef .tc main_v3) = part 0 2048 (wIn m c) := by
  after_results
  exact slice_part 0 2048 (wIn m c) slices_S1024x5152_S1024x2048_0_0
theorem entry_d1 : W4 m ρ c (Proc.devRef .tc main_v8) = part 2048 3072 (dIn m c) := by
  after_results
  exact slice_part 2048 3072 (dIn m c) slices_S4096x5152_S4096x3072_0_2048
theorem entry_w1 : W4 m ρ c (Proc.devRef .tc main_v4) = part 2048 3072 (wIn m c) := by
  after_results
  exact slice_part 2048 3072 (wIn m c) slices_S1024x5152_S1024x3072_0_2048

/-- The padding's value. -/
theorem zero_first : (sitofp .bf16 (constantI S_ 32 0#32) : FVec Ideal S_ .bf16) (Shape.Idx.first h_S_) = 0 := by
  show (((0#32 : BitVec 32).toInt : ℝ) : EReal) = 0
  simp

theorem entry_d2 : W4 m ρ c (Proc.devRef .tc main_v10) = part 5120 128 (dIn m c) := by
  after_results
  refine Eq.trans ?_ (pad_part 5120 32 128 96 rfl (dIn m c) _ pads_S4096x32_S4096x128_000_0960 h_S_ zero_first)
  exact congrArg (pad _ _ _ _ · _ _ _) (slice_part 5120 32 (dIn m c) slices_S4096x5152_S4096x32_0_5120)
theorem entry_w2 : W4 m ρ c (Proc.devRef .tc main_v6) = part 5120 128 (wIn m c) := by
  after_results
  refine Eq.trans ?_ (pad_part 5120 32 128 96 rfl (wIn m c) _ pads_S1024x32_S1024x128_000_0960 h_S_ zero_first)
  exact congrArg (pad _ _ _ _ · _ _ _) (slice_part 5120 32 (wIn m c) slices_S1024x5152_S1024x32_0_5120)

theorem after_x : W11 m ρ c (Proc.devRef .tc main_v13) = gradX m c := by
  refine (W11_of m ρ c main_v13 (by decide)).trans <| (W10_of m ρ c main_v13 (by decide)).trans <| (W9_of m ρ c main_v13 (by decide)).trans <|
    (W8_of m ρ c main_v13 (by decide)).trans <| (W7_arr m ρ c 3).trans <| (region2 (V6 m ρ) c).trans ?_
  have hd : V6 m ρ c main_v10 = part 5120 128 (dIn m c) :=
    (W6_of m ρ c main_v10 (by decide)).trans ((W5_of m ρ c main_v10 (by decide)).trans (entry_d2 m ρ c))
  have hw : V6 m ρ c main_v6 = part 5120 128 (wIn m c) :=
    (W6_of m ρ c main_v6 (by decide)).trans ((W5_of m ρ c main_v6 (by decide)).trans (entry_w2 m ρ c))
  have hd' : V5 m ρ c main_v8 = part 2048 3072 (dIn m c) := (W5_of m ρ c main_v8 (by decide)).trans (entry_d1 m ρ c)
  have hw' : V5 m ρ c main_v4 = part 2048 3072 (wIn m c) := (W5_of m ρ c main_v4 (by decide)).trans (entry_w1 m ρ c)
  have hr : V5 m ρ c main_v11 = rowsBy (part 0 2048 (dIn m c)) (part 0 2048 (wIn m c)) :=
    (W5_arr m ρ c 2).trans ((region0 (V4 m ρ) c).trans (by simp only [V4]; rw [entry_d0, entry_w0]))
  have hr' : V6 m ρ c main_v12 = _ := (W6_arr m ρ c 3).trans (region1 (V5 m ρ) c)
  rw [hd, hw, hr', hd', hw', hr]
  exact funext (rowsOver_three (dIn m c) (wIn m c) 2048 3072 32 96 rfl)

theorem after_w : W11 m ρ c (Proc.devRef .tc main_v19) = gradW m c := by
  have hx : V7 m ρ c main_v0 = xIn m c :=
    (W7_of m ρ c main_v0 (by decide)).trans ((W6_of m ρ c main_v0 (by decide)).trans ((W5_of m ρ c main_v0 (by decide)).trans (entry_x m ρ c)))
  have hx' : V8 m ρ c main_v0 = xIn m c := (W8_of m ρ c main_v0 (by decide)).trans hx
  have hx'' : V9 m ρ c main_v0 = xIn m c := (W9_of m ρ c main_v0 (by decide)).trans hx'
  have hd : V7 m ρ c main_v7 = part 0 2048 (dIn m c) :=
    (W7_of m ρ c main_v7 (by decide)).trans ((W6_of m ρ c main_v7 (by decide)).trans ((W5_of m ρ c main_v7 (by decide)).trans (entry_d0 m ρ c)))
  have hd' : V8 m ρ c main_v8 = part 2048 3072 (dIn m c) :=
    (W8_of m ρ c main_v8 (by decide)).trans ((W7_of m ρ c main_v8 (by decide)).trans ((W6_of m ρ c main_v8 (by decide)).trans ((W5_of m ρ c main_v8 (by decide)).trans (entry_d1 m ρ c))))
  have hd'' : V9 m ρ c main_v10 = part 5120 128 (dIn m c) :=
    (W9_of m ρ c main_v10 (by decide)).trans ((W8_of m ρ c main_v10 (by decide)).trans ((W7_of m ρ c main_v10 (by decide)).trans ((W6_of m ρ c main_v10 (by decide)).trans ((W5_of m ρ c main_v10 (by decide)).trans (entry_d2 m ρ c)))))
  have h0 : W10 m ρ c (Proc.devRef .tc main_v14) = part 0 2048 (gradW m c) :=
    (W10_of m ρ c main_v14 (by decide)).trans <| (W9_of m ρ c main_v14 (by decide)).trans <| (W8_arr m ρ c 2).trans <|
      (region3 (V7 m ρ) c).trans (by rw [hx, hd]; exact cols_part _ _ _ _)
  have h1 : W10 m ρ c (Proc.devRef .tc main_v15) = part 2048 3072 (gradW m c) :=
    (W10_of m ρ c main_v15 (by decide)).trans <| (W9_arr m ρ c 2).trans <|
      (region4 (V8 m ρ) c).trans (by rw [hx', hd']; exact cols_part _ _ _ _)
  have h2 : W10 m ρ c (Proc.devRef .tc main_v16) = part 5120 128 (gradW m c) :=
    (W10_arr m ρ c 2).trans ((region5 (V9 m ρ) c).trans (by rw [hx'', hd'']; exact cols_part _ _ _ _))
  have hs : extractStridedSlice S1024x32 ![0, 0] (part 5120 128 (gradW m c)) slices_S1024x128_S1024x32_0_0 = part 5120 32 (gradW m c) :=
    (slice_part 0 32 (part 5120 128 (gradW m c)) slices_S1024x128_S1024x32_0_0).trans (part_part 5120 128 32 (by decide) _)
  after_results
  refine join_three_of (gradW m c) 2048 3072 32 rfl _ _ _ concatenates_S1024x2048_S1024x3072_S1024x32_S1024x5152_d1 ?_ ?_ ?_
  · exact Eq.trans (StableHlo.unary_result_ne (r := main_v14) _ main_v17 _ _ _ _ (by decide)) h0
  · exact Eq.trans (StableHlo.unary_result_ne (r := main_v15) _ main_v17 _ _ _ _ (by decide)) h1
  · exact (StableHlo.unary_result _ _ _ _ _ _).trans (by rw [h2]; exact hs)

theorem last : θ_run (defs (F := Ideal)) (onTc (τ := τ) (main (F := Ideal))) ⟨m, fun _ => 0, ρ⟩
    fun r => ∀ c : Dev nD, ∀ b ∈ Pipeline.ucRefs τ sig, r.2.mem (c, b) = W11 m ρ c b :=
  run_last (pcfgs (F := Ideal)) adm (pdats m ρ) cellOf_inj defs₀ m ρ main (segs m ρ) (main_run m ρ)
    (by simp only [segs, Pipeline.Seg.pipes_host, Pipeline.Seg.pipes_region, Pipeline.Seg.pipes_nil]; decide)
    (W0 m ρ) (W11 m ρ) (fun _ _ => rfl)
    ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩

theorem reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem algebraic : Cert.algebraic_Kernel7Ideal_Reference7Ideal := fun m g m' g' _ hargs => by
  refine ⟨gradX m, gradW m, (θ_run defs _ _).mono (fun r h c => ?_) (last m g),
    (θ_run Cert.Reference7Ideal.defs _ _).mono (fun r h c => ?_) (Cert.Reference7Ideal.Value.run (F := Ideal) m' g')⟩
  · exact ⟨(h c _ (mem_uc main_v13 (by decide))).trans (after_x m g c), (h c _ (mem_uc main_v19 (by decide))).trans (after_w m g c),
      (h c _ (mem_uc main_arg0 (by decide))).trans (W11_main_arg0 m g c), (h c _ (mem_uc main_arg1 (by decide))).trans (W11_main_arg1 m g c),
      (h c _ (mem_uc main_arg2 (by decide))).trans (W11_main_arg2 m g c)⟩
  · obtain ⟨hx, hw, hrest⟩ := h c
    obtain ⟨a0, a1, a2⟩ := hargs c
    rw [a1, a2] at hx
    rw [a0, a2] at hw
    exact ⟨hx.trans (dot_rows _ _), hw.trans (transpose_dot_cols _ _ _), hrest⟩

end Cert.Kernel7Ideal.SsdIn

end
-- ==== Proof.Feed.lean ====
/- The feed-forward network's two products, forward: the kernel's call is the reference's product, the second with the residual added. -/
module

public import proofs.«01_k».proof.Defs
public import proofs.«01_k».proof.Proof.Products
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import Idealize.ShloMosaic.Lib.Pipeline.ValueKit
public import Idealize.ShloMosaic.Lib.Quiescent

@[expose] public section

noncomputable section

namespace Cert.Kernel8Ideal.Up

open Cert.Kernel8Ideal Cert.Kernel8Ideal.Gen Cert.Products
open Idealize.ShloMosaic Idealize.ShloMosaic.TcCoe Idealize.ShloMosaic.ValueIdx Idealize.ShloMosaic.Tactic
open Idealize.SL.Sem

variable (m : (ℓ : Loc nD τ sig) → Buf (Elt Ideal) ℓ) (c : Dev nD)

/-- The inner layer before its gate. -/
def result : Mat 4096 5632 := prod (m ((c : Thread nD τ).loc main_arg0) : Mat 4096 1024) (m ((c : Thread nD τ).loc main_arg1))

theorem idx : ∀ t : Fin grid0.N, win0_0.index t = ![win0_2.index t 0, 0] ∧ win0_1.index t = ![0, win0_2.index t 1] := by decide +kernel

theorem region : (dats m 0 c).arrAt 2 cfg0.N = prod (V m c main_v0 : Mat _ _) (V m c main_v1) := by
  refine (dats m 0 c).arrAt_eq_of_covers 2 _ (by decide +kernel) fun t hf y => ?_
  blk_simp
  rw [after0_2]
  frame_out
  unfold k0_pay1
  simp only [shapeCast_self]
  refine (congrFun (matmul_prod _ _) y).trans (prod_block _ _ _ _ _ _ (fun k => ?_) fun k => ?_)
  · blk_ext [iblk, (idx t).1]; exact (Pipeline.Window.rect_emb_val win0_2 t y 0).symm
  · blk_ext [iblk, (idx t).2]; exact (Pipeline.Window.rect_emb_val win0_2 t y 1).symm

theorem after_result : (dats m 0 c).arrAt 2 cfg0.N = result m c := by
  have h0 : V m c main_v0 = m ((c : Thread nD τ).loc main_arg0) := by dsimp only [V]; after_results; rfl
  have h1 : V m c main_v1 = m ((c : Thread nD τ).loc main_arg1) := by dsimp only [V]; after_results; rfl
  rw [region, h0, h1]; rfl

theorem reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := fun m g m' g' _ hargs => by
  refine ⟨result m, (θ_run defs _ _).mono (fun r h c => ?_) (Value.run_blocks m g),
    (θ_run Cert.Reference8Ideal.defs _ _).mono (fun r h c => ?_) (Cert.Reference8Ideal.Value.run (F := Ideal) m' g')⟩
  · exact ⟨(h c).1.trans (after_result m c), (h c).2⟩
  · obtain ⟨hx, hrest⟩ := h c
    obtain ⟨a0, a1⟩ := hargs c
    rw [a0, a1] at hx
    exact ⟨hx.trans (dot_prod _ _), hrest⟩

end Cert.Kernel8Ideal.Up

namespace Cert.Kernel9Ideal.Down

open Cert.Kernel9Ideal Cert.Kernel9Ideal.Gen Cert.Products
open Idealize.ShloMosaic Idealize.ShloMosaic.TcCoe Idealize.ShloMosaic.ValueIdx Idealize.ShloMosaic.Tactic
open Idealize.SL.Sem

variable (m : (ℓ : Loc nD τ sig) → Buf (Elt Ideal) ℓ) (c : Dev nD)

/-- The network's result, added to what it was given. -/
def result : Mat 4096 1024 := fun i =>
  prod (m ((c : Thread nD τ).loc main_arg0) : Mat 4096 2816) (m ((c : Thread nD τ).loc main_arg1)) i + (m ((c : Thread nD τ).loc main_arg2) : Mat 4096 1024) i

theorem idx : ∀ t : Fin grid0.N, win0_0.index t = ![win0_3.index t 0, 0] ∧ win0_1.index t = ![0, win0_3.index t 1]
    ∧ win0_2.index t = win0_3.index t := by decide +kernel

theorem region : (dats m 0 c).arrAt 3 cfg0.N = fun i => prod (V m c main_v0 : Mat _ _) (V m c main_v1) i + (V m c main_arg2 : Mat _ _) i := by
  refine (dats m 0 c).arrAt_eq_of_covers 3 _ (by decide +kernel) fun t hf y => ?_
  blk_simp
  rw [after0_3]
  frame_out
  unfold k0_pay1
  simp only [shapeCast_self]
  refine congrArg₂ (· + ·) ((congrFun (matmul_prod (φ₁ := .bf16) (φ₂ := .bf16) _ _) y).trans
    (prod_block _ _ _ _ _ _ (fun k => ?_) fun k => ?_)) ?_
  · blk_ext [iblk, (idx t).1]; exact (Pipeline.Window.rect_emb_val win0_3 t y 0).symm
  · blk_ext [iblk, (idx t).2.1]; exact (Pipeline.Window.rect_emb_val win0_3 t y 1).symm
  · blk_ext [iblk, (idx t).2.2]

theorem after_result : (dats m 0 c).arrAt 3 cfg0.N = result m c := by
  have h0 : V m c main_v0 = m ((c : Thread nD τ).loc main_arg0) := by dsimp only [V]; after_results; rfl
  have h1 : V m c main_v1 = m ((c : Thread nD τ).loc main_arg1) := by dsimp only [V]; after_results; rfl
  rw [region, h0, h1, V_main_arg2]; rfl

theorem reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := fun m g m' g' _ hargs => by
  refine ⟨result m, (θ_run defs _ _).mono (fun r h c => ?_) (Value.run_blocks m g),
    (θ_run Cert.Reference9Ideal.defs _ _).mono (fun r h c => ?_) (Cert.Reference9Ideal.Value.run (F := Ideal) m' g')⟩
  · exact ⟨(h c).1.trans (after_result m c), (h c).2⟩
  · obtain ⟨hx, hrest⟩ := h c
    obtain ⟨a0, a1, a2⟩ := hargs c
    rw [a0, a1, a2] at hx
    exact ⟨hx.trans (add_dot_prod _ _ _), hrest⟩

end Cert.Kernel9Ideal.Down

end
-- ==== Proof.Fox.lean ====
/- The attention's two products with a weight, forward: the input's in two calls, the second's sixteen columns padded to 128, and the
   result's with the residual added. -/
module

public import proofs.«01_k».proof.Defs
public import proofs.«01_k».proof.Proof.Columns
public import proofs.«01_k».proof.Proof.Regions
public import proofs.«01_k».proof.Proof.Gen.Kernel10Ideal.Frame
public import proofs.«01_k».proof.Proof.Gen.Reference10Ideal.Run
public import proofs.«01_k».proof.Proof.Gen.Kernel11Ideal.Value
public import proofs.«01_k».proof.Proof.Gen.Reference11Ideal.Run
public import Idealize.ShloMosaic.Lib.Pipeline.ValueKit
public import Idealize.ShloMosaic.Lib.Quiescent

@[expose] public section

noncomputable section

namespace Cert.Kernel10Ideal.In

open Cert.Kernel10Ideal Cert.Kernel10Ideal.Gen Cert.Products
open Idealize.ShloMosaic Idealize.ShloMosaic.TcCoe Idealize.ShloMosaic.ValueIdx Idealize.ShloMosaic.Tactic
open Idealize.SL.Sem

section
variable (V : (c : Dev nD) → (b : Ref sig .tc) → Buf (Elt Ideal) ((c : Thread nD τ).loc b)) (c : Dev nD)

theorem idx0 : ∀ t : Fin grid0.N, win0_0.index t = ![win0_2.index t 0, 0] ∧ win0_1.index t = ![0, win0_2.index t 1] := by decide +kernel

theorem region0 : (dat0 V c).arrAt 2 cfg0.N = prod (V c main_v0 : Mat _ _) (V c main_v2) := by
  refine (dat0 V c).arrAt_eq_of_covers 2 _ (by decide +kernel) fun t hf y => ?_
  blk_simp
  rw [after0_2]
  frame_out
  unfold k0_pay1
  simp only [shapeCast_self]
  refine (congrFun (matmul_prod _ _) y).trans (prod_block _ _ _ _ _ _ (fun k => ?_) fun k => ?_)
  · blk_ext [iblk0, (idx0 t).1]; exact (Pipeline.Window.rect_emb_val win0_2 t y 0).symm
  · blk_ext [iblk0, (idx0 t).2]; exact (Pipeline.Window.rect_emb_val win0_2 t y 1).symm

theorem idx1 : ∀ t : Fin grid1.N, win1_0.index t = ![win1_2.index t 0, 0] ∧ win1_1.index t = ![0, win1_2.index t 1] := by decide +kernel

theorem region1 : (dat1 V c).arrAt 2 cfg1.N = prod (V c main_v0 : Mat _ _) (V c main_v4) := by
  refine (dat1 V c).arrAt_eq_of_covers 2 _ (by decide +kernel) fun t hf y => ?_
  blk_simp
  rw [after1_2]
  frame_out
  unfold k1_pay1
  simp only [shapeCast_self]
  refine (congrFun (matmul_prod _ _) y).trans (prod_block _ _ _ _ _ _ (fun k => ?_) fun k => ?_)
  · blk_ext [iblk1, (idx1 t).1]; exact (Pipeline.Window.rect_emb_val win1_2 t y 0).symm
  · blk_ext [iblk1, (idx1 t).2]; exact (Pipeline.Window.rect_emb_val win1_2 t y 1).symm

end

variable (m : (ℓ : Loc nD τ sig) → Buf (Elt Ideal) ℓ) (ρ : Dev nD → PrngReg) (c : Dev nD)

/-- The layer's input and its weights. -/
abbrev xIn : Mat 4096 1024 := m ((c : Thread nD τ).loc main_arg0)
abbrev wIn : Mat 1024 4112 := m ((c : Thread nD τ).loc main_arg1)

/-- The queries, keys, values, output gates and forgetting gates. -/
def whole : Mat 4096 4112 := prod (xIn m c) (wIn m c)
/-- The wide part of it, and the narrow one. -/
def wide : Mat 4096 4096 := part 0 4096 (whole m c)
def narrow : Mat 4096 16 := part 4096 16 (whole m c)

theorem entry_x : W2 m ρ c (Proc.devRef .tc main_v0) = xIn m c := by after_results; rfl
theorem entry_w0 : W2 m ρ c (Proc.devRef .tc main_v2) = part 0 4096 (wIn m c) := by
  after_results
  exact slice_part 0 4096 (wIn m c) slices_S1024x4112_S1024x4096_0_0

/-- The padding's value. -/
theorem zero_first : (sitofp .bf16 (constantI S_ 32 0#32) : FVec Ideal S_ .bf16) (Shape.Idx.first h_S_) = 0 := by
  show (((0#32 : BitVec 32).toInt : ℝ) : EReal) = 0
  simp

theorem entry_w1 : W2 m ρ c (Proc.devRef .tc main_v4) = part 4096 128 (wIn m c) := by
  after_results
  refine Eq.trans ?_ (pad_part 4096 16 128 112 rfl (wIn m c) _ pads_S1024x16_S1024x128_000_01120 h_S_ zero_first)
  exact congrArg (pad _ _ _ _ · _ _ _) (slice_part 4096 16 (wIn m c) slices_S1024x4112_S1024x16_0_4096)

theorem after_wide : W5 m ρ c (Proc.devRef .tc main_v5) = wide m c := by
  refine (W5_of m ρ c main_v5 (by decide)).trans <| (W4_of m ρ c main_v5 (by decide)).trans <| (W3_arr m ρ c 2).trans <|
    (region0 (V2 m ρ) c).trans ?_
  simp only [V2]
  rw [entry_x, entry_w0]
  exact prod_part _ _ _ _

theorem after_narrow : W5 m ρ c (Proc.devRef .tc main_v7) = narrow m c := by
  have hx : V3 m ρ c main_v0 = xIn m c := (W3_of m ρ c main_v0 (by decide)).trans (entry_x m ρ c)
  have hw : V3 m ρ c main_v4 = part 4096 128 (wIn m c) := (W3_of m ρ c main_v4 (by decide)).trans (entry_w1 m ρ c)
  have h : W4 m ρ c (Proc.devRef .tc main_v6) = part 4096 128 (whole m c) :=
    (W4_arr m ρ c 2).trans ((region1 (V3 m ρ) c).trans (by rw [hx, hw]; exact prod_part _ _ _ _))
  after_results
  rw [h]
  exact (slice_part 0 16 (part 4096 128 (whole m c)) slices_S4096x128_S4096x16_0_0).trans (part_part 4096 128 16 (by decide) _)

theorem last : θ_run (defs (F := Ideal)) (onTc (τ := τ) (main (F := Ideal))) ⟨m, fun _ => 0, ρ⟩
    fun r => ∀ c : Dev nD, ∀ b ∈ Pipeline.ucRefs τ sig, r.2.mem (c, b) = W5 m ρ c b :=
  run_last (pcfgs (F := Ideal)) adm (pdats m ρ) cellOf_inj defs₀ m ρ main (segs m ρ) (main_run m ρ)
    (by simp only [segs, Pipeline.Seg.pipes_host, Pipeline.Seg.pipes_region, Pipeline.Seg.pipes_nil]; decide)
    (W0 m ρ) (W5 m ρ) (fun _ _ => rfl) ⟨fun _ => .rfl, fun _ => .rfl, fun _ => .rfl, fun _ => .rfl, fun _ => .rfl, fun _ => .rfl⟩

theorem reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem algebraic : Cert.algebraic_Kernel10Ideal_Reference10Ideal := fun m g m' g' _ hargs => by
  refine ⟨wide m, narrow m, (θ_run defs _ _).mono (fun r h c => ?_) (last m g),
    (θ_run Cert.Reference10Ideal.defs _ _).mono (fun r h c => ?_) (Cert.Reference10Ideal.Value.run (F := Ideal) m' g')⟩
  · exact ⟨(h c _ (mem_uc main_v5 (by decide))).trans (after_wide m g c), (h c _ (mem_uc main_v7 (by decide))).trans (after_narrow m g c),
      (h c _ (mem_uc main_arg0 (by decide))).trans (W5_main_arg0 m g c), (h c _ (mem_uc main_arg1 (by decide))).trans (W5_main_arg1 m g c)⟩
  · obtain ⟨hx, hw, hrest⟩ := h c
    obtain ⟨a0, a1⟩ := hargs c
    rw [a0, a1] at hx hw
    exact ⟨hx.trans (slice_dot_prod 0 4096 _ _ _),
      hw.trans (slice_dot_prod 4096 16 _ _ _), hrest⟩

end Cert.Kernel10Ideal.In

namespace Cert.Kernel11Ideal.Out

open Cert.Kernel11Ideal Cert.Kernel11Ideal.Gen Cert.Products
open Idealize.ShloMosaic Idealize.ShloMosaic.TcCoe Idealize.ShloMosaic.ValueIdx Idealize.ShloMosaic.Tactic
open Idealize.SL.Sem

variable (m : (ℓ : Loc nD τ sig) → Buf (Elt Ideal) ℓ) (c : Dev nD)

/-- The attention's result, added to what it was given. -/
def result : Mat 4096 1024 := fun i =>
  prod (m ((c : Thread nD τ).loc main_arg0) : Mat 4096 1024) (m ((c : Thread nD τ).loc main_arg1)) i + (m ((c : Thread nD τ).loc main_arg2) : Mat 4096 1024) i

theorem idx : ∀ t : Fin grid0.N, win0_0.index t = ![win0_3.index t 0, 0] ∧ win0_1.index t = ![0, win0_3.index t 1]
    ∧ win0_2.index t = win0_3.index t := by decide +kernel

theorem region : (dats m 0 c).arrAt 3 cfg0.N = fun i => prod (V m c main_v0 : Mat _ _) (V m c main_v1) i + (V m c main_arg2 : Mat _ _) i := by
  refine (dats m 0 c).arrAt_eq_of_covers 3 _ (by decide +kernel) fun t hf y => ?_
  blk_simp
  rw [after0_3]
  frame_out
  unfold k0_pay1
  simp only [shapeCast_self]
  refine congrArg₂ (· + ·) ((congrFun (matmul_prod (φ₁ := .bf16) (φ₂ := .bf16) _ _) y).trans
    (prod_block _ _ _ _ _ _ (fun k => ?_) fun k => ?_)) ?_
  · blk_ext [iblk, (idx t).1]; exact (Pipeline.Window.rect_emb_val win0_3 t y 0).symm
  · blk_ext [iblk, (idx t).2.1]; exact (Pipeline.Window.rect_emb_val win0_3 t y 1).symm
  · blk_ext [iblk, (idx t).2.2]

theorem after_result : (dats m 0 c).arrAt 3 cfg0.N = result m c := by
  have h0 : V m c main_v0 = m ((c : Thread nD τ).loc main_arg0) := by dsimp only [V]; after_results; rfl
  have h1 : V m c main_v1 = m ((c : Thread nD τ).loc main_arg1) := by dsimp only [V]; after_results; rfl
  rw [region, h0, h1, V_main_arg2]; rfl

theorem reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := fun m g m' g' _ hargs => by
  refine ⟨result m, (θ_run defs _ _).mono (fun r h c => ?_) (Value.run_blocks m g),
    (θ_run Cert.Reference11Ideal.defs _ _).mono (fun r h c => ?_) (Cert.Reference11Ideal.Value.run (F := Ideal) m' g')⟩
  · exact ⟨(h c).1.trans (after_result m c), (h c).2⟩
  · obtain ⟨hx, hrest⟩ := h c
    obtain ⟨a0, a1, a2⟩ := hargs c
    rw [a0, a1, a2] at hx
    exact ⟨hx.trans (add_dot_prod _ _ _), hrest⟩

end Cert.Kernel11Ideal.Out

end
-- ==== Proof.Ssd.lean ====
/- The state-space mixer's two products with a weight, forward: the input's in two calls, the second's thirty-two columns padded to 128,
   and the result's with the residual added. -/
module

public import proofs.«01_k».proof.Defs
public import proofs.«01_k».proof.Proof.Columns
public import proofs.«01_k».proof.Proof.Regions
public import proofs.«01_k».proof.Proof.Gen.Kernel12Ideal.Frame
public import proofs.«01_k».proof.Proof.Gen.Reference12Ideal.Run
public import proofs.«01_k».proof.Proof.Gen.Kernel13Ideal.Value
public import proofs.«01_k».proof.Proof.Gen.Reference13Ideal.Run
public import Idealize.ShloMosaic.Lib.Pipeline.ValueKit
public import Idealize.ShloMosaic.Lib.Quiescent

@[expose] public section

noncomputable section

namespace Cert.Kernel12Ideal.In

open Cert.Kernel12Ideal Cert.Kernel12Ideal.Gen Cert.Products
open Idealize.ShloMosaic Idealize.ShloMosaic.TcCoe Idealize.ShloMosaic.ValueIdx Idealize.ShloMosaic.Tactic
open Idealize.SL.Sem

section
variable (V : (c : Dev nD) → (b : Ref sig .tc) → Buf (Elt Ideal) ((c : Thread nD τ).loc b)) (c : Dev nD)

theorem idx0 : ∀ t : Fin grid0.N, win0_0.index t = ![win0_2.index t 0, 0] ∧ win0_1.index t = ![0, win0_2.index t 1] := by decide +kernel

theorem region0 : (dat0 V c).arrAt 2 cfg0.N = prod (V c main_v0 : Mat _ _) (V c main_v2) := by
  refine (dat0 V c).arrAt_eq_of_covers 2 _ (by decide +kernel) fun t hf y => ?_
  blk_simp
  rw [after0_2]
  frame_out
  unfold k0_pay1
  simp only [shapeCast_self]
  refine (congrFun (matmul_prod _ _) y).trans (prod_block _ _ _ _ _ _ (fun k => ?_) fun k => ?_)
  · blk_ext [iblk0, (idx0 t).1]; exact (Pipeline.Window.rect_emb_val win0_2 t y 0).symm
  · blk_ext [iblk0, (idx0 t).2]; exact (Pipeline.Window.rect_emb_val win0_2 t y 1).symm

theorem idx1 : ∀ t : Fin grid1.N, win1_0.index t = ![win1_2.index t 0, 0] ∧ win1_1.index t = ![0, win1_2.index t 1] := by decide +kernel

theorem region1 : (dat1 V c).arrAt 2 cfg1.N = prod (V c main_v0 : Mat _ _) (V c main_v4) := by
  refine (dat1 V c).arrAt_eq_of_covers 2 _ (by decide +kernel) fun t hf y => ?_
  blk_simp
  rw [after1_2]
  frame_out
  unfold k1_pay1
  simp only [shapeCast_self]
  refine (congrFun (matmul_prod _ _) y).trans (prod_block _ _ _ _ _ _ (fun k => ?_) fun k => ?_)
  · blk_ext [iblk1, (idx1 t).1]; exact (Pipeline.Window.rect_emb_val win1_2 t y 0).symm
  · blk_ext [iblk1, (idx1 t).2]; exact (Pipeline.Window.rect_emb_val win1_2 t y 1).symm

end

variable (m : (ℓ : Loc nD τ sig) → Buf (Elt Ideal) ℓ) (ρ : Dev nD → PrngReg) (c : Dev nD)

/-- The layer's input and its weights. -/
abbrev xIn : Mat 4096 1024 := m ((c : Thread nD τ).loc main_arg0)
abbrev wIn : Mat 1024 5152 := m ((c : Thread nD τ).loc main_arg1)

/-- The gate, the convolution's input and the steps. -/
def whole : Mat 4096 5152 := prod (xIn m c) (wIn m c)
/-- The wide part of it, and the narrow one. -/
def wide : Mat 4096 5120 := part 0 5120 (whole m c)
def narrow : Mat 4096 32 := part 5120 32 (whole m c)

theorem entry_x : W2 m ρ c (Proc.devRef .tc main_v0) = xIn m c := by after_results; rfl
theorem entry_w0 : W2 m ρ c (Proc.devRef .tc main_v2) = part 0 5120 (wIn m c) := by
  after_results
  exact slice_part 0 5120 (wIn m c) slices_S1024x5152_S1024x5120_0_0

/-- The padding's value. -/
theorem zero_first : (sitofp .bf16 (constantI S_ 32 0#32) : FVec Ideal S_ .bf16) (Shape.Idx.first h_S_) = 0 := by
  show (((0#32 : BitVec 32).toInt : ℝ) : EReal) = 0
  simp

theorem entry_w1 : W2 m ρ c (Proc.devRef .tc main_v4) = part 5120 128 (wIn m c) := by
  after_results
  refine Eq.trans ?_ (pad_part 5120 32 128 96 rfl (wIn m c) _ pads_S1024x32_S1024x128_000_0960 h_S_ zero_first)
  exact congrArg (pad _ _ _ _ · _ _ _) (slice_part 5120 32 (wIn m c) slices_S1024x5152_S1024x32_0_5120)

theorem after_wide : W5 m ρ c (Proc.devRef .tc main_v5) = wide m c := by
  refine (W5_of m ρ c main_v5 (by decide)).trans <| (W4_of m ρ c main_v5 (by decide)).trans <| (W3_arr m ρ c 2).trans <|
    (region0 (V2 m ρ) c).trans ?_
  simp only [V2]
  rw [entry_x, entry_w0]
  exact prod_part _ _ _ _

theorem after_narrow : W5 m ρ c (Proc.devRef .tc main_v7) = narrow m c := by
  have hx : V3 m ρ c main_v0 = xIn m c := (W3_of m ρ c main_v0 (by decide)).trans (entry_x m ρ c)
  have hw : V3 m ρ c main_v4 = part 5120 128 (wIn m c) := (W3_of m ρ c main_v4 (by decide)).trans (entry_w1 m ρ c)
  have h : W4 m ρ c (Proc.devRef .tc main_v6) = part 5120 128 (whole m c) :=
    (W4_arr m ρ c 2).trans ((region1 (V3 m ρ) c).trans (by rw [hx, hw]; exact prod_part _ _ _ _))
  after_results
  rw [h]
  exact (slice_part 0 32 (part 5120 128 (whole m c)) slices_S4096x128_S4096x32_0_0).trans (part_part 5120 128 32 (by decide) _)

theorem last : θ_run (defs (F := Ideal)) (onTc (τ := τ) (main (F := Ideal))) ⟨m, fun _ => 0, ρ⟩
    fun r => ∀ c : Dev nD, ∀ b ∈ Pipeline.ucRefs τ sig, r.2.mem (c, b) = W5 m ρ c b :=
  run_last (pcfgs (F := Ideal)) adm (pdats m ρ) cellOf_inj defs₀ m ρ main (segs m ρ) (main_run m ρ)
    (by simp only [segs, Pipeline.Seg.pipes_host, Pipeline.Seg.pipes_region, Pipeline.Seg.pipes_nil]; decide)
    (W0 m ρ) (W5 m ρ) (fun _ _ => rfl) ⟨fun _ => .rfl, fun _ => .rfl, fun _ => .rfl, fun _ => .rfl, fun _ => .rfl, fun _ => .rfl⟩

theorem reference : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem algebraic : Cert.algebraic_Kernel12Ideal_Reference12Ideal := fun m g m' g' _ hargs => by
  refine ⟨wide m, narrow m, (θ_run defs _ _).mono (fun r h c => ?_) (last m g),
    (θ_run Cert.Reference12Ideal.defs _ _).mono (fun r h c => ?_) (Cert.Reference12Ideal.Value.run (F := Ideal) m' g')⟩
  · exact ⟨(h c _ (mem_uc main_v5 (by decide))).trans (after_wide m g c), (h c _ (mem_uc main_v7 (by decide))).trans (after_narrow m g c),
      (h c _ (mem_uc main_arg0 (by decide))).trans (W5_main_arg0 m g c), (h c _ (mem_uc main_arg1 (by decide))).trans (W5_main_arg1 m g c)⟩
  · obtain ⟨hx, hw, hrest⟩ := h c
    obtain ⟨a0, a1⟩ := hargs c
    rw [a0, a1] at hx hw
    exact ⟨hx.trans (slice_dot_prod 0 5120 _ _ _),
      hw.trans (slice_dot_prod 5120 32 _ _ _), hrest⟩

end Cert.Kernel12Ideal.In

namespace Cert.Kernel13Ideal.Out

open Cert.Kernel13Ideal Cert.Kernel13Ideal.Gen Cert.Products
open Idealize.ShloMosaic Idealize.ShloMosaic.TcCoe Idealize.ShloMosaic.ValueIdx Idealize.ShloMosaic.Tactic
open Idealize.SL.Sem

variable (m : (ℓ : Loc nD τ sig) → Buf (Elt Ideal) ℓ) (c : Dev nD)

/-- The mixer's result, added to what it was given. -/
def result : Mat 4096 1024 := fun i =>
  prod (m ((c : Thread nD τ).loc main_arg0) : Mat 4096 2048) (m ((c : Thread nD τ).loc main_arg1)) i + (m ((c : Thread nD τ).loc main_arg2) : Mat 4096 1024) i

theorem idx : ∀ t : Fin grid0.N, win0_0.index t = ![win0_3.index t 0, 0] ∧ win0_1.index t = ![0, win0_3.index t 1]
    ∧ win0_2.index t = win0_3.index t := by decide +kernel

theorem region : (dats m 0 c).arrAt 3 cfg0.N = fun i => prod (V m c main_v0 : Mat _ _) (V m c main_v1) i + (V m c main_arg2 : Mat _ _) i := by
  refine (dats m 0 c).arrAt_eq_of_covers 3 _ (by decide +kernel) fun t hf y => ?_
  blk_simp
  rw [after0_3]
  frame_out
  unfold k0_pay1
  simp only [shapeCast_self]
  refine congrArg₂ (· + ·) ((congrFun (matmul_prod (φ₁ := .bf16) (φ₂ := .bf16) _ _) y).trans
    (prod_block _ _ _ _ _ _ (fun k => ?_) fun k => ?_)) ?_
  · blk_ext [iblk, (idx t).1]; exact (Pipeline.Window.rect_emb_val win0_3 t y 0).symm
  · blk_ext [iblk, (idx t).2.1]; exact (Pipeline.Window.rect_emb_val win0_3 t y 1).symm
  · blk_ext [iblk, (idx t).2.2]

theorem after_result : (dats m 0 c).arrAt 3 cfg0.N = result m c := by
  have h0 : V m c main_v0 = m ((c : Thread nD τ).loc main_arg0) := by dsimp only [V]; after_results; rfl
  have h1 : V m c main_v1 = m ((c : Thread nD τ).loc main_arg1) := by dsimp only [V]; after_results; rfl
  rw [region, h0, h1, V_main_arg2]; rfl

theorem reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic : Cert.algebraic_Kernel13Ideal_Reference13Ideal := fun m g m' g' _ hargs => by
  refine ⟨result m, (θ_run defs _ _).mono (fun r h c => ?_) (Value.run_blocks m g),
    (θ_run Cert.Reference13Ideal.defs _ _).mono (fun r h c => ?_) (Cert.Reference13Ideal.Value.run (F := Ideal) m' g')⟩
  · exact ⟨(h c).1.trans (after_result m c), (h c).2⟩
  · obtain ⟨hx, hrest⟩ := h c
    obtain ⟨a0, a1, a2⟩ := hargs c
    rw [a0, a1, a2] at hx
    exact ⟨hx.trans (add_dot_prod _ _ _), hrest⟩

end Cert.Kernel13Ideal.Out

end
-- ==== Proof.Adam.lean ====
/- The optimiser's step of one weight, as functions of whole arrays: the sum of the devices' gradients, and AdamW. -/
module

public import Idealize.ShloMosaic.PureOps.Ideal.Laws
public import Idealize.ShloMosaic.Lib.ValueIdx
public import Idealize.ShloMosaic.Lib.Pipeline.ValueKit

@[expose] public section

noncomputable section

namespace Cert.Adam

open Idealize.ShloMosaic Idealize.ShloMosaic.ValueIdx
open scoped BigOperators

/-- A stack of matrices of extended reals, and a stack for each of the eight devices. -/
abbrev Stack (l r n : ℕ) := (⟨3, ![l, r, n]⟩ : Shape).Idx → EReal
abbrev Stacks (l r n : ℕ) := (⟨4, ![8, l, r, n]⟩ : Shape).Idx → EReal

/-- A number that a program writes out. -/
abbrev lit (b : BitVec 32) : EReal := (Scalar.ofBits .f32 b : Ideal .f32)

/-- The first moment's next value, the second's, and the weight's change. -/
def first (m g : EReal) : EReal := lit 0x3F666666#32 * m + lit 0x3DCCCCCD#32 * g
def second (v g : EReal) : EReal := lit 0x3F7FBE77#32 * v + lit 0x3A83126F#32 * (g * g)
def change (w m v : EReal) : EReal :=
  lit 0xBA83126F#32 * (Ideal.div (Ideal.div m (lit 0x3F26BD02#32)) (Ideal.sqrt (Ideal.div v (lit 0x3C231ACC#32)) + lit 0x322BCC77#32) + lit 0x3C23D70A#32 * w)

variable {l r n : ℕ}

/-- The gradient's sum over the devices. -/
def grad (p : Stacks l r n) : Stack l r n := fun i => ∑ j : Fin 8, p (ValueIdx.ix4 j (i 0) (i 1) (i 2))
def newFirst (m : Stack l r n) (p : Stacks l r n) : Stack l r n := fun i => first (m i) (grad p i)
def newSecond (v : Stack l r n) (p : Stacks l r n) : Stack l r n := fun i => second (v i) (grad p i)
def delta (w m v : Stack l r n) (p : Stacks l r n) : Stack l r n := fun i => change (w i) (newFirst m p i) (newSecond v p i)

theorem delta_of {w m v : Stack l r n} {p : Stacks l r n} {i : (⟨3, ![l, r, n]⟩ : Shape).Idx} {w' m' v' g' : EReal} (hw : w' = w i)
    (hm : m' = m i) (hv : v' = v i) (hg : g' = grad p i) : change w' (first m' g') (second v' g') = delta w m v p i := by
  subst hw hm hv hg
  rfl

/-- The host's sum over the devices. -/
theorem host_sum (p : FVec Ideal ⟨4, ![8, l, r, n]⟩ .bf16) {u : Shape} (hb : FTy.bf16.bits < FTy.f32.bits)
    (h : (⟨4, ![8, l, r, n]⟩ : Shape).ReducesTo [0] ⟨3, ![l, r, n]⟩) (hu : 0 < u.numel) :
    Host.reduceAdd (extf .f32 p hb) (constant u .f32 0x00000000#32) h hu = grad p := by
  funext i
  simp only [Host.reduceAdd, Ideal.hostReduceAdd_def]
  rw [Ideal.hostReduceAdd_r4_a0]
  show (constant u FTy.f32 0x00000000#32 : FVec Ideal u .f32) (Shape.Idx.first hu) + grad p i = grad p i
  rw [show (constant u FTy.f32 0x00000000#32 : FVec Ideal u .f32) (Shape.Idx.first hu) = (0 : EReal) from Ideal.ofBits_zero_f32]
  exact zero_add _

/-- The sum, written out. -/
theorem grad_of (p : Stacks l r n) (i : (⟨3, ![l, r, n]⟩ : Shape).Idx) (q : Fin 8 → EReal)
    (h : ∀ j, q j = p (ValueIdx.ix4 j (i 0) (i 1) (i 2))) : q 0 + q 1 + q 2 + q 3 + q 4 + q 5 + q 6 + q 7 = grad p i := by
  rw [← Fin.sum_univ_eight]
  exact Finset.sum_congr rfl fun j _ => h j

end Cert.Adam

end
-- ==== Proof.AdamFox.lean ====
/- The optimiser's step of the FoX mixers' two weights. -/
module

public import proofs.«01_k».proof.Defs
public import proofs.«01_k».proof.Proof.Adam
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import Idealize.ShloMosaic.Lib.Pipeline.ValueKit
public import Idealize.ShloMosaic.Lib.Quiescent

@[expose] public section

noncomputable section

namespace Cert.Kernel14Ideal.Step

open Cert.Kernel14Ideal Cert.Kernel14Ideal.Gen Cert.Adam
open Idealize.ShloMosaic Idealize.ShloMosaic.TcCoe Idealize.ShloMosaic.ValueIdx Idealize.ShloMosaic.Tactic
open Idealize.SL.Sem

variable (m : (ℓ : Loc nD τ sig) → Buf (Elt Ideal) ℓ) (c : Dev nD)

theorem idx : ∀ t : Fin grid0.N, (win0_0.index t = win0_4.index t ∧ win0_1.index t = win0_4.index t ∧ win0_2.index t = win0_4.index t)
    ∧ win0_3.index t = ![0, win0_4.index t 0, win0_4.index t 1, win0_4.index t 2] := by decide +kernel

/-- An element of a device's gradients in a point's block. -/
theorem read (t : Fin cfg0.N) (x : S8x1x128x1024.Idx) (i : S8x2x128x1024.Idx) (h0 : (x 0).val = (i 0).val)
    (h1 : win0_4.index t 0 = (i 1).val) (h2 : win0_4.index t 1 * 128 + (x 2).val = (i 2).val)
    (h3 : win0_4.index t 2 * 1024 + (x 3).val = (i 3).val) : iblk m c 3 t x = V m c main_arg3 i := by
  blk_ext [iblk, (idx t).2]

/-- The sum over the devices in a point's block. -/
theorem sum (t : Fin cfg0.N) (y : S1x128x1024.Idx) (i : S2x128x1024.Idx) (h0 : (i 0).val = win0_4.index t 0 * 1 + (y 0).val)
    (h1 : (i 1).val = win0_4.index t 1 * 128 + (y 1).val) (h2 : (i 2).val = win0_4.index t 2 * 1024 + (y 2).val) :
    Value.E4 (F := Ideal) (View.ld (iblk m c 3 t) r0_0) (View.ld (iblk m c 3 t) r0_1) (View.ld (iblk m c 3 t) r0_2)
      (View.ld (iblk m c 3 t) r0_3) (View.ld (iblk m c 3 t) r0_4) (View.ld (iblk m c 3 t) r0_5) (View.ld (iblk m c 3 t) r0_6)
      (View.ld (iblk m c 3 t) r0_7) y = grad (V m c main_arg3) i := by
  have hy : (y 0).val < 1 := (y 0).isLt
  have e : ∀ x : S8x1x128x1024.Idx, ∀ j : Fin 8, (x 0).val = j.val → (x 2).val = 0 + 1 * (y 1).val → (x 3).val = 0 + 1 * (y 2).val →
      iblk m c 3 t x = V m c main_arg3 (ValueIdx.ix4 j (i 0) (i 1) (i 2)) := fun x j e0 e2 e3 =>
    read m c t x _ e0 (by show _ = (i 0).val; omega) (by show _ = (i 1).val; omega) (by show _ = (i 2).val; omega)
  refine grad_of (V m c main_arg3) i ![_, _, _, _, _, _, _, _] fun j => ?_
  fin_cases j
  · exact e _ 0 rfl rfl rfl
  · exact e _ 1 rfl rfl rfl
  · exact e _ 2 rfl rfl rfl
  · exact e _ 3 rfl rfl rfl
  · exact e _ 4 rfl rfl rfl
  · exact e _ 5 rfl rfl rfl
  · exact e _ 6 rfl rfl rfl
  · exact e _ 7 rfl rfl rfl

theorem read0 (t : Fin cfg0.N) (x y : S1x128x1024.Idx) (i : S2x128x1024.Idx) (e1 : (x 1).val = 0 + 1 * (y 1).val)
    (e2 : (x 2).val = 0 + 1 * (y 2).val) (h0 : (i 0).val = win0_4.index t 0 * 1 + (y 0).val)
    (h1 : (i 1).val = win0_4.index t 1 * 128 + (y 1).val) (h2 : (i 2).val = win0_4.index t 2 * 1024 + (y 2).val) :
    iblk m c 0 t x = V m c main_arg0 i := by
  have hy : (y 0).val < 1 := (y 0).isLt
  blk_ext [iblk, (idx t).1.1] <;> omega

theorem read1 (t : Fin cfg0.N) (x y : S1x128x1024.Idx) (i : S2x128x1024.Idx) (e1 : (x 1).val = 0 + 1 * (y 1).val)
    (e2 : (x 2).val = 0 + 1 * (y 2).val) (h0 : (i 0).val = win0_4.index t 0 * 1 + (y 0).val)
    (h1 : (i 1).val = win0_4.index t 1 * 128 + (y 1).val) (h2 : (i 2).val = win0_4.index t 2 * 1024 + (y 2).val) :
    iblk m c 1 t x = V m c main_arg1 i := by
  have hy : (y 0).val < 1 := (y 0).isLt
  blk_ext [iblk, (idx t).1.2.1] <;> omega

theorem read2 (t : Fin cfg0.N) (x y : S1x128x1024.Idx) (i : S2x128x1024.Idx) (e1 : (x 1).val = 0 + 1 * (y 1).val)
    (e2 : (x 2).val = 0 + 1 * (y 2).val) (h0 : (i 0).val = win0_4.index t 0 * 1 + (y 0).val)
    (h1 : (i 1).val = win0_4.index t 1 * 128 + (y 1).val) (h2 : (i 2).val = win0_4.index t 2 * 1024 + (y 2).val) :
    iblk m c 2 t x = V m c main_arg2 i := by
  have hy : (y 0).val < 1 := (y 0).isLt
  blk_ext [iblk, (idx t).1.2.2] <;> omega

theorem region4 : (dats m 0 c).arrAt 4 cfg0.N = grad (V m c main_arg3) := by
  refine (dats m 0 c).arrAt_eq_of_covers 4 _ (by decide +kernel) fun t hf y => ?_
  rw [after0_4]
  unfold out0_4 k0_pay10
  rw [Value.canon4_eq]
  have h0 := Pipeline.Window.rect_emb_val win0_4 t y 0
  have h1 := Pipeline.Window.rect_emb_val win0_4 t y 1
  have h2 := Pipeline.Window.rect_emb_val win0_4 t y 2
  exact sum m c t y _ h0 h1 h2

theorem region5 : (dats m 0 c).arrAt 5 cfg0.N = delta (V m c main_arg0) (V m c main_arg1) (V m c main_arg2) (V m c main_arg3) := by
  refine (dats m 0 c).arrAt_eq_of_covers 5 _ (by decide +kernel) fun t hf y => ?_
  rw [after0_5]
  unfold out0_5 k0_pay10
  rw [Value.canon5_eq]
  have h0 := Pipeline.Window.rect_emb_val win0_5 t y 0
  have h1 := Pipeline.Window.rect_emb_val win0_5 t y 1
  have h2 := Pipeline.Window.rect_emb_val win0_5 t y 2
  have hg := sum m c t y _ h0 h1 h2
  exact delta_of (read0 m c t _ y _ rfl rfl h0 h1 h2) (read1 m c t _ y _ rfl rfl h0 h1 h2)
    (read2 m c t _ y _ rfl rfl h0 h1 h2) hg

theorem region6 : (dats m 0 c).arrAt 6 cfg0.N = newFirst (V m c main_arg1) (V m c main_arg3) := by
  refine (dats m 0 c).arrAt_eq_of_covers 6 _ (by decide +kernel) fun t hf y => ?_
  rw [after0_6]
  unfold out0_6 k0_pay10
  rw [Value.canon6_eq]
  have h0 := Pipeline.Window.rect_emb_val win0_6 t y 0
  have h1 := Pipeline.Window.rect_emb_val win0_6 t y 1
  have h2 := Pipeline.Window.rect_emb_val win0_6 t y 2
  exact congrArg₂ first (read1 m c t _ y _ rfl rfl h0 h1 h2) (sum m c t y _ h0 h1 h2)

theorem region7 : (dats m 0 c).arrAt 7 cfg0.N = newSecond (V m c main_arg2) (V m c main_arg3) := by
  refine (dats m 0 c).arrAt_eq_of_covers 7 _ (by decide +kernel) fun t hf y => ?_
  rw [after0_7]
  unfold out0_7 k0_pay10
  rw [Value.canon7_eq]
  have h0 := Pipeline.Window.rect_emb_val win0_7 t y 0
  have h1 := Pipeline.Window.rect_emb_val win0_7 t y 1
  have h2 := Pipeline.Window.rect_emb_val win0_7 t y 2
  exact congrArg₂ second (read2 m c t _ y _ rfl rfl h0 h1 h2) (sum m c t y _ h0 h1 h2)

theorem reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

theorem algebraic : Cert.algebraic_Kernel14Ideal_Reference14Ideal := fun m g m' g' _ hargs => by
  refine ⟨fun c => grad (V m c main_arg3), fun c => delta (V m c main_arg0) (V m c main_arg1) (V m c main_arg2) (V m c main_arg3),
    fun c => newFirst (V m c main_arg1) (V m c main_arg3), fun c => newSecond (V m c main_arg2) (V m c main_arg3),
    (θ_run defs _ _).mono (fun r h c => ?_) (Value.run_blocks m g),
    (θ_run Cert.Reference14Ideal.defs _ _).mono (fun r h c => ?_) (Cert.Reference14Ideal.Value.run (F := Ideal) m' g')⟩
  · obtain ⟨hg, hd, hm, hv, hrest⟩ := h c
    exact ⟨hg.trans (region4 m c), hd.trans (region5 m c), hm.trans (region6 m c), hv.trans (region7 m c), hrest⟩
  · obtain ⟨hg, hd, hm, hv, hrest⟩ := h c
    obtain ⟨a0, a1, a2, a3⟩ := hargs c
    rw [a3, host_sum] at hg
    rw [a0, a1, a2, a3, host_sum] at hd
    rw [a1, a3, host_sum] at hm
    rw [a2, a3, host_sum] at hv
    exact ⟨hg, hd, hm, hv, hrest⟩

end Cert.Kernel14Ideal.Step

namespace Cert.Kernel15Ideal.Step

open Cert.Kernel15Ideal Cert.Kernel15Ideal.Gen Cert.Adam
open Idealize.ShloMosaic Idealize.ShloMosaic.TcCoe Idealize.ShloMosaic.ValueIdx Idealize.ShloMosaic.Tactic
open Idealize.SL.Sem

variable (m : (ℓ : Loc nD τ sig) → Buf (Elt Ideal) ℓ) (c : Dev nD)

theorem idx : ∀ t : Fin grid0.N, (win0_0.index t = win0_4.index t ∧ win0_1.index t = win0_4.index t ∧ win0_2.index t = win0_4.index t)
    ∧ win0_3.index t = ![0, win0_4.index t 0, win0_4.index t 1, win0_4.index t 2] := by decide +kernel

/-- An element of a device's gradients in a point's block. -/
theorem read (t : Fin cfg0.N) (x : S8x1x256x514.Idx) (i : S8x2x1024x514.Idx) (h0 : (x 0).val = (i 0).val)
    (h1 : win0_4.index t 0 = (i 1).val) (h2 : win0_4.index t 1 * 256 + (x 2).val = (i 2).val)
    (h3 : win0_4.index t 2 * 514 + (x 3).val = (i 3).val) : iblk m c 3 t x = V m c main_arg3 i := by
  blk_ext [iblk, (idx t).2]

/-- The sum over the devices in a point's block. -/
theorem sum (t : Fin cfg0.N) (y : S1x256x514.Idx) (i : S2x1024x514.Idx) (h0 : (i 0).val = win0_4.index t 0 * 1 + (y 0).val)
    (h1 : (i 1).val = win0_4.index t 1 * 256 + (y 1).val) (h2 : (i 2).val = win0_4.index t 2 * 514 + (y 2).val) :
    Value.E4 (F := Ideal) (View.ld (iblk m c 3 t) r0_0) (View.ld (iblk m c 3 t) r0_1) (View.ld (iblk m c 3 t) r0_2)
      (View.ld (iblk m c 3 t) r0_3) (View.ld (iblk m c 3 t) r0_4) (View.ld (iblk m c 3 t) r0_5) (View.ld (iblk m c 3 t) r0_6)
      (View.ld (iblk m c 3 t) r0_7) y = grad (V m c main_arg3) i := by
  have hy : (y 0).val < 1 := (y 0).isLt
  have e : ∀ x : S8x1x256x514.Idx, ∀ j : Fin 8, (x 0).val = j.val → (x 2).val = 0 + 1 * (y 1).val → (x 3).val = 0 + 1 * (y 2).val →
      iblk m c 3 t x = V m c main_arg3 (ValueIdx.ix4 j (i 0) (i 1) (i 2)) := fun x j e0 e2 e3 =>
    read m c t x _ e0 (by show _ = (i 0).val; omega) (by show _ = (i 1).val; omega) (by show _ = (i 2).val; omega)
  refine grad_of (V m c main_arg3) i ![_, _, _, _, _, _, _, _] fun j => ?_
  fin_cases j
  · exact e _ 0 rfl rfl rfl
  · exact e _ 1 rfl rfl rfl
  · exact e _ 2 rfl rfl rfl
  · exact e _ 3 rfl rfl rfl
  · exact e _ 4 rfl rfl rfl
  · exact e _ 5 rfl rfl rfl
  · exact e _ 6 rfl rfl rfl
  · exact e _ 7 rfl rfl rfl

theorem read0 (t : Fin cfg0.N) (x y : S1x256x514.Idx) (i : S2x1024x514.Idx) (e1 : (x 1).val = 0 + 1 * (y 1).val)
    (e2 : (x 2).val = 0 + 1 * (y 2).val) (h0 : (i 0).val = win0_4.index t 0 * 1 + (y 0).val)
    (h1 : (i 1).val = win0_4.index t 1 * 256 + (y 1).val) (h2 : (i 2).val = win0_4.index t 2 * 514 + (y 2).val) :
    iblk m c 0 t x = V m c main_arg0 i := by
  have hy : (y 0).val < 1 := (y 0).isLt
  blk_ext [iblk, (idx t).1.1] <;> omega

theorem read1 (t : Fin cfg0.N) (x y : S1x256x514.Idx) (i : S2x1024x514.Idx) (e1 : (x 1).val = 0 + 1 * (y 1).val)
    (e2 : (x 2).val = 0 + 1 * (y 2).val) (h0 : (i 0).val = win0_4.index t 0 * 1 + (y 0).val)
    (h1 : (i 1).val = win0_4.index t 1 * 256 + (y 1).val) (h2 : (i 2).val = win0_4.index t 2 * 514 + (y 2).val) :
    iblk m c 1 t x = V m c main_arg1 i := by
  have hy : (y 0).val < 1 := (y 0).isLt
  blk_ext [iblk, (idx t).1.2.1] <;> omega

theorem read2 (t : Fin cfg0.N) (x y : S1x256x514.Idx) (i : S2x1024x514.Idx) (e1 : (x 1).val = 0 + 1 * (y 1).val)
    (e2 : (x 2).val = 0 + 1 * (y 2).val) (h0 : (i 0).val = win0_4.index t 0 * 1 + (y 0).val)
    (h1 : (i 1).val = win0_4.index t 1 * 256 + (y 1).val) (h2 : (i 2).val = win0_4.index t 2 * 514 + (y 2).val) :
    iblk m c 2 t x = V m c main_arg2 i := by
  have hy : (y 0).val < 1 := (y 0).isLt
  blk_ext [iblk, (idx t).1.2.2] <;> omega

theorem region4 : (dats m 0 c).arrAt 4 cfg0.N = grad (V m c main_arg3) := by
  refine (dats m 0 c).arrAt_eq_of_covers 4 _ (by decide +kernel) fun t hf y => ?_
  rw [after0_4]
  unfold out0_4 k0_pay10
  rw [Value.canon4_eq]
  have h0 := Pipeline.Window.rect_emb_val win0_4 t y 0
  have h1 := Pipeline.Window.rect_emb_val win0_4 t y 1
  have h2 := Pipeline.Window.rect_emb_val win0_4 t y 2
  exact sum m c t y _ h0 h1 h2

theorem region5 : (dats m 0 c).arrAt 5 cfg0.N = delta (V m c main_arg0) (V m c main_arg1) (V m c main_arg2) (V m c main_arg3) := by
  refine (dats m 0 c).arrAt_eq_of_covers 5 _ (by decide +kernel) fun t hf y => ?_
  rw [after0_5]
  unfold out0_5 k0_pay10
  rw [Value.canon5_eq]
  have h0 := Pipeline.Window.rect_emb_val win0_5 t y 0
  have h1 := Pipeline.Window.rect_emb_val win0_5 t y 1
  have h2 := Pipeline.Window.rect_emb_val win0_5 t y 2
  have hg := sum m c t y _ h0 h1 h2
  exact delta_of (read0 m c t _ y _ rfl rfl h0 h1 h2) (read1 m c t _ y _ rfl rfl h0 h1 h2)
    (read2 m c t _ y _ rfl rfl h0 h1 h2) hg

theorem region6 : (dats m 0 c).arrAt 6 cfg0.N = newFirst (V m c main_arg1) (V m c main_arg3) := by
  refine (dats m 0 c).arrAt_eq_of_covers 6 _ (by decide +kernel) fun t hf y => ?_
  rw [after0_6]
  unfold out0_6 k0_pay10
  rw [Value.canon6_eq]
  have h0 := Pipeline.Window.rect_emb_val win0_6 t y 0
  have h1 := Pipeline.Window.rect_emb_val win0_6 t y 1
  have h2 := Pipeline.Window.rect_emb_val win0_6 t y 2
  exact congrArg₂ first (read1 m c t _ y _ rfl rfl h0 h1 h2) (sum m c t y _ h0 h1 h2)

theorem region7 : (dats m 0 c).arrAt 7 cfg0.N = newSecond (V m c main_arg2) (V m c main_arg3) := by
  refine (dats m 0 c).arrAt_eq_of_covers 7 _ (by decide +kernel) fun t hf y => ?_
  rw [after0_7]
  unfold out0_7 k0_pay10
  rw [Value.canon7_eq]
  have h0 := Pipeline.Window.rect_emb_val win0_7 t y 0
  have h1 := Pipeline.Window.rect_emb_val win0_7 t y 1
  have h2 := Pipeline.Window.rect_emb_val win0_7 t y 2
  exact congrArg₂ second (read2 m c t _ y _ rfl rfl h0 h1 h2) (sum m c t y _ h0 h1 h2)

theorem reference : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

theorem algebraic : Cert.algebraic_Kernel15Ideal_Reference15Ideal := fun m g m' g' _ hargs => by
  refine ⟨fun c => grad (V m c main_arg3), fun c => delta (V m c main_arg0) (V m c main_arg1) (V m c main_arg2) (V m c main_arg3),
    fun c => newFirst (V m c main_arg1) (V m c main_arg3), fun c => newSecond (V m c main_arg2) (V m c main_arg3),
    (θ_run defs _ _).mono (fun r h c => ?_) (Value.run_blocks m g),
    (θ_run Cert.Reference15Ideal.defs _ _).mono (fun r h c => ?_) (Cert.Reference15Ideal.Value.run (F := Ideal) m' g')⟩
  · obtain ⟨hg, hd, hm, hv, hrest⟩ := h c
    exact ⟨hg.trans (region4 m c), hd.trans (region5 m c), hm.trans (region6 m c), hv.trans (region7 m c), hrest⟩
  · obtain ⟨hg, hd, hm, hv, hrest⟩ := h c
    obtain ⟨a0, a1, a2, a3⟩ := hargs c
    rw [a3, host_sum] at hg
    rw [a0, a1, a2, a3, host_sum] at hd
    rw [a1, a3, host_sum] at hm
    rw [a2, a3, host_sum] at hv
    exact ⟨hg, hd, hm, hv, hrest⟩

end Cert.Kernel15Ideal.Step

end
-- ==== Proof.AdamFeed.lean ====
/- The optimiser's step of the channel mixers' two weights. -/
module

public import proofs.«01_k».proof.Defs
public import proofs.«01_k».proof.Proof.Adam
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import Idealize.ShloMosaic.Lib.Pipeline.ValueKit
public import Idealize.ShloMosaic.Lib.Quiescent

@[expose] public section

noncomputable section

namespace Cert.Kernel16Ideal.Step

open Cert.Kernel16Ideal Cert.Kernel16Ideal.Gen Cert.Adam
open Idealize.ShloMosaic Idealize.ShloMosaic.TcCoe Idealize.ShloMosaic.ValueIdx Idealize.ShloMosaic.Tactic
open Idealize.SL.Sem

variable (m : (ℓ : Loc nD τ sig) → Buf (Elt Ideal) ℓ) (c : Dev nD)

theorem idx : ∀ t : Fin grid0.N, (win0_0.index t = win0_4.index t ∧ win0_1.index t = win0_4.index t ∧ win0_2.index t = win0_4.index t)
    ∧ win0_3.index t = ![0, win0_4.index t 0, win0_4.index t 1, win0_4.index t 2] := by decide +kernel

/-- An element of a device's gradients in a point's block. -/
theorem read (t : Fin cfg0.N) (x : S8x1x176x1024.Idx) (i : S8x4x352x1024.Idx) (h0 : (x 0).val = (i 0).val)
    (h1 : win0_4.index t 0 = (i 1).val) (h2 : win0_4.index t 1 * 176 + (x 2).val = (i 2).val)
    (h3 : win0_4.index t 2 * 1024 + (x 3).val = (i 3).val) : iblk m c 3 t x = V m c main_arg3 i := by
  blk_ext [iblk, (idx t).2]

/-- The sum over the devices in a point's block. -/
theorem sum (t : Fin cfg0.N) (y : S1x176x1024.Idx) (i : S4x352x1024.Idx) (h0 : (i 0).val = win0_4.index t 0 * 1 + (y 0).val)
    (h1 : (i 1).val = win0_4.index t 1 * 176 + (y 1).val) (h2 : (i 2).val = win0_4.index t 2 * 1024 + (y 2).val) :
    Value.E4 (F := Ideal) (View.ld (iblk m c 3 t) r0_0) (View.ld (iblk m c 3 t) r0_1) (View.ld (iblk m c 3 t) r0_2)
      (View.ld (iblk m c 3 t) r0_3) (View.ld (iblk m c 3 t) r0_4) (View.ld (iblk m c 3 t) r0_5) (View.ld (iblk m c 3 t) r0_6)
      (View.ld (iblk m c 3 t) r0_7) y = grad (V m c main_arg3) i := by
  have hy : (y 0).val < 1 := (y 0).isLt
  have e : ∀ x : S8x1x176x1024.Idx, ∀ j : Fin 8, (x 0).val = j.val → (x 2).val = 0 + 1 * (y 1).val → (x 3).val = 0 + 1 * (y 2).val →
      iblk m c 3 t x = V m c main_arg3 (ValueIdx.ix4 j (i 0) (i 1) (i 2)) := fun x j e0 e2 e3 =>
    read m c t x _ e0 (by show _ = (i 0).val; omega) (by show _ = (i 1).val; omega) (by show _ = (i 2).val; omega)
  refine grad_of (V m c main_arg3) i ![_, _, _, _, _, _, _, _] fun j => ?_
  fin_cases j
  · exact e _ 0 rfl rfl rfl
  · exact e _ 1 rfl rfl rfl
  · exact e _ 2 rfl rfl rfl
  · exact e _ 3 rfl rfl rfl
  · exact e _ 4 rfl rfl rfl
  · exact e _ 5 rfl rfl rfl
  · exact e _ 6 rfl rfl rfl
  · exact e _ 7 rfl rfl rfl

theorem read0 (t : Fin cfg0.N) (x y : S1x176x1024.Idx) (i : S4x352x1024.Idx) (e1 : (x 1).val = 0 + 1 * (y 1).val)
    (e2 : (x 2).val = 0 + 1 * (y 2).val) (h0 : (i 0).val = win0_4.index t 0 * 1 + (y 0).val)
    (h1 : (i 1).val = win0_4.index t 1 * 176 + (y 1).val) (h2 : (i 2).val = win0_4.index t 2 * 1024 + (y 2).val) :
    iblk m c 0 t x = V m c main_arg0 i := by
  have hy : (y 0).val < 1 := (y 0).isLt
  blk_ext [iblk, (idx t).1.1] <;> omega

theorem read1 (t : Fin cfg0.N) (x y : S1x176x1024.Idx) (i : S4x352x1024.Idx) (e1 : (x 1).val = 0 + 1 * (y 1).val)
    (e2 : (x 2).val = 0 + 1 * (y 2).val) (h0 : (i 0).val = win0_4.index t 0 * 1 + (y 0).val)
    (h1 : (i 1).val = win0_4.index t 1 * 176 + (y 1).val) (h2 : (i 2).val = win0_4.index t 2 * 1024 + (y 2).val) :
    iblk m c 1 t x = V m c main_arg1 i := by
  have hy : (y 0).val < 1 := (y 0).isLt
  blk_ext [iblk, (idx t).1.2.1] <;> omega

theorem read2 (t : Fin cfg0.N) (x y : S1x176x1024.Idx) (i : S4x352x1024.Idx) (e1 : (x 1).val = 0 + 1 * (y 1).val)
    (e2 : (x 2).val = 0 + 1 * (y 2).val) (h0 : (i 0).val = win0_4.index t 0 * 1 + (y 0).val)
    (h1 : (i 1).val = win0_4.index t 1 * 176 + (y 1).val) (h2 : (i 2).val = win0_4.index t 2 * 1024 + (y 2).val) :
    iblk m c 2 t x = V m c main_arg2 i := by
  have hy : (y 0).val < 1 := (y 0).isLt
  blk_ext [iblk, (idx t).1.2.2] <;> omega

theorem region4 : (dats m 0 c).arrAt 4 cfg0.N = grad (V m c main_arg3) := by
  refine (dats m 0 c).arrAt_eq_of_covers 4 _ (by decide +kernel) fun t hf y => ?_
  rw [after0_4]
  unfold out0_4 k0_pay10
  rw [Value.canon4_eq]
  have h0 := Pipeline.Window.rect_emb_val win0_4 t y 0
  have h1 := Pipeline.Window.rect_emb_val win0_4 t y 1
  have h2 := Pipeline.Window.rect_emb_val win0_4 t y 2
  exact sum m c t y _ h0 h1 h2

theorem region5 : (dats m 0 c).arrAt 5 cfg0.N = delta (V m c main_arg0) (V m c main_arg1) (V m c main_arg2) (V m c main_arg3) := by
  refine (dats m 0 c).arrAt_eq_of_covers 5 _ (by decide +kernel) fun t hf y => ?_
  rw [after0_5]
  unfold out0_5 k0_pay10
  rw [Value.canon5_eq]
  have h0 := Pipeline.Window.rect_emb_val win0_5 t y 0
  have h1 := Pipeline.Window.rect_emb_val win0_5 t y 1
  have h2 := Pipeline.Window.rect_emb_val win0_5 t y 2
  have hg := sum m c t y _ h0 h1 h2
  exact delta_of (read0 m c t _ y _ rfl rfl h0 h1 h2) (read1 m c t _ y _ rfl rfl h0 h1 h2)
    (read2 m c t _ y _ rfl rfl h0 h1 h2) hg

theorem region6 : (dats m 0 c).arrAt 6 cfg0.N = newFirst (V m c main_arg1) (V m c main_arg3) := by
  refine (dats m 0 c).arrAt_eq_of_covers 6 _ (by decide +kernel) fun t hf y => ?_
  rw [after0_6]
  unfold out0_6 k0_pay10
  rw [Value.canon6_eq]
  have h0 := Pipeline.Window.rect_emb_val win0_6 t y 0
  have h1 := Pipeline.Window.rect_emb_val win0_6 t y 1
  have h2 := Pipeline.Window.rect_emb_val win0_6 t y 2
  exact congrArg₂ first (read1 m c t _ y _ rfl rfl h0 h1 h2) (sum m c t y _ h0 h1 h2)

theorem region7 : (dats m 0 c).arrAt 7 cfg0.N = newSecond (V m c main_arg2) (V m c main_arg3) := by
  refine (dats m 0 c).arrAt_eq_of_covers 7 _ (by decide +kernel) fun t hf y => ?_
  rw [after0_7]
  unfold out0_7 k0_pay10
  rw [Value.canon7_eq]
  have h0 := Pipeline.Window.rect_emb_val win0_7 t y 0
  have h1 := Pipeline.Window.rect_emb_val win0_7 t y 1
  have h2 := Pipeline.Window.rect_emb_val win0_7 t y 2
  exact congrArg₂ second (read2 m c t _ y _ rfl rfl h0 h1 h2) (sum m c t y _ h0 h1 h2)

theorem reference : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

theorem algebraic : Cert.algebraic_Kernel16Ideal_Reference16Ideal := fun m g m' g' _ hargs => by
  refine ⟨fun c => grad (V m c main_arg3), fun c => delta (V m c main_arg0) (V m c main_arg1) (V m c main_arg2) (V m c main_arg3),
    fun c => newFirst (V m c main_arg1) (V m c main_arg3), fun c => newSecond (V m c main_arg2) (V m c main_arg3),
    (θ_run defs _ _).mono (fun r h c => ?_) (Value.run_blocks m g),
    (θ_run Cert.Reference16Ideal.defs _ _).mono (fun r h c => ?_) (Cert.Reference16Ideal.Value.run (F := Ideal) m' g')⟩
  · obtain ⟨hg, hd, hm, hv, hrest⟩ := h c
    exact ⟨hg.trans (region4 m c), hd.trans (region5 m c), hm.trans (region6 m c), hv.trans (region7 m c), hrest⟩
  · obtain ⟨hg, hd, hm, hv, hrest⟩ := h c
    obtain ⟨a0, a1, a2, a3⟩ := hargs c
    rw [a3, host_sum] at hg
    rw [a0, a1, a2, a3, host_sum] at hd
    rw [a1, a3, host_sum] at hm
    rw [a2, a3, host_sum] at hv
    exact ⟨hg, hd, hm, hv, hrest⟩

end Cert.Kernel16Ideal.Step

namespace Cert.Kernel17Ideal.Step

open Cert.Kernel17Ideal Cert.Kernel17Ideal.Gen Cert.Adam
open Idealize.ShloMosaic Idealize.ShloMosaic.TcCoe Idealize.ShloMosaic.ValueIdx Idealize.ShloMosaic.Tactic
open Idealize.SL.Sem

variable (m : (ℓ : Loc nD τ sig) → Buf (Elt Ideal) ℓ) (c : Dev nD)

theorem idx : ∀ t : Fin grid0.N, (win0_0.index t = win0_4.index t ∧ win0_1.index t = win0_4.index t ∧ win0_2.index t = win0_4.index t)
    ∧ win0_3.index t = ![0, win0_4.index t 0, win0_4.index t 1, win0_4.index t 2] := by decide +kernel

/-- An element of a device's gradients in a point's block. -/
theorem read (t : Fin cfg0.N) (x : S8x1x176x1024.Idx) (i : S8x4x704x1024.Idx) (h0 : (x 0).val = (i 0).val)
    (h1 : win0_4.index t 0 = (i 1).val) (h2 : win0_4.index t 1 * 176 + (x 2).val = (i 2).val)
    (h3 : win0_4.index t 2 * 1024 + (x 3).val = (i 3).val) : iblk m c 3 t x = V m c main_arg3 i := by
  blk_ext [iblk, (idx t).2]

/-- The sum over the devices in a point's block. -/
theorem sum (t : Fin cfg0.N) (y : S1x176x1024.Idx) (i : S4x704x1024.Idx) (h0 : (i 0).val = win0_4.index t 0 * 1 + (y 0).val)
    (h1 : (i 1).val = win0_4.index t 1 * 176 + (y 1).val) (h2 : (i 2).val = win0_4.index t 2 * 1024 + (y 2).val) :
    Value.E4 (F := Ideal) (View.ld (iblk m c 3 t) r0_0) (View.ld (iblk m c 3 t) r0_1) (View.ld (iblk m c 3 t) r0_2)
      (View.ld (iblk m c 3 t) r0_3) (View.ld (iblk m c 3 t) r0_4) (View.ld (iblk m c 3 t) r0_5) (View.ld (iblk m c 3 t) r0_6)
      (View.ld (iblk m c 3 t) r0_7) y = grad (V m c main_arg3) i := by
  have hy : (y 0).val < 1 := (y 0).isLt
  have e : ∀ x : S8x1x176x1024.Idx, ∀ j : Fin 8, (x 0).val = j.val → (x 2).val = 0 + 1 * (y 1).val → (x 3).val = 0 + 1 * (y 2).val →
      iblk m c 3 t x = V m c main_arg3 (ValueIdx.ix4 j (i 0) (i 1) (i 2)) := fun x j e0 e2 e3 =>
    read m c t x _ e0 (by show _ = (i 0).val; omega) (by show _ = (i 1).val; omega) (by show _ = (i 2).val; omega)
  refine grad_of (V m c main_arg3) i ![_, _, _, _, _, _, _, _] fun j => ?_
  fin_cases j
  · exact e _ 0 rfl rfl rfl
  · exact e _ 1 rfl rfl rfl
  · exact e _ 2 rfl rfl rfl
  · exact e _ 3 rfl rfl rfl
  · exact e _ 4 rfl rfl rfl
  · exact e _ 5 rfl rfl rfl
  · exact e _ 6 rfl rfl rfl
  · exact e _ 7 rfl rfl rfl

theorem read0 (t : Fin cfg0.N) (x y : S1x176x1024.Idx) (i : S4x704x1024.Idx) (e1 : (x 1).val = 0 + 1 * (y 1).val)
    (e2 : (x 2).val = 0 + 1 * (y 2).val) (h0 : (i 0).val = win0_4.index t 0 * 1 + (y 0).val)
    (h1 : (i 1).val = win0_4.index t 1 * 176 + (y 1).val) (h2 : (i 2).val = win0_4.index t 2 * 1024 + (y 2).val) :
    iblk m c 0 t x = V m c main_arg0 i := by
  have hy : (y 0).val < 1 := (y 0).isLt
  blk_ext [iblk, (idx t).1.1] <;> omega

theorem read1 (t : Fin cfg0.N) (x y : S1x176x1024.Idx) (i : S4x704x1024.Idx) (e1 : (x 1).val = 0 + 1 * (y 1).val)
    (e2 : (x 2).val = 0 + 1 * (y 2).val) (h0 : (i 0).val = win0_4.index t 0 * 1 + (y 0).val)
    (h1 : (i 1).val = win0_4.index t 1 * 176 + (y 1).val) (h2 : (i 2).val = win0_4.index t 2 * 1024 + (y 2).val) :
    iblk m c 1 t x = V m c main_arg1 i := by
  have hy : (y 0).val < 1 := (y 0).isLt
  blk_ext [iblk, (idx t).1.2.1] <;> omega

theorem read2 (t : Fin cfg0.N) (x y : S1x176x1024.Idx) (i : S4x704x1024.Idx) (e1 : (x 1).val = 0 + 1 * (y 1).val)
    (e2 : (x 2).val = 0 + 1 * (y 2).val) (h0 : (i 0).val = win0_4.index t 0 * 1 + (y 0).val)
    (h1 : (i 1).val = win0_4.index t 1 * 176 + (y 1).val) (h2 : (i 2).val = win0_4.index t 2 * 1024 + (y 2).val) :
    iblk m c 2 t x = V m c main_arg2 i := by
  have hy : (y 0).val < 1 := (y 0).isLt
  blk_ext [iblk, (idx t).1.2.2] <;> omega

theorem region4 : (dats m 0 c).arrAt 4 cfg0.N = grad (V m c main_arg3) := by
  refine (dats m 0 c).arrAt_eq_of_covers 4 _ (by decide +kernel) fun t hf y => ?_
  rw [after0_4]
  unfold out0_4 k0_pay10
  rw [Value.canon4_eq]
  have h0 := Pipeline.Window.rect_emb_val win0_4 t y 0
  have h1 := Pipeline.Window.rect_emb_val win0_4 t y 1
  have h2 := Pipeline.Window.rect_emb_val win0_4 t y 2
  exact sum m c t y _ h0 h1 h2

theorem region5 : (dats m 0 c).arrAt 5 cfg0.N = delta (V m c main_arg0) (V m c main_arg1) (V m c main_arg2) (V m c main_arg3) := by
  refine (dats m 0 c).arrAt_eq_of_covers 5 _ (by decide +kernel) fun t hf y => ?_
  rw [after0_5]
  unfold out0_5 k0_pay10
  rw [Value.canon5_eq]
  have h0 := Pipeline.Window.rect_emb_val win0_5 t y 0
  have h1 := Pipeline.Window.rect_emb_val win0_5 t y 1
  have h2 := Pipeline.Window.rect_emb_val win0_5 t y 2
  have hg := sum m c t y _ h0 h1 h2
  exact delta_of (read0 m c t _ y _ rfl rfl h0 h1 h2) (read1 m c t _ y _ rfl rfl h0 h1 h2)
    (read2 m c t _ y _ rfl rfl h0 h1 h2) hg

theorem region6 : (dats m 0 c).arrAt 6 cfg0.N = newFirst (V m c main_arg1) (V m c main_arg3) := by
  refine (dats m 0 c).arrAt_eq_of_covers 6 _ (by decide +kernel) fun t hf y => ?_
  rw [after0_6]
  unfold out0_6 k0_pay10
  rw [Value.canon6_eq]
  have h0 := Pipeline.Window.rect_emb_val win0_6 t y 0
  have h1 := Pipeline.Window.rect_emb_val win0_6 t y 1
  have h2 := Pipeline.Window.rect_emb_val win0_6 t y 2
  exact congrArg₂ first (read1 m c t _ y _ rfl rfl h0 h1 h2) (sum m c t y _ h0 h1 h2)

theorem region7 : (dats m 0 c).arrAt 7 cfg0.N = newSecond (V m c main_arg2) (V m c main_arg3) := by
  refine (dats m 0 c).arrAt_eq_of_covers 7 _ (by decide +kernel) fun t hf y => ?_
  rw [after0_7]
  unfold out0_7 k0_pay10
  rw [Value.canon7_eq]
  have h0 := Pipeline.Window.rect_emb_val win0_7 t y 0
  have h1 := Pipeline.Window.rect_emb_val win0_7 t y 1
  have h2 := Pipeline.Window.rect_emb_val win0_7 t y 2
  exact congrArg₂ second (read2 m c t _ y _ rfl rfl h0 h1 h2) (sum m c t y _ h0 h1 h2)

theorem reference : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

theorem algebraic : Cert.algebraic_Kernel17Ideal_Reference17Ideal := fun m g m' g' _ hargs => by
  refine ⟨fun c => grad (V m c main_arg3), fun c => delta (V m c main_arg0) (V m c main_arg1) (V m c main_arg2) (V m c main_arg3),
    fun c => newFirst (V m c main_arg1) (V m c main_arg3), fun c => newSecond (V m c main_arg2) (V m c main_arg3),
    (θ_run defs _ _).mono (fun r h c => ?_) (Value.run_blocks m g),
    (θ_run Cert.Reference17Ideal.defs _ _).mono (fun r h c => ?_) (Cert.Reference17Ideal.Value.run (F := Ideal) m' g')⟩
  · obtain ⟨hg, hd, hm, hv, hrest⟩ := h c
    exact ⟨hg.trans (region4 m c), hd.trans (region5 m c), hm.trans (region6 m c), hv.trans (region7 m c), hrest⟩
  · obtain ⟨hg, hd, hm, hv, hrest⟩ := h c
    obtain ⟨a0, a1, a2, a3⟩ := hargs c
    rw [a3, host_sum] at hg
    rw [a0, a1, a2, a3, host_sum] at hd
    rw [a1, a3, host_sum] at hm
    rw [a2, a3, host_sum] at hv
    exact ⟨hg, hd, hm, hv, hrest⟩

end Cert.Kernel17Ideal.Step

end
-- ==== Proof.AdamSsd.lean ====
/- The optimiser's step of the state-space mixers' two weights. -/
module

public import proofs.«01_k».proof.Defs
public import proofs.«01_k».proof.Proof.Adam
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import Idealize.ShloMosaic.Lib.Pipeline.ValueKit
public import Idealize.ShloMosaic.Lib.Quiescent

@[expose] public section

noncomputable section

namespace Cert.Kernel18Ideal.Step

open Cert.Kernel18Ideal Cert.Kernel18Ideal.Gen Cert.Adam
open Idealize.ShloMosaic Idealize.ShloMosaic.TcCoe Idealize.ShloMosaic.ValueIdx Idealize.ShloMosaic.Tactic
open Idealize.SL.Sem

variable (m : (ℓ : Loc nD τ sig) → Buf (Elt Ideal) ℓ) (c : Dev nD)

theorem idx : ∀ t : Fin grid0.N, (win0_0.index t = win0_4.index t ∧ win0_1.index t = win0_4.index t ∧ win0_2.index t = win0_4.index t)
    ∧ win0_3.index t = ![0, win0_4.index t 0, win0_4.index t 1, win0_4.index t 2] := by decide +kernel

/-- An element of a device's gradients in a point's block. -/
theorem read (t : Fin cfg0.N) (x : S8x1x256x1024.Idx) (i : S8x2x256x1024.Idx) (h0 : (x 0).val = (i 0).val)
    (h1 : win0_4.index t 0 = (i 1).val) (h2 : win0_4.index t 1 * 256 + (x 2).val = (i 2).val)
    (h3 : win0_4.index t 2 * 1024 + (x 3).val = (i 3).val) : iblk m c 3 t x = V m c main_arg3 i := by
  blk_ext [iblk, (idx t).2]

/-- The sum over the devices in a point's block. -/
theorem sum (t : Fin cfg0.N) (y : S1x256x1024.Idx) (i : S2x256x1024.Idx) (h0 : (i 0).val = win0_4.index t 0 * 1 + (y 0).val)
    (h1 : (i 1).val = win0_4.index t 1 * 256 + (y 1).val) (h2 : (i 2).val = win0_4.index t 2 * 1024 + (y 2).val) :
    Value.E4 (F := Ideal) (View.ld (iblk m c 3 t) r0_0) (View.ld (iblk m c 3 t) r0_1) (View.ld (iblk m c 3 t) r0_2)
      (View.ld (iblk m c 3 t) r0_3) (View.ld (iblk m c 3 t) r0_4) (View.ld (iblk m c 3 t) r0_5) (View.ld (iblk m c 3 t) r0_6)
      (View.ld (iblk m c 3 t) r0_7) y = grad (V m c main_arg3) i := by
  have hy : (y 0).val < 1 := (y 0).isLt
  have e : ∀ x : S8x1x256x1024.Idx, ∀ j : Fin 8, (x 0).val = j.val → (x 2).val = 0 + 1 * (y 1).val → (x 3).val = 0 + 1 * (y 2).val →
      iblk m c 3 t x = V m c main_arg3 (ValueIdx.ix4 j (i 0) (i 1) (i 2)) := fun x j e0 e2 e3 =>
    read m c t x _ e0 (by show _ = (i 0).val; omega) (by show _ = (i 1).val; omega) (by show _ = (i 2).val; omega)
  refine grad_of (V m c main_arg3) i ![_, _, _, _, _, _, _, _] fun j => ?_
  fin_cases j
  · exact e _ 0 rfl rfl rfl
  · exact e _ 1 rfl rfl rfl
  · exact e _ 2 rfl rfl rfl
  · exact e _ 3 rfl rfl rfl
  · exact e _ 4 rfl rfl rfl
  · exact e _ 5 rfl rfl rfl
  · exact e _ 6 rfl rfl rfl
  · exact e _ 7 rfl rfl rfl

theorem read0 (t : Fin cfg0.N) (x y : S1x256x1024.Idx) (i : S2x256x1024.Idx) (e1 : (x 1).val = 0 + 1 * (y 1).val)
    (e2 : (x 2).val = 0 + 1 * (y 2).val) (h0 : (i 0).val = win0_4.index t 0 * 1 + (y 0).val)
    (h1 : (i 1).val = win0_4.index t 1 * 256 + (y 1).val) (h2 : (i 2).val = win0_4.index t 2 * 1024 + (y 2).val) :
    iblk m c 0 t x = V m c main_arg0 i := by
  have hy : (y 0).val < 1 := (y 0).isLt
  blk_ext [iblk, (idx t).1.1] <;> omega

theorem read1 (t : Fin cfg0.N) (x y : S1x256x1024.Idx) (i : S2x256x1024.Idx) (e1 : (x 1).val = 0 + 1 * (y 1).val)
    (e2 : (x 2).val = 0 + 1 * (y 2).val) (h0 : (i 0).val = win0_4.index t 0 * 1 + (y 0).val)
    (h1 : (i 1).val = win0_4.index t 1 * 256 + (y 1).val) (h2 : (i 2).val = win0_4.index t 2 * 1024 + (y 2).val) :
    iblk m c 1 t x = V m c main_arg1 i := by
  have hy : (y 0).val < 1 := (y 0).isLt
  blk_ext [iblk, (idx t).1.2.1] <;> omega

theorem read2 (t : Fin cfg0.N) (x y : S1x256x1024.Idx) (i : S2x256x1024.Idx) (e1 : (x 1).val = 0 + 1 * (y 1).val)
    (e2 : (x 2).val = 0 + 1 * (y 2).val) (h0 : (i 0).val = win0_4.index t 0 * 1 + (y 0).val)
    (h1 : (i 1).val = win0_4.index t 1 * 256 + (y 1).val) (h2 : (i 2).val = win0_4.index t 2 * 1024 + (y 2).val) :
    iblk m c 2 t x = V m c main_arg2 i := by
  have hy : (y 0).val < 1 := (y 0).isLt
  blk_ext [iblk, (idx t).1.2.2] <;> omega

theorem region4 : (dats m 0 c).arrAt 4 cfg0.N = grad (V m c main_arg3) := by
  refine (dats m 0 c).arrAt_eq_of_covers 4 _ (by decide +kernel) fun t hf y => ?_
  rw [after0_4]
  unfold out0_4 k0_pay10
  rw [Value.canon4_eq]
  have h0 := Pipeline.Window.rect_emb_val win0_4 t y 0
  have h1 := Pipeline.Window.rect_emb_val win0_4 t y 1
  have h2 := Pipeline.Window.rect_emb_val win0_4 t y 2
  exact sum m c t y _ h0 h1 h2

theorem region5 : (dats m 0 c).arrAt 5 cfg0.N = delta (V m c main_arg0) (V m c main_arg1) (V m c main_arg2) (V m c main_arg3) := by
  refine (dats m 0 c).arrAt_eq_of_covers 5 _ (by decide +kernel) fun t hf y => ?_
  rw [after0_5]
  unfold out0_5 k0_pay10
  rw [Value.canon5_eq]
  have h0 := Pipeline.Window.rect_emb_val win0_5 t y 0
  have h1 := Pipeline.Window.rect_emb_val win0_5 t y 1
  have h2 := Pipeline.Window.rect_emb_val win0_5 t y 2
  have hg := sum m c t y _ h0 h1 h2
  exact delta_of (read0 m c t _ y _ rfl rfl h0 h1 h2) (read1 m c t _ y _ rfl rfl h0 h1 h2)
    (read2 m c t _ y _ rfl rfl h0 h1 h2) hg

theorem region6 : (dats m 0 c).arrAt 6 cfg0.N = newFirst (V m c main_arg1) (V m c main_arg3) := by
  refine (dats m 0 c).arrAt_eq_of_covers 6 _ (by decide +kernel) fun t hf y => ?_
  rw [after0_6]
  unfold out0_6 k0_pay10
  rw [Value.canon6_eq]
  have h0 := Pipeline.Window.rect_emb_val win0_6 t y 0
  have h1 := Pipeline.Window.rect_emb_val win0_6 t y 1
  have h2 := Pipeline.Window.rect_emb_val win0_6 t y 2
  exact congrArg₂ first (read1 m c t _ y _ rfl rfl h0 h1 h2) (sum m c t y _ h0 h1 h2)

theorem region7 : (dats m 0 c).arrAt 7 cfg0.N = newSecond (V m c main_arg2) (V m c main_arg3) := by
  refine (dats m 0 c).arrAt_eq_of_covers 7 _ (by decide +kernel) fun t hf y => ?_
  rw [after0_7]
  unfold out0_7 k0_pay10
  rw [Value.canon7_eq]
  have h0 := Pipeline.Window.rect_emb_val win0_7 t y 0
  have h1 := Pipeline.Window.rect_emb_val win0_7 t y 1
  have h2 := Pipeline.Window.rect_emb_val win0_7 t y 2
  exact congrArg₂ second (read2 m c t _ y _ rfl rfl h0 h1 h2) (sum m c t y _ h0 h1 h2)

theorem reference : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

theorem algebraic : Cert.algebraic_Kernel18Ideal_Reference18Ideal := fun m g m' g' _ hargs => by
  refine ⟨fun c => grad (V m c main_arg3), fun c => delta (V m c main_arg0) (V m c main_arg1) (V m c main_arg2) (V m c main_arg3),
    fun c => newFirst (V m c main_arg1) (V m c main_arg3), fun c => newSecond (V m c main_arg2) (V m c main_arg3),
    (θ_run defs _ _).mono (fun r h c => ?_) (Value.run_blocks m g),
    (θ_run Cert.Reference18Ideal.defs _ _).mono (fun r h c => ?_) (Cert.Reference18Ideal.Value.run (F := Ideal) m' g')⟩
  · obtain ⟨hg, hd, hm, hv, hrest⟩ := h c
    exact ⟨hg.trans (region4 m c), hd.trans (region5 m c), hm.trans (region6 m c), hv.trans (region7 m c), hrest⟩
  · obtain ⟨hg, hd, hm, hv, hrest⟩ := h c
    obtain ⟨a0, a1, a2, a3⟩ := hargs c
    rw [a3, host_sum] at hg
    rw [a0, a1, a2, a3, host_sum] at hd
    rw [a1, a3, host_sum] at hm
    rw [a2, a3, host_sum] at hv
    exact ⟨hg, hd, hm, hv, hrest⟩

end Cert.Kernel18Ideal.Step

namespace Cert.Kernel19Ideal.Step

open Cert.Kernel19Ideal Cert.Kernel19Ideal.Gen Cert.Adam
open Idealize.ShloMosaic Idealize.ShloMosaic.TcCoe Idealize.ShloMosaic.ValueIdx Idealize.ShloMosaic.Tactic
open Idealize.SL.Sem

variable (m : (ℓ : Loc nD τ sig) → Buf (Elt Ideal) ℓ) (c : Dev nD)

theorem idx : ∀ t : Fin grid0.N, (win0_0.index t = win0_4.index t ∧ win0_1.index t = win0_4.index t ∧ win0_2.index t = win0_4.index t)
    ∧ win0_3.index t = ![0, win0_4.index t 0, win0_4.index t 1, win0_4.index t 2] := by decide +kernel

/-- An element of a device's gradients in a point's block. -/
theorem read (t : Fin cfg0.N) (x : S8x1x256x644.Idx) (i : S8x2x1024x644.Idx) (h0 : (x 0).val = (i 0).val)
    (h1 : win0_4.index t 0 = (i 1).val) (h2 : win0_4.index t 1 * 256 + (x 2).val = (i 2).val)
    (h3 : win0_4.index t 2 * 644 + (x 3).val = (i 3).val) : iblk m c 3 t x = V m c main_arg3 i := by
  blk_ext [iblk, (idx t).2]

/-- The sum over the devices in a point's block. -/
theorem sum (t : Fin cfg0.N) (y : S1x256x644.Idx) (i : S2x1024x644.Idx) (h0 : (i 0).val = win0_4.index t 0 * 1 + (y 0).val)
    (h1 : (i 1).val = win0_4.index t 1 * 256 + (y 1).val) (h2 : (i 2).val = win0_4.index t 2 * 644 + (y 2).val) :
    Value.E4 (F := Ideal) (View.ld (iblk m c 3 t) r0_0) (View.ld (iblk m c 3 t) r0_1) (View.ld (iblk m c 3 t) r0_2)
      (View.ld (iblk m c 3 t) r0_3) (View.ld (iblk m c 3 t) r0_4) (View.ld (iblk m c 3 t) r0_5) (View.ld (iblk m c 3 t) r0_6)
      (View.ld (iblk m c 3 t) r0_7) y = grad (V m c main_arg3) i := by
  have hy : (y 0).val < 1 := (y 0).isLt
  have e : ∀ x : S8x1x256x644.Idx, ∀ j : Fin 8, (x 0).val = j.val → (x 2).val = 0 + 1 * (y 1).val → (x 3).val = 0 + 1 * (y 2).val →
      iblk m c 3 t x = V m c main_arg3 (ValueIdx.ix4 j (i 0) (i 1) (i 2)) := fun x j e0 e2 e3 =>
    read m c t x _ e0 (by show _ = (i 0).val; omega) (by show _ = (i 1).val; omega) (by show _ = (i 2).val; omega)
  refine grad_of (V m c main_arg3) i ![_, _, _, _, _, _, _, _] fun j => ?_
  fin_cases j
  · exact e _ 0 rfl rfl rfl
  · exact e _ 1 rfl rfl rfl
  · exact e _ 2 rfl rfl rfl
  · exact e _ 3 rfl rfl rfl
  · exact e _ 4 rfl rfl rfl
  · exact e _ 5 rfl rfl rfl
  · exact e _ 6 rfl rfl rfl
  · exact e _ 7 rfl rfl rfl

theorem read0 (t : Fin cfg0.N) (x y : S1x256x644.Idx) (i : S2x1024x644.Idx) (e1 : (x 1).val = 0 + 1 * (y 1).val)
    (e2 : (x 2).val = 0 + 1 * (y 2).val) (h0 : (i 0).val = win0_4.index t 0 * 1 + (y 0).val)
    (h1 : (i 1).val = win0_4.index t 1 * 256 + (y 1).val) (h2 : (i 2).val = win0_4.index t 2 * 644 + (y 2).val) :
    iblk m c 0 t x = V m c main_arg0 i := by
  have hy : (y 0).val < 1 := (y 0).isLt
  blk_ext [iblk, (idx t).1.1] <;> omega

theorem read1 (t : Fin cfg0.N) (x y : S1x256x644.Idx) (i : S2x1024x644.Idx) (e1 : (x 1).val = 0 + 1 * (y 1).val)
    (e2 : (x 2).val = 0 + 1 * (y 2).val) (h0 : (i 0).val = win0_4.index t 0 * 1 + (y 0).val)
    (h1 : (i 1).val = win0_4.index t 1 * 256 + (y 1).val) (h2 : (i 2).val = win0_4.index t 2 * 644 + (y 2).val) :
    iblk m c 1 t x = V m c main_arg1 i := by
  have hy : (y 0).val < 1 := (y 0).isLt
  blk_ext [iblk, (idx t).1.2.1] <;> omega

theorem read2 (t : Fin cfg0.N) (x y : S1x256x644.Idx) (i : S2x1024x644.Idx) (e1 : (x 1).val = 0 + 1 * (y 1).val)
    (e2 : (x 2).val = 0 + 1 * (y 2).val) (h0 : (i 0).val = win0_4.index t 0 * 1 + (y 0).val)
    (h1 : (i 1).val = win0_4.index t 1 * 256 + (y 1).val) (h2 : (i 2).val = win0_4.index t 2 * 644 + (y 2).val) :
    iblk m c 2 t x = V m c main_arg2 i := by
  have hy : (y 0).val < 1 := (y 0).isLt
  blk_ext [iblk, (idx t).1.2.2] <;> omega

theorem region4 : (dats m 0 c).arrAt 4 cfg0.N = grad (V m c main_arg3) := by
  refine (dats m 0 c).arrAt_eq_of_covers 4 _ (by decide +kernel) fun t hf y => ?_
  rw [after0_4]
  unfold out0_4 k0_pay10
  rw [Value.canon4_eq]
  have h0 := Pipeline.Window.rect_emb_val win0_4 t y 0
  have h1 := Pipeline.Window.rect_emb_val win0_4 t y 1
  have h2 := Pipeline.Window.rect_emb_val win0_4 t y 2
  exact sum m c t y _ h0 h1 h2

theorem region5 : (dats m 0 c).arrAt 5 cfg0.N = delta (V m c main_arg0) (V m c main_arg1) (V m c main_arg2) (V m c main_arg3) := by
  refine (dats m 0 c).arrAt_eq_of_covers 5 _ (by decide +kernel) fun t hf y => ?_
  rw [after0_5]
  unfold out0_5 k0_pay10
  rw [Value.canon5_eq]
  have h0 := Pipeline.Window.rect_emb_val win0_5 t y 0
  have h1 := Pipeline.Window.rect_emb_val win0_5 t y 1
  have h2 := Pipeline.Window.rect_emb_val win0_5 t y 2
  have hg := sum m c t y _ h0 h1 h2
  exact delta_of (read0 m c t _ y _ rfl rfl h0 h1 h2) (read1 m c t _ y _ rfl rfl h0 h1 h2)
    (read2 m c t _ y _ rfl rfl h0 h1 h2) hg

theorem region6 : (dats m 0 c).arrAt 6 cfg0.N = newFirst (V m c main_arg1) (V m c main_arg3) := by
  refine (dats m 0 c).arrAt_eq_of_covers 6 _ (by decide +kernel) fun t hf y => ?_
  rw [after0_6]
  unfold out0_6 k0_pay10
  rw [Value.canon6_eq]
  have h0 := Pipeline.Window.rect_emb_val win0_6 t y 0
  have h1 := Pipeline.Window.rect_emb_val win0_6 t y 1
  have h2 := Pipeline.Window.rect_emb_val win0_6 t y 2
  exact congrArg₂ first (read1 m c t _ y _ rfl rfl h0 h1 h2) (sum m c t y _ h0 h1 h2)

theorem region7 : (dats m 0 c).arrAt 7 cfg0.N = newSecond (V m c main_arg2) (V m c main_arg3) := by
  refine (dats m 0 c).arrAt_eq_of_covers 7 _ (by decide +kernel) fun t hf y => ?_
  rw [after0_7]
  unfold out0_7 k0_pay10
  rw [Value.canon7_eq]
  have h0 := Pipeline.Window.rect_emb_val win0_7 t y 0
  have h1 := Pipeline.Window.rect_emb_val win0_7 t y 1
  have h2 := Pipeline.Window.rect_emb_val win0_7 t y 2
  exact congrArg₂ second (read2 m c t _ y _ rfl rfl h0 h1 h2) (sum m c t y _ h0 h1 h2)

theorem reference : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

theorem algebraic : Cert.algebraic_Kernel19Ideal_Reference19Ideal := fun m g m' g' _ hargs => by
  refine ⟨fun c => grad (V m c main_arg3), fun c => delta (V m c main_arg0) (V m c main_arg1) (V m c main_arg2) (V m c main_arg3),
    fun c => newFirst (V m c main_arg1) (V m c main_arg3), fun c => newSecond (V m c main_arg2) (V m c main_arg3),
    (θ_run defs _ _).mono (fun r h c => ?_) (Value.run_blocks m g),
    (θ_run Cert.Reference19Ideal.defs _ _).mono (fun r h c => ?_) (Cert.Reference19Ideal.Value.run (F := Ideal) m' g')⟩
  · obtain ⟨hg, hd, hm, hv, hrest⟩ := h c
    exact ⟨hg.trans (region4 m c), hd.trans (region5 m c), hm.trans (region6 m c), hv.trans (region7 m c), hrest⟩
  · obtain ⟨hg, hd, hm, hv, hrest⟩ := h c
    obtain ⟨a0, a1, a2, a3⟩ := hargs c
    rw [a3, host_sum] at hg
    rw [a0, a1, a2, a3, host_sum] at hd
    rw [a1, a3, host_sum] at hm
    rw [a2, a3, host_sum] at hv
    exact ⟨hg, hd, hm, hv, hrest⟩

end Cert.Kernel19Ideal.Step

end
-- ==== Proof.lean ====
module

public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Defs
public import proofs.«01_k».proof.Proof.KernelValue
public import proofs.«01_k».proof.Proof.Same
public import proofs.«01_k».proof.Proof.Down
public import proofs.«01_k».proof.Proof.Up
public import proofs.«01_k».proof.Proof.FoxOut
public import proofs.«01_k».proof.Proof.FoxIn
public import proofs.«01_k».proof.Proof.SsdOut
public import proofs.«01_k».proof.Proof.SsdIn
public import proofs.«01_k».proof.Proof.Feed
public import proofs.«01_k».proof.Proof.Fox
public import proofs.«01_k».proof.Proof.Ssd
public import proofs.«01_k».proof.Proof.AdamFox
public import proofs.«01_k».proof.Proof.AdamFeed
public import proofs.«01_k».proof.Proof.AdamSsd
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Real

/-- The kernel's frame is its idealization's run on words. -/
theorem frame_kernel : Cert.quiescent_Kernel := fun m ρ _ => by
  rw [Cert.Same.defs_eq, Cert.Same.main_eq]
  exact Cert.KernelIdeal.Fox.unchanged (F := Bits) m ρ

theorem frame_kernel_ideal : Cert.quiescent_KernelIdeal := fun m ρ _ => Cert.KernelIdeal.Fox.unchanged (F := Ideal) m ρ

/-- The reference's arguments are unchanged and every counter is zero at the end. -/
theorem reference_unchanged (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

open Cert.KernelIdeal.Fox in
theorem algebraic : Cert.algebraic_KernelIdeal_ReferenceIdeal_pre_finite := fun m g m' g' hpre hargs => by
  refine ⟨gradQ m, gradK m, gradV m, gradC m, run_value m g, ?_⟩
  refine (θ_run Cert.ReferenceIdeal.defs _ _).mono (fun r h c => ?_) (Cert.ReferenceIdeal.Value.run (F := Ideal) m' g')
  obtain ⟨h82, h81, h80, h83, hrest⟩ := h c
  obtain ⟨a0, a1, a2, a3, a4⟩ := hargs c
  obtain ⟨f0, f1, f2, f3, f4⟩ := reals_of_finite _ _ _ _ _ (hpre c)
  have H : Holds m c _ _ _ _ _ := ⟨f0, f1, f2, f3, f4⟩
  rw [Cert.ReferenceIdeal.Read.val_main_v82_eq, a0, a1, a2, a3, a4, f0, f1, f2, f3, f4] at h82
  rw [Cert.ReferenceIdeal.Read.val_main_v81_eq, a0, a1, a2, a3, a4, f0, f1, f2, f3, f4] at h81
  rw [Cert.ReferenceIdeal.Read.val_main_v80_eq, a0, a1, a3, a4, f0, f1, f3, f4] at h80
  rw [Cert.ReferenceIdeal.Read.val_main_v83_eq, a0, a1, a2, a3, a4, f0, f1, f2, f3, f4] at h83
  exact ⟨h82.trans (gradQ_eq H).symm, h81.trans (gradK_eq H).symm, h80.trans (gradV_eq H).symm, h83.trans (gradC_eq H).symm, hrest⟩

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Real.pre_facts,
    frame_kernel, frame_kernel_ideal, fun m ρ _ => Cert.KernelIdeal.Fox.unchanged (F := Ideal) m ρ, fun m ρ _ => reference_unchanged m ρ,
    fun m ρ _ => reference_unchanged m ρ,
    fun m ρ _ => Cert.Kernel2.Gen.frame m ρ, fun m ρ _ => Cert.Kernel2Ideal.Gen.frame m ρ, Cert.Kernel2Ideal.Down.reference,
    fun m ρ _ => Cert.Kernel3.Gen.frame m ρ, fun m ρ _ => Cert.Kernel3Ideal.Gen.frame m ρ, Cert.Kernel3Ideal.Up.reference,
    fun m ρ _ => Cert.Kernel4.Gen.frame m ρ, fun m ρ _ => Cert.Kernel4Ideal.Gen.frame m ρ, Cert.Kernel4Ideal.FoxOut.reference,
    fun m ρ _ => Cert.Kernel5.Gen.frame m ρ, fun m ρ _ => Cert.Kernel5Ideal.Gen.frame m ρ, Cert.Kernel5Ideal.FoxIn.reference,
    fun m ρ _ => Cert.Kernel6.Gen.frame m ρ, fun m ρ _ => Cert.Kernel6Ideal.Gen.frame m ρ, Cert.Kernel6Ideal.SsdOut.reference,
    fun m ρ _ => Cert.Kernel7.Gen.frame m ρ, fun m ρ _ => Cert.Kernel7Ideal.Gen.frame m ρ, Cert.Kernel7Ideal.SsdIn.reference,
    fun m ρ _ => Cert.Kernel8.Gen.frame m ρ, fun m ρ _ => Cert.Kernel8Ideal.Gen.frame m ρ, Cert.Kernel8Ideal.Up.reference,
    fun m ρ _ => Cert.Kernel9.Gen.frame m ρ, fun m ρ _ => Cert.Kernel9Ideal.Gen.frame m ρ, Cert.Kernel9Ideal.Down.reference,
    fun m ρ _ => Cert.Kernel10.Gen.frame m ρ, fun m ρ _ => Cert.Kernel10Ideal.Gen.frame m ρ, Cert.Kernel10Ideal.In.reference,
    fun m ρ _ => Cert.Kernel11.Gen.frame m ρ, fun m ρ _ => Cert.Kernel11Ideal.Gen.frame m ρ, Cert.Kernel11Ideal.Out.reference,
    fun m ρ _ => Cert.Kernel12.Gen.frame m ρ, fun m ρ _ => Cert.Kernel12Ideal.Gen.frame m ρ, Cert.Kernel12Ideal.In.reference,
    fun m ρ _ => Cert.Kernel13.Gen.frame m ρ, fun m ρ _ => Cert.Kernel13Ideal.Gen.frame m ρ, Cert.Kernel13Ideal.Out.reference,
    fun m ρ _ => Cert.Kernel14.Gen.frame m ρ, fun m ρ _ => Cert.Kernel14Ideal.Gen.frame m ρ, Cert.Kernel14Ideal.Step.reference,
    fun m ρ _ => Cert.Kernel15.Gen.frame m ρ, fun m ρ _ => Cert.Kernel15Ideal.Gen.frame m ρ, Cert.Kernel15Ideal.Step.reference,
    fun m ρ _ => Cert.Kernel16.Gen.frame m ρ, fun m ρ _ => Cert.Kernel16Ideal.Gen.frame m ρ, Cert.Kernel16Ideal.Step.reference,
    fun m ρ _ => Cert.Kernel17.Gen.frame m ρ, fun m ρ _ => Cert.Kernel17Ideal.Gen.frame m ρ, Cert.Kernel17Ideal.Step.reference,
    fun m ρ _ => Cert.Kernel18.Gen.frame m ρ, fun m ρ _ => Cert.Kernel18Ideal.Gen.frame m ρ, Cert.Kernel18Ideal.Step.reference,
    fun m ρ _ => Cert.Kernel19.Gen.frame m ρ, fun m ρ _ => Cert.Kernel19Ideal.Gen.frame m ρ, Cert.Kernel19Ideal.Step.reference,
    trivial, algebraic,
    trivial, Cert.Kernel2Ideal.Down.algebraic,
    trivial, Cert.Kernel3Ideal.Up.algebraic,
    trivial, Cert.Kernel4Ideal.FoxOut.algebraic,
    trivial, Cert.Kernel5Ideal.FoxIn.algebraic,
    trivial, Cert.Kernel6Ideal.SsdOut.algebraic,
    trivial, Cert.Kernel7Ideal.SsdIn.algebraic,
    trivial, Cert.Kernel8Ideal.Up.algebraic,
    trivial, Cert.Kernel9Ideal.Down.algebraic,
    trivial, Cert.Kernel10Ideal.In.algebraic,
    trivial, Cert.Kernel11Ideal.Out.algebraic,
    trivial, Cert.Kernel12Ideal.In.algebraic,
    trivial, Cert.Kernel13Ideal.Out.algebraic,
    trivial, Cert.Kernel14Ideal.Step.algebraic,
    trivial, Cert.Kernel15Ideal.Step.algebraic,
    trivial, Cert.Kernel16Ideal.Step.algebraic,
    trivial, Cert.Kernel17Ideal.Step.algebraic,
    trivial, Cert.Kernel18Ideal.Step.algebraic,
    trivial, Cert.Kernel19Ideal.Step.algebraic⟩

end Cert.Proof

end
